-- ==== Defs.lean ====
def Pre_Fc (m : (ℓ : Loc Cert.Fc.nD Cert.Fc.τ Cert.Fc.sig) → Buf (Elt Bits) ℓ) : Prop :=
  True

def Pre_FcIdeal (m : (ℓ : Loc Cert.FcIdeal.nD Cert.FcIdeal.τ Cert.FcIdeal.sig) → Buf (Elt Ideal) ℓ) : Prop :=
  True

def Pre_FcRefIdeal (m : (ℓ : Loc Cert.FcRefIdeal.nD Cert.FcRefIdeal.τ Cert.FcRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_ThQuant (m : (ℓ : Loc Cert.ThQuant.nD Cert.ThQuant.τ Cert.ThQuant.sig) → Buf (Elt Bits) ℓ) : Prop :=
  True

def Pre_ThQuantIdeal (m : (ℓ : Loc Cert.ThQuantIdeal.nD Cert.ThQuantIdeal.τ Cert.ThQuantIdeal.sig) → Buf (Elt Ideal) ℓ) : Prop :=
  True

def Pre_ThQuantRefIdeal (m : (ℓ : Loc Cert.ThQuantRefIdeal.nD Cert.ThQuantRefIdeal.τ Cert.ThQuantRefIdeal.sig) → Buf (Elt Ideal) ℓ) : Prop :=
  True

def Pre_ActQuant (m : (ℓ : Loc Cert.ActQuant.nD Cert.ActQuant.τ Cert.ActQuant.sig) → Buf (Elt Bits) ℓ) : Prop :=
  True

def Pre_ActQuantIdeal (m : (ℓ : Loc Cert.ActQuantIdeal.nD Cert.ActQuantIdeal.τ Cert.ActQuantIdeal.sig) → Buf (Elt Ideal) ℓ) : Prop :=
  True

def Pre_ActQuantRefIdeal (m : (ℓ : Loc Cert.ActQuantRefIdeal.nD Cert.ActQuantRefIdeal.τ Cert.ActQuantRefIdeal.sig) → Buf (Elt Ideal) ℓ) : Prop :=
  True

def Pre_XQuant (m : (ℓ : Loc Cert.XQuant.nD Cert.XQuant.τ Cert.XQuant.sig) → Buf (Elt Bits) ℓ) : Prop :=
  True

def Pre_XQuantIdeal (m : (ℓ : Loc Cert.XQuantIdeal.nD Cert.XQuantIdeal.τ Cert.XQuantIdeal.sig) → Buf (Elt Ideal) ℓ) : Prop :=
  True

def Pre_XQuantRefIdeal (m : (ℓ : Loc Cert.XQuantRefIdeal.nD Cert.XQuantRefIdeal.τ Cert.XQuantRefIdeal.sig) → Buf (Elt Ideal) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojRefIdeal (m : (ℓ : Loc Cert.OprojRefIdeal.nD Cert.OprojRefIdeal.τ Cert.OprojRefIdeal.sig) → Buf (Elt Ideal) ℓ) : Prop :=
  True

def quiescent_Fc [hFc : Cert.Fc.Facts] : Prop :=
  ∀ (m : (ℓ : Loc Cert.Fc.nD Cert.Fc.τ Cert.Fc.sig) → Buf (Elt Bits) ℓ) (g : Dev Cert.Fc.nD → PrngReg), Pre_Fc m →
    θ_run (Cert.Fc.defs (F := Bits)) (onTc (τ := Cert.Fc.τ) (Cert.Fc.main (F := Bits))) ⟨m, fun _ => 0, g⟩ (fun r => (∀ c : Dev Cert.Fc.nD,
      r.2.mem ((c.tc : Thread Cert.Fc.nD Cert.Fc.τ).loc Cert.Fc.main_arg0) = m ((c.tc : Thread Cert.Fc.nD Cert.Fc.τ).loc Cert.Fc.main_arg0)
      ∧ r.2.mem ((c.tc : Thread Cert.Fc.nD Cert.Fc.τ).loc Cert.Fc.main_arg1) = m ((c.tc : Thread Cert.Fc.nD Cert.Fc.τ).loc Cert.Fc.main_arg1)
      ∧ r.2.mem ((c.tc : Thread Cert.Fc.nD Cert.Fc.τ).loc Cert.Fc.main_arg2) = m ((c.tc : Thread Cert.Fc.nD Cert.Fc.τ).loc Cert.Fc.main_arg2)
      ∧ r.2.mem ((c.tc : Thread Cert.Fc.nD Cert.Fc.τ).loc Cert.Fc.main_arg3) = m ((c.tc : Thread Cert.Fc.nD Cert.Fc.τ).loc Cert.Fc.main_arg3))
      ∧ r.2.sem = fun _ => 0)

def quiescent_FcIdeal [hFcIdeal : Cert.FcIdeal.Facts] : Prop :=
  ∀ (m : (ℓ : Loc Cert.FcIdeal.nD Cert.FcIdeal.τ Cert.FcIdeal.sig) → Buf (Elt Ideal) ℓ) (g : Dev Cert.FcIdeal.nD → PrngReg), Pre_FcIdeal m →
    θ_run (Cert.FcIdeal.defs (F := Ideal)) (onTc (τ := Cert.FcIdeal.τ) (Cert.FcIdeal.main (F := Ideal))) ⟨m, fun _ => 0, g⟩ (fun r => (∀ c : Dev Cert.FcIdeal.nD,
      r.2.mem ((c.tc : Thread Cert.FcIdeal.nD Cert.FcIdeal.τ).loc Cert.FcIdeal.main_arg0) = m ((c.tc : Thread Cert.FcIdeal.nD Cert.FcIdeal.τ).loc Cert.FcIdeal.main_arg0)
      ∧ r.2.mem ((c.tc : Thread Cert.FcIdeal.nD Cert.FcIdeal.τ).loc Cert.FcIdeal.main_arg1) = m ((c.tc : Thread Cert.FcIdeal.nD Cert.FcIdeal.τ).loc Cert.FcIdeal.main_arg1)
      ∧ r.2.mem ((c.tc : Thread Cert.FcIdeal.nD Cert.FcIdeal.τ).loc Cert.FcIdeal.main_arg2) = m ((c.tc : Thread Cert.FcIdeal.nD Cert.FcIdeal.τ).loc Cert.FcIdeal.main_arg2)
      ∧ r.2.mem ((c.tc : Thread Cert.FcIdeal.nD Cert.FcIdeal.τ).loc Cert.FcIdeal.main_arg3) = m ((c.tc : Thread Cert.FcIdeal.nD Cert.FcIdeal.τ).loc Cert.FcIdeal.main_arg3))
      ∧ r.2.sem = fun _ => 0)

def quiescent_FcRefIdeal [hFcRefIdeal : Cert.FcRefIdeal.Facts] : Prop :=
  ∀ (m : (ℓ : Loc Cert.FcRefIdeal.nD Cert.FcRefIdeal.τ Cert.FcRefIdeal.sig) → Buf (Elt Ideal) ℓ) (g : Dev Cert.FcRefIdeal.nD → PrngReg), Pre_FcRefIdeal m →
    θ_run (Cert.FcRefIdeal.defs (F := Ideal)) (onTc (τ := Cert.FcRefIdeal.τ) (Cert.FcRefIdeal.main (F := Ideal))) ⟨m, fun _ => 0, g⟩ (fun r => (∀ c : Dev Cert.FcRefIdeal.nD,
      r.2.mem ((c.tc : Thread Cert.FcRefIdeal.nD Cert.FcRefIdeal.τ).loc Cert.FcRefIdeal.main_arg0) = m ((c.tc : Thread Cert.FcRefIdeal.nD Cert.FcRefIdeal.τ).loc Cert.FcRefIdeal.main_arg0)
      ∧ r.2.mem ((c.tc : Thread Cert.FcRefIdeal.nD Cert.FcRefIdeal.τ).loc Cert.FcRefIdeal.main_arg1) = m ((c.tc : Thread Cert.FcRefIdeal.nD Cert.FcRefIdeal.τ).loc Cert.FcRefIdeal.main_arg1)
      ∧ r.2.mem ((c.tc : Thread Cert.FcRefIdeal.nD Cert.FcRefIdeal.τ).loc Cert.FcRefIdeal.main_arg2) = m ((c.tc : Thread Cert.FcRefIdeal.nD Cert.FcRefIdeal.τ).loc Cert.FcRefIdeal.main_arg2)
      ∧ r.2.mem ((c.tc : Thread Cert.FcRefIdeal.nD Cert.FcRefIdeal.τ).loc Cert.FcRefIdeal.main_arg3) = m ((c.tc : Thread Cert.FcRefIdeal.nD Cert.FcRefIdeal.τ).loc Cert.FcRefIdeal.main_arg3))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_ThQuant [hThQuant : Cert.ThQuant.Facts] : Prop :=
  ∀ (m : (ℓ : Loc Cert.ThQuant.nD Cert.ThQuant.τ Cert.ThQuant.sig) → Buf (Elt Bits) ℓ) (g : Dev Cert.ThQuant.nD → PrngReg), Pre_ThQuant m →
    θ_run (Cert.ThQuant.defs (F := Bits)) (onTc (τ := Cert.ThQuant.τ) (Cert.ThQuant.main (F := Bits))) ⟨m, fun _ => 0, g⟩ (fun r => (∀ c : Dev Cert.ThQuant.nD,
      r.2.mem ((c.tc : Thread Cert.ThQuant.nD Cert.ThQuant.τ).loc Cert.ThQuant.main_arg0) = m ((c.tc : Thread Cert.ThQuant.nD Cert.ThQuant.τ).loc Cert.ThQuant.main_arg0))
      ∧ r.2.sem = fun _ => 0)

def quiescent_ThQuantIdeal [hThQuantIdeal : Cert.ThQuantIdeal.Facts] : Prop :=
  ∀ (m : (ℓ : Loc Cert.ThQuantIdeal.nD Cert.ThQuantIdeal.τ Cert.ThQuantIdeal.sig) → Buf (Elt Ideal) ℓ) (g : Dev Cert.ThQuantIdeal.nD → PrngReg), Pre_ThQuantIdeal m →
    θ_run (Cert.ThQuantIdeal.defs (F := Ideal)) (onTc (τ := Cert.ThQuantIdeal.τ) (Cert.ThQuantIdeal.main (F := Ideal))) ⟨m, fun _ => 0, g⟩ (fun r => (∀ c : Dev Cert.ThQuantIdeal.nD,
      r.2.mem ((c.tc : Thread Cert.ThQuantIdeal.nD Cert.ThQuantIdeal.τ).loc Cert.ThQuantIdeal.main_arg0) = m ((c.tc : Thread Cert.ThQuantIdeal.nD Cert.ThQuantIdeal.τ).loc Cert.ThQuantIdeal.main_arg0))
      ∧ r.2.sem = fun _ => 0)

def quiescent_ThQuantRefIdeal [hThQuantRefIdeal : Cert.ThQuantRefIdeal.Facts] : Prop :=
  ∀ (m : (ℓ : Loc Cert.ThQuantRefIdeal.nD Cert.ThQuantRefIdeal.τ Cert.ThQuantRefIdeal.sig) → Buf (Elt Ideal) ℓ) (g : Dev Cert.ThQuantRefIdeal.nD → PrngReg), Pre_ThQuantRefIdeal m →
    θ_run (Cert.ThQuantRefIdeal.defs (F := Ideal)) (onTc (τ := Cert.ThQuantRefIdeal.τ) (Cert.ThQuantRefIdeal.main (F := Ideal))) ⟨m, fun _ => 0, g⟩ (fun r => (∀ c : Dev Cert.ThQuantRefIdeal.nD,
      r.2.mem ((c.tc : Thread Cert.ThQuantRefIdeal.nD Cert.ThQuantRefIdeal.τ).loc Cert.ThQuantRefIdeal.main_arg0) = m ((c.tc : Thread Cert.ThQuantRefIdeal.nD Cert.ThQuantRefIdeal.τ).loc Cert.ThQuantRefIdeal.main_arg0))
      ∧ r.2.sem = fun _ => 0)

def quiescent_ActQuant [hActQuant : Cert.ActQuant.Facts] : Prop :=
  ∀ (m : (ℓ : Loc Cert.ActQuant.nD Cert.ActQuant.τ Cert.ActQuant.sig) → Buf (Elt Bits) ℓ) (g : Dev Cert.ActQuant.nD → PrngReg), Pre_ActQuant m →
    θ_run (Cert.ActQuant.defs (F := Bits)) (onTc (τ := Cert.ActQuant.τ) (Cert.ActQuant.main (F := Bits))) ⟨m, fun _ => 0, g⟩ (fun r => (∀ c : Dev Cert.ActQuant.nD,
      r.2.mem ((c.tc : Thread Cert.ActQuant.nD Cert.ActQuant.τ).loc Cert.ActQuant.main_arg0) = m ((c.tc : Thread Cert.ActQuant.nD Cert.ActQuant.τ).loc Cert.ActQuant.main_arg0))
      ∧ r.2.sem = fun _ => 0)

def quiescent_ActQuantIdeal [hActQuantIdeal : Cert.ActQuantIdeal.Facts] : Prop :=
  ∀ (m : (ℓ : Loc Cert.ActQuantIdeal.nD Cert.ActQuantIdeal.τ Cert.ActQuantIdeal.sig) → Buf (Elt Ideal) ℓ) (g : Dev Cert.ActQuantIdeal.nD → PrngReg), Pre_ActQuantIdeal m →
    θ_run (Cert.ActQuantIdeal.defs (F := Ideal)) (onTc (τ := Cert.ActQuantIdeal.τ) (Cert.ActQuantIdeal.main (F := Ideal))) ⟨m, fun _ => 0, g⟩ (fun r => (∀ c : Dev Cert.ActQuantIdeal.nD,
      r.2.mem ((c.tc : Thread Cert.ActQuantIdeal.nD Cert.ActQuantIdeal.τ).loc Cert.ActQuantIdeal.main_arg0) = m ((c.tc : Thread Cert.ActQuantIdeal.nD Cert.ActQuantIdeal.τ).loc Cert.ActQuantIdeal.main_arg0))
      ∧ r.2.sem = fun _ => 0)

def quiescent_ActQuantRefIdeal [hActQuantRefIdeal : Cert.ActQuantRefIdeal.Facts] : Prop :=
  ∀ (m : (ℓ : Loc Cert.ActQuantRefIdeal.nD Cert.ActQuantRefIdeal.τ Cert.ActQuantRefIdeal.sig) → Buf (Elt Ideal) ℓ) (g : Dev Cert.ActQuantRefIdeal.nD → PrngReg), Pre_ActQuantRefIdeal m →
    θ_run (Cert.ActQuantRefIdeal.defs (F := Ideal)) (onTc (τ := Cert.ActQuantRefIdeal.τ) (Cert.ActQuantRefIdeal.main (F := Ideal))) ⟨m, fun _ => 0, g⟩ (fun r => (∀ c : Dev Cert.ActQuantRefIdeal.nD,
      r.2.mem ((c.tc : Thread Cert.ActQuantRefIdeal.nD Cert.ActQuantRefIdeal.τ).loc Cert.ActQuantRefIdeal.main_arg0) = m ((c.tc : Thread Cert.ActQuantRefIdeal.nD Cert.ActQuantRefIdeal.τ).loc Cert.ActQuantRefIdeal.main_arg0))
      ∧ r.2.sem = fun _ => 0)

def quiescent_XQuant [hXQuant : Cert.XQuant.Facts] : Prop :=
  ∀ (m : (ℓ : Loc Cert.XQuant.nD Cert.XQuant.τ Cert.XQuant.sig) → Buf (Elt Bits) ℓ) (g : Dev Cert.XQuant.nD → PrngReg), Pre_XQuant m →
    θ_run (Cert.XQuant.defs (F := Bits)) (onTc (τ := Cert.XQuant.τ) (Cert.XQuant.main (F := Bits))) ⟨m, fun _ => 0, g⟩ (fun r => (∀ c : Dev Cert.XQuant.nD,
      r.2.mem ((c.tc : Thread Cert.XQuant.nD Cert.XQuant.τ).loc Cert.XQuant.main_arg0) = m ((c.tc : Thread Cert.XQuant.nD Cert.XQuant.τ).loc Cert.XQuant.main_arg0)
      ∧ r.2.mem ((c.tc : Thread Cert.XQuant.nD Cert.XQuant.τ).loc Cert.XQuant.main_arg1) = m ((c.tc : Thread Cert.XQuant.nD Cert.XQuant.τ).loc Cert.XQuant.main_arg1))
      ∧ r.2.sem = fun _ => 0)

def quiescent_XQuantIdeal [hXQuantIdeal : Cert.XQuantIdeal.Facts] : Prop :=
  ∀ (m : (ℓ : Loc Cert.XQuantIdeal.nD Cert.XQuantIdeal.τ Cert.XQuantIdeal.sig) → Buf (Elt Ideal) ℓ) (g : Dev Cert.XQuantIdeal.nD → PrngReg), Pre_XQuantIdeal m →
    θ_run (Cert.XQuantIdeal.defs (F := Ideal)) (onTc (τ := Cert.XQuantIdeal.τ) (Cert.XQuantIdeal.main (F := Ideal))) ⟨m, fun _ => 0, g⟩ (fun r => (∀ c : Dev Cert.XQuantIdeal.nD,
      r.2.mem ((c.tc : Thread Cert.XQuantIdeal.nD Cert.XQuantIdeal.τ).loc Cert.XQuantIdeal.main_arg0) = m ((c.tc : Thread Cert.XQuantIdeal.nD Cert.XQuantIdeal.τ).loc Cert.XQuantIdeal.main_arg0)
      ∧ r.2.mem ((c.tc : Thread Cert.XQuantIdeal.nD Cert.XQuantIdeal.τ).loc Cert.XQuantIdeal.main_arg1) = m ((c.tc : Thread Cert.XQuantIdeal.nD Cert.XQuantIdeal.τ).loc Cert.XQuantIdeal.main_arg1))
      ∧ r.2.sem = fun _ => 0)

def quiescent_XQuantRefIdeal [hXQuantRefIdeal : Cert.XQuantRefIdeal.Facts] : Prop :=
  ∀ (m : (ℓ : Loc Cert.XQuantRefIdeal.nD Cert.XQuantRefIdeal.τ Cert.XQuantRefIdeal.sig) → Buf (Elt Ideal) ℓ) (g : Dev Cert.XQuantRefIdeal.nD → PrngReg), Pre_XQuantRefIdeal m →
    θ_run (Cert.XQuantRefIdeal.defs (F := Ideal)) (onTc (τ := Cert.XQuantRefIdeal.τ) (Cert.XQuantRefIdeal.main (F := Ideal))) ⟨m, fun _ => 0, g⟩ (fun r => (∀ c : Dev Cert.XQuantRefIdeal.nD,
      r.2.mem ((c.tc : Thread Cert.XQuantRefIdeal.nD Cert.XQuantRefIdeal.τ).loc Cert.XQuantRefIdeal.main_arg0) = m ((c.tc : Thread Cert.XQuantRefIdeal.nD Cert.XQuantRefIdeal.τ).loc Cert.XQuantRefIdeal.main_arg0)
      ∧ r.2.mem ((c.tc : Thread Cert.XQuantRefIdeal.nD Cert.XQuantRefIdeal.τ).loc Cert.XQuantRefIdeal.main_arg1) = m ((c.tc : Thread Cert.XQuantRefIdeal.nD Cert.XQuantRefIdeal.τ).loc Cert.XQuantRefIdeal.main_arg1))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4)
      ∧ r.2.mem ((c.tc : Thread Cert.Oproj.nD Cert.Oproj.τ).loc Cert.Oproj.main_arg5) = m ((c.tc : Thread Cert.Oproj.nD Cert.Oproj.τ).loc Cert.Oproj.main_arg5))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
      ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5))
      ∧ r.2.sem = fun _ => 0)

def quiescent_OprojRefIdeal [hOprojRefIdeal : Cert.OprojRefIdeal.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1)
      ∧ r.2.mem ((c.tc : Thread Cert.OprojRefIdeal.nD Cert.OprojRefIdeal.τ).loc Cert.OprojRefIdeal.main_arg2) = m ((c.tc : Thread Cert.OprojRefIdeal.nD Cert.OprojRefIdeal.τ).loc Cert.OprojRefIdeal.main_arg2)
      ∧ r.2.mem ((c.tc : Thread Cert.OprojRefIdeal.nD Cert.OprojRefIdeal.τ).loc Cert.OprojRefIdeal.main_arg3) = m ((c.tc : Thread Cert.OprojRefIdeal.nD Cert.OprojRefIdeal.τ).loc Cert.OprojRefIdeal.main_arg3)
      ∧ r.2.mem ((c.tc : Thread Cert.OprojRefIdeal.nD Cert.OprojRefIdeal.τ).loc Cert.OprojRefIdeal.main_arg4) = m ((c.tc : Thread Cert.OprojRefIdeal.nD Cert.OprojRefIdeal.τ).loc Cert.OprojRefIdeal.main_arg4)
      ∧ r.2.mem ((c.tc : Thread Cert.OprojRefIdeal.nD Cert.OprojRefIdeal.τ).loc Cert.OprojRefIdeal.main_arg5) = m ((c.tc : Thread Cert.OprojRefIdeal.nD Cert.OprojRefIdeal.τ).loc Cert.OprojRefIdeal.main_arg5))
      ∧ r.2.sem = fun _ => 0)

def preserves_Fc_FcIdeal : Prop :=
  True

def algebraic_FcIdeal_FcRefIdeal [hFcIdeal : Cert.FcIdeal.Facts] [hFcRefIdeal : Cert.FcRefIdeal.Facts] : Prop :=
  ∀ (m : (ℓ : Loc Cert.FcIdeal.nD Cert.FcIdeal.τ Cert.FcIdeal.sig) → Buf (Elt Ideal) ℓ) (g : Dev Cert.FcIdeal.nD → PrngReg)
    (m' : (ℓ : Loc Cert.FcRefIdeal.nD Cert.FcRefIdeal.τ Cert.FcRefIdeal.sig) → Buf (Elt Ideal) ℓ) (g' : Dev Cert.FcRefIdeal.nD → PrngReg), Pre_FcIdeal m →
    (∀ c : Dev Cert.FcIdeal.nD,
      m' ((c.tc : Thread Cert.FcRefIdeal.nD Cert.FcRefIdeal.τ).loc Cert.FcRefIdeal.main_arg0) = m ((c.tc : Thread Cert.FcIdeal.nD Cert.FcIdeal.τ).loc Cert.FcIdeal.main_arg0)
      ∧ m' ((c.tc : Thread Cert.FcRefIdeal.nD Cert.FcRefIdeal.τ).loc Cert.FcRefIdeal.main_arg1) = m ((c.tc : Thread Cert.FcIdeal.nD Cert.FcIdeal.τ).loc Cert.FcIdeal.main_arg1)
      ∧ m' ((c.tc : Thread Cert.FcRefIdeal.nD Cert.FcRefIdeal.τ).loc Cert.FcRefIdeal.main_arg2) = m ((c.tc : Thread Cert.FcIdeal.nD Cert.FcIdeal.τ).loc Cert.FcIdeal.main_arg2)
      ∧ m' ((c.tc : Thread Cert.FcRefIdeal.nD Cert.FcRefIdeal.τ).loc Cert.FcRefIdeal.main_arg3) = m ((c.tc : Thread Cert.FcIdeal.nD Cert.FcIdeal.τ).loc Cert.FcIdeal.main_arg3)) →
    ∃ (v0 : (c : Dev Cert.FcIdeal.nD) → Buf (Elt Ideal) ((c.tc : Thread Cert.FcIdeal.nD Cert.FcIdeal.τ).loc Cert.FcIdeal.main_v3_0)) (v1 : (c : Dev Cert.FcIdeal.nD) → Buf (Elt Ideal) ((c.tc : Thread Cert.FcIdeal.nD Cert.FcIdeal.τ).loc Cert.FcIdeal.main_v3_1)),
      θ_run (Cert.FcIdeal.defs (F := Ideal)) (onTc (τ := Cert.FcIdeal.τ) (Cert.FcIdeal.main (F := Ideal))) ⟨m, fun _ => 0, g⟩ (fun r => ∀ c : Dev Cert.FcIdeal.nD,
          r.2.mem ((c.tc : Thread Cert.FcIdeal.nD Cert.FcIdeal.τ).loc Cert.FcIdeal.main_v3_0) = v0 c
          ∧ r.2.mem ((c.tc : Thread Cert.FcIdeal.nD Cert.FcIdeal.τ).loc Cert.FcIdeal.main_v3_1) = v1 c
          ∧ r.2.mem ((c.tc : Thread Cert.FcIdeal.nD Cert.FcIdeal.τ).loc Cert.FcIdeal.main_arg0) = m ((c.tc : Thread Cert.FcIdeal.nD Cert.FcIdeal.τ).loc Cert.FcIdeal.main_arg0)
          ∧ r.2.mem ((c.tc : Thread Cert.FcIdeal.nD Cert.FcIdeal.τ).loc Cert.FcIdeal.main_arg1) = m ((c.tc : Thread Cert.FcIdeal.nD Cert.FcIdeal.τ).loc Cert.FcIdeal.main_arg1)
          ∧ r.2.mem ((c.tc : Thread Cert.FcIdeal.nD Cert.FcIdeal.τ).loc Cert.FcIdeal.main_arg2) = m ((c.tc : Thread Cert.FcIdeal.nD Cert.FcIdeal.τ).loc Cert.FcIdeal.main_arg2)
          ∧ r.2.mem ((c.tc : Thread Cert.FcIdeal.nD Cert.FcIdeal.τ).loc Cert.FcIdeal.main_arg3) = m ((c.tc : Thread Cert.FcIdeal.nD Cert.FcIdeal.τ).loc Cert.FcIdeal.main_arg3))
      ∧ θ_run (Cert.FcRefIdeal.defs (F := Ideal)) (onTc (τ := Cert.FcRefIdeal.τ) (Cert.FcRefIdeal.main (F := Ideal))) ⟨m', fun _ => 0, g'⟩ (fun r => ∀ c : Dev Cert.FcRefIdeal.nD,
          r.2.mem ((c.tc : Thread Cert.FcRefIdeal.nD Cert.FcRefIdeal.τ).loc Cert.FcRefIdeal.main_v2_0) = v0 c
          ∧ r.2.mem ((c.tc : Thread Cert.FcRefIdeal.nD Cert.FcRefIdeal.τ).loc Cert.FcRefIdeal.main_v2_1) = v1 c
          ∧ r.2.mem ((c.tc : Thread Cert.FcRefIdeal.nD Cert.FcRefIdeal.τ).loc Cert.FcRefIdeal.main_arg0) = m' ((c.tc : Thread Cert.FcRefIdeal.nD Cert.FcRefIdeal.τ).loc Cert.FcRefIdeal.main_arg0)
          ∧ r.2.mem ((c.tc : Thread Cert.FcRefIdeal.nD Cert.FcRefIdeal.τ).loc Cert.FcRefIdeal.main_arg1) = m' ((c.tc : Thread Cert.FcRefIdeal.nD Cert.FcRefIdeal.τ).loc Cert.FcRefIdeal.main_arg1)
          ∧ r.2.mem ((c.tc : Thread Cert.FcRefIdeal.nD Cert.FcRefIdeal.τ).loc Cert.FcRefIdeal.main_arg2) = m' ((c.tc : Thread Cert.FcRefIdeal.nD Cert.FcRefIdeal.τ).loc Cert.FcRefIdeal.main_arg2)
          ∧ r.2.mem ((c.tc : Thread Cert.FcRefIdeal.nD Cert.FcRefIdeal.τ).loc Cert.FcRefIdeal.main_arg3) = m' ((c.tc : Thread Cert.FcRefIdeal.nD Cert.FcRefIdeal.τ).loc Cert.FcRefIdeal.main_arg3))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)) →
    ∃ (v0 : (c : Dev Cert.GateUpIdeal.nD) → Buf (Elt Ideal) ((c.tc : Thread Cert.GateUpIdeal.nD Cert.GateUpIdeal.τ).loc Cert.GateUpIdeal.main_v3)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v3) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v2) = v0 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v3)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_ThQuant_ThQuantIdeal : Prop :=
  True

def algebraic_ThQuantIdeal_ThQuantRefIdeal [hThQuantIdeal : Cert.ThQuantIdeal.Facts] [hThQuantRefIdeal : Cert.ThQuantRefIdeal.Facts] : Prop :=
  ∀ (m : (ℓ : Loc Cert.ThQuantIdeal.nD Cert.ThQuantIdeal.τ Cert.ThQuantIdeal.sig) → Buf (Elt Ideal) ℓ) (g : Dev Cert.ThQuantIdeal.nD → PrngReg)
    (m' : (ℓ : Loc Cert.ThQuantRefIdeal.nD Cert.ThQuantRefIdeal.τ Cert.ThQuantRefIdeal.sig) → Buf (Elt Ideal) ℓ) (g' : Dev Cert.ThQuantRefIdeal.nD → PrngReg), Pre_ThQuantIdeal m →
    (∀ c : Dev Cert.ThQuantIdeal.nD,
      m' ((c.tc : Thread Cert.ThQuantRefIdeal.nD Cert.ThQuantRefIdeal.τ).loc Cert.ThQuantRefIdeal.main_arg0) = m ((c.tc : Thread Cert.ThQuantIdeal.nD Cert.ThQuantIdeal.τ).loc Cert.ThQuantIdeal.main_arg0)) →
    ∃ (v0 : (c : Dev Cert.ThQuantIdeal.nD) → Buf (Elt Ideal) ((c.tc : Thread Cert.ThQuantIdeal.nD Cert.ThQuantIdeal.τ).loc Cert.ThQuantIdeal.main_v0_0)) (v1 : (c : Dev Cert.ThQuantIdeal.nD) → Buf (Elt Ideal) ((c.tc : Thread Cert.ThQuantIdeal.nD Cert.ThQuantIdeal.τ).loc Cert.ThQuantIdeal.main_v0_2)),
      θ_run (Cert.ThQuantIdeal.defs (F := Ideal)) (onTc (τ := Cert.ThQuantIdeal.τ) (Cert.ThQuantIdeal.main (F := Ideal))) ⟨m, fun _ => 0, g⟩ (fun r => ∀ c : Dev Cert.ThQuantIdeal.nD,
          r.2.mem ((c.tc : Thread Cert.ThQuantIdeal.nD Cert.ThQuantIdeal.τ).loc Cert.ThQuantIdeal.main_v0_0) = v0 c
          ∧ r.2.mem ((c.tc : Thread Cert.ThQuantIdeal.nD Cert.ThQuantIdeal.τ).loc Cert.ThQuantIdeal.main_v0_2) = v1 c
          ∧ r.2.mem ((c.tc : Thread Cert.ThQuantIdeal.nD Cert.ThQuantIdeal.τ).loc Cert.ThQuantIdeal.main_arg0) = m ((c.tc : Thread Cert.ThQuantIdeal.nD Cert.ThQuantIdeal.τ).loc Cert.ThQuantIdeal.main_arg0))
      ∧ θ_run (Cert.ThQuantRefIdeal.defs (F := Ideal)) (onTc (τ := Cert.ThQuantRefIdeal.τ) (Cert.ThQuantRefIdeal.main (F := Ideal))) ⟨m', fun _ => 0, g'⟩ (fun r => ∀ c : Dev Cert.ThQuantRefIdeal.nD,
          r.2.mem ((c.tc : Thread Cert.ThQuantRefIdeal.nD Cert.ThQuantRefIdeal.τ).loc Cert.ThQuantRefIdeal.main_v10) = v0 c
          ∧ r.2.mem ((c.tc : Thread Cert.ThQuantRefIdeal.nD Cert.ThQuantRefIdeal.τ).loc Cert.ThQuantRefIdeal.main_v8) = v1 c
          ∧ r.2.mem ((c.tc : Thread Cert.ThQuantRefIdeal.nD Cert.ThQuantRefIdeal.τ).loc Cert.ThQuantRefIdeal.main_arg0) = m' ((c.tc : Thread Cert.ThQuantRefIdeal.nD Cert.ThQuantRefIdeal.τ).loc Cert.ThQuantRefIdeal.main_arg0))

def preserves_ActQuant_ActQuantIdeal : Prop :=
  True

def algebraic_ActQuantIdeal_ActQuantRefIdeal [hActQuantIdeal : Cert.ActQuantIdeal.Facts] [hActQuantRefIdeal : Cert.ActQuantRefIdeal.Facts] : Prop :=
  ∀ (m : (ℓ : Loc Cert.ActQuantIdeal.nD Cert.ActQuantIdeal.τ Cert.ActQuantIdeal.sig) → Buf (Elt Ideal) ℓ) (g : Dev Cert.ActQuantIdeal.nD → PrngReg)
    (m' : (ℓ : Loc Cert.ActQuantRefIdeal.nD Cert.ActQuantRefIdeal.τ Cert.ActQuantRefIdeal.sig) → Buf (Elt Ideal) ℓ) (g' : Dev Cert.ActQuantRefIdeal.nD → PrngReg), Pre_ActQuantIdeal m →
    (∀ c : Dev Cert.ActQuantIdeal.nD,
      m' ((c.tc : Thread Cert.ActQuantRefIdeal.nD Cert.ActQuantRefIdeal.τ).loc Cert.ActQuantRefIdeal.main_arg0) = m ((c.tc : Thread Cert.ActQuantIdeal.nD Cert.ActQuantIdeal.τ).loc Cert.ActQuantIdeal.main_arg0)) →
    ∃ (v0 : (c : Dev Cert.ActQuantIdeal.nD) → Buf (Elt Ideal) ((c.tc : Thread Cert.ActQuantIdeal.nD Cert.ActQuantIdeal.τ).loc Cert.ActQuantIdeal.main_v0_0)) (v1 : (c : Dev Cert.ActQuantIdeal.nD) → Buf (Elt Ideal) ((c.tc : Thread Cert.ActQuantIdeal.nD Cert.ActQuantIdeal.τ).loc Cert.ActQuantIdeal.main_v0_2)),
      θ_run (Cert.ActQuantIdeal.defs (F := Ideal)) (onTc (τ := Cert.ActQuantIdeal.τ) (Cert.ActQuantIdeal.main (F := Ideal))) ⟨m, fun _ => 0, g⟩ (fun r => ∀ c : Dev Cert.ActQuantIdeal.nD,
          r.2.mem ((c.tc : Thread Cert.ActQuantIdeal.nD Cert.ActQuantIdeal.τ).loc Cert.ActQuantIdeal.main_v0_0) = v0 c
          ∧ r.2.mem ((c.tc : Thread Cert.ActQuantIdeal.nD Cert.ActQuantIdeal.τ).loc Cert.ActQuantIdeal.main_v0_2) = v1 c
          ∧ r.2.mem ((c.tc : Thread Cert.ActQuantIdeal.nD Cert.ActQuantIdeal.τ).loc Cert.ActQuantIdeal.main_arg0) = m ((c.tc : Thread Cert.ActQuantIdeal.nD Cert.ActQuantIdeal.τ).loc Cert.ActQuantIdeal.main_arg0))
      ∧ θ_run (Cert.ActQuantRefIdeal.defs (F := Ideal)) (onTc (τ := Cert.ActQuantRefIdeal.τ) (Cert.ActQuantRefIdeal.main (F := Ideal))) ⟨m', fun _ => 0, g'⟩ (fun r => ∀ c : Dev Cert.ActQuantRefIdeal.nD,
          r.2.mem ((c.tc : Thread Cert.ActQuantRefIdeal.nD Cert.ActQuantRefIdeal.τ).loc Cert.ActQuantRefIdeal.main_v9) = v0 c
          ∧ r.2.mem ((c.tc : Thread Cert.ActQuantRefIdeal.nD Cert.ActQuantRefIdeal.τ).loc Cert.ActQuantRefIdeal.main_v7) = v1 c
          ∧ r.2.mem ((c.tc : Thread Cert.ActQuantRefIdeal.nD Cert.ActQuantRefIdeal.τ).loc Cert.ActQuantRefIdeal.main_arg0) = m' ((c.tc : Thread Cert.ActQuantRefIdeal.nD Cert.ActQuantRefIdeal.τ).loc Cert.ActQuantRefIdeal.main_arg0))

def preserves_XQuant_XQuantIdeal : Prop :=
  True

def algebraic_XQuantIdeal_XQuantRefIdeal [hXQuantIdeal : Cert.XQuantIdeal.Facts] [hXQuantRefIdeal : Cert.XQuantRefIdeal.Facts] : Prop :=
  ∀ (m : (ℓ : Loc Cert.XQuantIdeal.nD Cert.XQuantIdeal.τ Cert.XQuantIdeal.sig) → Buf (Elt Ideal) ℓ) (g : Dev Cert.XQuantIdeal.nD → PrngReg)
    (m' : (ℓ : Loc Cert.XQuantRefIdeal.nD Cert.XQuantRefIdeal.τ Cert.XQuantRefIdeal.sig) → Buf (Elt Ideal) ℓ) (g' : Dev Cert.XQuantRefIdeal.nD → PrngReg), Pre_XQuantIdeal m →
    (∀ c : Dev Cert.XQuantIdeal.nD,
      m' ((c.tc : Thread Cert.XQuantRefIdeal.nD Cert.XQuantRefIdeal.τ).loc Cert.XQuantRefIdeal.main_arg0) = m ((c.tc : Thread Cert.XQuantIdeal.nD Cert.XQuantIdeal.τ).loc Cert.XQuantIdeal.main_arg0)
      ∧ m' ((c.tc : Thread Cert.XQuantRefIdeal.nD Cert.XQuantRefIdeal.τ).loc Cert.XQuantRefIdeal.main_arg1) = m ((c.tc : Thread Cert.XQuantIdeal.nD Cert.XQuantIdeal.τ).loc Cert.XQuantIdeal.main_arg1)) →
    ∃ (v0 : (c : Dev Cert.XQuantIdeal.nD) → Buf (Elt Ideal) ((c.tc : Thread Cert.XQuantIdeal.nD Cert.XQuantIdeal.τ).loc Cert.XQuantIdeal.main_v2_0)) (v1 : (c : Dev Cert.XQuantIdeal.nD) → Buf (Elt Ideal) ((c.tc : Thread Cert.XQuantIdeal.nD Cert.XQuantIdeal.τ).loc Cert.XQuantIdeal.main_v2_2)),
      θ_run (Cert.XQuantIdeal.defs (F := Ideal)) (onTc (τ := Cert.XQuantIdeal.τ) (Cert.XQuantIdeal.main (F := Ideal))) ⟨m, fun _ => 0, g⟩ (fun r => ∀ c : Dev Cert.XQuantIdeal.nD,
          r.2.mem ((c.tc : Thread Cert.XQuantIdeal.nD Cert.XQuantIdeal.τ).loc Cert.XQuantIdeal.main_v2_0) = v0 c
          ∧ r.2.mem ((c.tc : Thread Cert.XQuantIdeal.nD Cert.XQuantIdeal.τ).loc Cert.XQuantIdeal.main_v2_2) = v1 c
          ∧ r.2.mem ((c.tc : Thread Cert.XQuantIdeal.nD Cert.XQuantIdeal.τ).loc Cert.XQuantIdeal.main_arg0) = m ((c.tc : Thread Cert.XQuantIdeal.nD Cert.XQuantIdeal.τ).loc Cert.XQuantIdeal.main_arg0)
          ∧ r.2.mem ((c.tc : Thread Cert.XQuantIdeal.nD Cert.XQuantIdeal.τ).loc Cert.XQuantIdeal.main_arg1) = m ((c.tc : Thread Cert.XQuantIdeal.nD Cert.XQuantIdeal.τ).loc Cert.XQuantIdeal.main_arg1))
      ∧ θ_run (Cert.XQuantRefIdeal.defs (F := Ideal)) (onTc (τ := Cert.XQuantRefIdeal.τ) (Cert.XQuantRefIdeal.main (F := Ideal))) ⟨m', fun _ => 0, g'⟩ (fun r => ∀ c : Dev Cert.XQuantRefIdeal.nD,
          r.2.mem ((c.tc : Thread Cert.XQuantRefIdeal.nD Cert.XQuantRefIdeal.τ).loc Cert.XQuantRefIdeal.main_v24) = v0 c
          ∧ r.2.mem ((c.tc : Thread Cert.XQuantRefIdeal.nD Cert.XQuantRefIdeal.τ).loc Cert.XQuantRefIdeal.main_v22) = v1 c
          ∧ r.2.mem ((c.tc : Thread Cert.XQuantRefIdeal.nD Cert.XQuantRefIdeal.τ).loc Cert.XQuantRefIdeal.main_arg0) = m' ((c.tc : Thread Cert.XQuantRefIdeal.nD Cert.XQuantRefIdeal.τ).loc Cert.XQuantRefIdeal.main_arg0)
          ∧ r.2.mem ((c.tc : Thread Cert.XQuantRefIdeal.nD Cert.XQuantRefIdeal.τ).loc Cert.XQuantRefIdeal.main_arg1) = m' ((c.tc : Thread Cert.XQuantRefIdeal.nD Cert.XQuantRefIdeal.τ).loc Cert.XQuantRefIdeal.main_arg1))

def preserves_Oproj_OprojIdeal : Prop :=
  True

def algebraic_OprojIdeal_OprojRefIdeal [hOprojIdeal : Cert.OprojIdeal.Facts] [hOprojRefIdeal : Cert.OprojRefIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojRefIdeal.nD Cert.OprojRefIdeal.τ Cert.OprojRefIdeal.sig) → Buf (Elt Ideal) ℓ) (g' : Dev Cert.OprojRefIdeal.nD → PrngReg), Pre_OprojIdeal m →
    (∀ c : Dev Cert.OprojIdeal.nD,
      m' ((c.tc : Thread Cert.OprojRefIdeal.nD Cert.OprojRefIdeal.τ).loc Cert.OprojRefIdeal.main_arg0) = m ((c.tc : Thread Cert.OprojIdeal.nD Cert.OprojIdeal.τ).loc Cert.OprojIdeal.main_arg0)
      ∧ m' ((c.tc : Thread Cert.OprojRefIdeal.nD Cert.OprojRefIdeal.τ).loc Cert.OprojRefIdeal.main_arg1) = m ((c.tc : Thread Cert.OprojIdeal.nD Cert.OprojIdeal.τ).loc Cert.OprojIdeal.main_arg1)
      ∧ m' ((c.tc : Thread Cert.OprojRefIdeal.nD Cert.OprojRefIdeal.τ).loc Cert.OprojRefIdeal.main_arg2) = m ((c.tc : Thread Cert.OprojIdeal.nD Cert.OprojIdeal.τ).loc Cert.OprojIdeal.main_arg2)
      ∧ m' ((c.tc : Thread Cert.OprojRefIdeal.nD Cert.OprojRefIdeal.τ).loc Cert.OprojRefIdeal.main_arg3) = m ((c.tc : Thread Cert.OprojIdeal.nD Cert.OprojIdeal.τ).loc Cert.OprojIdeal.main_arg3)
      ∧ m' ((c.tc : Thread Cert.OprojRefIdeal.nD Cert.OprojRefIdeal.τ).loc Cert.OprojRefIdeal.main_arg4) = m ((c.tc : Thread Cert.OprojIdeal.nD Cert.OprojIdeal.τ).loc Cert.OprojIdeal.main_arg4)
      ∧ m' ((c.tc : Thread Cert.OprojRefIdeal.nD Cert.OprojRefIdeal.τ).loc Cert.OprojRefIdeal.main_arg5) = m ((c.tc : Thread Cert.OprojIdeal.nD Cert.OprojIdeal.τ).loc Cert.OprojIdeal.main_arg5)) →
    ∃ (v0 : (c : Dev Cert.OprojIdeal.nD) → Buf (Elt Ideal) ((c.tc : Thread Cert.OprojIdeal.nD Cert.OprojIdeal.τ).loc Cert.OprojIdeal.main_v6_0)) (v1 : (c : Dev Cert.OprojIdeal.nD) → Buf (Elt Ideal) ((c.tc : Thread Cert.OprojIdeal.nD Cert.OprojIdeal.τ).loc Cert.OprojIdeal.main_v6_1)) (v2 : (c : Dev Cert.OprojIdeal.nD) → Buf (Elt Ideal) ((c.tc : Thread Cert.OprojIdeal.nD Cert.OprojIdeal.τ).loc Cert.OprojIdeal.main_v6_3)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v6_0) = v0 c
          ∧ r.2.mem ((c.tc : Thread Cert.OprojIdeal.nD Cert.OprojIdeal.τ).loc Cert.OprojIdeal.main_v6_1) = v1 c
          ∧ r.2.mem ((c.tc : Thread Cert.OprojIdeal.nD Cert.OprojIdeal.τ).loc Cert.OprojIdeal.main_v6_3) = v2 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
          ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
          ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5))
      ∧ θ_run (Cert.OprojRefIdeal.defs (F := Ideal)) (onTc (τ := Cert.OprojRefIdeal.τ) (Cert.OprojRefIdeal.main (F := Ideal))) ⟨m', fun _ => 0, g'⟩ (fun r => ∀ c : Dev Cert.OprojRefIdeal.nD,
          r.2.mem ((c.tc : Thread Cert.OprojRefIdeal.nD Cert.OprojRefIdeal.τ).loc Cert.OprojRefIdeal.main_v5_0) = v0 c
          ∧ r.2.mem ((c.tc : Thread Cert.OprojRefIdeal.nD Cert.OprojRefIdeal.τ).loc Cert.OprojRefIdeal.main_v5_1) = v1 c
          ∧ r.2.mem ((c.tc : Thread Cert.OprojRefIdeal.nD Cert.OprojRefIdeal.τ).loc Cert.OprojRefIdeal.main_v5_2) = v2 c
          ∧ r.2.mem ((c.tc : Thread Cert.OprojRefIdeal.nD Cert.OprojRefIdeal.τ).loc Cert.OprojRefIdeal.main_arg0) = m' ((c.tc : Thread Cert.OprojRefIdeal.nD Cert.OprojRefIdeal.τ).loc Cert.OprojRefIdeal.main_arg0)
          ∧ r.2.mem ((c.tc : Thread Cert.OprojRefIdeal.nD Cert.OprojRefIdeal.τ).loc Cert.OprojRefIdeal.main_arg1) = m' ((c.tc : Thread Cert.OprojRefIdeal.nD Cert.OprojRefIdeal.τ).loc Cert.OprojRefIdeal.main_arg1)
          ∧ r.2.mem ((c.tc : Thread Cert.OprojRefIdeal.nD Cert.OprojRefIdeal.τ).loc Cert.OprojRefIdeal.main_arg2) = m' ((c.tc : Thread Cert.OprojRefIdeal.nD Cert.OprojRefIdeal.τ).loc Cert.OprojRefIdeal.main_arg2)
          ∧ r.2.mem ((c.tc : Thread Cert.OprojRefIdeal.nD Cert.OprojRefIdeal.τ).loc Cert.OprojRefIdeal.main_arg3) = m' ((c.tc : Thread Cert.OprojRefIdeal.nD Cert.OprojRefIdeal.τ).loc Cert.OprojRefIdeal.main_arg3)
          ∧ r.2.mem ((c.tc : Thread Cert.OprojRefIdeal.nD Cert.OprojRefIdeal.τ).loc Cert.OprojRefIdeal.main_arg4) = m' ((c.tc : Thread Cert.OprojRefIdeal.nD Cert.OprojRefIdeal.τ).loc Cert.OprojRefIdeal.main_arg4)
          ∧ r.2.mem ((c.tc : Thread Cert.OprojRefIdeal.nD Cert.OprojRefIdeal.τ).loc Cert.OprojRefIdeal.main_arg5) = m' ((c.tc : Thread Cert.OprojRefIdeal.nD Cert.OprojRefIdeal.τ).loc Cert.OprojRefIdeal.main_arg5))

def Claim : Prop :=
  ∃ (hFc : Cert.Fc.Facts) (hFcIdeal : Cert.FcIdeal.Facts) (hFcRefIdeal : Cert.FcRefIdeal.Facts) (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hThQuant : Cert.ThQuant.Facts) (hThQuantIdeal : Cert.ThQuantIdeal.Facts) (hThQuantRefIdeal : Cert.ThQuantRefIdeal.Facts) (hActQuant : Cert.ActQuant.Facts) (hActQuantIdeal : Cert.ActQuantIdeal.Facts) (hActQuantRefIdeal : Cert.ActQuantRefIdeal.Facts) (hXQuant : Cert.XQuant.Facts) (hXQuantIdeal : Cert.XQuantIdeal.Facts) (hXQuantRefIdeal : Cert.XQuantRefIdeal.Facts) (hOproj : Cert.Oproj.Facts) (hOprojIdeal : Cert.OprojIdeal.Facts) (hOprojRefIdeal : Cert.OprojRefIdeal.Facts),
    quiescent_Fc (hFc := hFc)
    ∧ quiescent_FcIdeal (hFcIdeal := hFcIdeal)
    ∧ quiescent_FcRefIdeal (hFcRefIdeal := hFcRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ quiescent_ThQuant (hThQuant := hThQuant)
    ∧ quiescent_ThQuantIdeal (hThQuantIdeal := hThQuantIdeal)
    ∧ quiescent_ThQuantRefIdeal (hThQuantRefIdeal := hThQuantRefIdeal)
    ∧ quiescent_ActQuant (hActQuant := hActQuant)
    ∧ quiescent_ActQuantIdeal (hActQuantIdeal := hActQuantIdeal)
    ∧ quiescent_ActQuantRefIdeal (hActQuantRefIdeal := hActQuantRefIdeal)
    ∧ quiescent_XQuant (hXQuant := hXQuant)
    ∧ quiescent_XQuantIdeal (hXQuantIdeal := hXQuantIdeal)
    ∧ quiescent_XQuantRefIdeal (hXQuantRefIdeal := hXQuantRefIdeal)
    ∧ quiescent_Oproj (hOproj := hOproj)
    ∧ quiescent_OprojIdeal (hOprojIdeal := hOprojIdeal)
    ∧ quiescent_OprojRefIdeal (hOprojRefIdeal := hOprojRefIdeal)
    ∧ preserves_Fc_FcIdeal
    ∧ algebraic_FcIdeal_FcRefIdeal (hFcIdeal := hFcIdeal) (hFcRefIdeal := hFcRefIdeal)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
    ∧ preserves_ThQuant_ThQuantIdeal
    ∧ algebraic_ThQuantIdeal_ThQuantRefIdeal (hThQuantIdeal := hThQuantIdeal) (hThQuantRefIdeal := hThQuantRefIdeal)
    ∧ preserves_ActQuant_ActQuantIdeal
    ∧ algebraic_ActQuantIdeal_ActQuantRefIdeal (hActQuantIdeal := hActQuantIdeal) (hActQuantRefIdeal := hActQuantRefIdeal)
    ∧ preserves_XQuant_XQuantIdeal
    ∧ algebraic_XQuantIdeal_XQuantRefIdeal (hXQuantIdeal := hXQuantIdeal) (hXQuantRefIdeal := hXQuantRefIdeal)
    ∧ preserves_Oproj_OprojIdeal
    ∧ algebraic_OprojIdeal_OprojRefIdeal (hOprojIdeal := hOprojIdeal) (hOprojRefIdeal := hOprojRefIdeal)
-- ==== Fc.lean ====
abbrev S1536x25600 : Shape := ⟨2, ![1536, 25600]⟩
abbrev S1536 : Shape := ⟨1, ![1536]⟩
abbrev S25600x5120 : Shape := ⟨2, ![25600, 5120]⟩
abbrev S5120 : Shape := ⟨1, ![5120]⟩
abbrev S1536x1 : Shape := ⟨2, ![1536, 1]⟩
abbrev S1536x128 : Shape := ⟨2, ![1536, 128]⟩
abbrev S1x5120 : Shape := ⟨2, ![1, 5120]⟩
abbrev S1536x5120 : Shape := ⟨2, ![1536, 5120]⟩
abbrev S25600x256 : Shape := ⟨2, ![25600, 256]⟩
abbrev S1x256 : Shape := ⟨2, ![1, 256]⟩
abbrev S1536x256 : Shape := ⟨2, ![1536, 256]⟩
abbrev S256x25600 : Shape := ⟨2, ![256, 25600]⟩
abbrev S256x256 : Shape := ⟨2, ![256, 256]⟩
abbrev S256x128 : Shape := ⟨2, ![256, 128]⟩
abbrev S1x128 : Shape := ⟨2, ![1, 128]⟩

abbrev nBuf : Space → Nat
  | .hbm => 9
  | .vmem => 10
  | .smem => 0
  | _ => 0

abbrev bufTy : (tb : Table) → Fin (tcTables nBuf tb) → BufTy
  | .hbm, ⟨0, _⟩ => ⟨S1536x25600, .fp8e4m3⟩
  | .hbm, ⟨1, _⟩ => ⟨S1536, .f32⟩
  | .hbm, ⟨2, _⟩ => ⟨S25600x5120, .fp8e4m3⟩
  | .hbm, ⟨3, _⟩ => ⟨S5120, .f32⟩
  | .hbm, ⟨4, _⟩ => ⟨S1536x1, .f32⟩
  | .hbm, ⟨5, _⟩ => ⟨S1536x128, .f32⟩
  | .hbm, ⟨6, _⟩ => ⟨S1x5120, .f32⟩
  | .hbm, ⟨7, _⟩ => ⟨S1536x5120, .f32⟩
  | .hbm, ⟨8, _⟩ => ⟨S1536x5120, .bf16⟩
  | .local _ .vmem, ⟨0, _⟩ => ⟨S1536x25600, .fp8e4m3⟩
  | .local _ .vmem, ⟨1, _⟩ => ⟨S1536x128, .f32⟩
  | .local _ .vmem, ⟨2, _⟩ => ⟨S25600x256, .fp8e4m3⟩
  | .local _ .vmem, ⟨3, _⟩ => ⟨S25600x256, .fp8e4m3⟩
  | .local _ .vmem, ⟨4, _⟩ => ⟨S1x256, .f32⟩
  | .local _ .vmem, ⟨5, _⟩ => ⟨S1x256, .f32⟩
  | .local _ .vmem, ⟨6, _⟩ => ⟨S1536x256, .f32⟩
  | .local _ .vmem, ⟨7, _⟩ => ⟨S1536x256, .f32⟩
  | .local _ .vmem, ⟨8, _⟩ => ⟨S1536x256, .bf16⟩
  | .local _ .vmem, ⟨9, _⟩ => ⟨S1536x256, .bf16⟩
  | _, _ => ⟨S1536x25600, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1536x25600 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1536x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S25600x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1536x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1536x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FcRefIdeal.lean ====
abbrev S1536x25600 : Shape := ⟨2, ![1536, 25600]⟩
abbrev S1536 : Shape := ⟨1, ![1536]⟩
abbrev S25600x5120 : Shape := ⟨2, ![25600, 5120]⟩
abbrev S5120 : Shape := ⟨1, ![5120]⟩
abbrev S1536x1 : Shape := ⟨2, ![1536, 1]⟩
abbrev S1x5120 : Shape := ⟨2, ![1, 5120]⟩
abbrev S1536x5120 : Shape := ⟨2, ![1536, 5120]⟩

abbrev nBuf : Space → Nat
  | .hbm => 8
  | .vmem => 6
  | .smem => 0
  | _ => 0

abbrev bufTy : (tb : Table) → Fin (tcTables nBuf tb) → BufTy
  | .hbm, ⟨0, _⟩ => ⟨S1536x25600, .fp8e4m3⟩
  | .hbm, ⟨1, _⟩ => ⟨S1536, .f32⟩
  | .hbm, ⟨2, _⟩ => ⟨S25600x5120, .fp8e4m3⟩
  | .hbm, ⟨3, _⟩ => ⟨S5120, .f32⟩
  | .hbm, ⟨4, _⟩ => ⟨S1536x1, .f32⟩
  | .hbm, ⟨5, _⟩ => ⟨S1x5120, .f32⟩
  | .hbm, ⟨6, _⟩ => ⟨S1536x5120, .f32⟩
  | .hbm, ⟨7, _⟩ => ⟨S1536x5120, .bf16⟩
  | .local _ .vmem, ⟨0, _⟩ => ⟨S1536x25600, .fp8e4m3⟩
  | .local _ .vmem, ⟨1, _⟩ => ⟨S1536x1, .f32⟩
  | .local _ .vmem, ⟨2, _⟩ => ⟨S25600x5120, .fp8e4m3⟩
  | .local _ .vmem, ⟨3, _⟩ => ⟨S1x5120, .f32⟩
  | .local _ .vmem, ⟨4, _⟩ => ⟨S1536x5120, .f32⟩
  | .local _ .vmem, ⟨5, _⟩ => ⟨S1536x5120, .bf16⟩
  | _, _ => ⟨S1536x25600, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1536x25600 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S25600x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== GateUp.lean ====
abbrev S1536x5120 : Shape := ⟨2, ![1536, 5120]⟩
abbrev S1536 : Shape := ⟨1, ![1536]⟩
abbrev S5120x34816 : Shape := ⟨2, ![5120, 34816]⟩
abbrev S34816 : Shape := ⟨1, ![34816]⟩
abbrev S1536x1 : Shape := ⟨2, ![1536, 1]⟩
abbrev S1536x128 : Shape := ⟨2, ![1536, 128]⟩
abbrev S1x34816 : Shape := ⟨2, ![1, 34816]⟩
abbrev S1536x17408 : Shape := ⟨2, ![1536, 17408]⟩
abbrev S5120x512 : Shape := ⟨2, ![5120, 512]⟩
abbrev S1x512 : Shape := ⟨2, ![1, 512]⟩
abbrev S1536x512 : Shape := ⟨2, ![1536, 512]⟩
abbrev S256x128 : Shape := ⟨2, ![256, 128]⟩
abbrev S256x5120 : Shape := ⟨2, ![256, 5120]⟩
abbrev S5120x256 : Shape := ⟨2, ![5120, 256]⟩
abbrev S256x256 : Shape := ⟨2, ![256, 256]⟩
abbrev S1x128 : Shape := ⟨2, ![1, 128]⟩

abbrev nBuf : Space → Nat
  | .hbm => 8
  | .vmem => 12
  | .smem => 0
  | _ => 0

abbrev bufTy : (tb : Table) → Fin (tcTables nBuf tb) → BufTy
  | .hbm, ⟨0, _⟩ => ⟨S1536x5120, .fp8e4m3⟩
  | .hbm, ⟨1, _⟩ => ⟨S1536, .f32⟩
  | .hbm, ⟨2, _⟩ => ⟨S5120x34816, .fp8e4m3⟩
  | .hbm, ⟨3, _⟩ => ⟨S34816, .f32⟩
  | .hbm, ⟨4, _⟩ => ⟨S1536x1, .f32⟩
  | .hbm, ⟨5, _⟩ => ⟨S1536x128, .f32⟩
  | .hbm, ⟨6, _⟩ => ⟨S1x34816, .f32⟩
  | .hbm, ⟨7, _⟩ => ⟨S1536x17408, .f32⟩
  | .local _ .vmem, ⟨0, _⟩ => ⟨S1536x5120, .fp8e4m3⟩
  | .local _ .vmem, ⟨1, _⟩ => ⟨S1536x128, .f32⟩
  | .local _ .vmem, ⟨2, _⟩ => ⟨S5120x512, .fp8e4m3⟩
  | .local _ .vmem, ⟨3, _⟩ => ⟨S5120x512, .fp8e4m3⟩
  | .local _ .vmem, ⟨4, _⟩ => ⟨S5120x512, .fp8e4m3⟩
  | .local _ .vmem, ⟨5, _⟩ => ⟨S5120x512, .fp8e4m3⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1536x512, .f32⟩
  | .local _ .vmem, ⟨11, _⟩ => ⟨S1536x512, .f32⟩
  | _, _ => ⟨S1536x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c34_i32 : BitVec 32 := 34#32
  let v0 : BitVec 32 := Scalar.addi arg0 c34_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c34_i32 : BitVec 32 := 34#32
  let v0 : BitVec 32 := Scalar.addi arg0 c34_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1536x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1536x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5120x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5120x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1536x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GateUpRefIdeal.lean ====
abbrev S1536x5120 : Shape := ⟨2, ![1536, 5120]⟩
abbrev S1536 : Shape := ⟨1, ![1536]⟩
abbrev S5120x34816 : Shape := ⟨2, ![5120, 34816]⟩
abbrev S34816 : Shape := ⟨1, ![34816]⟩
abbrev S1536x1 : Shape := ⟨2, ![1536, 1]⟩
abbrev S1x34816 : Shape := ⟨2, ![1, 34816]⟩
abbrev S1536x17408 : Shape := ⟨2, ![1536, 17408]⟩
abbrev S1536x34816 : Shape := ⟨2, ![1536, 34816]⟩

abbrev nBuf : Space → Nat
  | .hbm => 7
  | .vmem => 5
  | .smem => 0
  | _ => 0

abbrev bufTy : (tb : Table) → Fin (tcTables nBuf tb) → BufTy
  | .hbm, ⟨0, _⟩ => ⟨S1536x5120, .fp8e4m3⟩
  | .hbm, ⟨1, _⟩ => ⟨S1536, .f32⟩
  | .hbm, ⟨2, _⟩ => ⟨S5120x34816, .fp8e4m3⟩
  | .hbm, ⟨3, _⟩ => ⟨S34816, .f32⟩
  | .hbm, ⟨4, _⟩ => ⟨S1536x1, .f32⟩
  | .hbm, ⟨5, _⟩ => ⟨S1x34816, .f32⟩
  | .hbm, ⟨6, _⟩ => ⟨S1536x17408, .f32⟩
  | .local _ .vmem, ⟨0, _⟩ => ⟨S1536x5120, .fp8e4m3⟩
  | .local _ .vmem, ⟨1, _⟩ => ⟨S1536x1, .f32⟩
  | .local _ .vmem, ⟨2, _⟩ => ⟨S5120x34816, .fp8e4m3⟩
  | .local _ .vmem, ⟨3, _⟩ => ⟨S1x34816, .f32⟩
  | .local _ .vmem, ⟨4, _⟩ => ⟨S1536x17408, .f32⟩
  | _, _ => ⟨S1536x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1536x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x34816 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x34816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x17408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Down.lean ====
abbrev S1536x17408 : Shape := ⟨2, ![1536, 17408]⟩
abbrev S1536 : Shape := ⟨1, ![1536]⟩
abbrev S17408x5120 : Shape := ⟨2, ![17408, 5120]⟩
abbrev S5120 : Shape := ⟨1, ![5120]⟩
abbrev S1536x5120 : Shape := ⟨2, ![1536, 5120]⟩
abbrev S1536x1 : Shape := ⟨2, ![1536, 1]⟩
abbrev S1536x128 : Shape := ⟨2, ![1536, 128]⟩
abbrev S1x5120 : Shape := ⟨2, ![1, 5120]⟩
abbrev S17408x256 : Shape := ⟨2, ![17408, 256]⟩
abbrev S1x256 : Shape := ⟨2, ![1, 256]⟩
abbrev S1536x256 : Shape := ⟨2, ![1536, 256]⟩
abbrev S256x17408 : Shape := ⟨2, ![256, 17408]⟩
abbrev S256x256 : Shape := ⟨2, ![256, 256]⟩
abbrev S256x128 : Shape := ⟨2, ![256, 128]⟩
abbrev S1x128 : Shape := ⟨2, ![1, 128]⟩

abbrev nBuf : Space → Nat
  | .hbm => 9
  | .vmem => 10
  | .smem => 0
  | _ => 0

abbrev bufTy : (tb : Table) → Fin (tcTables nBuf tb) → BufTy
  | .hbm, ⟨0, _⟩ => ⟨S1536x17408, .fp8e4m3⟩
  | .hbm, ⟨1, _⟩ => ⟨S1536, .f32⟩
  | .hbm, ⟨2, _⟩ => ⟨S17408x5120, .fp8e4m3⟩
  | .hbm, ⟨3, _⟩ => ⟨S5120, .f32⟩
  | .hbm, ⟨4, _⟩ => ⟨S1536x5120, .f32⟩
  | .hbm, ⟨5, _⟩ => ⟨S1536x1, .f32⟩
  | .hbm, ⟨6, _⟩ => ⟨S1536x128, .f32⟩
  | .hbm, ⟨7, _⟩ => ⟨S1x5120, .f32⟩
  | .hbm, ⟨8, _⟩ => ⟨S1536x5120, .bf16⟩
  | .local _ .vmem, ⟨0, _⟩ => ⟨S1536x17408, .fp8e4m3⟩
  | .local _ .vmem, ⟨1, _⟩ => ⟨S1536x128, .f32⟩
  | .local _ .vmem, ⟨2, _⟩ => ⟨S17408x256, .fp8e4m3⟩
  | .local _ .vmem, ⟨3, _⟩ => ⟨S17408x256, .fp8e4m3⟩
  | .local _ .vmem, ⟨4, _⟩ => ⟨S1x256, .f32⟩
  | .local _ .vmem, ⟨5, _⟩ => ⟨S1x256, .f32⟩
  | .local _ .vmem, ⟨6, _⟩ => ⟨S1536x256, .f32⟩
  | .local _ .vmem, ⟨7, _⟩ => ⟨S1536x256, .f32⟩
  | .local _ .vmem, ⟨8, _⟩ => ⟨S1536x256, .bf16⟩
  | .local _ .vmem, ⟨9, _⟩ => ⟨S1536x256, .bf16⟩
  | _, _ => ⟨S1536x17408, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1536x17408 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1536x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S17408x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1536x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1536x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownRefIdeal.lean ====
abbrev S1536x17408 : Shape := ⟨2, ![1536, 17408]⟩
abbrev S1536 : Shape := ⟨1, ![1536]⟩
abbrev S17408x5120 : Shape := ⟨2, ![17408, 5120]⟩
abbrev S5120 : Shape := ⟨1, ![5120]⟩
abbrev S1536x5120 : Shape := ⟨2, ![1536, 5120]⟩
abbrev S1536x1 : Shape := ⟨2, ![1536, 1]⟩
abbrev S1x5120 : Shape := ⟨2, ![1, 5120]⟩

abbrev nBuf : Space → Nat
  | .hbm => 8
  | .vmem => 6
  | .smem => 0
  | _ => 0

abbrev bufTy : (tb : Table) → Fin (tcTables nBuf tb) → BufTy
  | .hbm, ⟨0, _⟩ => ⟨S1536x17408, .fp8e4m3⟩
  | .hbm, ⟨1, _⟩ => ⟨S1536, .f32⟩
  | .hbm, ⟨2, _⟩ => ⟨S17408x5120, .fp8e4m3⟩
  | .hbm, ⟨3, _⟩ => ⟨S5120, .f32⟩
  | .hbm, ⟨4, _⟩ => ⟨S1536x5120, .f32⟩
  | .hbm, ⟨5, _⟩ => ⟨S1536x1, .f32⟩
  | .hbm, ⟨6, _⟩ => ⟨S1x5120, .f32⟩
  | .hbm, ⟨7, _⟩ => ⟨S1536x5120, .bf16⟩
  | .local _ .vmem, ⟨0, _⟩ => ⟨S1536x17408, .fp8e4m3⟩
  | .local _ .vmem, ⟨1, _⟩ => ⟨S1536x1, .f32⟩
  | .local _ .vmem, ⟨2, _⟩ => ⟨S17408x5120, .fp8e4m3⟩
  | .local _ .vmem, ⟨3, _⟩ => ⟨S1x5120, .f32⟩
  | .local _ .vmem, ⟨4, _⟩ => ⟨S1536x5120, .f32⟩
  | .local _ .vmem, ⟨5, _⟩ => ⟨S1536x5120, .bf16⟩
  | _, _ => ⟨S1536x17408, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1536x17408 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S17408x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ThQuant.lean ====
abbrev S1536x25600 : Shape := ⟨2, ![1536, 25600]⟩
abbrev S1536x128 : Shape := ⟨2, ![1536, 128]⟩
abbrev S12x128 : Shape := ⟨2, ![12, 128]⟩
abbrev S128x25600 : Shape := ⟨2, ![128, 25600]⟩
abbrev S128x128 : Shape := ⟨2, ![128, 128]⟩
abbrev S32x25600 : Shape := ⟨2, ![32, 25600]⟩
abbrev S32 : Shape := ⟨1, ![32]⟩
abbrev S32x1 : Shape := ⟨2, ![32, 1]⟩
abbrev S32x128 : Shape := ⟨2, ![32, 128]⟩
abbrev S128 : Shape := ⟨1, ![128]⟩
abbrev S1x128 : Shape := ⟨2, ![1, 128]⟩

abbrev nBuf : Space → Nat
  | .hbm => 4
  | .vmem => 7
  | .smem => 0
  | _ => 0

abbrev bufTy : (tb : Table) → Fin (tcTables nBuf tb) → BufTy
  | .hbm, ⟨0, _⟩ => ⟨S1536x25600, .bf16⟩
  | .hbm, ⟨1, _⟩ => ⟨S1536x25600, .fp8e4m3⟩
  | .hbm, ⟨2, _⟩ => ⟨S1536x128, .f32⟩
  | .hbm, ⟨3, _⟩ => ⟨S12x128, .f32⟩
  | .local _ .vmem, ⟨0, _⟩ => ⟨S128x25600, .bf16⟩
  | .local _ .vmem, ⟨1, _⟩ => ⟨S128x25600, .bf16⟩
  | .local _ .vmem, ⟨2, _⟩ => ⟨S128x25600, .fp8e4m3⟩
  | .local _ .vmem, ⟨3, _⟩ => ⟨S128x25600, .fp8e4m3⟩
  | .local _ .vmem, ⟨4, _⟩ => ⟨S128x128, .f32⟩
  | .local _ .vmem, ⟨5, _⟩ => ⟨S128x128, .f32⟩
  | .local _ .vmem, ⟨6, _⟩ => ⟨S12x128, .f32⟩
  | _, _ => ⟨S1536x25600, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![12], ![false]⟩

def k0_off1 (i : grid0.Coords) : Fin 2 → Nat :=
  let arg0 : BitVec 32 := BitVec.ofNat 32 (i 0).val
  let v105 : Index := Scalar.indexCast arg0
  let c0_51 : Index := 0#32
  ![v105.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x25600 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x25600 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S12x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ThQuantRefIdeal.lean ====
abbrev S1536x25600 : Shape := ⟨2, ![1536, 25600]⟩
abbrev S_ : Shape := ⟨0, ![]⟩
abbrev S1536 : Shape := ⟨1, ![1536]⟩
abbrev S12x128 : Shape := ⟨2, ![12, 128]⟩
abbrev S1536x1 : Shape := ⟨2, ![1536, 1]⟩

abbrev nBuf : Space → Nat
  | .hbm => 18
  | .vmem => 3
  | .smem => 0
  | _ => 0

abbrev bufTy : (tb : Table) → Fin (tcTables nBuf tb) → BufTy
  | .hbm, ⟨0, _⟩ => ⟨S1536x25600, .bf16⟩
  | .hbm, ⟨1, _⟩ => ⟨S1536x25600, .f32⟩
  | .hbm, ⟨2, _⟩ => ⟨S1536x25600, .f32⟩
  | .hbm, ⟨3, _⟩ => ⟨S_, .f32⟩
  | .hbm, ⟨4, _⟩ => ⟨S1536, .f32⟩
  | .hbm, ⟨5, _⟩ => ⟨S_, .f32⟩
  | .hbm, ⟨6, _⟩ => ⟨S1536, .f32⟩
  | .hbm, ⟨7, _⟩ => ⟨S1536, .i1⟩
  | .hbm, ⟨8, _⟩ => ⟨S_, .f32⟩
  | .hbm, ⟨9, _⟩ => ⟨S1536, .f32⟩
  | .hbm, ⟨10, _⟩ => ⟨S1536, .f32⟩
  | .hbm, ⟨11, _⟩ => ⟨S_, .f32⟩
  | .hbm, ⟨12, _⟩ => ⟨S_, .f32⟩
  | .hbm, ⟨13, _⟩ => ⟨S1536, .f32⟩
  | .hbm, ⟨14, _⟩ => ⟨S1536, .f32⟩
  | .hbm, ⟨15, _⟩ => ⟨S12x128, .f32⟩
  | .hbm, ⟨16, _⟩ => ⟨S1536x1, .f32⟩
  | .hbm, ⟨17, _⟩ => ⟨S1536x25600, .fp8e4m3⟩
  | .local _ .vmem, ⟨0, _⟩ => ⟨S1536x25600, .f32⟩
  | .local _ .vmem, ⟨1, _⟩ => ⟨S1536x1, .f32⟩
  | .local _ .vmem, ⟨2, _⟩ => ⟨S1536x25600, .fp8e4m3⟩
  | _, _ => ⟨S1536x25600, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_call0_v0 : Ref sig .tc := ⟨.hbm, 12, rfl⟩
abbrev main_call0_v1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1536x25600 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x25600 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ActQuant.lean ====
abbrev S1536x17408 : Shape := ⟨2, ![1536, 17408]⟩
abbrev S1536x128 : Shape := ⟨2, ![1536, 128]⟩
abbrev S12x128 : Shape := ⟨2, ![12, 128]⟩
abbrev S128x17408 : Shape := ⟨2, ![128, 17408]⟩
abbrev S128x128 : Shape := ⟨2, ![128, 128]⟩
abbrev S32x17408 : Shape := ⟨2, ![32, 17408]⟩
abbrev S32 : Shape := ⟨1, ![32]⟩
abbrev S32x1 : Shape := ⟨2, ![32, 1]⟩
abbrev S32x128 : Shape := ⟨2, ![32, 128]⟩
abbrev S128 : Shape := ⟨1, ![128]⟩
abbrev S1x128 : Shape := ⟨2, ![1, 128]⟩

abbrev nBuf : Space → Nat
  | .hbm => 4
  | .vmem => 7
  | .smem => 0
  | _ => 0

abbrev bufTy : (tb : Table) → Fin (tcTables nBuf tb) → BufTy
  | .hbm, ⟨0, _⟩ => ⟨S1536x17408, .f32⟩
  | .hbm, ⟨1, _⟩ => ⟨S1536x17408, .fp8e4m3⟩
  | .hbm, ⟨2, _⟩ => ⟨S1536x128, .f32⟩
  | .hbm, ⟨3, _⟩ => ⟨S12x128, .f32⟩
  | .local _ .vmem, ⟨0, _⟩ => ⟨S128x17408, .f32⟩
  | .local _ .vmem, ⟨1, _⟩ => ⟨S128x17408, .f32⟩
  | .local _ .vmem, ⟨2, _⟩ => ⟨S128x17408, .fp8e4m3⟩
  | .local _ .vmem, ⟨3, _⟩ => ⟨S128x17408, .fp8e4m3⟩
  | .local _ .vmem, ⟨4, _⟩ => ⟨S128x128, .f32⟩
  | .local _ .vmem, ⟨5, _⟩ => ⟨S128x128, .f32⟩
  | .local _ .vmem, ⟨6, _⟩ => ⟨S12x128, .f32⟩
  | _, _ => ⟨S1536x17408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![12], ![false]⟩

def k0_off1 (i : grid0.Coords) : Fin 2 → Nat :=
  let arg0 : BitVec 32 := BitVec.ofNat 32 (i 0).val
  let v101 : Index := Scalar.indexCast arg0
  let c0_51 : Index := 0#32
  ![v101.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x17408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x17408 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S12x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ActQuantRefIdeal.lean ====
abbrev S1536x17408 : Shape := ⟨2, ![1536, 17408]⟩
abbrev S_ : Shape := ⟨0, ![]⟩
abbrev S1536 : Shape := ⟨1, ![1536]⟩
abbrev S12x128 : Shape := ⟨2, ![12, 128]⟩
abbrev S1536x1 : Shape := ⟨2, ![1536, 1]⟩

abbrev nBuf : Space → Nat
  | .hbm => 17
  | .vmem => 3
  | .smem => 0
  | _ => 0

abbrev bufTy : (tb : Table) → Fin (tcTables nBuf tb) → BufTy
  | .hbm, ⟨0, _⟩ => ⟨S1536x17408, .f32⟩
  | .hbm, ⟨1, _⟩ => ⟨S1536x17408, .f32⟩
  | .hbm, ⟨2, _⟩ => ⟨S_, .f32⟩
  | .hbm, ⟨3, _⟩ => ⟨S1536, .f32⟩
  | .hbm, ⟨4, _⟩ => ⟨S_, .f32⟩
  | .hbm, ⟨5, _⟩ => ⟨S1536, .f32⟩
  | .hbm, ⟨6, _⟩ => ⟨S1536, .i1⟩
  | .hbm, ⟨7, _⟩ => ⟨S_, .f32⟩
  | .hbm, ⟨8, _⟩ => ⟨S1536, .f32⟩
  | .hbm, ⟨9, _⟩ => ⟨S1536, .f32⟩
  | .hbm, ⟨10, _⟩ => ⟨S_, .f32⟩
  | .hbm, ⟨11, _⟩ => ⟨S_, .f32⟩
  | .hbm, ⟨12, _⟩ => ⟨S1536, .f32⟩
  | .hbm, ⟨13, _⟩ => ⟨S1536, .f32⟩
  | .hbm, ⟨14, _⟩ => ⟨S12x128, .f32⟩
  | .hbm, ⟨15, _⟩ => ⟨S1536x1, .f32⟩
  | .hbm, ⟨16, _⟩ => ⟨S1536x17408, .fp8e4m3⟩
  | .local _ .vmem, ⟨0, _⟩ => ⟨S1536x17408, .f32⟩
  | .local _ .vmem, ⟨1, _⟩ => ⟨S1536x1, .f32⟩
  | .local _ .vmem, ⟨2, _⟩ => ⟨S1536x17408, .fp8e4m3⟩
  | _, _ => ⟨S1536x17408, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_cst_2 : Ref sig .tc := ⟨.hbm, 10, rfl⟩
abbrev main_call0_v0 : Ref sig .tc := ⟨.hbm, 11, rfl⟩
abbrev main_call0_v1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1536x17408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x17408 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== XQuant.lean ====
abbrev S96x16x5120 : Shape := ⟨3, ![96, 16, 5120]⟩
abbrev S5120 : Shape := ⟨1, ![5120]⟩
abbrev S1536x5120 : Shape := ⟨2, ![1536, 5120]⟩
abbrev S1x5120 : Shape := ⟨2, ![1, 5120]⟩
abbrev S1536x128 : Shape := ⟨2, ![1536, 128]⟩
abbrev S12x128 : Shape := ⟨2, ![12, 128]⟩
abbrev S128x5120 : Shape := ⟨2, ![128, 5120]⟩
abbrev S128x128 : Shape := ⟨2, ![128, 128]⟩
abbrev S32x5120 : Shape := ⟨2, ![32, 5120]⟩
abbrev S32 : Shape := ⟨1, ![32]⟩
abbrev S32x1 : Shape := ⟨2, ![32, 1]⟩
abbrev S32x128 : Shape := ⟨2, ![32, 128]⟩
abbrev S128 : Shape := ⟨1, ![128]⟩
abbrev S1x128 : Shape := ⟨2, ![1, 128]⟩

abbrev nBuf : Space → Nat
  | .hbm => 7
  | .vmem => 8
  | .smem => 0
  | _ => 0

abbrev bufTy : (tb : Table) → Fin (tcTables nBuf tb) → BufTy
  | .hbm, ⟨0, _⟩ => ⟨S96x16x5120, .bf16⟩
  | .hbm, ⟨1, _⟩ => ⟨S5120, .f32⟩
  | .hbm, ⟨2, _⟩ => ⟨S1536x5120, .bf16⟩
  | .hbm, ⟨3, _⟩ => ⟨S1x5120, .f32⟩
  | .hbm, ⟨4, _⟩ => ⟨S1536x5120, .fp8e4m3⟩
  | .hbm, ⟨5, _⟩ => ⟨S1536x128, .f32⟩
  | .hbm, ⟨6, _⟩ => ⟨S12x128, .f32⟩
  | .local _ .vmem, ⟨0, _⟩ => ⟨S128x5120, .bf16⟩
  | .local _ .vmem, ⟨1, _⟩ => ⟨S128x5120, .bf16⟩
  | .local _ .vmem, ⟨2, _⟩ => ⟨S1x5120, .f32⟩
  | .local _ .vmem, ⟨3, _⟩ => ⟨S128x5120, .fp8e4m3⟩
  | .local _ .vmem, ⟨4, _⟩ => ⟨S128x5120, .fp8e4m3⟩
  | .local _ .vmem, ⟨5, _⟩ => ⟨S128x128, .f32⟩
  | .local _ .vmem, ⟨6, _⟩ => ⟨S128x128, .f32⟩
  | .local _ .vmem, ⟨7, _⟩ => ⟨S12x128, .f32⟩
  | _, _ => ⟨S96x16x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![12], ![false]⟩

def k0_off1 (i : grid0.Coords) : Fin 2 → Nat :=
  let arg0 : BitVec 32 := BitVec.ofNat 32 (i 0).val
  let v165 : Index := Scalar.indexCast arg0
  let c0_71 : Index := 0#32
  ![v165.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x5120 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S12x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== XQuantRefIdeal.lean ====
abbrev S96x16x5120 : Shape := ⟨3, ![96, 16, 5120]⟩
abbrev S5120 : Shape := ⟨1, ![5120]⟩
abbrev S1536x5120 : Shape := ⟨2, ![1536, 5120]⟩
abbrev S_ : Shape := ⟨0, ![]⟩
abbrev S1536 : Shape := ⟨1, ![1536]⟩
abbrev S1536x1 : Shape := ⟨2, ![1536, 1]⟩
abbrev S1x5120 : Shape := ⟨2, ![1, 5120]⟩
abbrev S12x128 : Shape := ⟨2, ![12, 128]⟩

abbrev nBuf : Space → Nat
  | .hbm => 36
  | .vmem => 3
  | .smem => 0
  | _ => 0

abbrev bufTy : (tb : Table) → Fin (tcTables nBuf tb) → BufTy
  | .hbm, ⟨0, _⟩ => ⟨S96x16x5120, .bf16⟩
  | .hbm, ⟨1, _⟩ => ⟨S5120, .f32⟩
  | .hbm, ⟨2, _⟩ => ⟨S1536x5120, .bf16⟩
  | .hbm, ⟨3, _⟩ => ⟨S1536x5120, .f32⟩
  | .hbm, ⟨4, _⟩ => ⟨S1536x5120, .f32⟩
  | .hbm, ⟨5, _⟩ => ⟨S_, .f32⟩
  | .hbm, ⟨6, _⟩ => ⟨S1536, .f32⟩
  | .hbm, ⟨7, _⟩ => ⟨S1536x1, .f32⟩
  | .hbm, ⟨8, _⟩ => ⟨S_, .f32⟩
  | .hbm, ⟨9, _⟩ => ⟨S1536x1, .f32⟩
  | .hbm, ⟨10, _⟩ => ⟨S1536x1, .f32⟩
  | .hbm, ⟨11, _⟩ => ⟨S_, .f32⟩
  | .hbm, ⟨12, _⟩ => ⟨S1536x1, .f32⟩
  | .hbm, ⟨13, _⟩ => ⟨S1536x1, .f32⟩
  | .hbm, ⟨14, _⟩ => ⟨S1536x1, .f32⟩
  | .hbm, ⟨15, _⟩ => ⟨S1536x5120, .f32⟩
  | .hbm, ⟨16, _⟩ => ⟨S1536x5120, .f32⟩
  | .hbm, ⟨17, _⟩ => ⟨S1x5120, .f32⟩
  | .hbm, ⟨18, _⟩ => ⟨S1536x5120, .f32⟩
  | .hbm, ⟨19, _⟩ => ⟨S1536x5120, .f32⟩
  | .hbm, ⟨20, _⟩ => ⟨S1536x5120, .f32⟩
  | .hbm, ⟨21, _⟩ => ⟨S_, .f32⟩
  | .hbm, ⟨22, _⟩ => ⟨S1536, .f32⟩
  | .hbm, ⟨23, _⟩ => ⟨S_, .f32⟩
  | .hbm, ⟨24, _⟩ => ⟨S1536, .f32⟩
  | .hbm, ⟨25, _⟩ => ⟨S1536, .i1⟩
  | .hbm, ⟨26, _⟩ => ⟨S_, .f32⟩
  | .hbm, ⟨27, _⟩ => ⟨S1536, .f32⟩
  | .hbm, ⟨28, _⟩ => ⟨S1536, .f32⟩
  | .hbm, ⟨29, _⟩ => ⟨S_, .f32⟩
  | .hbm, ⟨30, _⟩ => ⟨S_, .f32⟩
  | .hbm, ⟨31, _⟩ => ⟨S1536, .f32⟩
  | .hbm, ⟨32, _⟩ => ⟨S1536, .f32⟩
  | .hbm, ⟨33, _⟩ => ⟨S12x128, .f32⟩
  | .hbm, ⟨34, _⟩ => ⟨S1536x1, .f32⟩
  | .hbm, ⟨35, _⟩ => ⟨S1536x5120, .fp8e4m3⟩
  | .local _ .vmem, ⟨0, _⟩ => ⟨S1536x5120, .f32⟩
  | .local _ .vmem, ⟨1, _⟩ => ⟨S1536x1, .f32⟩
  | .local _ .vmem, ⟨2, _⟩ => ⟨S1536x5120, .fp8e4m3⟩
  | _, _ => ⟨S96x16x5120, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_call0_v0 : Ref sig .tc := ⟨.hbm, 30, rfl⟩
abbrev main_call0_v1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1536x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Oproj.lean ====
abbrev S1536x5120 : Shape := ⟨2, ![1536, 5120]⟩
abbrev S1536 : Shape := ⟨1, ![1536]⟩
abbrev S40x128x5120 : Shape := ⟨3, ![40, 128, 5120]⟩
abbrev S5120 : Shape := ⟨1, ![5120]⟩
abbrev S96x16x5120 : Shape := ⟨3, ![96, 16, 5120]⟩
abbrev S1536x1 : Shape := ⟨2, ![1536, 1]⟩
abbrev S1536x128 : Shape := ⟨2, ![1536, 128]⟩
abbrev S5120x5120 : Shape := ⟨2, ![5120, 5120]⟩
abbrev S1x5120 : Shape := ⟨2, ![1, 5120]⟩
abbrev S12x128 : Shape := ⟨2, ![12, 128]⟩
abbrev S256x5120 : Shape := ⟨2, ![256, 5120]⟩
abbrev S256x128 : Shape := ⟨2, ![256, 128]⟩
abbrev S5120x256 : Shape := ⟨2, ![5120, 256]⟩
abbrev S256x256 : Shape := ⟨2, ![256, 256]⟩
abbrev S1x128 : Shape := ⟨2, ![1, 128]⟩
abbrev S32x5120 : Shape := ⟨2, ![32, 5120]⟩
abbrev S32 : Shape := ⟨1, ![32]⟩
abbrev S32x1 : Shape := ⟨2, ![32, 1]⟩
abbrev S32x128 : Shape := ⟨2, ![32, 128]⟩
abbrev S128x128 : Shape := ⟨2, ![128, 128]⟩
abbrev S128 : Shape := ⟨1, ![128]⟩

abbrev nBuf : Space → Nat
  | .hbm => 16
  | .vmem => 16
  | .smem => 0
  | _ => 0

abbrev bufTy : (tb : Table) → Fin (tcTables nBuf tb) → BufTy
  | .hbm, ⟨0, _⟩ => ⟨S1536x5120, .fp8e4m3⟩
  | .hbm, ⟨1, _⟩ => ⟨S1536, .f32⟩
  | .hbm, ⟨2, _⟩ => ⟨S40x128x5120, .fp8e4m3⟩
  | .hbm, ⟨3, _⟩ => ⟨S5120, .f32⟩
  | .hbm, ⟨4, _⟩ => ⟨S96x16x5120, .bf16⟩
  | .hbm, ⟨5, _⟩ => ⟨S5120, .f32⟩
  | .hbm, ⟨6, _⟩ => ⟨S1536x1, .f32⟩
  | .hbm, ⟨7, _⟩ => ⟨S1536x128, .f32⟩
  | .hbm, ⟨8, _⟩ => ⟨S5120x5120, .fp8e4m3⟩
  | .hbm, ⟨9, _⟩ => ⟨S1x5120, .f32⟩
  | .hbm, ⟨10, _⟩ => ⟨S1536x5120, .bf16⟩
  | .hbm, ⟨11, _⟩ => ⟨S1x5120, .f32⟩
  | .hbm, ⟨12, _⟩ => ⟨S1536x5120, .f32⟩
  | .hbm, ⟨13, _⟩ => ⟨S1536x5120, .fp8e4m3⟩
  | .hbm, ⟨14, _⟩ => ⟨S1536x128, .f32⟩
  | .hbm, ⟨15, _⟩ => ⟨S12x128, .f32⟩
  | .local _ .vmem, ⟨0, _⟩ => ⟨S256x5120, .fp8e4m3⟩
  | .local _ .vmem, ⟨1, _⟩ => ⟨S256x5120, .fp8e4m3⟩
  | .local _ .vmem, ⟨2, _⟩ => ⟨S256x128, .f32⟩
  | .local _ .vmem, ⟨3, _⟩ => ⟨S256x128, .f32⟩
  | .local _ .vmem, ⟨4, _⟩ => ⟨S5120x5120, .fp8e4m3⟩
  | .local _ .vmem, ⟨5, _⟩ => ⟨S1x5120, .f32⟩
  | .local _ .vmem, ⟨6, _⟩ => ⟨S256x5120, .bf16⟩
  | .local _ .vmem, ⟨7, _⟩ => ⟨S256x5120, .bf16⟩
  | .local _ .vmem, ⟨8, _⟩ => ⟨S1x5120, .f32⟩
  | .local _ .vmem, ⟨9, _⟩ => ⟨S256x5120, .f32⟩
  | .local _ .vmem, ⟨10, _⟩ => ⟨S256x5120, .f32⟩
  | .local _ .vmem, ⟨11, _⟩ => ⟨S256x5120, .fp8e4m3⟩
  | .local _ .vmem, ⟨12, _⟩ => ⟨S256x5120, .fp8e4m3⟩
  | .local _ .vmem, ⟨13, _⟩ => ⟨S256x128, .f32⟩
  | .local _ .vmem, ⟨14, _⟩ => ⟨S256x128, .f32⟩
  | .local _ .vmem, ⟨15, _⟩ => ⟨S12x128, .f32⟩
  | _, _ => ⟨S1536x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![6], ![false]⟩

def k0_off1 (i : grid0.Coords) (c0_i32 : BitVec 32) : Fin 2 → Nat :=
  let arg0 : BitVec 32 := BitVec.ofNat 32 (i 0).val
  let c2_i32 : BitVec 32 := 2#32
  let v835 : BitVec 32 := Scalar.muli arg0 c2_i32
  let v836 : BitVec 32 := Scalar.addi v835 c0_i32
  let v837 : Index := Scalar.indexCast v836
  let c0_443 : Index := 0#32
  ![v837.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5120 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5120x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x5120 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x5120 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5120 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S12x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== OprojRefIdeal.lean ====
abbrev S1536x5120 : Shape := ⟨2, ![1536, 5120]⟩
abbrev S1536 : Shape := ⟨1, ![1536]⟩
abbrev S40x128x5120 : Shape := ⟨3, ![40, 128, 5120]⟩
abbrev S5120 : Shape := ⟨1, ![5120]⟩
abbrev S96x16x5120 : Shape := ⟨3, ![96, 16, 5120]⟩
abbrev S1536x1 : Shape := ⟨2, ![1536, 1]⟩
abbrev S5120x5120 : Shape := ⟨2, ![5120, 5120]⟩
abbrev S1x5120 : Shape := ⟨2, ![1, 5120]⟩
abbrev S12x128 : Shape := ⟨2, ![12, 128]⟩

abbrev nBuf : Space → Nat
  | .hbm => 14
  | .vmem => 9
  | .smem => 0
  | _ => 0

abbrev bufTy : (tb : Table) → Fin (tcTables nBuf tb) → BufTy
  | .hbm, ⟨0, _⟩ => ⟨S1536x5120, .fp8e4m3⟩
  | .hbm, ⟨1, _⟩ => ⟨S1536, .f32⟩
  | .hbm, ⟨2, _⟩ => ⟨S40x128x5120, .fp8e4m3⟩
  | .hbm, ⟨3, _⟩ => ⟨S5120, .f32⟩
  | .hbm, ⟨4, _⟩ => ⟨S96x16x5120, .bf16⟩
  | .hbm, ⟨5, _⟩ => ⟨S5120, .f32⟩
  | .hbm, ⟨6, _⟩ => ⟨S1536x1, .f32⟩
  | .hbm, ⟨7, _⟩ => ⟨S5120x5120, .fp8e4m3⟩
  | .hbm, ⟨8, _⟩ => ⟨S1x5120, .f32⟩
  | .hbm, ⟨9, _⟩ => ⟨S1536x5120, .bf16⟩
  | .hbm, ⟨10, _⟩ => ⟨S1x5120, .f32⟩
  | .hbm, ⟨11, _⟩ => ⟨S1536x5120, .f32⟩
  | .hbm, ⟨12, _⟩ => ⟨S1536x5120, .fp8e4m3⟩
  | .hbm, ⟨13, _⟩ => ⟨S12x128, .f32⟩
  | .local _ .vmem, ⟨0, _⟩ => ⟨S1536x5120, .fp8e4m3⟩
  | .local _ .vmem, ⟨1, _⟩ => ⟨S1536x1, .f32⟩
  | .local _ .vmem, ⟨2, _⟩ => ⟨S5120x5120, .fp8e4m3⟩
  | .local _ .vmem, ⟨3, _⟩ => ⟨S1x5120, .f32⟩
  | .local _ .vmem, ⟨4, _⟩ => ⟨S1536x5120, .bf16⟩
  | .local _ .vmem, ⟨5, _⟩ => ⟨S1x5120, .f32⟩
  | .local _ .vmem, ⟨6, _⟩ => ⟨S1536x5120, .f32⟩
  | .local _ .vmem, ⟨7, _⟩ => ⟨S1536x5120, .fp8e4m3⟩
  | .local _ .vmem, ⟨8, _⟩ => ⟨S12x128, .f32⟩
  | _, _ => ⟨S1536x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S1536x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x5120 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.FcBlock.lean ====
/-
  The up-projection kernel `FcIdeal`, one grid point: what the body leaves in its two output blocks.

  A point holds all 1536 rows of the quantised hidden states, one block of 256 columns of the weight, the row
  scales (each repeated over 128 lanes) and the 256 column scales. The body walks over six bands of 256 rows and
  two halves of 128 columns, and stores each of the twelve tiles once. `blk` is the one function of the block's
  index that all twelve tiles agree with.
-/
module

public import proofs.«01_k».proof.Proof.Gen.FcIdeal.Frame
public import Idealize.ShloMosaic.Lib.Pipeline.Value
public import Idealize.ShloMosaic.Lib.Pointwise

@[expose] public section

set_option maxRecDepth 16384

noncomputable section

namespace Cert.FcIdeal.Hand

open Cert.FcIdeal Cert.FcIdeal.Gen Idealize.ShloMosaic Idealize.ShloMosaic.TcCoe

/-- Entry `(r, n)` of the block: the product of row `r` of the codes with column `n` of the weight block, times the
    row's scale (read in lane `n mod 128`), times the column's scale. -/
def blk (x0 : Vec Ideal S1536x25600 .fp8e4m3) (x1 : Vec Ideal S1536x128 .f32) (x2 : Vec Ideal S25600x256 .fp8e4m3)
    (x3 : Vec Ideal S1x256 .f32) (j : S1536x256.Idx) : EReal :=
  (∑ k : Fin 25600, x0 (ix2 (j 0) k) * x2 (ix2 k (j 1)))
    * x1 (ix2 (j 0) ⟨(j 1).val % 128, Nat.mod_lt _ (by decide)⟩) * x3 (ix2 0 (j 1))

variable (x0 : Vec Ideal S1536x25600 .fp8e4m3) (x1 : Vec Ideal S1536x128 .f32) (x2 : Vec Ideal S25600x256 .fp8e4m3)
    (x3 : Vec Ideal S1x256 .f32)

/-- The first output block (single precision) is `blk`. -/
theorem out_h : out0_4 x0 x1 x2 x3 = blk x0 x1 x2 x3 := by
  funext y
  unfold_out out0_4
  refine View.canon_apply_of_pieces _ _ ?_ y (cover0_4 _ _ _ _ _ _ _ _ _ _ _ _ y)
  intro p hp
  simp only [List.mem_cons, List.mem_nil_iff, or_false] at hp
  rcases hp with rfl | rfl | rfl | rfl | rfl | rfl | rfl | rfl | rfl | rfl | rfl | rfl
  all_goals
    intro x
    rw [show ∀ r : Rect S1536x256, ∀ x, r.emb x = r.toLoadRect.idx x from fun _ _ => rfl]
    unfold_payloads
    pointwise [blk]
    refine congrArg₂ (· * ·) (congrArg₂ (· * ·) rfl (congrArg x1 (congrArg (ix2 _) (Fin.ext ?_)))) rfl
    have h1 : (x 1).val < 128 := (x 1).isLt
    dsimp only
    omega

/-- So is the second, which the body stores narrowed to half width: over the reals the narrowing changes nothing. -/
theorem out_h16 : out0_5 x0 x1 x2 x3 = blk x0 x1 x2 x3 := by
  funext y
  unfold_out out0_5
  refine View.canon_apply_of_pieces _ _ ?_ y (cover0_5 _ _ _ _ _ _ _ _ _ _ _ _ y)
  intro p hp
  simp only [List.mem_cons, List.mem_nil_iff, or_false] at hp
  rcases hp with rfl | rfl | rfl | rfl | rfl | rfl | rfl | rfl | rfl | rfl | rfl | rfl
  all_goals
    intro x
    rw [show ∀ r : Rect S1536x256, ∀ x, r.emb x = r.toLoadRect.idx x from fun _ _ => rfl]
    unfold_payloads
    pointwise [blk]
    refine congrArg₂ (· * ·) (congrArg₂ (· * ·) rfl (congrArg x1 (congrArg (ix2 _) (Fin.ext ?_)))) rfl
    have h1 : (x 1).val < 128 := (x 1).isLt
    dsimp only
    omega

end Cert.FcIdeal.Hand

end
-- ==== Proof.FcRun.lean ====
/-
  The up-projection kernel `FcIdeal`, the whole call: its two result arrays.

  The twenty points cut the 5120 columns into blocks of 256; every point reads all rows. So entry `(r, n)` of either
  result is the product of row `r` with column `n`, times the row's scale, times the column's (`result`).
-/
module

public import proofs.«01_k».proof.Proof.Gen.FcIdeal.Value
public import proofs.«01_k».proof.Proof.FcBlock

@[expose] public section

set_option maxRecDepth 16384

noncomputable section

namespace Cert.FcIdeal.Hand

open Cert.FcIdeal Cert.FcIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The four arguments: the codes, the row scales, the weight, the column scales. -/
abbrev codes (c : Dev nD) : Vec Ideal S1536x25600 .fp8e4m3 := m (c.tc.loc main_arg0)
abbrev rowScale (c : Dev nD) : Vec Ideal S1536 .f32 := m (c.tc.loc main_arg1)
abbrev weight (c : Dev nD) : Vec Ideal S25600x5120 .fp8e4m3 := m (c.tc.loc main_arg2)
abbrev colScale (c : Dev nD) : Vec Ideal S5120 .f32 := m (c.tc.loc main_arg3)

/-- Entry `(r, n)` of the scaled product, from the four arguments. -/
def result (c : Dev nD) (j : S1536x5120.Idx) : EReal :=
  (∑ k : Fin 25600, codes m c (ix2 (j 0) k) * weight m c (ix2 k (j 1)))
    * rowScale m c (ix1 (j 0)) * colScale m c (ix1 (j 1))

/-- The four blocks point `t` reads. -/
abbrev b0 (c : Dev nD) (t : Fin cfg0.N) : Vec Ideal S1536x25600 .fp8e4m3 := iblk m c 0 t
abbrev b1 (c : Dev nD) (t : Fin cfg0.N) : Vec Ideal S1536x128 .f32 := iblk m c 1 t
abbrev b2 (c : Dev nD) (t : Fin cfg0.N) : Vec Ideal S25600x256 .fp8e4m3 := iblk m c 2 t
abbrev b3 (c : Dev nD) (t : Fin cfg0.N) : Vec Ideal S1x256 .f32 := iblk m c 3 t

/-! ## The windows' block indices -/

theorem ind0 : ∀ t : Fin cfg0.N, win0_0.index t 0 = 0 ∧ win0_0.index t 1 = 0 :=
  (by decide +kernel : ∀ t : Fin grid0.N, win0_0.index t 0 = 0 ∧ win0_0.index t 1 = 0)
theorem ind1 : ∀ t : Fin cfg0.N, win0_1.index t 0 = 0 ∧ win0_1.index t 1 = 0 :=
  (by decide +kernel : ∀ t : Fin grid0.N, win0_1.index t 0 = 0 ∧ win0_1.index t 1 = 0)
theorem ind2 : ∀ t : Fin cfg0.N, win0_2.index t 0 = 0 ∧ win0_2.index t 1 = t.val :=
  (by decide +kernel : ∀ t : Fin grid0.N, win0_2.index t 0 = 0 ∧ win0_2.index t 1 = t.val)
theorem ind3 : ∀ t : Fin cfg0.N, win0_3.index t 0 = 0 ∧ win0_3.index t 1 = t.val :=
  (by decide +kernel : ∀ t : Fin grid0.N, win0_3.index t 0 = 0 ∧ win0_3.index t 1 = t.val)
theorem ind4 : ∀ t : Fin cfg0.N, win0_4.index t 0 = 0 ∧ win0_4.index t 1 = t.val :=
  (by decide +kernel : ∀ t : Fin grid0.N, win0_4.index t 0 = 0 ∧ win0_4.index t 1 = t.val)
theorem ind5 : ∀ t : Fin cfg0.N, win0_5.index t 0 = 0 ∧ win0_5.index t 1 = t.val :=
  (by decide +kernel : ∀ t : Fin grid0.N, win0_5.index t 0 = 0 ∧ win0_5.index t 1 = t.val)

/-! ## What the host prepares -/

/-- The row scales as the host lays them out: repeated over 128 lanes. -/
theorem V_rs (c : Dev nD) (r : Fin 1536) (l : Fin 128) :
    (V m c main_v1 : Vec Ideal S1536x128 .f32) (ix2 r l) = rowScale m c (ix1 r) := by
  show (StableHlo.after hostOps0 _ (Proc.devRef .tc main_v1) : Vec Ideal S1536x128 .f32) _ = _
  after_results
  pointwise

/-- The column scales as one row. -/
theorem V_s (c : Dev nD) (n : Fin 5120) :
    (V m c main_v2 : Vec Ideal S1x5120 .f32) (ix2 0 n) = colScale m c (ix1 n) := by
  show (StableHlo.after hostOps0 _ (Proc.devRef .tc main_v2) : Vec Ideal S1x5120 .f32) _ = _
  after_results
  pointwise

/-! ## The blocks a point reads -/

theorem blk0 (c : Dev nD) (t : Fin cfg0.N) (r : Fin 1536) (k : Fin 25600) :
    b0 m c t (ix2 r k) = codes m c (ix2 r k) := by
  unfold b0 iblk
  rw [View.read_apply]
  show (V m c main_arg0 : Vec Ideal S1536x25600 .fp8e4m3) _ = _
  rw [V_main_arg0]
  refine congrArg _ (Shape.idx_ext₂ ?_ ?_)
  · show win0_0.index t 0 * 1536 + 1 * r.val = r.val; rw [(ind0 t).1]; omega
  · show win0_0.index t 1 * 25600 + 1 * k.val = k.val; rw [(ind0 t).2]; omega

theorem blk1 (c : Dev nD) (t : Fin cfg0.N) (r : Fin 1536) (l : Fin 128) :
    b1 m c t (ix2 r l) = rowScale m c (ix1 r) := by
  unfold b1 iblk
  rw [View.read_apply, ← V_rs m c r l]
  show (V m c main_v1 : Vec Ideal S1536x128 .f32) _ = _
  refine congrArg _ (Shape.idx_ext₂ ?_ ?_)
  · show win0_1.index t 0 * 1536 + 1 * r.val = r.val; rw [(ind1 t).1]; omega
  · show win0_1.index t 1 * 128 + 1 * l.val = l.val; rw [(ind1 t).2]; omega

theorem blk2 (c : Dev nD) (t : Fin cfg0.N) (k : Fin 25600) (n : Fin 256) (h : t.val * 256 + n.val < 5120) :
    b2 m c t (ix2 k n) = weight m c (ix2 k ⟨t.val * 256 + n.val, h⟩) := by
  unfold b2 iblk
  rw [View.read_apply]
  show (V m c main_arg2 : Vec Ideal S25600x5120 .fp8e4m3) _ = _
  rw [V_main_arg2]
  refine congrArg _ (Shape.idx_ext₂ ?_ ?_)
  · show win0_2.index t 0 * 25600 + 1 * k.val = k.val; rw [(ind2 t).1]; omega
  · show win0_2.index t 1 * 256 + 1 * n.val = t.val * 256 + n.val; rw [(ind2 t).2]; omega

theorem blk3 (c : Dev nD) (t : Fin cfg0.N) (n : Fin 256) (h : t.val * 256 + n.val < 5120) :
    b3 m c t (ix2 0 n) = colScale m c (ix1 ⟨t.val * 256 + n.val, h⟩) := by
  unfold b3 iblk
  rw [View.read_apply, ← V_s m c]
  show (V m c main_v2 : Vec Ideal S1x5120 .f32) _ = _
  refine congrArg _ (Shape.idx_ext₂ ?_ ?_)
  · show win0_3.index t 0 * 1 + 1 * 0 = 0; rw [(ind3 t).1]
  · show win0_3.index t 1 * 256 + 1 * n.val = t.val * 256 + n.val; rw [(ind3 t).2]; omega

/-- So the block a point computes is its part of `result`. -/
theorem blk_result (c : Dev nD) (t : Fin cfg0.N) (r : Fin 1536) (n : Fin 256) (h : t.val * 256 + n.val < 5120) :
    blk (iblk m c 0 t) (iblk m c 1 t) (iblk m c 2 t) (iblk m c 3 t) (ix2 r n) = result m c (ix2 r ⟨t.val * 256 + n.val, h⟩) := by
  show (∑ k : Fin 25600, b0 m c t (ix2 r k) * b2 m c t (ix2 k n))
    * b1 m c t (ix2 r ⟨n.val % 128, Nat.mod_lt _ (by decide)⟩) * b3 m c t (ix2 0 n) = _
  simp only [blk0, blk1, blk2 m c t _ n h, blk3 m c t n h]
  rfl

/-! ## The result arrays -/

theorem mem4 (t : Fin cfg0.N) (i : S1536x5120.Idx) (h : t.val = (i 1).val / 256) : i ∈ ((cfg0.win 4).blk t).view.set := by
  show i ∈ ((View.whole main_v3_0).slice (win0_4.rect t)).set
  rw [View.set_slice_whole, Rect.mem_set_unit]
  have h0 : (i 0).val < 1536 := (i 0).isLt
  intro a
  match a with
  | ⟨0, _⟩ => show win0_4.index t 0 * 1536 ≤ (i 0).val ∧ (i 0).val < win0_4.index t 0 * 1536 + 1536; rw [(ind4 t).1]; omega
  | ⟨1, _⟩ => show win0_4.index t 1 * 256 ≤ (i 1).val ∧ (i 1).val < win0_4.index t 1 * 256 + 256; rw [(ind4 t).2]; omega

theorem mem5 (t : Fin cfg0.N) (i : S1536x5120.Idx) (h : t.val = (i 1).val / 256) : i ∈ ((cfg0.win 5).blk t).view.set := by
  show i ∈ ((View.whole main_v3_1).slice (win0_5.rect t)).set
  rw [View.set_slice_whole, Rect.mem_set_unit]
  have h0 : (i 0).val < 1536 := (i 0).isLt
  intro a
  match a with
  | ⟨0, _⟩ => show win0_5.index t 0 * 1536 ≤ (i 0).val ∧ (i 0).val < win0_5.index t 0 * 1536 + 1536; rw [(ind5 t).1]; omega
  | ⟨1, _⟩ => show win0_5.index t 1 * 256 ≤ (i 1).val ∧ (i 1).val < win0_5.index t 1 * 256 + 256; rw [(ind5 t).2]; omega

theorem final4 (c : Dev nD) : (dats m 0 c).arrAt 4 cfg0.N = result m c := by
  refine (dats m 0 c).arrAt_eq_of_cover 4 (result m c) (fun t _ => ?_) fun i => ?_
  · rw [Value.flushed4, out_h]
    funext j
    have ht : t.val < 20 := lt_of_lt_of_eq t.isLt N_0
    have hj : (j 1).val < 256 := (j 1).isLt
    rw [View.read_apply]
    refine (congrArg (blk _ _ _ _) (eq_ix2 (n0 := 1536) (n1 := 256) j)).trans ((blk_result m c t (j 0) (j 1) (by omega)).trans ?_)
    refine congrArg (result m c) (Shape.idx_ext₂ ?_ ?_)
    · show (j 0).val = win0_4.index t 0 * 1536 + 1 * (j 0).val; rw [(ind4 t).1]; omega
    · show t.val * 256 + (j 1).val = win0_4.index t 1 * 256 + 1 * (j 1).val; rw [(ind4 t).2]; omega
  · have hi : (i 1).val < 5120 := (i 1).isLt
    exact ⟨⟨(i 1).val / 256, by rw [show cfg0.N = 20 from N_0]; omega⟩, flush0_4 _, mem4 _ i rfl⟩

theorem final5 (c : Dev nD) : (dats m 0 c).arrAt 5 cfg0.N = result m c := by
  refine (dats m 0 c).arrAt_eq_of_cover 5 (result m c) (fun t _ => ?_) fun i => ?_
  · rw [Value.flushed5, out_h16]
    funext j
    have ht : t.val < 20 := lt_of_lt_of_eq t.isLt N_0
    have hj : (j 1).val < 256 := (j 1).isLt
    rw [View.read_apply]
    refine (congrArg (blk _ _ _ _) (eq_ix2 (n0 := 1536) (n1 := 256) j)).trans ((blk_result m c t (j 0) (j 1) (by omega)).trans ?_)
    refine congrArg (result m c) (Shape.idx_ext₂ ?_ ?_)
    · show (j 0).val = win0_5.index t 0 * 1536 + 1 * (j 0).val; rw [(ind5 t).1]; omega
    · show t.val * 256 + (j 1).val = win0_5.index t 1 * 256 + 1 * (j 1).val; rw [(ind5 t).2]; omega
  · have hi : (i 1).val < 5120 := (i 1).isLt
    exact ⟨⟨(i 1).val / 256, by rw [show cfg0.N = 20 from N_0]; omega⟩, flush0_5 _, mem5 _ i rfl⟩

end Cert.FcIdeal.Hand

end
-- ==== Proof.FcRef.lean ====
/-
  The reference of the up-projection, `FcRefIdeal`: its two result arrays are the scaled product.

  The reference is one region with one point, whose windows are the whole arrays; its body is the product with the
  two scale multiplications, stored once in single precision and once narrowed.
-/
module

public import proofs.«01_k».proof.Proof.Gen.FcRefIdeal.Value
public import Idealize.ShloMosaic.Lib.Pointwise
public import Idealize.ShloMosaic.Lib.Pipeline.Value

@[expose] public section

set_option maxRecDepth 16384

noncomputable section

namespace Cert.FcRefIdeal.Hand

open Cert.FcRefIdeal Cert.FcRefIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The four arguments: the codes, the row scales, the weight, the column scales. -/
abbrev codes (c : Dev nD) : Vec Ideal S1536x25600 .fp8e4m3 := m (c.tc.loc main_arg0)
abbrev rowScale (c : Dev nD) : Vec Ideal S1536 .f32 := m (c.tc.loc main_arg1)
abbrev weight (c : Dev nD) : Vec Ideal S25600x5120 .fp8e4m3 := m (c.tc.loc main_arg2)
abbrev colScale (c : Dev nD) : Vec Ideal S5120 .f32 := m (c.tc.loc main_arg3)

/-- Entry `(r, n)` of the scaled product, from the four arguments. -/
def result (c : Dev nD) (j : S1536x5120.Idx) : EReal :=
  (∑ k : Fin 25600, codes m c (ix2 (j 0) k) * weight m c (ix2 k (j 1)))
    * rowScale m c (ix1 (j 0)) * colScale m c (ix1 (j 1))

theorem zero2 : (![0, 0] : Fin 2 → Nat) = fun _ => 0 := funext fun a => by fin_cases a <;> rfl

/-! ## The windows' block indices: the region has one point and every window is its whole array -/

theorem ind0 : ∀ t : Fin cfg0.N, win0_0.index t 0 = 0 ∧ win0_0.index t 1 = 0 :=
  (by decide +kernel : ∀ t : Fin grid0.N, win0_0.index t 0 = 0 ∧ win0_0.index t 1 = 0)
theorem ind1 : ∀ t : Fin cfg0.N, win0_1.index t 0 = 0 ∧ win0_1.index t 1 = 0 :=
  (by decide +kernel : ∀ t : Fin grid0.N, win0_1.index t 0 = 0 ∧ win0_1.index t 1 = 0)
theorem ind2 : ∀ t : Fin cfg0.N, win0_2.index t 0 = 0 ∧ win0_2.index t 1 = 0 :=
  (by decide +kernel : ∀ t : Fin grid0.N, win0_2.index t 0 = 0 ∧ win0_2.index t 1 = 0)
theorem ind3 : ∀ t : Fin cfg0.N, win0_3.index t 0 = 0 ∧ win0_3.index t 1 = 0 :=
  (by decide +kernel : ∀ t : Fin grid0.N, win0_3.index t 0 = 0 ∧ win0_3.index t 1 = 0)
theorem ind4 : ∀ t : Fin cfg0.N, win0_4.index t 0 = 0 ∧ win0_4.index t 1 = 0 :=
  (by decide +kernel : ∀ t : Fin grid0.N, win0_4.index t 0 = 0 ∧ win0_4.index t 1 = 0)
theorem ind5 : ∀ t : Fin cfg0.N, win0_5.index t 0 = 0 ∧ win0_5.index t 1 = 0 :=
  (by decide +kernel : ∀ t : Fin grid0.N, win0_5.index t 0 = 0 ∧ win0_5.index t 1 = 0)

/-! ## The windows' contents -/

theorem blk0 (c : Dev nD) (t : Fin cfg0.N) : (iblk m c 0 t : Vec Ideal S1536x25600 .fp8e4m3) = (V m c main_arg0 : Vec Ideal S1536x25600 .fp8e4m3) := by
  funext j
  unfold iblk
  rw [View.read_apply]
  show (V m c main_arg0 : Vec Ideal S1536x25600 .fp8e4m3) _ = _
  refine congrArg _ (Shape.idx_ext₂ ?_ ?_)
  · show win0_0.index t 0 * 1536 + 1 * (j 0).val = (j 0).val; rw [(ind0 t).1]; omega
  · show win0_0.index t 1 * 25600 + 1 * (j 1).val = (j 1).val; rw [(ind0 t).2]; omega
theorem blk1 (c : Dev nD) (t : Fin cfg0.N) : (iblk m c 1 t : Vec Ideal S1536x1 .f32) = (V m c main_v0 : Vec Ideal S1536x1 .f32) := by
  funext j
  unfold iblk
  rw [View.read_apply]
  show (V m c main_v0 : Vec Ideal S1536x1 .f32) _ = _
  refine congrArg _ (Shape.idx_ext₂ ?_ ?_)
  · show win0_1.index t 0 * 1536 + 1 * (j 0).val = (j 0).val; rw [(ind1 t).1]; omega
  · show win0_1.index t 1 * 1 + 1 * (j 1).val = (j 1).val; rw [(ind1 t).2]; omega
theorem blk2 (c : Dev nD) (t : Fin cfg0.N) : (iblk m c 2 t : Vec Ideal S25600x5120 .fp8e4m3) = (V m c main_arg2 : Vec Ideal S25600x5120 .fp8e4m3) := by
  funext j
  unfold iblk
  rw [View.read_apply]
  show (V m c main_arg2 : Vec Ideal S25600x5120 .fp8e4m3) _ = _
  refine congrArg _ (Shape.idx_ext₂ ?_ ?_)
  · show win0_2.index t 0 * 25600 + 1 * (j 0).val = (j 0).val; rw [(ind2 t).1]; omega
  · show win0_2.index t 1 * 5120 + 1 * (j 1).val = (j 1).val; rw [(ind2 t).2]; omega
theorem blk3 (c : Dev nD) (t : Fin cfg0.N) : (iblk m c 3 t : Vec Ideal S1x5120 .f32) = (V m c main_v1 : Vec Ideal S1x5120 .f32) := by
  funext j
  unfold iblk
  rw [View.read_apply]
  show (V m c main_v1 : Vec Ideal S1x5120 .f32) _ = _
  refine congrArg _ (Shape.idx_ext₂ ?_ ?_)
  · show win0_3.index t 0 * 1 + 1 * (j 0).val = (j 0).val; rw [(ind3 t).1]; omega
  · show win0_3.index t 1 * 5120 + 1 * (j 1).val = (j 1).val; rw [(ind3 t).2]; omega

/-- The row scales as a column. -/
theorem V_rs (c : Dev nD) (r : Fin 1536) : (V m c main_v0 : Vec Ideal S1536x1 .f32) (ix2 r 0) = rowScale m c (ix1 r) := by
  show (StableHlo.after hostOps0 _ (Proc.devRef .tc main_v0) : Vec Ideal S1536x1 .f32) _ = _
  after_results
  pointwise

/-- The column scales as a row. -/
theorem V_s (c : Dev nD) (n : Fin 5120) : (V m c main_v1 : Vec Ideal S1x5120 .f32) (ix2 0 n) = colScale m c (ix1 n) := by
  show (StableHlo.after hostOps0 _ (Proc.devRef .tc main_v1) : Vec Ideal S1x5120 .f32) _ = _
  after_results
  pointwise

/-- What the body stores, at an index. -/
theorem out_h (x0 : Vec Ideal S1536x25600 .fp8e4m3) (x1 : Vec Ideal S1536x1 .f32) (x2 : Vec Ideal S25600x5120 .fp8e4m3)
    (x3 : Vec Ideal S1x5120 .f32) (j : S1536x5120.Idx) :
    out0_4 x0 x1 x2 x3 j = (∑ k : Fin 25600, x0 (ix2 (j 0) k) * x2 (ix2 k (j 1))) * x1 (ix2 (j 0) 0) * x3 (ix2 0 (j 1)) := by
  unfold out0_4
  rw [View.canon_unit_zero (S := S1536x5120) zero2, View.ld_unit_zero (S := S1536x25600) zero2, View.ld_unit_zero (S := S1536x1) zero2,
    View.ld_unit_zero (S := S25600x5120) zero2, View.ld_unit_zero (S := S1x5120) zero2]
  unfold_payloads
  pointwise

theorem out_h16 (x0 : Vec Ideal S1536x25600 .fp8e4m3) (x1 : Vec Ideal S1536x1 .f32) (x2 : Vec Ideal S25600x5120 .fp8e4m3)
    (x3 : Vec Ideal S1x5120 .f32) (j : S1536x5120.Idx) :
    out0_5 x0 x1 x2 x3 j = (∑ k : Fin 25600, x0 (ix2 (j 0) k) * x2 (ix2 k (j 1))) * x1 (ix2 (j 0) 0) * x3 (ix2 0 (j 1)) := by
  unfold out0_5
  rw [View.canon_unit_zero (S := S1536x5120) zero2, View.ld_unit_zero (S := S1536x25600) zero2, View.ld_unit_zero (S := S1536x1) zero2,
    View.ld_unit_zero (S := S25600x5120) zero2, View.ld_unit_zero (S := S1x5120) zero2]
  unfold_payloads
  pointwise

theorem stored4 (c : Dev nD) (t : Fin cfg0.N) (j : S1536x5120.Idx) :
    out0_4 (iblk m c 0 t) (iblk m c 1 t) (iblk m c 2 t) (iblk m c 3 t) j = result m c j := by
  rw [blk0, blk1, blk2, blk3, out_h, V_main_arg0, V_main_arg2]
  unfold result
  rw [← V_rs m c (j 0), ← V_s m c (j 1)]

theorem stored5 (c : Dev nD) (t : Fin cfg0.N) (j : S1536x5120.Idx) :
    out0_5 (iblk m c 0 t) (iblk m c 1 t) (iblk m c 2 t) (iblk m c 3 t) j = result m c j := by
  rw [blk0, blk1, blk2, blk3, out_h16, V_main_arg0, V_main_arg2]
  unfold result
  rw [← V_rs m c (j 0), ← V_s m c (j 1)]

/-! ## The result arrays -/

theorem mem4 (t : Fin cfg0.N) (i : S1536x5120.Idx) : i ∈ ((View.whole main_v2_0).slice (win0_4.rect t)).set := by
  rw [View.set_slice_whole, Rect.mem_set_unit]
  have h0 : (i 0).val < 1536 := (i 0).isLt
  have h1 : (i 1).val < 5120 := (i 1).isLt
  intro a
  match a with
  | ⟨0, _⟩ => show win0_4.index t 0 * 1536 ≤ (i 0).val ∧ (i 0).val < win0_4.index t 0 * 1536 + 1536; rw [(ind4 t).1]; omega
  | ⟨1, _⟩ => show win0_4.index t 1 * 5120 ≤ (i 1).val ∧ (i 1).val < win0_4.index t 1 * 5120 + 5120; rw [(ind4 t).2]; omega

theorem final4 (c : Dev nD) : (dats m 0 c).arrAt 4 cfg0.N = result m c := by
  refine (dats m 0 c).arrAt_eq_of_cover 4 (result m c) (fun t _ => ?_) fun i => ?_
  · rw [Value.flushed4]
    funext j
    rw [View.read_apply]
    refine (stored4 m c t j).trans (congrArg (result m c) (Shape.idx_ext₂ ?_ ?_))
    · show (j 0).val = win0_4.index t 0 * 1536 + 1 * (j 0).val; rw [(ind4 t).1]; omega
    · show (j 1).val = win0_4.index t 1 * 5120 + 1 * (j 1).val; rw [(ind4 t).2]; omega
  · refine ⟨⟨0, by rw [show cfg0.N = 1 from N_0]; omega⟩, flush0_4 _, mem4 _ i⟩

theorem mem5 (t : Fin cfg0.N) (i : S1536x5120.Idx) : i ∈ ((View.whole main_v2_1).slice (win0_5.rect t)).set := by
  rw [View.set_slice_whole, Rect.mem_set_unit]
  have h0 : (i 0).val < 1536 := (i 0).isLt
  have h1 : (i 1).val < 5120 := (i 1).isLt
  intro a
  match a with
  | ⟨0, _⟩ => show win0_5.index t 0 * 1536 ≤ (i 0).val ∧ (i 0).val < win0_5.index t 0 * 1536 + 1536; rw [(ind5 t).1]; omega
  | ⟨1, _⟩ => show win0_5.index t 1 * 5120 ≤ (i 1).val ∧ (i 1).val < win0_5.index t 1 * 5120 + 5120; rw [(ind5 t).2]; omega

theorem final5 (c : Dev nD) : (dats m 0 c).arrAt 5 cfg0.N = result m c := by
  refine (dats m 0 c).arrAt_eq_of_cover 5 (result m c) (fun t _ => ?_) fun i => ?_
  · rw [Value.flushed5]
    funext j
    rw [View.read_apply]
    refine (stored5 m c t j).trans (congrArg (result m c) (Shape.idx_ext₂ ?_ ?_))
    · show (j 0).val = win0_5.index t 0 * 1536 + 1 * (j 0).val; rw [(ind5 t).1]; omega
    · show (j 1).val = win0_5.index t 1 * 5120 + 1 * (j 1).val; rw [(ind5 t).2]; omega
  · refine ⟨⟨0, by rw [show cfg0.N = 1 from N_0]; omega⟩, flush0_5 _, mem5 _ i⟩

end Cert.FcRefIdeal.Hand

end
-- ==== Proof.FcAlg.lean ====
/-
  The up-projection: the kernel and its reference end with equal results.
-/
module

public import proofs.«01_k».proof.Defs
public import proofs.«01_k».proof.Proof.FcRun
public import proofs.«01_k».proof.Proof.FcRef

@[expose] public section

noncomputable section

namespace Cert.Proof

open Idealize.ShloMosaic Idealize.SL.Sem

/-- The two formulas agree once the arguments do. -/
theorem result_Fc (m : (ℓ : Loc Cert.FcIdeal.nD Cert.FcIdeal.τ Cert.FcIdeal.sig) → Buf (Elt Ideal) ℓ)
    (m' : (ℓ : Loc Cert.FcRefIdeal.nD Cert.FcRefIdeal.τ Cert.FcRefIdeal.sig) → Buf (Elt Ideal) ℓ) (c : Dev Cert.FcIdeal.nD)
    (h : m' ((c.tc : Thread Cert.FcRefIdeal.nD Cert.FcRefIdeal.τ).loc Cert.FcRefIdeal.main_arg0) = m ((c.tc : Thread Cert.FcIdeal.nD Cert.FcIdeal.τ).loc Cert.FcIdeal.main_arg0) ∧ m' ((c.tc : Thread Cert.FcRefIdeal.nD Cert.FcRefIdeal.τ).loc Cert.FcRefIdeal.main_arg1) = m ((c.tc : Thread Cert.FcIdeal.nD Cert.FcIdeal.τ).loc Cert.FcIdeal.main_arg1) ∧ m' ((c.tc : Thread Cert.FcRefIdeal.nD Cert.FcRefIdeal.τ).loc Cert.FcRefIdeal.main_arg2) = m ((c.tc : Thread Cert.FcIdeal.nD Cert.FcIdeal.τ).loc Cert.FcIdeal.main_arg2) ∧ m' ((c.tc : Thread Cert.FcRefIdeal.nD Cert.FcRefIdeal.τ).loc Cert.FcRefIdeal.main_arg3) = m ((c.tc : Thread Cert.FcIdeal.nD Cert.FcIdeal.τ).loc Cert.FcIdeal.main_arg3)) :
    Cert.FcRefIdeal.Hand.result m' c = Cert.FcIdeal.Hand.result m c := by
  obtain ⟨h0, h1, h2, h3⟩ := h
  funext j
  unfold Cert.FcRefIdeal.Hand.result Cert.FcIdeal.Hand.result
  unfold Cert.FcRefIdeal.Hand.codes Cert.FcRefIdeal.Hand.rowScale Cert.FcRefIdeal.Hand.weight Cert.FcRefIdeal.Hand.colScale Cert.FcIdeal.Hand.codes Cert.FcIdeal.Hand.rowScale Cert.FcIdeal.Hand.weight Cert.FcIdeal.Hand.colScale
  rw [h0, h1, h2, h3]

theorem algebraic_Fc : algebraic_FcIdeal_FcRefIdeal (hFcIdeal := Cert.FcIdeal.Gen.facts) (hFcRefIdeal := Cert.FcRefIdeal.Gen.facts) := by
  intro m g m' g' _ hag
  refine ⟨fun c => Cert.FcIdeal.Hand.result m c, fun c => Cert.FcIdeal.Hand.result m c, ?_, ?_⟩
  · refine (θ_run _ _ _).mono (fun r h c => ?_) (Cert.FcIdeal.Value.run_blocks (F := Ideal) m g)
    have e := h c
    rw [Cert.FcIdeal.Hand.final4 m c, Cert.FcIdeal.Hand.final5 m c] at e
    exact e
  · refine (θ_run _ _ _).mono (fun r h c => ?_) (Cert.FcRefIdeal.Value.run_blocks (F := Ideal) m' g')
    have e := h c
    rw [Cert.FcRefIdeal.Hand.final4 m' c, Cert.FcRefIdeal.Hand.final5 m' c, result_Fc m m' c (hag c)] at e
    exact e

end Cert.Proof

end
-- ==== Proof.GateUpBlock.lean ====
/-
  The gate and up projections with their activation, `GateUpIdeal`, one grid point: what the body leaves in its block.

  A point holds all 1536 rows of the codes, 512 columns of the gate half of the weight and the matching 512 of the up
  half, the row scales (each repeated over 128 lanes) and the two halves' column scales. The body stores 24 tiles of
  256 rows and 128 columns. `blk` is the one function of the block's index that all 24 agree with.
-/
module

public import proofs.«01_k».proof.Proof.Gen.GateUpIdeal.Frame
public import Idealize.ShloMosaic.Lib.Pipeline.Value
public import Idealize.ShloMosaic.Lib.Pointwise

@[expose] public section

set_option maxRecDepth 16384

noncomputable section

namespace Cert.GateUpIdeal.Hand

open Cert.GateUpIdeal Cert.GateUpIdeal.Gen Idealize.ShloMosaic Idealize.ShloMosaic.TcCoe Idealize.SL.Sem
open Idealize.ShloMosaic.Pipeline (Dat)

/-- A scaled entry: the product of row `r` of the codes with column `n` of a weight block, times the row's scale
    (read in lane `n mod 128`), times the column's. -/
def scaled (x0 : Vec Ideal S1536x5120 .fp8e4m3) (x1 : Vec Ideal S1536x128 .f32) (w : Vec Ideal S5120x512 .fp8e4m3)
    (s : Vec Ideal S1x512 .f32) (j : S1536x512.Idx) : EReal :=
  (∑ k : Fin 5120, x0 (ix2 (j 0) k) * w (ix2 k (j 1)))
    * x1 (ix2 (j 0) ⟨(j 1).val % 128, Nat.mod_lt _ (by decide)⟩) * s (ix2 0 (j 1))

/-- Entry `(r, n)` of the block: with `g` the gate's scaled entry and `u` the up's, `g · σ(g) · u`. -/
def blk (x0 : Vec Ideal S1536x5120 .fp8e4m3) (x1 : Vec Ideal S1536x128 .f32) (x2 : Vec Ideal S5120x512 .fp8e4m3)
    (x3 : Vec Ideal S5120x512 .fp8e4m3) (x4 : Vec Ideal S1x512 .f32) (x5 : Vec Ideal S1x512 .f32) (j : S1536x512.Idx) : EReal :=
  scaled x0 x1 x2 x4 j * Ideal.logistic (scaled x0 x1 x2 x4 j) * scaled x0 x1 x3 x5 j

variable (x0 : Vec Ideal S1536x5120 .fp8e4m3) (x1 : Vec Ideal S1536x128 .f32) (x2 : Vec Ideal S5120x512 .fp8e4m3)
    (x3 : Vec Ideal S5120x512 .fp8e4m3) (x4 : Vec Ideal S1x512 .f32) (x5 : Vec Ideal S1x512 .f32)

/-- A tile's scaled entry: its column is counted in two steps, its lane from the tile's own start. -/
theorem scaled_tile (x0 : Vec Ideal S1536x5120 .fp8e4m3) (x1 : Vec Ideal S1536x128 .f32) (w : Vec Ideal S5120x512 .fp8e4m3)
    (s : Vec Ideal S1x512 .f32) (r : Fin 1536) (n n' : Fin 512) (l : Fin 128) (h : n'.val = n.val) (hl : l.val = n.val % 128) :
    (∑ k : Fin 5120, x0 (ix2 r k) * w (ix2 k n')) * x1 (ix2 r l) * s (ix2 0 n)
      = (∑ k : Fin 5120, x0 (ix2 r k) * w (ix2 k n)) * x1 (ix2 r ⟨n.val % 128, Nat.mod_lt _ (by decide)⟩) * s (ix2 0 n) := by
  obtain rfl : n' = n := Fin.ext h
  obtain rfl : l = ⟨n'.val % 128, Nat.mod_lt _ (by decide)⟩ := Fin.ext hl
  rfl

/-- The output block is `blk`. -/
theorem out_act : out0_6 x0 x1 x2 x3 x4 x5 = blk x0 x1 x2 x3 x4 x5 := by
  funext y
  unfold_out out0_6
  refine View.canon_apply_of_pieces _ _ ?_ y (cover0_6 _ _ _ _ _ _ _ _ _ _ _ _ _ _ _ _ _ _ _ _ _ _ _ _ y)
  intro p hp
  simp only [List.mem_cons, List.mem_nil_iff, or_false] at hp
  rcases hp with rfl | rfl | rfl | rfl | rfl | rfl | rfl | rfl | rfl | rfl | rfl | rfl | rfl | rfl | rfl | rfl | rfl | rfl | rfl | rfl | rfl | rfl | rfl | rfl
  all_goals
    intro x
    rw [show ∀ r : Rect S1536x512, ∀ x, r.emb x = r.toLoadRect.idx x from fun _ _ => rfl]
    unfold_payloads
    pointwise [blk, scaled]
    refine congrArg₂ (· * ·)
      (congrArg₂ (· * ·) (scaled_tile x0 x1 x2 x4 _ _ _ _ ?_ ?_)
        (congrArg Ideal.logistic (scaled_tile x0 x1 x2 x4 _ _ _ _ ?_ ?_)))
      (scaled_tile x0 x1 x3 x5 _ _ _ _ ?_ ?_)
    all_goals
      have h1 : (x 1).val < 128 := (x 1).isLt
      first | rfl | (dsimp only; omega)

end Cert.GateUpIdeal.Hand

end
-- ==== Proof.GateUpRun.lean ====
/-
  The gate and up projections with their activation, `GateUpIdeal`, the whole call: its result array.

  The 34 points cut the 17408 hidden columns into blocks of 512; the weight holds the gate's columns first and the up's
  after them, so point `t` reads the weight's column blocks `t` and `t + 34`. Every point reads all rows.
-/
module

public import proofs.«01_k».proof.Proof.Gen.GateUpIdeal.Value
public import proofs.«01_k».proof.Proof.GateUpBlock

@[expose] public section

set_option maxRecDepth 16384

noncomputable section

namespace Cert.GateUpIdeal.Hand

open Cert.GateUpIdeal Cert.GateUpIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The four arguments: the codes, the row scales, the weight, the column scales. -/
abbrev codes (c : Dev nD) : Vec Ideal S1536x5120 .fp8e4m3 := m (c.tc.loc main_arg0)
abbrev rowScale (c : Dev nD) : Vec Ideal S1536 .f32 := m (c.tc.loc main_arg1)
abbrev weight (c : Dev nD) : Vec Ideal S5120x34816 .fp8e4m3 := m (c.tc.loc main_arg2)
abbrev colScale (c : Dev nD) : Vec Ideal S34816 .f32 := m (c.tc.loc main_arg3)

/-- Entry `(r, n)` of the scaled product with the whole weight, gate and up. -/
def gu (c : Dev nD) (r : Fin 1536) (n : Fin 34816) : EReal :=
  (∑ k : Fin 5120, codes m c (ix2 r k) * weight m c (ix2 k n)) * rowScale m c (ix1 r) * colScale m c (ix1 n)

/-- Entry `(r, n)` of the result: the gate column `n` and the up column `17408 + n` of `gu`. -/
def result (c : Dev nD) (j : S1536x17408.Idx) : EReal :=
  gu m c (j 0) ⟨(j 1).val, lt_of_lt_of_le (j 1).isLt (by decide)⟩
    * Ideal.logistic (gu m c (j 0) ⟨(j 1).val, lt_of_lt_of_le (j 1).isLt (by decide)⟩)
    * gu m c (j 0) ⟨17408 + (j 1).val, Nat.add_lt_add_left (j 1).isLt 17408⟩

/-- The six blocks point `t` reads. -/
abbrev b0 (c : Dev nD) (t : Fin cfg0.N) : Vec Ideal S1536x5120 .fp8e4m3 := iblk m c 0 t
abbrev b1 (c : Dev nD) (t : Fin cfg0.N) : Vec Ideal S1536x128 .f32 := iblk m c 1 t
abbrev b2 (c : Dev nD) (t : Fin cfg0.N) : Vec Ideal S5120x512 .fp8e4m3 := iblk m c 2 t
abbrev b3 (c : Dev nD) (t : Fin cfg0.N) : Vec Ideal S5120x512 .fp8e4m3 := iblk m c 3 t
abbrev b4 (c : Dev nD) (t : Fin cfg0.N) : Vec Ideal S1x512 .f32 := iblk m c 4 t
abbrev b5 (c : Dev nD) (t : Fin cfg0.N) : Vec Ideal S1x512 .f32 := iblk m c 5 t

/-! ## The windows' block indices -/

theorem ind0 : ∀ t : Fin cfg0.N, win0_0.index t 0 = 0 ∧ win0_0.index t 1 = 0 :=
  (by decide +kernel : ∀ t : Fin grid0.N, win0_0.index t 0 = 0 ∧ win0_0.index t 1 = 0)
theorem ind1 : ∀ t : Fin cfg0.N, win0_1.index t 0 = 0 ∧ win0_1.index t 1 = 0 :=
  (by decide +kernel : ∀ t : Fin grid0.N, win0_1.index t 0 = 0 ∧ win0_1.index t 1 = 0)
theorem ind2 : ∀ t : Fin cfg0.N, win0_2.index t 0 = 0 ∧ win0_2.index t 1 = t.val :=
  (by decide +kernel : ∀ t : Fin grid0.N, win0_2.index t 0 = 0 ∧ win0_2.index t 1 = t.val)
theorem ind3 : ∀ t : Fin cfg0.N, win0_3.index t 0 = 0 ∧ win0_3.index t 1 = t.val + 34 :=
  (by decide +kernel : ∀ t : Fin grid0.N, win0_3.index t 0 = 0 ∧ win0_3.index t 1 = t.val + 34)
theorem ind4 : ∀ t : Fin cfg0.N, win0_4.index t 0 = 0 ∧ win0_4.index t 1 = t.val :=
  (by decide +kernel : ∀ t : Fin grid0.N, win0_4.index t 0 = 0 ∧ win0_4.index t 1 = t.val)
theorem ind5 : ∀ t : Fin cfg0.N, win0_5.index t 0 = 0 ∧ win0_5.index t 1 = t.val + 34 :=
  (by decide +kernel : ∀ t : Fin grid0.N, win0_5.index t 0 = 0 ∧ win0_5.index t 1 = t.val + 34)
theorem ind6 : ∀ t : Fin cfg0.N, win0_6.index t 0 = 0 ∧ win0_6.index t 1 = t.val :=
  (by decide +kernel : ∀ t : Fin grid0.N, win0_6.index t 0 = 0 ∧ win0_6.index t 1 = t.val)

/-! ## What the host prepares -/

/-- The row scales as the host lays them out: repeated over 128 lanes. -/
theorem V_rs (c : Dev nD) (r : Fin 1536) (l : Fin 128) : (V m c main_v1 : Vec Ideal S1536x128 .f32) (ix2 r l) = rowScale m c (ix1 r) := by
  show (StableHlo.after hostOps0 _ (Proc.devRef .tc main_v1) : Vec Ideal S1536x128 .f32) _ = _
  after_results
  pointwise

/-- The column scales as one row. -/
theorem V_s (c : Dev nD) (n : Fin 34816) : (V m c main_v2 : Vec Ideal S1x34816 .f32) (ix2 0 n) = colScale m c (ix1 n) := by
  show (StableHlo.after hostOps0 _ (Proc.devRef .tc main_v2) : Vec Ideal S1x34816 .f32) _ = _
  after_results
  pointwise

/-! ## The blocks a point reads -/

theorem blk0 (c : Dev nD) (t : Fin cfg0.N) (r : Fin 1536) (k : Fin 5120) : b0 m c t (ix2 r k) = codes m c (ix2 r k) := by
  unfold b0 iblk
  rw [View.read_apply]
  show (V m c main_arg0 : Vec Ideal S1536x5120 .fp8e4m3) _ = _
  rw [V_main_arg0]
  refine congrArg _ (Shape.idx_ext₂ ?_ ?_)
  · show win0_0.index t 0 * 1536 + 1 * r.val = r.val; rw [(ind0 t).1]; omega
  · show win0_0.index t 1 * 5120 + 1 * k.val = k.val; rw [(ind0 t).2]; omega

theorem blk1 (c : Dev nD) (t : Fin cfg0.N) (r : Fin 1536) (l : Fin 128) : b1 m c t (ix2 r l) = rowScale m c (ix1 r) := by
  unfold b1 iblk
  rw [View.read_apply, ← V_rs m c r l]
  show (V m c main_v1 : Vec Ideal S1536x128 .f32) _ = _
  refine congrArg _ (Shape.idx_ext₂ ?_ ?_)
  · show win0_1.index t 0 * 1536 + 1 * r.val = r.val; rw [(ind1 t).1]; omega
  · show win0_1.index t 1 * 128 + 1 * l.val = l.val; rw [(ind1 t).2]; omega

theorem blk2 (c : Dev nD) (t : Fin cfg0.N) (k : Fin 5120) (n : Fin 512) (h : t.val * 512 + n.val < 34816) : b2 m c t (ix2 k n) = weight m c (ix2 k ⟨t.val * 512 + n.val, h⟩) := by
  unfold b2 iblk
  rw [View.read_apply]
  show (V m c main_arg2 : Vec Ideal S5120x34816 .fp8e4m3) _ = _
  rw [V_main_arg2]
  refine congrArg _ (Shape.idx_ext₂ ?_ ?_)
  · show win0_2.index t 0 * 5120 + 1 * k.val = k.val; rw [(ind2 t).1]; omega
  · show win0_2.index t 1 * 512 + 1 * n.val = (t.val) * 512 + n.val; rw [(ind2 t).2]; omega

theorem blk3 (c : Dev nD) (t : Fin cfg0.N) (k : Fin 5120) (n : Fin 512) (h : (t.val + 34) * 512 + n.val < 34816) : b3 m c t (ix2 k n) = weight m c (ix2 k ⟨(t.val + 34) * 512 + n.val, h⟩) := by
  unfold b3 iblk
  rw [View.read_apply]
  show (V m c main_arg2 : Vec Ideal S5120x34816 .fp8e4m3) _ = _
  rw [V_main_arg2]
  refine congrArg _ (Shape.idx_ext₂ ?_ ?_)
  · show win0_3.index t 0 * 5120 + 1 * k.val = k.val; rw [(ind3 t).1]; omega
  · show win0_3.index t 1 * 512 + 1 * n.val = (t.val + 34) * 512 + n.val; rw [(ind3 t).2]; omega

theorem blk4 (c : Dev nD) (t : Fin cfg0.N) (n : Fin 512) (h : t.val * 512 + n.val < 34816) : b4 m c t (ix2 0 n) = colScale m c (ix1 ⟨t.val * 512 + n.val, h⟩) := by
  unfold b4 iblk
  rw [View.read_apply, ← V_s m c]
  show (V m c main_v2 : Vec Ideal S1x34816 .f32) _ = _
  refine congrArg _ (Shape.idx_ext₂ ?_ ?_)
  · show win0_4.index t 0 * 1 + 1 * 0 = 0; rw [(ind4 t).1]
  · show win0_4.index t 1 * 512 + 1 * n.val = (t.val) * 512 + n.val; rw [(ind4 t).2]; omega

theorem blk5 (c : Dev nD) (t : Fin cfg0.N) (n : Fin 512) (h : (t.val + 34) * 512 + n.val < 34816) : b5 m c t (ix2 0 n) = colScale m c (ix1 ⟨(t.val + 34) * 512 + n.val, h⟩) := by
  unfold b5 iblk
  rw [View.read_apply, ← V_s m c]
  show (V m c main_v2 : Vec Ideal S1x34816 .f32) _ = _
  refine congrArg _ (Shape.idx_ext₂ ?_ ?_)
  · show win0_5.index t 0 * 1 + 1 * 0 = 0; rw [(ind5 t).1]
  · show win0_5.index t 1 * 512 + 1 * n.val = (t.val + 34) * 512 + n.val; rw [(ind5 t).2]; omega

/-- The gate's part of a point's block, and the up's, as entries of `gu`. -/
theorem gate_gu (c : Dev nD) (t : Fin cfg0.N) (r : Fin 1536) (n : Fin 512) (h : t.val * 512 + n.val < 34816) :
    scaled (b0 m c t) (b1 m c t) (b2 m c t) (b4 m c t) (ix2 r n) = gu m c r ⟨t.val * 512 + n.val, h⟩ := by
  show (∑ k : Fin 5120, b0 m c t (ix2 r k) * b2 m c t (ix2 k n))
    * b1 m c t (ix2 r ⟨n.val % 128, Nat.mod_lt _ (by decide)⟩) * b4 m c t (ix2 0 n) = _
  simp only [blk0, blk1, blk2 m c t _ n h, blk4 m c t n h]
  rfl

theorem up_gu (c : Dev nD) (t : Fin cfg0.N) (r : Fin 1536) (n : Fin 512) (h : (t.val + 34) * 512 + n.val < 34816) :
    scaled (b0 m c t) (b1 m c t) (b3 m c t) (b5 m c t) (ix2 r n) = gu m c r ⟨(t.val + 34) * 512 + n.val, h⟩ := by
  show (∑ k : Fin 5120, b0 m c t (ix2 r k) * b3 m c t (ix2 k n))
    * b1 m c t (ix2 r ⟨n.val % 128, Nat.mod_lt _ (by decide)⟩) * b5 m c t (ix2 0 n) = _
  simp only [blk0, blk1, blk3 m c t _ n h, blk5 m c t n h]
  rfl

/-- So the block a point computes is its part of `result`. -/
theorem blk_result (c : Dev nD) (t : Fin cfg0.N) (r : Fin 1536) (n : Fin 512) (h : t.val * 512 + n.val < 17408) :
    blk (iblk m c 0 t) (iblk m c 1 t) (iblk m c 2 t) (iblk m c 3 t) (iblk m c 4 t) (iblk m c 5 t) (ix2 r n)
      = result m c (ix2 r ⟨t.val * 512 + n.val, h⟩) := by
  show scaled (b0 m c t) (b1 m c t) (b2 m c t) (b4 m c t) (ix2 r n)
    * Ideal.logistic (scaled (b0 m c t) (b1 m c t) (b2 m c t) (b4 m c t) (ix2 r n))
    * scaled (b0 m c t) (b1 m c t) (b3 m c t) (b5 m c t) (ix2 r n) = _
  rw [gate_gu m c t r n (by omega), up_gu m c t r n (by omega)]
  refine congrArg₂ (· * ·) rfl (congrArg (gu m c r) (Fin.ext ?_))
  show (t.val + 34) * 512 + n.val = 17408 + (t.val * 512 + n.val)
  omega

/-! ## The result array -/

theorem mem6 (t : Fin cfg0.N) (i : S1536x17408.Idx) (h : t.val = (i 1).val / 512) : i ∈ ((cfg0.win 6).blk t).view.set := by
  show i ∈ ((View.whole main_v3).slice (win0_6.rect t)).set
  rw [View.set_slice_whole, Rect.mem_set_unit]
  have h0 : (i 0).val < 1536 := (i 0).isLt
  intro a
  match a with
  | ⟨0, _⟩ => show win0_6.index t 0 * 1536 ≤ (i 0).val ∧ (i 0).val < win0_6.index t 0 * 1536 + 1536; rw [(ind6 t).1]; omega
  | ⟨1, _⟩ => show win0_6.index t 1 * 512 ≤ (i 1).val ∧ (i 1).val < win0_6.index t 1 * 512 + 512; rw [(ind6 t).2]; omega

theorem final6 (c : Dev nD) : (dats m 0 c).arrAt 6 cfg0.N = result m c := by
  refine (dats m 0 c).arrAt_eq_of_cover 6 (result m c) (fun t _ => ?_) fun i => ?_
  · rw [Value.flushed6, out_act]
    funext j
    have ht : t.val < 34 := lt_of_lt_of_eq t.isLt N_0
    have hj : (j 1).val < 512 := (j 1).isLt
    rw [View.read_apply]
    refine (congrArg (blk _ _ _ _ _ _) (eq_ix2 (n0 := 1536) (n1 := 512) j)).trans ((blk_result m c t (j 0) (j 1) (by omega)).trans ?_)
    refine congrArg (result m c) (Shape.idx_ext₂ ?_ ?_)
    · show (j 0).val = win0_6.index t 0 * 1536 + 1 * (j 0).val; rw [(ind6 t).1]; omega
    · show t.val * 512 + (j 1).val = win0_6.index t 1 * 512 + 1 * (j 1).val; rw [(ind6 t).2]; omega
  · have hi : (i 1).val < 17408 := (i 1).isLt
    exact ⟨⟨(i 1).val / 512, by rw [show cfg0.N = 34 from N_0]; omega⟩, flush0_6 _, mem6 _ i rfl⟩

end Cert.GateUpIdeal.Hand

end
-- ==== Proof.GateUpRef.lean ====
/-
  The reference of the gate and up projections with their activation, `GateUpRefIdeal`: its result array.

  The reference is one region with one point, whose windows are the whole arrays; its body stores its result once.
-/
module

public import proofs.«01_k».proof.Proof.Gen.GateUpRefIdeal.Value
public import Idealize.ShloMosaic.Lib.Pointwise
public import Idealize.ShloMosaic.Lib.Pipeline.Value

@[expose] public section

set_option maxRecDepth 16384

noncomputable section

namespace Cert.GateUpRefIdeal.Hand

open Cert.GateUpRefIdeal Cert.GateUpRefIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The four arguments: the codes, the row scales, the weight, the column scales. -/
abbrev codes (c : Dev nD) : Vec Ideal S1536x5120 .fp8e4m3 := m (c.tc.loc main_arg0)
abbrev rowScale (c : Dev nD) : Vec Ideal S1536 .f32 := m (c.tc.loc main_arg1)
abbrev weight (c : Dev nD) : Vec Ideal S5120x34816 .fp8e4m3 := m (c.tc.loc main_arg2)
abbrev colScale (c : Dev nD) : Vec Ideal S34816 .f32 := m (c.tc.loc main_arg3)

/-- Entry `(r, n)` of the scaled product with the whole weight, gate and up. -/
def gu (c : Dev nD) (r : Fin 1536) (n : Fin 34816) : EReal :=
  (∑ k : Fin 5120, codes m c (ix2 r k) * weight m c (ix2 k n)) * rowScale m c (ix1 r) * colScale m c (ix1 n)

/-- Entry `(r, n)` of the result: the gate column `n` and the up column `17408 + n` of `gu`. -/
def result (c : Dev nD) (j : S1536x17408.Idx) : EReal :=
  gu m c (j 0) ⟨(j 1).val, lt_of_lt_of_le (j 1).isLt (by decide)⟩
    * Ideal.logistic (gu m c (j 0) ⟨(j 1).val, lt_of_lt_of_le (j 1).isLt (by decide)⟩)
    * gu m c (j 0) ⟨17408 + (j 1).val, Nat.add_lt_add_left (j 1).isLt 17408⟩

theorem zero2 : (![0, 0] : Fin 2 → Nat) = fun _ => 0 := funext fun a => by fin_cases a <;> rfl

/-! ## The windows: each is its whole array -/

theorem ind0 : ∀ t : Fin cfg0.N, win0_0.index t 0 = 0 ∧ win0_0.index t 1 = 0 :=
  (by decide +kernel : ∀ t : Fin grid0.N, win0_0.index t 0 = 0 ∧ win0_0.index t 1 = 0)
theorem ind1 : ∀ t : Fin cfg0.N, win0_1.index t 0 = 0 ∧ win0_1.index t 1 = 0 :=
  (by decide +kernel : ∀ t : Fin grid0.N, win0_1.index t 0 = 0 ∧ win0_1.index t 1 = 0)
theorem ind2 : ∀ t : Fin cfg0.N, win0_2.index t 0 = 0 ∧ win0_2.index t 1 = 0 :=
  (by decide +kernel : ∀ t : Fin grid0.N, win0_2.index t 0 = 0 ∧ win0_2.index t 1 = 0)
theorem ind3 : ∀ t : Fin cfg0.N, win0_3.index t 0 = 0 ∧ win0_3.index t 1 = 0 :=
  (by decide +kernel : ∀ t : Fin grid0.N, win0_3.index t 0 = 0 ∧ win0_3.index t 1 = 0)
theorem ind4 : ∀ t : Fin cfg0.N, win0_4.index t 0 = 0 ∧ win0_4.index t 1 = 0 :=
  (by decide +kernel : ∀ t : Fin grid0.N, win0_4.index t 0 = 0 ∧ win0_4.index t 1 = 0)

theorem blk0 (c : Dev nD) (t : Fin cfg0.N) : (iblk m c 0 t : Vec Ideal S1536x5120 .fp8e4m3) = (V m c main_arg0 : Vec Ideal S1536x5120 .fp8e4m3) := by
  funext j
  unfold iblk
  rw [View.read_apply]
  show (V m c main_arg0 : Vec Ideal S1536x5120 .fp8e4m3) _ = _
  refine congrArg _ (Shape.idx_ext₂ ?_ ?_)
  · show win0_0.index t 0 * 1536 + 1 * (j 0).val = (j 0).val; rw [(ind0 t).1]; omega
  · show win0_0.index t 1 * 5120 + 1 * (j 1).val = (j 1).val; rw [(ind0 t).2]; omega

theorem blk1 (c : Dev nD) (t : Fin cfg0.N) : (iblk m c 1 t : Vec Ideal S1536x1 .f32) = (V m c main_v0 : Vec Ideal S1536x1 .f32) := by
  funext j
  unfold iblk
  rw [View.read_apply]
  show (V m c main_v0 : Vec Ideal S1536x1 .f32) _ = _
  refine congrArg _ (Shape.idx_ext₂ ?_ ?_)
  · show win0_1.index t 0 * 1536 + 1 * (j 0).val = (j 0).val; rw [(ind1 t).1]; omega
  · show win0_1.index t 1 * 1 + 1 * (j 1).val = (j 1).val; rw [(ind1 t).2]; omega

theorem blk2 (c : Dev nD) (t : Fin cfg0.N) : (iblk m c 2 t : Vec Ideal S5120x34816 .fp8e4m3) = (V m c main_arg2 : Vec Ideal S5120x34816 .fp8e4m3) := by
  funext j
  unfold iblk
  rw [View.read_apply]
  show (V m c main_arg2 : Vec Ideal S5120x34816 .fp8e4m3) _ = _
  refine congrArg _ (Shape.idx_ext₂ ?_ ?_)
  · show win0_2.index t 0 * 5120 + 1 * (j 0).val = (j 0).val; rw [(ind2 t).1]; omega
  · show win0_2.index t 1 * 34816 + 1 * (j 1).val = (j 1).val; rw [(ind2 t).2]; omega

theorem blk3 (c : Dev nD) (t : Fin cfg0.N) : (iblk m c 3 t : Vec Ideal S1x34816 .f32) = (V m c main_v1 : Vec Ideal S1x34816 .f32) := by
  funext j
  unfold iblk
  rw [View.read_apply]
  show (V m c main_v1 : Vec Ideal S1x34816 .f32) _ = _
  refine congrArg _ (Shape.idx_ext₂ ?_ ?_)
  · show win0_3.index t 0 * 1 + 1 * (j 0).val = (j 0).val; rw [(ind3 t).1]; omega
  · show win0_3.index t 1 * 34816 + 1 * (j 1).val = (j 1).val; rw [(ind3 t).2]; omega

/-- The row scales as a column. -/
theorem V_rs (c : Dev nD) (r : Fin 1536) : (V m c main_v0 : Vec Ideal S1536x1 .f32) (ix2 r 0) = rowScale m c (ix1 r) := by
  show (StableHlo.after hostOps0 _ (Proc.devRef .tc main_v0) : Vec Ideal S1536x1 .f32) _ = _
  after_results
  pointwise

/-- The column scales as a row. -/
theorem V_s (c : Dev nD) (n : Fin 34816) : (V m c main_v1 : Vec Ideal S1x34816 .f32) (ix2 0 n) = colScale m c (ix1 n) := by
  show (StableHlo.after hostOps0 _ (Proc.devRef .tc main_v1) : Vec Ideal S1x34816 .f32) _ = _
  after_results
  pointwise

/-- A scaled entry, from the windows' contents. -/
def scaled (x0 : Vec Ideal S1536x5120 .fp8e4m3) (x1 : Vec Ideal S1536x1 .f32) (x2 : Vec Ideal S5120x34816 .fp8e4m3)
    (x3 : Vec Ideal S1x34816 .f32) (r : Fin 1536) (n : Fin 34816) : EReal :=
  (∑ k : Fin 5120, x0 (ix2 r k) * x2 (ix2 k n)) * x1 (ix2 r 0) * x3 (ix2 0 n)

/-- What the body stores, at an index. -/
theorem out_act (x0 : Vec Ideal S1536x5120 .fp8e4m3) (x1 : Vec Ideal S1536x1 .f32) (x2 : Vec Ideal S5120x34816 .fp8e4m3)
    (x3 : Vec Ideal S1x34816 .f32) (j : S1536x17408.Idx) :
    out0_4 x0 x1 x2 x3 j
      = scaled x0 x1 x2 x3 (j 0) ⟨(j 1).val, lt_of_lt_of_le (j 1).isLt (by decide)⟩
        * Ideal.logistic (scaled x0 x1 x2 x3 (j 0) ⟨(j 1).val, lt_of_lt_of_le (j 1).isLt (by decide)⟩)
        * scaled x0 x1 x2 x3 (j 0) ⟨17408 + (j 1).val, Nat.add_lt_add_left (j 1).isLt 17408⟩ := by
  unfold out0_4
  rw [View.canon_unit_zero (S := S1536x17408) zero2, View.ld_unit_zero (S := S1536x5120) zero2,
    View.ld_unit_zero (S := S1536x1) zero2, View.ld_unit_zero (S := S5120x34816) zero2,
    View.ld_unit_zero (S := S1x34816) zero2]
  unfold_payloads
  pointwise [scaled]

theorem stored4 (c : Dev nD) (t : Fin cfg0.N) (j : S1536x17408.Idx) :
    out0_4 (iblk m c 0 t) (iblk m c 1 t) (iblk m c 2 t) (iblk m c 3 t) j = result m c j := by
  rw [blk0, blk1, blk2, blk3, out_act, V_main_arg0, V_main_arg2]
  unfold result gu scaled
  rw [← V_rs m c (j 0), ← V_s m c, ← V_s m c]

/-! ## The result array -/

theorem mem4 (t : Fin cfg0.N) (i : S1536x17408.Idx) : i ∈ ((View.whole main_v2).slice (win0_4.rect t)).set := by
  rw [View.set_slice_whole, Rect.mem_set_unit]
  have h0 : (i 0).val < 1536 := (i 0).isLt
  have h1 : (i 1).val < 17408 := (i 1).isLt
  intro a
  match a with
  | ⟨0, _⟩ => show win0_4.index t 0 * 1536 ≤ (i 0).val ∧ (i 0).val < win0_4.index t 0 * 1536 + 1536; rw [(ind4 t).1]; omega
  | ⟨1, _⟩ => show win0_4.index t 1 * 17408 ≤ (i 1).val ∧ (i 1).val < win0_4.index t 1 * 17408 + 17408; rw [(ind4 t).2]; omega

theorem final4 (c : Dev nD) : (dats m 0 c).arrAt 4 cfg0.N = result m c := by
  refine (dats m 0 c).arrAt_eq_of_cover 4 (result m c) (fun t _ => ?_) fun i => ?_
  · rw [Value.flushed4]
    funext j
    rw [View.read_apply]
    refine (stored4 m c t j).trans (congrArg (result m c) (Shape.idx_ext₂ ?_ ?_))
    · show (j 0).val = win0_4.index t 0 * 1536 + 1 * (j 0).val; rw [(ind4 t).1]; omega
    · show (j 1).val = win0_4.index t 1 * 17408 + 1 * (j 1).val; rw [(ind4 t).2]; omega
  · exact ⟨⟨0, by rw [show cfg0.N = 1 from N_0]; omega⟩, flush0_4 _, mem4 _ i⟩

end Cert.GateUpRefIdeal.Hand

end
-- ==== Proof.GateUpAlg.lean ====
/-
  The gate and up projections: the kernel and its reference end with equal results.
-/
module

public import proofs.«01_k».proof.Defs
public import proofs.«01_k».proof.Proof.GateUpRun
public import proofs.«01_k».proof.Proof.GateUpRef

@[expose] public section

noncomputable section

namespace Cert.Proof

open Idealize.ShloMosaic Idealize.SL.Sem

/-- The two formulas agree once the arguments do. -/
theorem result_GateUp (m : (ℓ : Loc Cert.GateUpIdeal.nD Cert.GateUpIdeal.τ Cert.GateUpIdeal.sig) → Buf (Elt Ideal) ℓ)
    (m' : (ℓ : Loc Cert.GateUpRefIdeal.nD Cert.GateUpRefIdeal.τ Cert.GateUpRefIdeal.sig) → Buf (Elt Ideal) ℓ) (c : Dev Cert.GateUpIdeal.nD)
    (h : m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0) ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1) ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2) ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)) :
    Cert.GateUpRefIdeal.Hand.result m' c = Cert.GateUpIdeal.Hand.result m c := by
  obtain ⟨h0, h1, h2, h3⟩ := h
  funext j
  unfold Cert.GateUpRefIdeal.Hand.result Cert.GateUpIdeal.Hand.result Cert.GateUpRefIdeal.Hand.gu Cert.GateUpIdeal.Hand.gu
  unfold Cert.GateUpRefIdeal.Hand.codes Cert.GateUpRefIdeal.Hand.rowScale Cert.GateUpRefIdeal.Hand.weight Cert.GateUpRefIdeal.Hand.colScale Cert.GateUpIdeal.Hand.codes Cert.GateUpIdeal.Hand.rowScale Cert.GateUpIdeal.Hand.weight Cert.GateUpIdeal.Hand.colScale
  rw [h0, h1, h2, h3]

theorem algebraic_GateUp : algebraic_GateUpIdeal_GateUpRefIdeal (hGateUpIdeal := Cert.GateUpIdeal.Gen.facts) (hGateUpRefIdeal := Cert.GateUpRefIdeal.Gen.facts) := by
  intro m g m' g' _ hag
  refine ⟨fun c => Cert.GateUpIdeal.Hand.result m c, ?_, ?_⟩
  · refine (θ_run _ _ _).mono (fun r h c => ?_) (Cert.GateUpIdeal.Value.run_blocks (F := Ideal) m g)
    have e := h c
    rw [Cert.GateUpIdeal.Hand.final6 m c] at e
    exact e
  · refine (θ_run _ _ _).mono (fun r h c => ?_) (Cert.GateUpRefIdeal.Value.run_blocks (F := Ideal) m' g')
    have e := h c
    rw [Cert.GateUpRefIdeal.Hand.final4 m' c, result_GateUp m m' c (hag c)] at e
    exact e

end Cert.Proof

end
-- ==== Proof.DownBlock.lean ====
/-
  The down-projection kernel `DownIdeal`, one grid point: what the body leaves in its output block.

  A point holds all 1536 rows of the quantised activations, one block of 256 columns of the weight, the row scales
  (each repeated over 128 lanes), the 256 column scales and the same columns of the residual. The body stores twelve
  tiles of 256 rows and 128 columns. `blk` is the one function of the block's index that all twelve agree with.
-/
module

public import proofs.«01_k».proof.Proof.Gen.DownIdeal.Frame
public import Idealize.ShloMosaic.Lib.Pipeline.Value
public import Idealize.ShloMosaic.Lib.Pointwise

@[expose] public section

set_option maxRecDepth 16384

noncomputable section

namespace Cert.DownIdeal.Hand

open Cert.DownIdeal Cert.DownIdeal.Gen Idealize.ShloMosaic Idealize.ShloMosaic.TcCoe Idealize.SL.Sem
open Idealize.ShloMosaic.Pipeline (Dat)

/-- Entry `(r, n)` of the block: the residual, plus the product of row `r` of the codes with column `n` of the weight
    block, times the row's scale (read in lane `n mod 128`), times the column's scale. -/
def blk (x0 : Vec Ideal S1536x17408 .fp8e4m3) (x1 : Vec Ideal S1536x128 .f32) (x2 : Vec Ideal S17408x256 .fp8e4m3)
    (x3 : Vec Ideal S1x256 .f32) (x4 : Vec Ideal S1536x256 .f32) (j : S1536x256.Idx) : EReal :=
  x4 j + (∑ k : Fin 17408, x0 (ix2 (j 0) k) * x2 (ix2 k (j 1)))
    * x1 (ix2 (j 0) ⟨(j 1).val % 128, Nat.mod_lt _ (by decide)⟩) * x3 (ix2 0 (j 1))

variable (x0 : Vec Ideal S1536x17408 .fp8e4m3) (x1 : Vec Ideal S1536x128 .f32) (x2 : Vec Ideal S17408x256 .fp8e4m3)
    (x3 : Vec Ideal S1x256 .f32) (x4 : Vec Ideal S1536x256 .f32)

/-- The output block is `blk`. -/
theorem out_y : out0_5 x0 x1 x2 x3 x4 = blk x0 x1 x2 x3 x4 := by
  funext y
  unfold_out out0_5
  refine View.canon_apply_of_pieces _ _ ?_ y (cover0_5 _ _ _ _ _ _ _ _ _ _ _ _ y)
  intro p hp
  simp only [List.mem_cons, List.mem_nil_iff, or_false] at hp
  rcases hp with rfl | rfl | rfl | rfl | rfl | rfl | rfl | rfl | rfl | rfl | rfl | rfl
  all_goals
    intro x
    rw [show ∀ r : Rect S1536x256, ∀ x, r.emb x = r.toLoadRect.idx x from fun _ _ => rfl]
    unfold_payloads
    pointwise [blk]
    refine congrArg₂ (· + ·) rfl (congrArg₂ (· * ·) (congrArg₂ (· * ·) rfl (congrArg x1 (congrArg (ix2 _) (Fin.ext ?_)))) rfl)
    have h1 : (x 1).val < 128 := (x 1).isLt
    dsimp only
    omega

end Cert.DownIdeal.Hand

end
-- ==== Proof.DownRun.lean ====
/-
  The down-projection kernel `DownIdeal`, the whole call: its result array.

  The twenty points cut the 5120 columns into blocks of 256; every point reads all rows. So entry `(r, n)` of the
  result is the residual plus the product of row `r` with column `n`, times the row's scale, times the column's.
-/
module

public import proofs.«01_k».proof.Proof.Gen.DownIdeal.Value
public import proofs.«01_k».proof.Proof.DownBlock

@[expose] public section

set_option maxRecDepth 16384

noncomputable section

namespace Cert.DownIdeal.Hand

open Cert.DownIdeal Cert.DownIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The five arguments: the codes, the row scales, the weight, the column scales, the residual. -/
abbrev codes (c : Dev nD) : Vec Ideal S1536x17408 .fp8e4m3 := m (c.tc.loc main_arg0)
abbrev rowScale (c : Dev nD) : Vec Ideal S1536 .f32 := m (c.tc.loc main_arg1)
abbrev weight (c : Dev nD) : Vec Ideal S17408x5120 .fp8e4m3 := m (c.tc.loc main_arg2)
abbrev colScale (c : Dev nD) : Vec Ideal S5120 .f32 := m (c.tc.loc main_arg3)
abbrev resid (c : Dev nD) : Vec Ideal S1536x5120 .f32 := m (c.tc.loc main_arg4)

/-- Entry `(r, n)` of the result, from the five arguments. -/
def result (c : Dev nD) (j : S1536x5120.Idx) : EReal :=
  resid m c j + (∑ k : Fin 17408, codes m c (ix2 (j 0) k) * weight m c (ix2 k (j 1)))
    * rowScale m c (ix1 (j 0)) * colScale m c (ix1 (j 1))

/-- The five blocks point `t` reads. -/
abbrev b0 (c : Dev nD) (t : Fin cfg0.N) : Vec Ideal S1536x17408 .fp8e4m3 := iblk m c 0 t
abbrev b1 (c : Dev nD) (t : Fin cfg0.N) : Vec Ideal S1536x128 .f32 := iblk m c 1 t
abbrev b2 (c : Dev nD) (t : Fin cfg0.N) : Vec Ideal S17408x256 .fp8e4m3 := iblk m c 2 t
abbrev b3 (c : Dev nD) (t : Fin cfg0.N) : Vec Ideal S1x256 .f32 := iblk m c 3 t
abbrev b4 (c : Dev nD) (t : Fin cfg0.N) : Vec Ideal S1536x256 .f32 := iblk m c 4 t

/-! ## The windows' block indices -/

theorem ind0 : ∀ t : Fin cfg0.N, win0_0.index t 0 = 0 ∧ win0_0.index t 1 = 0 :=
  (by decide +kernel : ∀ t : Fin grid0.N, win0_0.index t 0 = 0 ∧ win0_0.index t 1 = 0)
theorem ind1 : ∀ t : Fin cfg0.N, win0_1.index t 0 = 0 ∧ win0_1.index t 1 = 0 :=
  (by decide +kernel : ∀ t : Fin grid0.N, win0_1.index t 0 = 0 ∧ win0_1.index t 1 = 0)
theorem ind2 : ∀ t : Fin cfg0.N, win0_2.index t 0 = 0 ∧ win0_2.index t 1 = t.val :=
  (by decide +kernel : ∀ t : Fin grid0.N, win0_2.index t 0 = 0 ∧ win0_2.index t 1 = t.val)
theorem ind3 : ∀ t : Fin cfg0.N, win0_3.index t 0 = 0 ∧ win0_3.index t 1 = t.val :=
  (by decide +kernel : ∀ t : Fin grid0.N, win0_3.index t 0 = 0 ∧ win0_3.index t 1 = t.val)
theorem ind4 : ∀ t : Fin cfg0.N, win0_4.index t 0 = 0 ∧ win0_4.index t 1 = t.val :=
  (by decide +kernel : ∀ t : Fin grid0.N, win0_4.index t 0 = 0 ∧ win0_4.index t 1 = t.val)
theorem ind5 : ∀ t : Fin cfg0.N, win0_5.index t 0 = 0 ∧ win0_5.index t 1 = t.val :=
  (by decide +kernel : ∀ t : Fin grid0.N, win0_5.index t 0 = 0 ∧ win0_5.index t 1 = t.val)

/-! ## What the host prepares -/

/-- The row scales as the host lays them out: repeated over 128 lanes. -/
theorem V_rs (c : Dev nD) (r : Fin 1536) (l : Fin 128) : (V m c main_v1 : Vec Ideal S1536x128 .f32) (ix2 r l) = rowScale m c (ix1 r) := by
  show (StableHlo.after hostOps0 _ (Proc.devRef .tc main_v1) : Vec Ideal S1536x128 .f32) _ = _
  after_results
  pointwise

/-- The column scales as one row. -/
theorem V_s (c : Dev nD) (n : Fin 5120) : (V m c main_v2 : Vec Ideal S1x5120 .f32) (ix2 0 n) = colScale m c (ix1 n) := by
  show (StableHlo.after hostOps0 _ (Proc.devRef .tc main_v2) : Vec Ideal S1x5120 .f32) _ = _
  after_results
  pointwise

/-! ## The blocks a point reads -/

theorem blk0 (c : Dev nD) (t : Fin cfg0.N) (r : Fin 1536) (k : Fin 17408) : b0 m c t (ix2 r k) = codes m c (ix2 r k) := by
  unfold b0 iblk
  rw [View.read_apply]
  show (V m c main_arg0 : Vec Ideal S1536x17408 .fp8e4m3) _ = _
  rw [V_main_arg0]
  refine congrArg _ (Shape.idx_ext₂ ?_ ?_)
  · show win0_0.index t 0 * 1536 + 1 * r.val = r.val; rw [(ind0 t).1]; omega
  · show win0_0.index t 1 * 17408 + 1 * k.val = k.val; rw [(ind0 t).2]; omega

theorem blk1 (c : Dev nD) (t : Fin cfg0.N) (r : Fin 1536) (l : Fin 128) : b1 m c t (ix2 r l) = rowScale m c (ix1 r) := by
  unfold b1 iblk
  rw [View.read_apply, ← V_rs m c r l]
  show (V m c main_v1 : Vec Ideal S1536x128 .f32) _ = _
  refine congrArg _ (Shape.idx_ext₂ ?_ ?_)
  · show win0_1.index t 0 * 1536 + 1 * r.val = r.val; rw [(ind1 t).1]; omega
  · show win0_1.index t 1 * 128 + 1 * l.val = l.val; rw [(ind1 t).2]; omega

theorem blk2 (c : Dev nD) (t : Fin cfg0.N) (k : Fin 17408) (n : Fin 256) (h : t.val * 256 + n.val < 5120) : b2 m c t (ix2 k n) = weight m c (ix2 k ⟨t.val * 256 + n.val, h⟩) := by
  unfold b2 iblk
  rw [View.read_apply]
  show (V m c main_arg2 : Vec Ideal S17408x5120 .fp8e4m3) _ = _
  rw [V_main_arg2]
  refine congrArg _ (Shape.idx_ext₂ ?_ ?_)
  · show win0_2.index t 0 * 17408 + 1 * k.val = k.val; rw [(ind2 t).1]; omega
  · show win0_2.index t 1 * 256 + 1 * n.val = (t.val) * 256 + n.val; rw [(ind2 t).2]; omega

theorem blk3 (c : Dev nD) (t : Fin cfg0.N) (n : Fin 256) (h : t.val * 256 + n.val < 5120) : b3 m c t (ix2 0 n) = colScale m c (ix1 ⟨t.val * 256 + n.val, h⟩) := by
  unfold b3 iblk
  rw [View.read_apply, ← V_s m c]
  show (V m c main_v2 : Vec Ideal S1x5120 .f32) _ = _
  refine congrArg _ (Shape.idx_ext₂ ?_ ?_)
  · show win0_3.index t 0 * 1 + 1 * 0 = 0; rw [(ind3 t).1]
  · show win0_3.index t 1 * 256 + 1 * n.val = (t.val) * 256 + n.val; rw [(ind3 t).2]; omega

theorem blk4 (c : Dev nD) (t : Fin cfg0.N) (r : Fin 1536) (n : Fin 256) (h : t.val * 256 + n.val < 5120) : b4 m c t (ix2 r n) = resid m c (ix2 r ⟨t.val * 256 + n.val, h⟩) := by
  unfold b4 iblk
  rw [View.read_apply]
  show (V m c main_arg4 : Vec Ideal S1536x5120 .f32) _ = _
  rw [V_main_arg4]
  refine congrArg _ (Shape.idx_ext₂ ?_ ?_)
  · show win0_4.index t 0 * 1536 + 1 * r.val = r.val; rw [(ind4 t).1]; omega
  · show win0_4.index t 1 * 256 + 1 * n.val = (t.val) * 256 + n.val; rw [(ind4 t).2]; omega

/-- So the block a point computes is its part of `result`. -/
theorem blk_result (c : Dev nD) (t : Fin cfg0.N) (r : Fin 1536) (n : Fin 256) (h : t.val * 256 + n.val < 5120) :
    blk (iblk m c 0 t) (iblk m c 1 t) (iblk m c 2 t) (iblk m c 3 t) (iblk m c 4 t) (ix2 r n)
      = result m c (ix2 r ⟨t.val * 256 + n.val, h⟩) := by
  show b4 m c t (ix2 r n) + (∑ k : Fin 17408, b0 m c t (ix2 r k) * b2 m c t (ix2 k n))
    * b1 m c t (ix2 r ⟨n.val % 128, Nat.mod_lt _ (by decide)⟩) * b3 m c t (ix2 0 n) = _
  simp only [blk0, blk1, blk2 m c t _ n h, blk3 m c t n h, blk4 m c t r n h]
  rfl

/-! ## The result array -/

theorem mem5 (t : Fin cfg0.N) (i : S1536x5120.Idx) (h : t.val = (i 1).val / 256) : i ∈ ((cfg0.win 5).blk t).view.set := by
  show i ∈ ((View.whole main_v3).slice (win0_5.rect t)).set
  rw [View.set_slice_whole, Rect.mem_set_unit]
  have h0 : (i 0).val < 1536 := (i 0).isLt
  intro a
  match a with
  | ⟨0, _⟩ => show win0_5.index t 0 * 1536 ≤ (i 0).val ∧ (i 0).val < win0_5.index t 0 * 1536 + 1536; rw [(ind5 t).1]; omega
  | ⟨1, _⟩ => show win0_5.index t 1 * 256 ≤ (i 1).val ∧ (i 1).val < win0_5.index t 1 * 256 + 256; rw [(ind5 t).2]; omega

theorem final5 (c : Dev nD) : (dats m 0 c).arrAt 5 cfg0.N = result m c := by
  refine (dats m 0 c).arrAt_eq_of_cover 5 (result m c) (fun t _ => ?_) fun i => ?_
  · rw [Value.flushed5, out_y]
    funext j
    have ht : t.val < 20 := lt_of_lt_of_eq t.isLt N_0
    have hj : (j 1).val < 256 := (j 1).isLt
    rw [View.read_apply]
    refine (congrArg (blk _ _ _ _ _) (eq_ix2 (n0 := 1536) (n1 := 256) j)).trans ((blk_result m c t (j 0) (j 1) (by omega)).trans ?_)
    refine congrArg (result m c) (Shape.idx_ext₂ ?_ ?_)
    · show (j 0).val = win0_5.index t 0 * 1536 + 1 * (j 0).val; rw [(ind5 t).1]; omega
    · show t.val * 256 + (j 1).val = win0_5.index t 1 * 256 + 1 * (j 1).val; rw [(ind5 t).2]; omega
  · have hi : (i 1).val < 5120 := (i 1).isLt
    exact ⟨⟨(i 1).val / 256, by rw [show cfg0.N = 20 from N_0]; omega⟩, flush0_5 _, mem5 _ i rfl⟩

end Cert.DownIdeal.Hand

end
-- ==== Proof.DownRef.lean ====
/-
  The reference of the down-projection, `DownRefIdeal`: its result array is the residual plus the scaled product.

  The reference is one region with one point, whose windows are the whole arrays; its body stores its result once.
-/
module

public import proofs.«01_k».proof.Proof.Gen.DownRefIdeal.Value
public import Idealize.ShloMosaic.Lib.Pointwise
public import Idealize.ShloMosaic.Lib.Pipeline.Value

@[expose] public section

set_option maxRecDepth 16384

noncomputable section

namespace Cert.DownRefIdeal.Hand

open Cert.DownRefIdeal Cert.DownRefIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The five arguments: the codes, the row scales, the weight, the column scales, the residual. -/
abbrev codes (c : Dev nD) : Vec Ideal S1536x17408 .fp8e4m3 := m (c.tc.loc main_arg0)
abbrev rowScale (c : Dev nD) : Vec Ideal S1536 .f32 := m (c.tc.loc main_arg1)
abbrev weight (c : Dev nD) : Vec Ideal S17408x5120 .fp8e4m3 := m (c.tc.loc main_arg2)
abbrev colScale (c : Dev nD) : Vec Ideal S5120 .f32 := m (c.tc.loc main_arg3)
abbrev resid (c : Dev nD) : Vec Ideal S1536x5120 .f32 := m (c.tc.loc main_arg4)

/-- Entry `(r, n)` of the result, from the five arguments. -/
def result (c : Dev nD) (j : S1536x5120.Idx) : EReal :=
  resid m c j + (∑ k : Fin 17408, codes m c (ix2 (j 0) k) * weight m c (ix2 k (j 1)))
    * rowScale m c (ix1 (j 0)) * colScale m c (ix1 (j 1))

theorem zero2 : (![0, 0] : Fin 2 → Nat) = fun _ => 0 := funext fun a => by fin_cases a <;> rfl

/-! ## The windows: each is its whole array -/

theorem ind0 : ∀ t : Fin cfg0.N, win0_0.index t 0 = 0 ∧ win0_0.index t 1 = 0 :=
  (by decide +kernel : ∀ t : Fin grid0.N, win0_0.index t 0 = 0 ∧ win0_0.index t 1 = 0)
theorem ind1 : ∀ t : Fin cfg0.N, win0_1.index t 0 = 0 ∧ win0_1.index t 1 = 0 :=
  (by decide +kernel : ∀ t : Fin grid0.N, win0_1.index t 0 = 0 ∧ win0_1.index t 1 = 0)
theorem ind2 : ∀ t : Fin cfg0.N, win0_2.index t 0 = 0 ∧ win0_2.index t 1 = 0 :=
  (by decide +kernel : ∀ t : Fin grid0.N, win0_2.index t 0 = 0 ∧ win0_2.index t 1 = 0)
theorem ind3 : ∀ t : Fin cfg0.N, win0_3.index t 0 = 0 ∧ win0_3.index t 1 = 0 :=
  (by decide +kernel : ∀ t : Fin grid0.N, win0_3.index t 0 = 0 ∧ win0_3.index t 1 = 0)
theorem ind4 : ∀ t : Fin cfg0.N, win0_4.index t 0 = 0 ∧ win0_4.index t 1 = 0 :=
  (by decide +kernel : ∀ t : Fin grid0.N, win0_4.index t 0 = 0 ∧ win0_4.index t 1 = 0)
theorem ind5 : ∀ t : Fin cfg0.N, win0_5.index t 0 = 0 ∧ win0_5.index t 1 = 0 :=
  (by decide +kernel : ∀ t : Fin grid0.N, win0_5.index t 0 = 0 ∧ win0_5.index t 1 = 0)

theorem blk0 (c : Dev nD) (t : Fin cfg0.N) : (iblk m c 0 t : Vec Ideal S1536x17408 .fp8e4m3) = (V m c main_arg0 : Vec Ideal S1536x17408 .fp8e4m3) := by
  funext j
  unfold iblk
  rw [View.read_apply]
  show (V m c main_arg0 : Vec Ideal S1536x17408 .fp8e4m3) _ = _
  refine congrArg _ (Shape.idx_ext₂ ?_ ?_)
  · show win0_0.index t 0 * 1536 + 1 * (j 0).val = (j 0).val; rw [(ind0 t).1]; omega
  · show win0_0.index t 1 * 17408 + 1 * (j 1).val = (j 1).val; rw [(ind0 t).2]; omega

theorem blk1 (c : Dev nD) (t : Fin cfg0.N) : (iblk m c 1 t : Vec Ideal S1536x1 .f32) = (V m c main_v0 : Vec Ideal S1536x1 .f32) := by
  funext j
  unfold iblk
  rw [View.read_apply]
  show (V m c main_v0 : Vec Ideal S1536x1 .f32) _ = _
  refine congrArg _ (Shape.idx_ext₂ ?_ ?_)
  · show win0_1.index t 0 * 1536 + 1 * (j 0).val = (j 0).val; rw [(ind1 t).1]; omega
  · show win0_1.index t 1 * 1 + 1 * (j 1).val = (j 1).val; rw [(ind1 t).2]; omega

theorem blk2 (c : Dev nD) (t : Fin cfg0.N) : (iblk m c 2 t : Vec Ideal S17408x5120 .fp8e4m3) = (V m c main_arg2 : Vec Ideal S17408x5120 .fp8e4m3) := by
  funext j
  unfold iblk
  rw [View.read_apply]
  show (V m c main_arg2 : Vec Ideal S17408x5120 .fp8e4m3) _ = _
  refine congrArg _ (Shape.idx_ext₂ ?_ ?_)
  · show win0_2.index t 0 * 17408 + 1 * (j 0).val = (j 0).val; rw [(ind2 t).1]; omega
  · show win0_2.index t 1 * 5120 + 1 * (j 1).val = (j 1).val; rw [(ind2 t).2]; omega

theorem blk3 (c : Dev nD) (t : Fin cfg0.N) : (iblk m c 3 t : Vec Ideal S1x5120 .f32) = (V m c main_v1 : Vec Ideal S1x5120 .f32) := by
  funext j
  unfold iblk
  rw [View.read_apply]
  show (V m c main_v1 : Vec Ideal S1x5120 .f32) _ = _
  refine congrArg _ (Shape.idx_ext₂ ?_ ?_)
  · show win0_3.index t 0 * 1 + 1 * (j 0).val = (j 0).val; rw [(ind3 t).1]; omega
  · show win0_3.index t 1 * 5120 + 1 * (j 1).val = (j 1).val; rw [(ind3 t).2]; omega

theorem blk4 (c : Dev nD) (t : Fin cfg0.N) : (iblk m c 4 t : Vec Ideal S1536x5120 .f32) = (V m c main_arg4 : Vec Ideal S1536x5120 .f32) := by
  funext j
  unfold iblk
  rw [View.read_apply]
  show (V m c main_arg4 : Vec Ideal S1536x5120 .f32) _ = _
  refine congrArg _ (Shape.idx_ext₂ ?_ ?_)
  · show win0_4.index t 0 * 1536 + 1 * (j 0).val = (j 0).val; rw [(ind4 t).1]; omega
  · show win0_4.index t 1 * 5120 + 1 * (j 1).val = (j 1).val; rw [(ind4 t).2]; omega

/-- The row scales as a column. -/
theorem V_rs (c : Dev nD) (r : Fin 1536) : (V m c main_v0 : Vec Ideal S1536x1 .f32) (ix2 r 0) = rowScale m c (ix1 r) := by
  show (StableHlo.after hostOps0 _ (Proc.devRef .tc main_v0) : Vec Ideal S1536x1 .f32) _ = _
  after_results
  pointwise

/-- The column scales as a row. -/
theorem V_s (c : Dev nD) (n : Fin 5120) : (V m c main_v1 : Vec Ideal S1x5120 .f32) (ix2 0 n) = colScale m c (ix1 n) := by
  show (StableHlo.after hostOps0 _ (Proc.devRef .tc main_v1) : Vec Ideal S1x5120 .f32) _ = _
  after_results
  pointwise

/-- What the body stores, at an index. -/
theorem out_y (x0 : Vec Ideal S1536x17408 .fp8e4m3) (x1 : Vec Ideal S1536x1 .f32) (x2 : Vec Ideal S17408x5120 .fp8e4m3)
    (x3 : Vec Ideal S1x5120 .f32) (x4 : Vec Ideal S1536x5120 .f32) (j : S1536x5120.Idx) :
    out0_5 x0 x1 x2 x3 x4 j
      = x4 j + (∑ k : Fin 17408, x0 (ix2 (j 0) k) * x2 (ix2 k (j 1))) * x1 (ix2 (j 0) 0) * x3 (ix2 0 (j 1)) := by
  unfold out0_5
  rw [View.canon_unit_zero (S := S1536x5120) zero2, View.ld_unit_zero (S := S1536x17408) zero2,
    View.ld_unit_zero (S := S1536x1) zero2, View.ld_unit_zero (S := S17408x5120) zero2,
    View.ld_unit_zero (S := S1x5120) zero2, View.ld_unit_zero (S := S1536x5120) zero2]
  unfold_payloads
  pointwise

theorem stored5 (c : Dev nD) (t : Fin cfg0.N) (j : S1536x5120.Idx) :
    out0_5 (iblk m c 0 t) (iblk m c 1 t) (iblk m c 2 t) (iblk m c 3 t) (iblk m c 4 t) j = result m c j := by
  rw [blk0, blk1, blk2, blk3, blk4, out_y, V_main_arg0, V_main_arg2, V_main_arg4]
  unfold result
  rw [← V_rs m c (j 0), ← V_s m c (j 1)]

/-! ## The result array -/

theorem mem5 (t : Fin cfg0.N) (i : S1536x5120.Idx) : i ∈ ((View.whole main_v2).slice (win0_5.rect t)).set := by
  rw [View.set_slice_whole, Rect.mem_set_unit]
  have h0 : (i 0).val < 1536 := (i 0).isLt
  have h1 : (i 1).val < 5120 := (i 1).isLt
  intro a
  match a with
  | ⟨0, _⟩ => show win0_5.index t 0 * 1536 ≤ (i 0).val ∧ (i 0).val < win0_5.index t 0 * 1536 + 1536; rw [(ind5 t).1]; omega
  | ⟨1, _⟩ => show win0_5.index t 1 * 5120 ≤ (i 1).val ∧ (i 1).val < win0_5.index t 1 * 5120 + 5120; rw [(ind5 t).2]; omega

theorem final5 (c : Dev nD) : (dats m 0 c).arrAt 5 cfg0.N = result m c := by
  refine (dats m 0 c).arrAt_eq_of_cover 5 (result m c) (fun t _ => ?_) fun i => ?_
  · rw [Value.flushed5]
    funext j
    rw [View.read_apply]
    refine (stored5 m c t j).trans (congrArg (result m c) (Shape.idx_ext₂ ?_ ?_))
    · show (j 0).val = win0_5.index t 0 * 1536 + 1 * (j 0).val; rw [(ind5 t).1]; omega
    · show (j 1).val = win0_5.index t 1 * 5120 + 1 * (j 1).val; rw [(ind5 t).2]; omega
  · exact ⟨⟨0, by rw [show cfg0.N = 1 from N_0]; omega⟩, flush0_5 _, mem5 _ i⟩

end Cert.DownRefIdeal.Hand

end
-- ==== Proof.DownAlg.lean ====
/-
  The down-projection: the kernel and its reference end with equal results.
-/
module

public import proofs.«01_k».proof.Defs
public import proofs.«01_k».proof.Proof.DownRun
public import proofs.«01_k».proof.Proof.DownRef

@[expose] public section

noncomputable section

namespace Cert.Proof

open Idealize.ShloMosaic Idealize.SL.Sem

/-- The two formulas agree once the arguments do. -/
theorem result_Down (m : (ℓ : Loc Cert.DownIdeal.nD Cert.DownIdeal.τ Cert.DownIdeal.sig) → Buf (Elt Ideal) ℓ)
    (m' : (ℓ : Loc Cert.DownRefIdeal.nD Cert.DownRefIdeal.τ Cert.DownRefIdeal.sig) → Buf (Elt Ideal) ℓ) (c : Dev Cert.DownIdeal.nD)
    (h : m' ((c.tc : Thread Cert.DownRefIdeal.nD Cert.DownRefIdeal.τ).loc Cert.DownRefIdeal.main_arg0) = m ((c.tc : Thread Cert.DownIdeal.nD Cert.DownIdeal.τ).loc Cert.DownIdeal.main_arg0) ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1) ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2) ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3) ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) :
    Cert.DownRefIdeal.Hand.result m' c = Cert.DownIdeal.Hand.result m c := by
  obtain ⟨h0, h1, h2, h3, h4⟩ := h
  funext j
  unfold Cert.DownRefIdeal.Hand.result Cert.DownIdeal.Hand.result
  unfold Cert.DownRefIdeal.Hand.codes Cert.DownRefIdeal.Hand.rowScale Cert.DownRefIdeal.Hand.weight Cert.DownRefIdeal.Hand.colScale Cert.DownRefIdeal.Hand.resid Cert.DownIdeal.Hand.codes Cert.DownIdeal.Hand.rowScale Cert.DownIdeal.Hand.weight Cert.DownIdeal.Hand.colScale Cert.DownIdeal.Hand.resid
  rw [h0, h1, h2, h3, h4]

theorem algebraic_Down : algebraic_DownIdeal_DownRefIdeal (hDownIdeal := Cert.DownIdeal.Gen.facts) (hDownRefIdeal := Cert.DownRefIdeal.Gen.facts) := by
  intro m g m' g' _ hag
  refine ⟨fun c => Cert.DownIdeal.Hand.result m c, ?_, ?_⟩
  · refine (θ_run _ _ _).mono (fun r h c => ?_) (Cert.DownIdeal.Value.run_blocks (F := Ideal) m g)
    have e := h c
    rw [Cert.DownIdeal.Hand.final5 m c] at e
    exact e
  · refine (θ_run _ _ _).mono (fun r h c => ?_) (Cert.DownRefIdeal.Value.run_blocks (F := Ideal) m' g')
    have e := h c
    rw [Cert.DownRefIdeal.Hand.final5 m' c, result_Down m m' c (hag c)] at e
    exact e

end Cert.Proof

end
-- ==== Proof.ThQuantIdealBody.lean ====
/-
  Quantising the target hidden states by rows: the call terminates and its arguments end unchanged, and what it leaves in its buffers.

  A grid point quantises 128 rows, in four strips of 32. It stores their codes, their scales each repeated over 128
  lanes (`rep`), and, read back off the diagonal of that block, the 128 scales as one row of the dense 12 by 128
  array, at the row numbered by the point. The dense array stays in its staging buffer over the whole grid and is
  written back once, after the last point. So what a point leaves there depends on what it found; of it the proof
  says only that rows 0, …, t hold their scales after point t (`Rel`), which at the last point is the whole array.
-/
module

public import proofs.«01_k».proof.Proof.Gen.ThQuantIdeal.Frame
public import proofs.«01_k».proof.Proof.Gen.ThQuantIdeal.Skeleton
public import Idealize.ShloMosaic.Lib.Pipeline.DatRel
public import Idealize.ShloMosaic.Lib.Pipeline.ArrRel
public import Idealize.ShloMosaic.Lib.Pipeline.Value
public import Idealize.ShloMosaic.Lib.Pointwise
public import Idealize.ShloMosaic.Lib.WritesUnit
public import Idealize.ShloMosaic.Lib.Tactic

@[expose] public section

set_option maxRecDepth 16384

noncomputable section

namespace Cert.ThQuantIdeal.Hand

open Cert.ThQuantIdeal Cert.ThQuantIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in the output blocks -/

abbrev cr0 : Rect S128x25600 := Rect.unit (s := S128x25600) ![0, 0] S32x25600.size inb_S128x25600_S32x25600_0_0
abbrev cr32 : Rect S128x25600 := Rect.unit (s := S128x25600) ![32, 0] S32x25600.size inb_S128x25600_S32x25600_32_0
abbrev cr64 : Rect S128x25600 := Rect.unit (s := S128x25600) ![64, 0] S32x25600.size inb_S128x25600_S32x25600_64_0
abbrev cr96 : Rect S128x25600 := Rect.unit (s := S128x25600) ![96, 0] S32x25600.size inb_S128x25600_S32x25600_96_0
abbrev sr0 : Rect S128x128 := Rect.unit (s := S128x128) ![0, 0] S32x128.size inb_S128x128_S32x128_0_0
abbrev sr32 : Rect S128x128 := Rect.unit (s := S128x128) ![32, 0] S32x128.size inb_S128x128_S32x128_32_0
abbrev sr64 : Rect S128x128 := Rect.unit (s := S128x128) ![64, 0] S32x128.size inb_S128x128_S32x128_64_0
abbrev sr96 : Rect S128x128 := Rect.unit (s := S128x128) ![96, 0] S32x128.size inb_S128x128_S32x128_96_0
abbrev srAll : Rect S128x128 := Rect.unit (s := S128x128) ![0, 0] S128x128.size inb_S128x128_S128x128_0_0

/-- The block of codes. -/
def codesBlk (x0 : Vec F S128x25600 .bf16) : Vec F S128x25600 .fp8e4m3 :=
  View.canon [⟨cr96, k0_pay3 (View.ld x0 cr96)⟩,
    ⟨cr64, k0_pay17 (View.ld x0 cr64)⟩,
    ⟨cr32, k0_pay13 (k0_pay10 (View.ld x0 cr32)) (k0_pay12 (View.ld x0 cr32))⟩,
    ⟨cr0, k0_pay8 (View.ld x0 cr0)⟩]

/-- The block of scales, each repeated over 128 lanes. -/
def repBlk (x0 : Vec F S128x25600 .bf16) : Vec F S128x128 .f32 :=
  View.canon [⟨sr96, k0_pay4 (View.ld x0 cr96)⟩,
    ⟨sr64, k0_pay18 (View.ld x0 cr64)⟩,
    ⟨sr32, k0_pay14 (k0_pay11 (View.ld x0 cr32))⟩,
    ⟨sr0, k0_pay9 (View.ld x0 cr0)⟩]

theorem cover_codes (p0 p1 p2 p3 : Vec F S32x25600 .fp8e4m3) (y : S128x25600.Idx) :
    ∃ pc ∈ ([⟨cr96, p0⟩, ⟨cr64, p1⟩, ⟨cr32, p2⟩, ⟨cr0, p3⟩] : List (View.Piece (Elt F) S128x25600 .fp8e4m3)), y ∈ pc.1.set :=
  View.cover_of_tiled [⟨cr96, p0⟩, ⟨cr64, p1⟩, ⟨cr32, p2⟩, ⟨cr0, p3⟩] S32x25600.size (by rfl) y

theorem cover_rep (p0 p1 p2 p3 : Vec F S32x128 .f32) (y : S128x128.Idx) :
    ∃ pc ∈ ([⟨sr96, p0⟩, ⟨sr64, p1⟩, ⟨sr32, p2⟩, ⟨sr0, p3⟩] : List (View.Piece (Elt F) S128x128 .f32)), y ∈ pc.1.set :=
  View.cover_of_tiled [⟨sr96, p0⟩, ⟨sr64, p1⟩, ⟨sr32, p2⟩, ⟨sr0, p3⟩] S32x128.size (by rfl) y

/-- The 128 scales as one row: the diagonal of the block of repeated scales. -/
def rowVal (x0 : Vec F S128x25600 .bf16) : Vec F S1x128 .f32 := k0_pay5 (View.ld (repBlk x0) srAll)

/-- `Y` with its row `n` replaced by `v`. -/
def putRow (n : ℕ) (v : Vec F S1x128 .f32) (Y : Vec F S12x128 .f32) : Vec F S12x128 .f32 := fun y =>
  if (y 0).val = n then v (ix2 0 (y 1)) else Y y

/-! ## The body -/

set_option maxHeartbeats 1000000 in
/-- The body, for any continuation: the inputs are as they were, the codes and the repeated scales are stored whole,
    and in the dense array the row of the point is replaced. -/
theorem sound_kernel (c : Dev nD) (E : Set ℕ) (i : grid0.Coords) (arg1 : Memref sig .tc .vmem S128x25600 .bf16) (harg1 : arg1.IsWhole) (arg2 : Memref sig .tc .vmem S128x25600 .fp8e4m3) (harg2 : arg2.IsWhole) (arg3 : Memref sig .tc .vmem S128x128 .f32) (harg3 : arg3.IsWhole) (arg4 : Memref sig .tc .vmem S12x128 .f32) (harg4 : arg4.IsWhole)
    (x0 : Vec F S128x25600 .bf16) (Y : Vec F S12x128 .f32) (K : PUnit → sProp 𝕄) :
    iprop(owns (c : Thread nD τ) arg1 fullShare x0 ∗ (∃ d, owns (c : Thread nD τ) arg2 fullShare d) ∗ (∃ d, owns (c : Thread nD τ) arg3 fullShare d) ∗ owns (c : Thread nD τ) arg4 fullShare Y
        ∗ (iprop(owns (c : Thread nD τ) arg1 fullShare x0 ∗ owns (c : Thread nD τ) arg2 fullShare (codesBlk x0) ∗ owns (c : Thread nD τ) arg3 fullShare (repBlk x0) ∗ owns (c : Thread nD τ) arg4 fullShare (putRow (i 0).val (rowVal x0) Y)) -∗ K ⟨⟩))
      ⊢ wp frame (wpE (defs₀ (F := F)) Variants.none c none) E (cc0_th_quant i arg1 harg1 arg2 harg2 arg3 harg3 arg4 harg4) K := by
  simp only [cc0_th_quant_eq_skeleton]; unfold cc0_th_quant_skel
  simp only [k0_part1_eq_skeleton, k0_part2_eq_skeleton]
  unfold owns
  iintro ⟨⟨%f0, %hf0, H0⟩, ⟨%dc, %fc, -, HC⟩, ⟨%dr, %fr, -, HR⟩, ⟨%fd, %hfd, HD⟩, Hk⟩
  subst hf0 hfd
  sl_exec
  sl_step
  iapply Hk
  isplitl [H0]
  · iexists f0; isplitr; · ipureintro; rfl
    iexact H0
  isplitl [HC]
  · iexists _; isplitr
    swap; · iexact HC
    ipureintro
    refine (View.read_writes_eq_canon _ _ _ (cover_codes _ _ _ _)).trans ?_
    rfl
  isplitl [HR]
  · iexists _; isplitr
    swap; · iexact HR
    ipureintro
    refine (View.read_writes_eq_canon _ _ _ (cover_rep _ _ _ _)).trans ?_
    rfl
  iexists _; isplitr
  swap; · iexact HD
  ipureintro
  funext y
  unfold putRow
  by_cases hy : (y 0).val = (i 0).val
  · rw [if_pos hy]
    refine (View.read_writes_cons_rows_of_mem (d := S12x128.size) _ _ (off := k0_off1 i) (size := S1x128.size) (k0_off1_inb i) _ _ y (ix2 0 (y 1)) (k0_off1_eq i) (hy.trans (Nat.add_zero _).symm) rfl).trans ?_
    unfold rowVal
    refine congrFun (congrArg k0_pay5 ?_) _
    exact View.readCov_eq_canon_ld _ _ _ (cover_rep _ _ _ _)
  · rw [if_neg hy]
    refine (View.read_writes_cons_rows_of_not_mem (d := S12x128.size) (W := 1) _ _ (off := k0_off1 i) (size := S1x128.size) (k0_off1_inb i) _ _ y (k0_off1_eq i) rfl (by omega)).trans ?_
    rfl

/-! ## The proof data -/

/-- The proof data on core `c`: the arrays as the region finds them; after a point each input's buffer at its block,
    the codes' and the repeated scales' as `codesBlk` and `repBlk` say; the dense window's contents are not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => codesBlk (iblk m c 0 t)
    | ⟨2, _⟩ => repBlk (iblk m c 0 t)
    | ⟨3, h⟩ => Dat.unnamed (cfg := cfg0) ⟨3, h⟩ t
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = codesBlk (iblk m c 0 t) := by dsimp only [dats]
theorem after0_2 (c : Dev nD) (t : Fin cfg0.N) : (dats m 0 c).after 2 t = repBlk (iblk m c 0 t) := by dsimp only [dats]

theorem before0_0 (c : Dev nD) (t : Fin cfg0.N) (d) : (dats m 0 c).before 0 t d = iblk m c 0 t :=
  before0_0_of m (dats m 0 c) (A_eq m c 0) (after0_0 m c) t d

/-- The point that writes row `y 0` of the dense array. -/
def pt (y : S12x128.Idx) : Fin cfg0.N := ⟨(y 0).val, lt_of_lt_of_eq (y 0).isLt N_0.symm⟩

/-- The dense array: row `u` is the scales of point `u`. -/
def dense (c : Dev nD) : Vec F S12x128 .f32 := fun y => rowVal (iblk m c 0 (pt y)) (ix2 0 (y 1))

/-- What holds of the dense window after point `t`: the rows up to `t` hold their scales. -/
def Rel (c : Dev nD) : (w : Fin cfg0.W) → (t : Fin cfg0.N) → ((cfg0.win w).block.Idx → Elt F (cfg0.win w).elt) → Prop
  | ⟨3, _⟩, t, X => ∀ y : S12x128.Idx, (y 0).val ≤ t.val → (X : Vec F S12x128 .f32) y = dense m c y
  | _, _, _ => True

/-- The dense window is the one that is held to `Rel`. -/
def fgt : Fin cfg0.W → Bool
  | ⟨3, _⟩ => true
  | _ => false

/-- The relational proof data. -/
abbrev rdat (c : Dev nD) : RDat τ (Elt F) Unit ℕ (UR sig nD τ) ℕ cfg0 c := (dats m 0 c).toRRel fgt (Rel m c)

/-- Before point `t > 0` the rows below `t` hold their scales. -/
theorem finds (c : Dev nD) (t : Fin cfg0.N) (Y) (h : (rdat m c).Finds 3 t Y) :
    ∀ y : S12x128.Idx, (y 0).val < t.val → (Y : Vec F S12x128 .f32) y = dense m c y := by
  intro y hy
  have hN : t.val < 12 := lt_of_lt_of_eq t.isLt N_0
  have ht : t.val ≠ 0 := by omega
  have h1 := ((rdat m c).finds_of_pos (w := 3) rfl ht Y).mp h
  rcases h1 with h1 | h1
  · exact absurd ((flush0_3 _).mp h1) (by show ¬ (t.val - 1) % 12 = 11; omega)
  · have h2 := (dats m 0 c).toRRel_leaves (fgt := fgt) (Rl := Rel m c) (w := 3) rfl h1
    exact h2 y (by show (y 0).val ≤ t.val - 1; omega)

theorem coord0 : ∀ t : Fin cfg0.N, (grid0.coords t 0).val = t.val :=
  (by decide +kernel : ∀ t : Fin grid0.N, (grid0.coords t 0).val = t.val)

/-- Replacing row `t` extends the relation from the rows below `t` to the rows up to `t`. -/
theorem rel_step (c : Dev nD) (t : Fin cfg0.N) (Y : Vec F S12x128 .f32)
    (h : ∀ y : S12x128.Idx, (y 0).val < t.val → Y y = dense m c y) :
    Rel m c 3 t (putRow (grid0.coords t 0).val (rowVal (iblk m c 0 t)) Y) := by
  intro y hy
  show putRow (grid0.coords t 0).val (rowVal (iblk m c 0 t)) Y y = dense m c y
  unfold putRow
  rw [coord0 t]
  by_cases he : (y 0).val = t.val
  · rw [if_pos he]
    have e : pt y = t := Fin.ext he
    unfold dense
    rw [e]
  · rw [if_neg he]
    exact h y (by omega)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ Y, ⌜(rdat m c).Finds 3 t Y⌝ ∗ owns (c : Thread nD τ) (st0_3 t) fullShare Y))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ X, ⌜Rel m c 3 t X⌝ ∗ owns (c : Thread nD τ) (st0_3 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩, ⟨%Y, %hY, HD⟩⟩
  iapply (sound_kernel c Set.univ (grid0.coords t) _ _ _ _ _ _ _ _ (iblk m c 0 t) Y _)
  isplitl [H0]; · iexact H0
  isplitl [H1]; · iexists _; iexact H1
  isplitl [H2]; · iexists _; iexact H2
  isplitl [HD]; · iexact HD
  iintro ⟨H0, H1, H2, HD⟩
  isplitl [HΦ]; · iexact HΦ
  isplitl [Ho]; · iexact Ho
  isplitl [H0]; · iexact H0
  isplitl [H1]; · iexact H1
  isplitl [H2]; · iexact H2
  iexists _; isplitr
  swap; · iexact HD
  ipureintro
  exact rel_step m c t Y (finds m c t Y hY)

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligationRel (dats (F := F) m 0 c) (defs₀ (F := F)) Variants.none () Set.univ fgt (Rel m c) := fun t => by
  rw [bigSep_W0, bigSep_W0, defs₀_row]
  exact triple_restated (sound_body m c t) rfl .rfl fun _ => .rfl

/-! ## The run -/

set_option backward.isDefEq.respectTransparency.types false in
set_option maxHeartbeats 800000 in
theorem run_main : θ_run defs (onTc (τ := τ) (main (F := F))) (s₀ m ρ)
    (fun r => RDat.FramePost (cfgs 0) (rdat m) (V m) r ∧ r.2.sem = fun _ => 0) :=
  RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- The arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c => (RDat.FramePost.arr_in h.1 c 0 rfl).trans (V_main_arg0 m c), h.2⟩) (run_main m ρ)

/-- After the run the codes' array and the repeated scales' are what the exact data name, and the dense array is `dense`. -/
theorem final_exact (c : Dev nD) {r : PUnit × MemSt nD τ sig (Elt F)} (h : RDat.FramePost (cfgs 0) (rdat m) (V m) r)
    (w : Fin cfg0.W) (hw : fgt w = false) :
    r.2.mem ((cfg0.spec w).arr.view.loc (c.tc : Thread nD τ)) = (dats m 0 c).arrAt w cfg0.N :=
  ((dats m 0 c).toR_arrAt_iff w _ _).mp (((dats m 0 c).toR.override_arrAt (by simp only [hw]) _ _).mp ((h c).1 w))

theorem whole_dense : ∃ t₀ : Fin cfg0.N, t₀.val = 11 ∧ (cfg0.win 3).WholeAt t₀ :=
  (by decide +kernel : ∃ t₀ : Fin grid0.N, t₀.val = 11 ∧ win0_3.WholeAt t₀)

theorem final_dense (c : Dev nD) {r : PUnit × MemSt nD τ sig (Elt F)} (h : RDat.FramePost (cfgs 0) (rdat m) (V m) r) :
    r.2.mem ((c : Thread nD τ).loc main_v0_2) = dense m c := by
  obtain ⟨t₀, h11, hW⟩ := whole_dense
  obtain ⟨X, hL, hX⟩ := RDat.ArrAt.emb_eq_of_wholeAt ((h c).1 3) hW
  have hR := (dats m 0 c).toRRel_leaves (fgt := fgt) (Rl := Rel m c) (w := 3) rfl hL
  funext y
  have hy : (y 0).val < 12 := (y 0).isLt
  refine (hX y).trans ?_
  exact hR y (by omega)

end Cert.ThQuantIdeal.Hand

end
-- ==== Proof.Quant.lean ====
/-
  Row quantisation over the extended reals: the scale of a row and the code of an entry, and the two facts that join a
  program multiplying by a reciprocal (of the scale, or of a root) with one that divides.
-/
module

public import Idealize.ShloMosaic.PureOps.Ideal
public import Idealize.ShloMosaic.Lib.IdealHost
public import Idealize.ShloMosaic.Lib.Pointwise

@[expose] public section

noncomputable section

namespace Cert.Quant

open Idealize.ShloMosaic

/-- The largest magnitude of a row. -/
@[irreducible] def rowMax {n : ℕ} (f : Fin n → EReal) : EReal :=
  Finset.fold max (Ideal.ofBits .f32 0xFF800000#32) (fun k => FloatOps.absf (F := Ideal) (φ := .f32) (f k)) Finset.univ

/-- The scale for a largest magnitude `a`: `a` over 448, or one when `a` is zero. -/
@[irreducible] def scaleOf (a : EReal) : EReal := if a = 0 then 1 else Ideal.div a (Ideal.ofBits .f32 0x43E00000#32)

/-- The scale of a row. -/
@[irreducible] def rowScale {n : ℕ} (f : Fin n → EReal) : EReal := scaleOf (rowMax f)

/-- The code of an entry `v` under the scale `s`: the quotient, clipped to ±448. -/
@[irreducible] def code (s v : EReal) : EReal :=
  min (Ideal.ofBits .f32 0x43E00000#32) (max (Ideal.ofBits .f32 0xC3E00000#32) (Ideal.div v s))

/-- The code as a product with the reciprocal of the scale. -/
@[irreducible] def codeMul (s v : EReal) : EReal :=
  min (Ideal.ofBits .f32 0x43E00000#32) (max (Ideal.ofBits .f32 0xC3E00000#32) (v * Ideal.div 1 s))

theorem ofBits_448 : Ideal.ofBits .f32 0x43E00000#32 = ((448 : ℝ) : EReal) := by
  simp [Ideal.ofBits, Ideal.ieee, -EReal.coe_mul]; norm_num

/-- A scale is never zero. -/
theorem rowScale_ne_zero {n : ℕ} (f : Fin n → EReal) : rowScale f ≠ 0 := by
  unfold rowScale scaleOf
  split
  · exact one_ne_zero
  · next h =>
    rw [ofBits_448]
    unfold Ideal.div
    rw [if_neg (by exact_mod_cast (by norm_num : (448 : ℝ) ≠ 0)), ← EReal.coe_inv]
    exact mul_ne_zero h (by exact_mod_cast (by norm_num : ((448 : ℝ)⁻¹) ≠ 0))

/-- So the product with the reciprocal of a scale is the quotient by it. -/
theorem codeMul_rowScale {n : ℕ} (f : Fin n → EReal) (v : EReal) : codeMul (rowScale f) v = code (rowScale f) v := by
  unfold codeMul code
  rw [Ideal.mul_one_div (rowScale_ne_zero f)]

/-- The mean square of a row of 5120 entries, plus the small constant. -/
@[irreducible] def meanSq {n : ℕ} (f : Fin n → EReal) : EReal :=
  Ideal.div (∑ k, f k * f k) (Ideal.ofBits .f32 0x45A00000#32) + Ideal.ofBits .f32 0x358637BD#32

/-- A row over the root of its mean square, times a row of weights: with the reciprocal root. -/
@[irreducible] def normRow {n : ℕ} (x w : Fin n → EReal) (k : Fin n) : EReal := x k * Ideal.rsqrt (meanSq x) * w k

/-- The same with a division by the root. -/
@[irreducible] def normRowDiv {n : ℕ} (x w : Fin n → EReal) (k : Fin n) : EReal := Ideal.div (x k) (Ideal.sqrt (meanSq x)) * w k

theorem ofBits_5120 : Ideal.ofBits .f32 0x45A00000#32 = ((5120 : ℝ) : EReal) := by
  simp [Ideal.ofBits, Ideal.ieee, -EReal.coe_mul]; norm_num

theorem eps_pos : 0 < Ideal.ofBits .f32 0x358637BD#32 := by
  simp [Ideal.ofBits, Ideal.ieee, -EReal.coe_mul]

theorem sq_nonneg (x : EReal) : 0 ≤ x * x := by
  induction x with
  | bot => simp
  | top => simp
  | coe r => exact_mod_cast mul_self_nonneg r

theorem meanSq_pos {n : ℕ} (f : Fin n → EReal) : 0 < meanSq f := by
  unfold meanSq
  rw [ofBits_5120]
  unfold Ideal.div
  rw [if_neg (by exact_mod_cast (by norm_num : (5120 : ℝ) ≠ 0)), ← EReal.coe_inv]
  refine lt_of_lt_of_le eps_pos (le_add_of_nonneg_left ?_)
  exact mul_nonneg (Finset.sum_nonneg fun k _ => sq_nonneg _) (by exact_mod_cast (by norm_num : (0 : ℝ) ≤ (5120 : ℝ)⁻¹))

/-- For a positive number, multiplying by its reciprocal root is dividing by its root. -/
theorem mul_rsqrt {y : EReal} (hy : 0 < y) (x : EReal) : x * Ideal.rsqrt y = Ideal.div x (Ideal.sqrt y) := by
  induction y with
  | bot => exact absurd hy (by simp)
  | top =>
    show x * 0 = Ideal.div x ⊤
    simp [Ideal.div]
  | coe r =>
    have hr : 0 < r := by exact_mod_cast hy
    have hs : Real.sqrt r ≠ 0 := (Real.sqrt_pos.mpr hr).ne'
    have e1 : Ideal.rsqrt ((r : ℝ) : EReal) = (((Real.sqrt r)⁻¹ : ℝ) : EReal) := by
      show (if r < 0 then ⊥ else if r = 0 then ⊤ else (((Real.sqrt r)⁻¹ : ℝ) : EReal)) = _
      rw [if_neg (not_lt.mpr hr.le), if_neg hr.ne']
    have e2 : Ideal.sqrt ((r : ℝ) : EReal) = ((Real.sqrt r : ℝ) : EReal) := by
      show (if r < 0 then ⊥ else ((Real.sqrt r : ℝ) : EReal)) = _
      rw [if_neg (not_lt.mpr hr.le)]
    rw [e1, e2]
    unfold Ideal.div
    rw [if_neg (by exact_mod_cast hs), EReal.coe_inv]

theorem normRow_eq {n : ℕ} (x w : Fin n → EReal) : normRow x w = normRowDiv x w := by
  funext k
  unfold normRow normRowDiv
  rw [mul_rsqrt (meanSq_pos x)]

/-- The diagonal entry of a square, as the sum over a column of what a comparison of the two counters selects. -/
theorem diag {v : Fin 128 → EReal} (l : Fin 128) :
    (∑ x : Fin 128, Scalar.select (IntOp.cmpi .eq (BitVec.ofNat 32 x.val) (BitVec.ofNat 32 l.val)) (v x) (0 : EReal)) = v l := by
  have h : ∀ x : Fin 128, IntOp.cmpi .eq (BitVec.ofNat 32 x.val) (BitVec.ofNat 32 l.val) = (if x = l then 1#1 else 0#1) := by
    revert l; decide +kernel
  simp only [h]
  rw [Finset.sum_eq_single l]
  · simp [Scalar.select]
  · intro x _ hx; simp [hx, Scalar.select]
  · intro hl; exact absurd (Finset.mem_univ l) hl

end Cert.Quant

end
-- ==== Proof.ThQuantIdealRun.lean ====
/-
  Quantising the target hidden states by rows, over the extended reals: the codes and scales the call leaves, entry by entry.

  A grid point's four strips agree with one formula each for its codes and its repeated scales; the diagonal of the
  block of repeated scales is the row of 128 scales that goes to the dense array.
-/
module

public import proofs.«01_k».proof.Proof.ThQuantIdealBody
public import proofs.«01_k».proof.Proof.Quant

@[expose] public section

set_option maxRecDepth 16384

noncomputable section

namespace Cert.ThQuantIdeal.Hand

open Cert.ThQuantIdeal Cert.ThQuantIdeal.Gen Idealize.ShloMosaic Idealize.ShloMosaic.TcCoe Idealize.SL.Sem
open Idealize.ShloMosaic.Pipeline (Dat RDat)

/-! ## One strip -/

/-- The column of scales for a column of largest magnitudes. -/
theorem scaleOf_col (A : FVec Ideal S32 .f32) :
    select (cmpf .oeq (shapeCast S32x1 A shapeCasts_S32_S32x1) (broadcast S32x1 (FloatOps.ofBits .f32 0x00000000#32)))
      (broadcast S32x1 (FloatOps.ofBits .f32 0x3F800000#32))
      (divf (shapeCast S32x1 A shapeCasts_S32_S32x1) (broadcast S32x1 (FloatOps.ofBits .f32 0x43E00000#32)))
      = (fun j => Quant.scaleOf (A (ix1 (j 0))) : FVec Ideal S32x1 .f32) := by
  funext j
  obtain ⟨r, l, rfl⟩ : ∃ (r : Fin 32) (l : Fin 1), ix2 r l = j := ⟨j 0, j 1, (eq_ix2 (n0 := 32) (n1 := 1) j).symm⟩
  obtain rfl : l = 0 := Subsingleton.elim _ _
  pointwise [Quant.scaleOf]

section Strips
variable (v : Vec Ideal S32x25600 .bf16)

theorem codes0 (r : Fin 32) (l : Fin 25600) : (k0_pay8 (F := Ideal) v : Vec Ideal S32x25600 .fp8e4m3) (ix2 r l) = Quant.codeMul (Quant.rowScale (fun k => v (ix2 r k))) ((fun k => v (ix2 r k)) l) := by
  unfold_payloads
  dsimp only
  simp only [scaleOf_col]
  pointwise [Quant.codeMul, Quant.rowScale, Quant.rowMax]

theorem rep0 (r : Fin 32) (l : Fin 128) : (k0_pay9 (F := Ideal) v : Vec Ideal S32x128 .f32) (ix2 r l) = Quant.rowScale (fun k => v (ix2 r k)) := by
  unfold_payloads
  dsimp only
  simp only [scaleOf_col]
  pointwise [Quant.rowScale, Quant.rowMax]

theorem codes1 (r : Fin 32) (l : Fin 25600) : (k0_pay13 (F := Ideal) (k0_pay10 (F := Ideal) v) (k0_pay12 (F := Ideal) v) : Vec Ideal S32x25600 .fp8e4m3) (ix2 r l) = Quant.codeMul (Quant.rowScale (fun k => v (ix2 r k))) ((fun k => v (ix2 r k)) l) := by
  unfold_payloads
  dsimp only
  simp only [scaleOf_col]
  pointwise [Quant.codeMul, Quant.rowScale, Quant.rowMax]

theorem rep1 (r : Fin 32) (l : Fin 128) : (k0_pay14 (F := Ideal) (k0_pay11 (F := Ideal) v) : Vec Ideal S32x128 .f32) (ix2 r l) = Quant.rowScale (fun k => v (ix2 r k)) := by
  unfold_payloads
  dsimp only
  simp only [scaleOf_col]
  pointwise [Quant.rowScale, Quant.rowMax]

theorem codes2 (r : Fin 32) (l : Fin 25600) : (k0_pay17 (F := Ideal) v : Vec Ideal S32x25600 .fp8e4m3) (ix2 r l) = Quant.codeMul (Quant.rowScale (fun k => v (ix2 r k))) ((fun k => v (ix2 r k)) l) := by
  unfold_payloads
  dsimp only
  simp only [scaleOf_col]
  pointwise [Quant.codeMul, Quant.rowScale, Quant.rowMax]

theorem rep2 (r : Fin 32) (l : Fin 128) : (k0_pay18 (F := Ideal) v : Vec Ideal S32x128 .f32) (ix2 r l) = Quant.rowScale (fun k => v (ix2 r k)) := by
  unfold_payloads
  dsimp only
  simp only [scaleOf_col]
  pointwise [Quant.rowScale, Quant.rowMax]

theorem codes3 (r : Fin 32) (l : Fin 25600) : (k0_pay3 (F := Ideal) v : Vec Ideal S32x25600 .fp8e4m3) (ix2 r l) = Quant.codeMul (Quant.rowScale (fun k => v (ix2 r k))) ((fun k => v (ix2 r k)) l) := by
  unfold_payloads
  dsimp only
  simp only [scaleOf_col]
  pointwise [Quant.codeMul, Quant.rowScale, Quant.rowMax]

theorem rep3 (r : Fin 32) (l : Fin 128) : (k0_pay4 (F := Ideal) v : Vec Ideal S32x128 .f32) (ix2 r l) = Quant.rowScale (fun k => v (ix2 r k)) := by
  unfold_payloads
  dsimp only
  simp only [scaleOf_col]
  pointwise [Quant.rowScale, Quant.rowMax]

end Strips

theorem pick (v : Vec Ideal S128x128 .f32) (l : Fin 128) : (k0_pay5 v : Vec Ideal S1x128 .f32) (ix2 0 l) = v (ix2 l l) := by
  unfold_payloads
  pointwise
  exact Quant.diag (v := fun x => v (ix2 x l)) l

/-! ## One grid point -/

/-- Row `r` of a block of 128 rows, as it is quantised. -/
def blkRow (x0 : Vec Ideal S128x25600 .bf16) (r : Fin 128) : Fin 25600 → EReal :=
  (fun k => x0 (ix2 r k))

/-- The code at row `r`, column `l` of the block. -/
def blkCode (x0 : Vec Ideal S128x25600 .bf16) (r : Fin 128) (l : Fin 25600) : EReal :=
  Quant.code (Quant.rowScale (blkRow x0 r)) (blkRow x0 r l)

/-- The scale of row `r` of the block. -/
def blkScale (x0 : Vec Ideal S128x25600 .bf16) (r : Fin 128) : EReal := Quant.rowScale (blkRow x0 r)

variable (x0 : Vec Ideal S128x25600 .bf16)

theorem zero2 : (![0, 0] : Fin 2 → Nat) = fun _ => 0 := funext fun a => by fin_cases a <;> rfl

theorem ld0 (r : Fin 32) (k : Fin 25600) : View.ld x0 cr0 (ix2 r k) = x0 (ix2 ⟨0 + r.val, by omega⟩ k) :=
  congrArg x0 (Shape.idx_ext₂ (by show 0 + 1 * r.val = 0 + r.val; omega) (by show 0 + 1 * k.val = k.val; omega))

theorem ld32 (r : Fin 32) (k : Fin 25600) : View.ld x0 cr32 (ix2 r k) = x0 (ix2 ⟨32 + r.val, by omega⟩ k) :=
  congrArg x0 (Shape.idx_ext₂ (by show 32 + 1 * r.val = 32 + r.val; omega) (by show 0 + 1 * k.val = k.val; omega))

theorem ld64 (r : Fin 32) (k : Fin 25600) : View.ld x0 cr64 (ix2 r k) = x0 (ix2 ⟨64 + r.val, by omega⟩ k) :=
  congrArg x0 (Shape.idx_ext₂ (by show 64 + 1 * r.val = 64 + r.val; omega) (by show 0 + 1 * k.val = k.val; omega))

theorem ld96 (r : Fin 32) (k : Fin 25600) : View.ld x0 cr96 (ix2 r k) = x0 (ix2 ⟨96 + r.val, by omega⟩ k) :=
  congrArg x0 (Shape.idx_ext₂ (by show 96 + 1 * r.val = 96 + r.val; omega) (by show 0 + 1 * k.val = k.val; omega))

theorem codesBlk_eq : codesBlk x0 = fun j => blkCode x0 (j 0) (j 1) := by
  funext y
  unfold codesBlk
  refine View.canon_apply_of_pieces (fun j => blkCode x0 (j 0) (j 1)) _ ?_ y (cover_codes (F := Ideal) _ _ _ _ y)
  intro p hp
  simp only [List.mem_cons, List.mem_nil_iff, or_false] at hp
  rcases hp with rfl | rfl | rfl | rfl
  · intro (x : S32x25600.Idx)
    obtain ⟨r, l, rfl⟩ : ∃ (r : Fin 32) (l : Fin 25600), ix2 r l = x := ⟨x 0, x 1, (eq_ix2 (n0 := 32) (n1 := 25600) x).symm⟩
    have e0 : ((cr96.emb (ix2 r l)) 0 : Fin 128) = (⟨96 + r.val, by omega⟩ : Fin 128) := Fin.ext (by show 96 + 1 * r.val = 96 + r.val; omega)
    have e1 : ((cr96.emb (ix2 r l)) 1 : Fin 25600) = l := Fin.ext (by show 0 + 1 * l.val = l.val; omega)
    show (k0_pay3 (F := Ideal) (View.ld x0 cr96) : Vec Ideal S32x25600 .fp8e4m3) (ix2 r l) = blkCode x0 ((cr96.emb (ix2 r l)) 0) ((cr96.emb (ix2 r l)) 1)
    rw [e0, e1, codes3, Quant.codeMul_rowScale]
    unfold blkCode blkRow
    exact congrArg (fun f : Fin 25600 → EReal => Quant.code (Quant.rowScale f) (f l)) (funext fun k => ld96 x0 r k)
  · intro (x : S32x25600.Idx)
    obtain ⟨r, l, rfl⟩ : ∃ (r : Fin 32) (l : Fin 25600), ix2 r l = x := ⟨x 0, x 1, (eq_ix2 (n0 := 32) (n1 := 25600) x).symm⟩
    have e0 : ((cr64.emb (ix2 r l)) 0 : Fin 128) = (⟨64 + r.val, by omega⟩ : Fin 128) := Fin.ext (by show 64 + 1 * r.val = 64 + r.val; omega)
    have e1 : ((cr64.emb (ix2 r l)) 1 : Fin 25600) = l := Fin.ext (by show 0 + 1 * l.val = l.val; omega)
    show (k0_pay17 (F := Ideal) (View.ld x0 cr64) : Vec Ideal S32x25600 .fp8e4m3) (ix2 r l) = blkCode x0 ((cr64.emb (ix2 r l)) 0) ((cr64.emb (ix2 r l)) 1)
    rw [e0, e1, codes2, Quant.codeMul_rowScale]
    unfold blkCode blkRow
    exact congrArg (fun f : Fin 25600 → EReal => Quant.code (Quant.rowScale f) (f l)) (funext fun k => ld64 x0 r k)
  · intro (x : S32x25600.Idx)
    obtain ⟨r, l, rfl⟩ : ∃ (r : Fin 32) (l : Fin 25600), ix2 r l = x := ⟨x 0, x 1, (eq_ix2 (n0 := 32) (n1 := 25600) x).symm⟩
    have e0 : ((cr32.emb (ix2 r l)) 0 : Fin 128) = (⟨32 + r.val, by omega⟩ : Fin 128) := Fin.ext (by show 32 + 1 * r.val = 32 + r.val; omega)
    have e1 : ((cr32.emb (ix2 r l)) 1 : Fin 25600) = l := Fin.ext (by show 0 + 1 * l.val = l.val; omega)
    show (k0_pay13 (F := Ideal) (k0_pay10 (F := Ideal) (View.ld x0 cr32)) (k0_pay12 (F := Ideal) (View.ld x0 cr32)) : Vec Ideal S32x25600 .fp8e4m3) (ix2 r l) = blkCode x0 ((cr32.emb (ix2 r l)) 0) ((cr32.emb (ix2 r l)) 1)
    rw [e0, e1, codes1, Quant.codeMul_rowScale]
    unfold blkCode blkRow
    exact congrArg (fun f : Fin 25600 → EReal => Quant.code (Quant.rowScale f) (f l)) (funext fun k => ld32 x0 r k)
  · intro (x : S32x25600.Idx)
    obtain ⟨r, l, rfl⟩ : ∃ (r : Fin 32) (l : Fin 25600), ix2 r l = x := ⟨x 0, x 1, (eq_ix2 (n0 := 32) (n1 := 25600) x).symm⟩
    have e0 : ((cr0.emb (ix2 r l)) 0 : Fin 128) = (⟨0 + r.val, by omega⟩ : Fin 128) := Fin.ext (by show 0 + 1 * r.val = 0 + r.val; omega)
    have e1 : ((cr0.emb (ix2 r l)) 1 : Fin 25600) = l := Fin.ext (by show 0 + 1 * l.val = l.val; omega)
    show (k0_pay8 (F := Ideal) (View.ld x0 cr0) : Vec Ideal S32x25600 .fp8e4m3) (ix2 r l) = blkCode x0 ((cr0.emb (ix2 r l)) 0) ((cr0.emb (ix2 r l)) 1)
    rw [e0, e1, codes0, Quant.codeMul_rowScale]
    unfold blkCode blkRow
    exact congrArg (fun f : Fin 25600 → EReal => Quant.code (Quant.rowScale f) (f l)) (funext fun k => ld0 x0 r k)

theorem repBlk_eq : repBlk x0 = fun j => blkScale x0 (j 0) := by
  funext y
  unfold repBlk
  refine View.canon_apply_of_pieces (fun j => blkScale x0 (j 0)) _ ?_ y (cover_rep (F := Ideal) _ _ _ _ y)
  intro p hp
  simp only [List.mem_cons, List.mem_nil_iff, or_false] at hp
  rcases hp with rfl | rfl | rfl | rfl
  · intro (x : S32x128.Idx)
    obtain ⟨r, l, rfl⟩ : ∃ (r : Fin 32) (l : Fin 128), ix2 r l = x := ⟨x 0, x 1, (eq_ix2 (n0 := 32) (n1 := 128) x).symm⟩
    have e0 : ((sr96.emb (ix2 r l)) 0 : Fin 128) = (⟨96 + r.val, by omega⟩ : Fin 128) := Fin.ext (by show 96 + 1 * r.val = 96 + r.val; omega)
    dsimp only
    refine (rep3 (View.ld x0 cr96) r l).trans (Eq.trans (b := blkScale x0 ⟨96 + r.val, by omega⟩) ?_ (congrArg (blkScale x0) e0.symm))
    unfold blkScale blkRow
    exact congrArg (fun f : Fin 25600 → EReal => Quant.rowScale f) (funext fun k => ld96 x0 r k)
  · intro (x : S32x128.Idx)
    obtain ⟨r, l, rfl⟩ : ∃ (r : Fin 32) (l : Fin 128), ix2 r l = x := ⟨x 0, x 1, (eq_ix2 (n0 := 32) (n1 := 128) x).symm⟩
    have e0 : ((sr64.emb (ix2 r l)) 0 : Fin 128) = (⟨64 + r.val, by omega⟩ : Fin 128) := Fin.ext (by show 64 + 1 * r.val = 64 + r.val; omega)
    dsimp only
    refine (rep2 (View.ld x0 cr64) r l).trans (Eq.trans (b := blkScale x0 ⟨64 + r.val, by omega⟩) ?_ (congrArg (blkScale x0) e0.symm))
    unfold blkScale blkRow
    exact congrArg (fun f : Fin 25600 → EReal => Quant.rowScale f) (funext fun k => ld64 x0 r k)
  · intro (x : S32x128.Idx)
    obtain ⟨r, l, rfl⟩ : ∃ (r : Fin 32) (l : Fin 128), ix2 r l = x := ⟨x 0, x 1, (eq_ix2 (n0 := 32) (n1 := 128) x).symm⟩
    have e0 : ((sr32.emb (ix2 r l)) 0 : Fin 128) = (⟨32 + r.val, by omega⟩ : Fin 128) := Fin.ext (by show 32 + 1 * r.val = 32 + r.val; omega)
    dsimp only
    refine (rep1 (View.ld x0 cr32) r l).trans (Eq.trans (b := blkScale x0 ⟨32 + r.val, by omega⟩) ?_ (congrArg (blkScale x0) e0.symm))
    unfold blkScale blkRow
    exact congrArg (fun f : Fin 25600 → EReal => Quant.rowScale f) (funext fun k => ld32 x0 r k)
  · intro (x : S32x128.Idx)
    obtain ⟨r, l, rfl⟩ : ∃ (r : Fin 32) (l : Fin 128), ix2 r l = x := ⟨x 0, x 1, (eq_ix2 (n0 := 32) (n1 := 128) x).symm⟩
    have e0 : ((sr0.emb (ix2 r l)) 0 : Fin 128) = (⟨0 + r.val, by omega⟩ : Fin 128) := Fin.ext (by show 0 + 1 * r.val = 0 + r.val; omega)
    dsimp only
    refine (rep0 (View.ld x0 cr0) r l).trans (Eq.trans (b := blkScale x0 ⟨0 + r.val, by omega⟩) ?_ (congrArg (blkScale x0) e0.symm))
    unfold blkScale blkRow
    exact congrArg (fun f : Fin 25600 → EReal => Quant.rowScale f) (funext fun k => ld0 x0 r k)

theorem rowVal_at (l : Fin 128) : rowVal x0 (ix2 0 l) = Quant.rowScale (blkRow x0 l) := by
  unfold rowVal
  rw [pick, View.ld_unit_zero (S := S128x128) zero2, repBlk_eq]
  rfl

/-! ## The whole arrays -/

variable (m : (ℓ : Loc nD τ sig) → Buf (Elt Ideal) ℓ) (ρ : Dev nD → PrngReg)

/-- The array to quantise. -/
abbrev input (c : Dev nD) : Vec Ideal S1536x25600 .bf16 := m (c.tc.loc main_arg0)

/-- Row `r` as it is quantised. -/
def row (c : Dev nD) (r : Fin 1536) : Fin 25600 → EReal := fun k => input m c (ix2 r k)

/-- The codes: entry `(r, l)` is entry `l` of row `r` over the row's scale, clipped. -/
def codes (c : Dev nD) (j : S1536x25600.Idx) : EReal := Quant.code (Quant.rowScale (row m c (j 0))) (row m c (j 0) (j 1))

/-- The scales, row `128 p + l` at `(p, l)`. -/
def scales (c : Dev nD) (y : S12x128.Idx) : EReal :=
  Quant.rowScale (row m c ⟨(y 0).val * 128 + (y 1).val, by have h0 : (y 0).val < 12 := (y 0).isLt; have h1 : (y 1).val < 128 := (y 1).isLt; omega⟩)

/-- A point's input block is its 128 rows. -/
theorem ind0 : ∀ t : Fin cfg0.N, win0_0.index t 0 = t.val ∧ win0_0.index t 1 = 0 :=
  (by decide +kernel : ∀ t : Fin grid0.N, win0_0.index t 0 = t.val ∧ win0_0.index t 1 = 0)

theorem indc : ∀ t : Fin cfg0.N, win0_1.index t 0 = t.val ∧ win0_1.index t 1 = 0 :=
  (by decide +kernel : ∀ t : Fin grid0.N, win0_1.index t 0 = t.val ∧ win0_1.index t 1 = 0)

theorem blk0 (c : Dev nD) (t : Fin cfg0.N) (r : Fin 128) (k : Fin 25600) (h : t.val * 128 + r.val < 1536) :
    (iblk m c 0 t : Vec Ideal S128x25600 .bf16) (ix2 r k) = input m c (ix2 ⟨t.val * 128 + r.val, h⟩ k) := by
  unfold iblk
  rw [View.read_apply]
  show (V m c main_arg0 : Vec Ideal S1536x25600 .bf16) _ = _
  rw [V_main_arg0]
  refine congrArg _ (Shape.idx_ext₂ ?_ ?_)
  · show win0_0.index t 0 * 128 + 1 * r.val = t.val * 128 + r.val; rw [(ind0 t).1]; omega
  · show win0_0.index t 1 * 25600 + 1 * k.val = k.val; rw [(ind0 t).2]; omega

theorem row_blk (c : Dev nD) (t : Fin cfg0.N) (r : Fin 128) (h : t.val * 128 + r.val < 1536) :
    blkRow (iblk m c 0 t) r = row m c ⟨t.val * 128 + r.val, h⟩ := by
  funext k
  exact blk0 m c t r k h

theorem dense_eq (c : Dev nD) : dense m c = scales m c := by
  funext y
  have h0 : (y 0).val < 12 := (y 0).isLt
  have h1 : (y 1).val < 128 := (y 1).isLt
  refine (rowVal_at (iblk m c 0 (pt y)) (y 1)).trans ?_
  exact congrArg Quant.rowScale (row_blk m c (pt y) (y 1) (by show (y 0).val * 128 + (y 1).val < 1536; omega))

theorem memc (t : Fin cfg0.N) (i : S1536x25600.Idx) (h : t.val = (i 0).val / 128) : i ∈ ((cfg0.win 1).blk t).view.set := by
  show i ∈ ((View.whole main_v0_0).slice (win0_1.rect t)).set
  rw [View.set_slice_whole, Rect.mem_set_unit]
  have h0 : (i 1).val < 25600 := (i 1).isLt
  intro a
  match a with
  | ⟨0, _⟩ => show win0_1.index t 0 * 128 ≤ (i 0).val ∧ (i 0).val < win0_1.index t 0 * 128 + 128; rw [(indc t).1]; omega
  | ⟨1, _⟩ => show win0_1.index t 1 * 25600 ≤ (i 1).val ∧ (i 1).val < win0_1.index t 1 * 25600 + 25600; rw [(indc t).2]; omega

theorem flushed_c (c : Dev nD) (t : Fin cfg0.N) :
    (dats m 0 c).flushed 1 t = (cfg0.win 1).cut (grid0.coords t) (codesBlk (iblk m c 0 t)) := by
  show (cfg0.win 1).cut (grid0.coords t) ((dats m 0 c).after 1 t) = _
  rw [after0_1]

theorem final_codes (c : Dev nD) : (dats m 0 c).arrAt 1 cfg0.N = codes m c := by
  refine (dats m 0 c).arrAt_eq_of_cover 1 (codes m c) (fun t _ => ?_) fun i => ?_
  · rw [flushed_c, codesBlk_eq]
    funext j
    have ht : t.val < 12 := lt_of_lt_of_eq t.isLt N_0
    have hj : (j 0).val < 128 := (j 0).isLt
    rw [View.read_apply]
    have hr := row_blk m c t (j 0) (by omega)
    refine (congrArg (fun f : Fin 25600 → EReal => Quant.code (Quant.rowScale f) (f (j 1))) hr).trans ?_
    refine congrArg (codes m c) (a₁ := ix2 ⟨t.val * 128 + (j 0).val, by omega⟩ (j 1)) (Shape.idx_ext₂ ?_ ?_)
    · show t.val * 128 + (j 0).val = win0_1.index t 0 * 128 + 1 * (j 0).val; rw [(indc t).1]; omega
    · show (j 1).val = win0_1.index t 1 * 25600 + 1 * (j 1).val; rw [(indc t).2]; omega
  · have hi : (i 0).val < 1536 := (i 0).isLt
    exact ⟨⟨(i 0).val / 128, by rw [show cfg0.N = 12 from N_0]; omega⟩, flush0_1 _, memc _ i rfl⟩

end Cert.ThQuantIdeal.Hand

end
-- ==== Proof.ThQuantRef.lean ====
/-
  Quantising the target hidden states by rows: what the reference leaves in its two results, over the extended reals.
-/
module

public import proofs.«01_k».proof.Proof.Gen.ThQuantRefIdeal.Value
public import proofs.«01_k».proof.Proof.Quant
public import Idealize.ShloMosaic.Lib.Pipeline.Value
public import Idealize.ShloMosaic.Lib.Pointwise

@[expose] public section

set_option maxRecDepth 16384

noncomputable section

namespace Cert.ThQuantRefIdeal.Hand

open Cert.ThQuantRefIdeal Cert.ThQuantRefIdeal.Gen Idealize.ShloMosaic Idealize.ShloMosaic.TcCoe Idealize.SL.Sem
open Idealize.ShloMosaic.Pipeline (Dat RDat)

variable (m : (ℓ : Loc nD τ sig) → Buf (Elt Ideal) ℓ) (ρ : Dev nD → PrngReg)

/-- The array to quantise. -/
abbrev input (c : Dev nD) : Vec Ideal S1536x25600 .bf16 := m (c.tc.loc main_arg0)

/-- The array that is quantised, as the host computes it. -/
def value (c : Dev nD) : FVec Ideal S1536x25600 .f32 :=
  extf .f32 (input m c) bitsLt_bf16_f32

/-- Row `r` as it is quantised. -/
def row (c : Dev nD) (r : Fin 1536) : Fin 25600 → EReal := fun k => input m c (ix2 r k)

theorem value_row (c : Dev nD) (r : Fin 1536) : (fun k => value m c (ix2 r k)) = row m c r := by
  funext k
  unfold value row
  pointwise

/-- The codes: entry `(r, l)` is entry `l` of row `r` over the row's scale, clipped. -/
def codes (c : Dev nD) (j : S1536x25600.Idx) : EReal := Quant.code (Quant.rowScale (row m c (j 0))) (row m c (j 0) (j 1))

/-- The scales, row `128 p + l` at `(p, l)`. -/
def scales (c : Dev nD) (y : S12x128.Idx) : EReal :=
  Quant.rowScale (row m c ⟨(y 0).val * 128 + (y 1).val, by have h0 : (y 0).val < 12 := (y 0).isLt; have h1 : (y 1).val < 128 := (y 1).isLt; omega⟩)

/-! ## The scales the host computes -/

/-- The scales for largest magnitudes `A`. -/
theorem host_scale (A : FVec Ideal S1536 .f32) :
    select (cmpf .oeq A (broadcastInDim S1536 ![] bcast_S_S1536 (constant S_ .f32 0x00000000#32)))
      (broadcastInDim S1536 ![] bcast_S_S1536 (constant S_ .f32 0x3F800000#32))
      (Host.divf A (broadcastInDim S1536 ![] bcast_S_S1536 (constant S_ .f32 0x43E00000#32)))
      = (fun j => Quant.scaleOf (A j) : FVec Ideal S1536 .f32) := by
  funext j
  pointwise [Quant.scaleOf]

/-- The largest magnitudes of the rows of an array. -/
def maxes (x : FVec Ideal S1536x25600 .f32) : FVec Ideal S1536 .f32 :=
  Host.reduce FloatOps.maximumf (Host.absf x) (constant S_ .f32 0xFF800000#32) reducesTo_S1536x25600_S1536_d1 h_S_

theorem maxes_at (x : FVec Ideal S1536x25600 .f32) (r : Fin 1536) : maxes x (ix1 r) = Quant.rowMax (fun k => x (ix2 r k)) := by
  unfold maxes
  pointwise [Quant.rowMax]

theorem V_value (c : Dev nD) : (V m c main_v0 : FVec Ideal S1536x25600 .f32) = value m c := by
  show StableHlo.after (List.flatten [hostOps0, hostOps0_1, hostOps0_2]) (fun b => m (c, b)) (Proc.devRef .tc main_v0) = _
  simp only [List.flatten_cons, List.flatten_nil, List.append_nil, List.cons_append, List.nil_append]
  after_results
  rfl

/-- One scale a row. -/
def scaleVec (c : Dev nD) : FVec Ideal S1536 .f32 := fun j => Quant.scaleOf (maxes (value m c) j)

theorem V_col (c : Dev nD) : (V m c main_v9 : FVec Ideal S1536x1 .f32) = shapeCast S1536x1 (scaleVec m c) shapeCasts_S1536_S1536x1 := by
  refine Eq.trans ?_ (congrArg (fun v => shapeCast S1536x1 v shapeCasts_S1536_S1536x1) (host_scale (maxes (value m c))))
  show StableHlo.after (List.flatten [hostOps0, hostOps0_1, hostOps0_2]) (fun b => m (c, b)) (Proc.devRef .tc main_v9) = _
  simp only [List.flatten_cons, List.flatten_nil, List.append_nil, List.cons_append, List.nil_append]
  after_results
  unfold maxes value
  generalize Host.reduce (FloatOps.maximumf (F := Ideal) (φ := .f32)) _ _ reducesTo_S1536x25600_S1536_d1 h_S_ = A
  refine congrArg (fun v => shapeCast S1536x1 v shapeCasts_S1536_S1536x1) (a₁ := _) ?_
  refine congrArg₂ (select _) ?_ ?_
  · rfl
  · rfl

theorem V_dense (c : Dev nD) : (V m c main_v8 : FVec Ideal S12x128 .f32) = shapeCast S12x128 (scaleVec m c) shapeCasts_S1536_S12x128 := by
  refine Eq.trans ?_ (congrArg (fun v => shapeCast S12x128 v shapeCasts_S1536_S12x128) (host_scale (maxes (value m c))))
  show StableHlo.after (List.flatten [hostOps0, hostOps0_1, hostOps0_2]) (fun b => m (c, b)) (Proc.devRef .tc main_v8) = _
  simp only [List.flatten_cons, List.flatten_nil, List.append_nil, List.cons_append, List.nil_append]
  after_results
  unfold maxes value
  generalize Host.reduce (FloatOps.maximumf (F := Ideal) (φ := .f32)) _ _ reducesTo_S1536x25600_S1536_d1 h_S_ = A
  refine congrArg (fun v => shapeCast S12x128 v shapeCasts_S1536_S12x128) (a₁ := _) ?_
  refine congrArg₂ (select _) ?_ ?_
  · rfl
  · rfl

theorem scaleVec_at (c : Dev nD) (r : Fin 1536) : scaleVec m c (ix1 r) = Quant.rowScale (row m c r) := by
  unfold scaleVec
  rw [maxes_at, value_row]
  unfold Quant.rowScale
  rfl

theorem col_at (c : Dev nD) (r : Fin 1536) :
    (shapeCast S1536x1 (scaleVec m c) shapeCasts_S1536_S1536x1 : FVec Ideal S1536x1 .f32) (ix2 r 0) = Quant.rowScale (row m c r) := by
  rw [← scaleVec_at]
  pointwise

theorem dense_eq (c : Dev nD) : (V m c main_v8 : FVec Ideal S12x128 .f32) = scales m c := by
  rw [V_dense]
  funext y
  unfold scales
  rw [← scaleVec_at]
  obtain ⟨p, l, rfl⟩ : ∃ (p : Fin 12) (l : Fin 128), ix2 p l = y := ⟨y 0, y 1, (eq_ix2 (n0 := 12) (n1 := 128) y).symm⟩
  pointwise

/-! ## The windows: each is its whole array -/

theorem zero2 : (![0, 0] : Fin 2 → Nat) = fun _ => 0 := funext fun a => by fin_cases a <;> rfl
theorem ind0 : ∀ t : Fin cfg0.N, win0_0.index t 0 = 0 ∧ win0_0.index t 1 = 0 :=
  (by decide +kernel : ∀ t : Fin grid0.N, win0_0.index t 0 = 0 ∧ win0_0.index t 1 = 0)
theorem ind1 : ∀ t : Fin cfg0.N, win0_1.index t 0 = 0 ∧ win0_1.index t 1 = 0 :=
  (by decide +kernel : ∀ t : Fin grid0.N, win0_1.index t 0 = 0 ∧ win0_1.index t 1 = 0)
theorem ind2 : ∀ t : Fin cfg0.N, win0_2.index t 0 = 0 ∧ win0_2.index t 1 = 0 :=
  (by decide +kernel : ∀ t : Fin grid0.N, win0_2.index t 0 = 0 ∧ win0_2.index t 1 = 0)

theorem read0 (f : Vec Ideal S1536x25600 .f32) (t : Fin cfg0.N) : (((cfg0.win 0).blk t).view.read (Elt Ideal) f : Vec Ideal S1536x25600 .f32) = f := by
  funext j
  rw [View.read_apply]
  show f _ = f j
  refine congrArg f (Shape.idx_ext₂ ?_ ?_)
  · show win0_0.index t 0 * 1536 + 1 * (j 0).val = (j 0).val; rw [(ind0 t).1]; omega
  · show win0_0.index t 1 * 25600 + 1 * (j 1).val = (j 1).val; rw [(ind0 t).2]; omega

theorem read1 (f : Vec Ideal S1536x1 .f32) (t : Fin cfg0.N) : (((cfg0.win 1).blk t).view.read (Elt Ideal) f : Vec Ideal S1536x1 .f32) = f := by
  funext j
  rw [View.read_apply]
  show f _ = f j
  refine congrArg f (Shape.idx_ext₂ ?_ ?_)
  · show win0_1.index t 0 * 1536 + 1 * (j 0).val = (j 0).val; rw [(ind1 t).1]; omega
  · show win0_1.index t 1 * 1 + 1 * (j 1).val = (j 1).val; rw [(ind1 t).2]; omega

theorem blk0 (c : Dev nD) (t : Fin cfg0.N) : (iblk m c 0 t : Vec Ideal S1536x25600 .f32) = value m c :=
  (read0 (V m c main_v0) t).trans (V_value m c)

theorem blk1 (c : Dev nD) (t : Fin cfg0.N) :
    (iblk m c 1 t : Vec Ideal S1536x1 .f32) = shapeCast S1536x1 (scaleVec m c) shapeCasts_S1536_S1536x1 :=
  (read1 (V m c main_v9) t).trans (V_col m c)

/-- What the body stores, at an index. -/
theorem out_y (x0 : Vec Ideal S1536x25600 .f32) (x1 : Vec Ideal S1536x1 .f32) (j : S1536x25600.Idx) :
    out0_2 x0 x1 j = Quant.code (x1 (ix2 (j 0) 0)) (x0 j) := by
  unfold out0_2
  rw [View.canon_unit_zero (S := S1536x25600) zero2, View.ld_unit_zero (S := S1536x25600) zero2,
    View.ld_unit_zero (S := S1536x1) zero2]
  unfold_payloads
  pointwise [Quant.code]

theorem stored2 (c : Dev nD) (t : Fin cfg0.N) (r : Fin 1536) (l : Fin 25600) :
    out0_2 (iblk m c 0 t) (iblk m c 1 t) (ix2 r l) = codes m c (ix2 r l) := by
  rw [blk0, blk1, out_y]
  refine congrArg₂ Quant.code (col_at m c r) ?_
  exact congrFun (value_row m c r) l

/-! ## The result array -/

theorem mem2 (t : Fin cfg0.N) (i : S1536x25600.Idx) : i ∈ ((View.whole main_v10).slice (win0_2.rect t)).set := by
  rw [View.set_slice_whole, Rect.mem_set_unit]
  have h0 : (i 0).val < 1536 := (i 0).isLt
  have h1 : (i 1).val < 25600 := (i 1).isLt
  intro a
  match a with
  | ⟨0, _⟩ => show win0_2.index t 0 * 1536 ≤ (i 0).val ∧ (i 0).val < win0_2.index t 0 * 1536 + 1536; rw [(ind2 t).1]; omega
  | ⟨1, _⟩ => show win0_2.index t 1 * 25600 ≤ (i 1).val ∧ (i 1).val < win0_2.index t 1 * 25600 + 25600; rw [(ind2 t).2]; omega

theorem final2 (c : Dev nD) : (dats m 0 c).arrAt 2 cfg0.N = codes m c := by
  refine (dats m 0 c).arrAt_eq_of_cover 2 (codes m c) (fun t _ => ?_) fun i => ?_
  · rw [Value.flushed2]
    funext j
    rw [View.read_apply]
    refine (congrArg (out0_2 (iblk m c 0 t) (iblk m c 1 t)) (eq_ix2 (n0 := 1536) (n1 := 25600) j)).trans ((stored2 m c t (j 0) (j 1)).trans (congrArg (codes m c) (Shape.idx_ext₂ ?_ ?_)))
    · show (j 0).val = win0_2.index t 0 * 1536 + 1 * (j 0).val; rw [(ind2 t).1]; omega
    · show (j 1).val = win0_2.index t 1 * 25600 + 1 * (j 1).val; rw [(ind2 t).2]; omega
  · exact ⟨⟨0, by rw [show cfg0.N = 1 from N_0]; omega⟩, flush0_2 _, mem2 _ i⟩

end Cert.ThQuantRefIdeal.Hand

end
-- ==== Proof.ThQuantAlg.lean ====
/-
  The target hidden states by rows: the quantising kernel and its reference end with equal codes and equal scales.
-/
module

public import proofs.«01_k».proof.Defs
public import proofs.«01_k».proof.Proof.ThQuantIdealRun
public import proofs.«01_k».proof.Proof.ThQuantRef

@[expose] public section

noncomputable section

namespace Cert.Proof

open Idealize.ShloMosaic Idealize.SL.Sem

/-- The rows agree once the arguments do. -/
theorem row_ThQuant (m : (ℓ : Loc Cert.ThQuantIdeal.nD Cert.ThQuantIdeal.τ Cert.ThQuantIdeal.sig) → Buf (Elt Ideal) ℓ)
    (m' : (ℓ : Loc Cert.ThQuantRefIdeal.nD Cert.ThQuantRefIdeal.τ Cert.ThQuantRefIdeal.sig) → Buf (Elt Ideal) ℓ) (c : Dev Cert.ThQuantIdeal.nD)
    (h : m' ((c.tc : Thread Cert.ThQuantRefIdeal.nD Cert.ThQuantRefIdeal.τ).loc Cert.ThQuantRefIdeal.main_arg0) = m ((c.tc : Thread Cert.ThQuantIdeal.nD Cert.ThQuantIdeal.τ).loc Cert.ThQuantIdeal.main_arg0)) (q : Fin 1536) :
    Cert.ThQuantRefIdeal.Hand.row m' c q = Cert.ThQuantIdeal.Hand.row m c q := by
  funext k
  unfold Cert.ThQuantRefIdeal.Hand.row Cert.ThQuantIdeal.Hand.row Cert.ThQuantRefIdeal.Hand.input Cert.ThQuantIdeal.Hand.input
  rw [h]

theorem codes_ThQuant (m : (ℓ : Loc Cert.ThQuantIdeal.nD Cert.ThQuantIdeal.τ Cert.ThQuantIdeal.sig) → Buf (Elt Ideal) ℓ)
    (m' : (ℓ : Loc Cert.ThQuantRefIdeal.nD Cert.ThQuantRefIdeal.τ Cert.ThQuantRefIdeal.sig) → Buf (Elt Ideal) ℓ) (c : Dev Cert.ThQuantIdeal.nD)
    (h : m' ((c.tc : Thread Cert.ThQuantRefIdeal.nD Cert.ThQuantRefIdeal.τ).loc Cert.ThQuantRefIdeal.main_arg0) = m ((c.tc : Thread Cert.ThQuantIdeal.nD Cert.ThQuantIdeal.τ).loc Cert.ThQuantIdeal.main_arg0)) :
    Cert.ThQuantRefIdeal.Hand.codes m' c = Cert.ThQuantIdeal.Hand.codes m c := by
  funext j
  unfold Cert.ThQuantRefIdeal.Hand.codes Cert.ThQuantIdeal.Hand.codes
  exact congrArg₂ Quant.code (congrArg Quant.rowScale (row_ThQuant m m' c h (j 0))) (congrFun (row_ThQuant m m' c h (j 0)) (j 1))

theorem scales_ThQuant (m : (ℓ : Loc Cert.ThQuantIdeal.nD Cert.ThQuantIdeal.τ Cert.ThQuantIdeal.sig) → Buf (Elt Ideal) ℓ)
    (m' : (ℓ : Loc Cert.ThQuantRefIdeal.nD Cert.ThQuantRefIdeal.τ Cert.ThQuantRefIdeal.sig) → Buf (Elt Ideal) ℓ) (c : Dev Cert.ThQuantIdeal.nD)
    (h : m' ((c.tc : Thread Cert.ThQuantRefIdeal.nD Cert.ThQuantRefIdeal.τ).loc Cert.ThQuantRefIdeal.main_arg0) = m ((c.tc : Thread Cert.ThQuantIdeal.nD Cert.ThQuantIdeal.τ).loc Cert.ThQuantIdeal.main_arg0)) :
    Cert.ThQuantRefIdeal.Hand.scales m' c = Cert.ThQuantIdeal.Hand.scales m c := by
  funext y
  unfold Cert.ThQuantRefIdeal.Hand.scales Cert.ThQuantIdeal.Hand.scales
  rw [row_ThQuant m m' c h]

theorem algebraic_ThQuant : algebraic_ThQuantIdeal_ThQuantRefIdeal (hThQuantIdeal := Cert.ThQuantIdeal.Gen.facts) (hThQuantRefIdeal := Cert.ThQuantRefIdeal.Gen.facts) := by
  intro m g m' g' _ hag
  refine ⟨fun c => Cert.ThQuantIdeal.Hand.codes m c, fun c => Cert.ThQuantIdeal.Hand.scales m c, ?_, ?_⟩
  · refine (θ_run _ _ _).mono (fun r h c => ⟨?_, ?_, ?_⟩) (Cert.ThQuantIdeal.Hand.run_main (F := Ideal) m g)
    · exact (Cert.ThQuantIdeal.Hand.final_exact m c h.1 1 rfl).trans (Cert.ThQuantIdeal.Hand.final_codes m c)
    · exact (Cert.ThQuantIdeal.Hand.final_dense m c h.1).trans (Cert.ThQuantIdeal.Hand.dense_eq m c)
    · exact (Pipeline.RDat.FramePost.arr_in h.1 c 0 rfl).trans (Cert.ThQuantIdeal.Gen.V_main_arg0 m c)
  · refine (θ_run _ _ _).mono (fun r h c => ⟨?_, ?_, ?_⟩) (Cert.ThQuantRefIdeal.Gen.run_main (F := Ideal) m' g')
    · exact (Cert.ThQuantRefIdeal.Value.post2 m' r h c).trans ((Cert.ThQuantRefIdeal.Hand.final2 m' c).trans (codes_ThQuant m m' c (hag c)))
    · exact ((h c).2 Cert.ThQuantRefIdeal.main_v8 (Pipeline.mem_restRefs_of Cert.ThQuantRefIdeal.main_v8 (by decide) (by decide))).trans
        ((Cert.ThQuantRefIdeal.Hand.dense_eq m' c).trans (scales_ThQuant m m' c (hag c)))
    · exact Cert.ThQuantRefIdeal.Value.kept_main_arg0 m' r h c

end Cert.Proof

end
-- ==== Proof.ActQuantIdealBody.lean ====
/-
  Quantising the gated activations by rows: the call terminates and its arguments end unchanged, and what it leaves in its buffers.

  A grid point quantises 128 rows, in four strips of 32. It stores their codes, their scales each repeated over 128
  lanes (`rep`), and, read back off the diagonal of that block, the 128 scales as one row of the dense 12 by 128
  array, at the row numbered by the point. The dense array stays in its staging buffer over the whole grid and is
  written back once, after the last point. So what a point leaves there depends on what it found; of it the proof
  says only that rows 0, …, t hold their scales after point t (`Rel`), which at the last point is the whole array.
-/
module

public import proofs.«01_k».proof.Proof.Gen.ActQuantIdeal.Frame
public import proofs.«01_k».proof.Proof.Gen.ActQuantIdeal.Skeleton
public import Idealize.ShloMosaic.Lib.Pipeline.DatRel
public import Idealize.ShloMosaic.Lib.Pipeline.ArrRel
public import Idealize.ShloMosaic.Lib.Pipeline.Value
public import Idealize.ShloMosaic.Lib.Pointwise
public import Idealize.ShloMosaic.Lib.WritesUnit
public import Idealize.ShloMosaic.Lib.Tactic

@[expose] public section

set_option maxRecDepth 16384

noncomputable section

namespace Cert.ActQuantIdeal.Hand

open Cert.ActQuantIdeal Cert.ActQuantIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in the output blocks -/

abbrev cr0 : Rect S128x17408 := Rect.unit (s := S128x17408) ![0, 0] S32x17408.size inb_S128x17408_S32x17408_0_0
abbrev cr32 : Rect S128x17408 := Rect.unit (s := S128x17408) ![32, 0] S32x17408.size inb_S128x17408_S32x17408_32_0
abbrev cr64 : Rect S128x17408 := Rect.unit (s := S128x17408) ![64, 0] S32x17408.size inb_S128x17408_S32x17408_64_0
abbrev cr96 : Rect S128x17408 := Rect.unit (s := S128x17408) ![96, 0] S32x17408.size inb_S128x17408_S32x17408_96_0
abbrev sr0 : Rect S128x128 := Rect.unit (s := S128x128) ![0, 0] S32x128.size inb_S128x128_S32x128_0_0
abbrev sr32 : Rect S128x128 := Rect.unit (s := S128x128) ![32, 0] S32x128.size inb_S128x128_S32x128_32_0
abbrev sr64 : Rect S128x128 := Rect.unit (s := S128x128) ![64, 0] S32x128.size inb_S128x128_S32x128_64_0
abbrev sr96 : Rect S128x128 := Rect.unit (s := S128x128) ![96, 0] S32x128.size inb_S128x128_S32x128_96_0
abbrev srAll : Rect S128x128 := Rect.unit (s := S128x128) ![0, 0] S128x128.size inb_S128x128_S128x128_0_0

/-- The block of codes. -/
def codesBlk (x0 : Vec F S128x17408 .f32) : Vec F S128x17408 .fp8e4m3 :=
  View.canon [⟨cr96, k0_pay2 (View.ld x0 cr96) (k0_pay15 (View.ld x0 cr96))⟩,
    ⟨cr64, k0_pay13 (View.ld x0 cr64)⟩,
    ⟨cr32, k0_pay10 (k0_pay9 (View.ld x0 cr32))⟩,
    ⟨cr0, k0_pay6 (View.ld x0 cr0)⟩]

/-- The block of scales, each repeated over 128 lanes. -/
def repBlk (x0 : Vec F S128x17408 .f32) : Vec F S128x128 .f32 :=
  View.canon [⟨sr96, k0_pay3 (k0_pay15 (View.ld x0 cr96))⟩,
    ⟨sr64, k0_pay14 (View.ld x0 cr64)⟩,
    ⟨sr32, k0_pay11 (k0_pay8 (View.ld x0 cr32))⟩,
    ⟨sr0, k0_pay7 (View.ld x0 cr0)⟩]

theorem cover_codes (p0 p1 p2 p3 : Vec F S32x17408 .fp8e4m3) (y : S128x17408.Idx) :
    ∃ pc ∈ ([⟨cr96, p0⟩, ⟨cr64, p1⟩, ⟨cr32, p2⟩, ⟨cr0, p3⟩] : List (View.Piece (Elt F) S128x17408 .fp8e4m3)), y ∈ pc.1.set :=
  View.cover_of_tiled [⟨cr96, p0⟩, ⟨cr64, p1⟩, ⟨cr32, p2⟩, ⟨cr0, p3⟩] S32x17408.size (by rfl) y

theorem cover_rep (p0 p1 p2 p3 : Vec F S32x128 .f32) (y : S128x128.Idx) :
    ∃ pc ∈ ([⟨sr96, p0⟩, ⟨sr64, p1⟩, ⟨sr32, p2⟩, ⟨sr0, p3⟩] : List (View.Piece (Elt F) S128x128 .f32)), y ∈ pc.1.set :=
  View.cover_of_tiled [⟨sr96, p0⟩, ⟨sr64, p1⟩, ⟨sr32, p2⟩, ⟨sr0, p3⟩] S32x128.size (by rfl) y

/-- The 128 scales as one row: the diagonal of the block of repeated scales. -/
def rowVal (x0 : Vec F S128x17408 .f32) : Vec F S1x128 .f32 := k0_pay4 (View.ld (repBlk x0) srAll)

/-- `Y` with its row `n` replaced by `v`. -/
def putRow (n : ℕ) (v : Vec F S1x128 .f32) (Y : Vec F S12x128 .f32) : Vec F S12x128 .f32 := fun y =>
  if (y 0).val = n then v (ix2 0 (y 1)) else Y y

/-! ## The body -/

set_option maxHeartbeats 1000000 in
/-- The body, for any continuation: the inputs are as they were, the codes and the repeated scales are stored whole,
    and in the dense array the row of the point is replaced. -/
theorem sound_kernel (c : Dev nD) (E : Set ℕ) (i : grid0.Coords) (arg1 : Memref sig .tc .vmem S128x17408 .f32) (harg1 : arg1.IsWhole) (arg2 : Memref sig .tc .vmem S128x17408 .fp8e4m3) (harg2 : arg2.IsWhole) (arg3 : Memref sig .tc .vmem S128x128 .f32) (harg3 : arg3.IsWhole) (arg4 : Memref sig .tc .vmem S12x128 .f32) (harg4 : arg4.IsWhole)
    (x0 : Vec F S128x17408 .f32) (Y : Vec F S12x128 .f32) (K : PUnit → sProp 𝕄) :
    iprop(owns (c : Thread nD τ) arg1 fullShare x0 ∗ (∃ d, owns (c : Thread nD τ) arg2 fullShare d) ∗ (∃ d, owns (c : Thread nD τ) arg3 fullShare d) ∗ owns (c : Thread nD τ) arg4 fullShare Y
        ∗ (iprop(owns (c : Thread nD τ) arg1 fullShare x0 ∗ owns (c : Thread nD τ) arg2 fullShare (codesBlk x0) ∗ owns (c : Thread nD τ) arg3 fullShare (repBlk x0) ∗ owns (c : Thread nD τ) arg4 fullShare (putRow (i 0).val (rowVal x0) Y)) -∗ K ⟨⟩))
      ⊢ wp frame (wpE (defs₀ (F := F)) Variants.none c none) E (cc0_act_quant i arg1 harg1 arg2 harg2 arg3 harg3 arg4 harg4) K := by
  simp only [cc0_act_quant_eq_skeleton]; unfold cc0_act_quant_skel
  simp only [k0_part1_eq_skeleton, k0_part2_eq_skeleton]
  unfold owns
  iintro ⟨⟨%f0, %hf0, H0⟩, ⟨%dc, %fc, -, HC⟩, ⟨%dr, %fr, -, HR⟩, ⟨%fd, %hfd, HD⟩, Hk⟩
  subst hf0 hfd
  sl_exec
  sl_step
  iapply Hk
  isplitl [H0]
  · iexists f0; isplitr; · ipureintro; rfl
    iexact H0
  isplitl [HC]
  · iexists _; isplitr
    swap; · iexact HC
    ipureintro
    refine (View.read_writes_eq_canon _ _ _ (cover_codes _ _ _ _)).trans ?_
    rfl
  isplitl [HR]
  · iexists _; isplitr
    swap; · iexact HR
    ipureintro
    refine (View.read_writes_eq_canon _ _ _ (cover_rep _ _ _ _)).trans ?_
    rfl
  iexists _; isplitr
  swap; · iexact HD
  ipureintro
  funext y
  unfold putRow
  by_cases hy : (y 0).val = (i 0).val
  · rw [if_pos hy]
    refine (View.read_writes_cons_rows_of_mem (d := S12x128.size) _ _ (off := k0_off1 i) (size := S1x128.size) (k0_off1_inb i) _ _ y (ix2 0 (y 1)) (k0_off1_eq i) (hy.trans (Nat.add_zero _).symm) rfl).trans ?_
    unfold rowVal
    refine congrFun (congrArg k0_pay4 ?_) _
    exact View.readCov_eq_canon_ld _ _ _ (cover_rep _ _ _ _)
  · rw [if_neg hy]
    refine (View.read_writes_cons_rows_of_not_mem (d := S12x128.size) (W := 1) _ _ (off := k0_off1 i) (size := S1x128.size) (k0_off1_inb i) _ _ y (k0_off1_eq i) rfl (by omega)).trans ?_
    rfl

/-! ## The proof data -/

/-- The proof data on core `c`: the arrays as the region finds them; after a point each input's buffer at its block,
    the codes' and the repeated scales' as `codesBlk` and `repBlk` say; the dense window's contents are not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => codesBlk (iblk m c 0 t)
    | ⟨2, _⟩ => repBlk (iblk m c 0 t)
    | ⟨3, h⟩ => Dat.unnamed (cfg := cfg0) ⟨3, h⟩ t
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = codesBlk (iblk m c 0 t) := by dsimp only [dats]
theorem after0_2 (c : Dev nD) (t : Fin cfg0.N) : (dats m 0 c).after 2 t = repBlk (iblk m c 0 t) := by dsimp only [dats]

theorem before0_0 (c : Dev nD) (t : Fin cfg0.N) (d) : (dats m 0 c).before 0 t d = iblk m c 0 t :=
  before0_0_of m (dats m 0 c) (A_eq m c 0) (after0_0 m c) t d

/-- The point that writes row `y 0` of the dense array. -/
def pt (y : S12x128.Idx) : Fin cfg0.N := ⟨(y 0).val, lt_of_lt_of_eq (y 0).isLt N_0.symm⟩

/-- The dense array: row `u` is the scales of point `u`. -/
def dense (c : Dev nD) : Vec F S12x128 .f32 := fun y => rowVal (iblk m c 0 (pt y)) (ix2 0 (y 1))

/-- What holds of the dense window after point `t`: the rows up to `t` hold their scales. -/
def Rel (c : Dev nD) : (w : Fin cfg0.W) → (t : Fin cfg0.N) → ((cfg0.win w).block.Idx → Elt F (cfg0.win w).elt) → Prop
  | ⟨3, _⟩, t, X => ∀ y : S12x128.Idx, (y 0).val ≤ t.val → (X : Vec F S12x128 .f32) y = dense m c y
  | _, _, _ => True

/-- The dense window is the one that is held to `Rel`. -/
def fgt : Fin cfg0.W → Bool
  | ⟨3, _⟩ => true
  | _ => false

/-- The relational proof data. -/
abbrev rdat (c : Dev nD) : RDat τ (Elt F) Unit ℕ (UR sig nD τ) ℕ cfg0 c := (dats m 0 c).toRRel fgt (Rel m c)

/-- Before point `t > 0` the rows below `t` hold their scales. -/
theorem finds (c : Dev nD) (t : Fin cfg0.N) (Y) (h : (rdat m c).Finds 3 t Y) :
    ∀ y : S12x128.Idx, (y 0).val < t.val → (Y : Vec F S12x128 .f32) y = dense m c y := by
  intro y hy
  have hN : t.val < 12 := lt_of_lt_of_eq t.isLt N_0
  have ht : t.val ≠ 0 := by omega
  have h1 := ((rdat m c).finds_of_pos (w := 3) rfl ht Y).mp h
  rcases h1 with h1 | h1
  · exact absurd ((flush0_3 _).mp h1) (by show ¬ (t.val - 1) % 12 = 11; omega)
  · have h2 := (dats m 0 c).toRRel_leaves (fgt := fgt) (Rl := Rel m c) (w := 3) rfl h1
    exact h2 y (by show (y 0).val ≤ t.val - 1; omega)

theorem coord0 : ∀ t : Fin cfg0.N, (grid0.coords t 0).val = t.val :=
  (by decide +kernel : ∀ t : Fin grid0.N, (grid0.coords t 0).val = t.val)

/-- Replacing row `t` extends the relation from the rows below `t` to the rows up to `t`. -/
theorem rel_step (c : Dev nD) (t : Fin cfg0.N) (Y : Vec F S12x128 .f32)
    (h : ∀ y : S12x128.Idx, (y 0).val < t.val → Y y = dense m c y) :
    Rel m c 3 t (putRow (grid0.coords t 0).val (rowVal (iblk m c 0 t)) Y) := by
  intro y hy
  show putRow (grid0.coords t 0).val (rowVal (iblk m c 0 t)) Y y = dense m c y
  unfold putRow
  rw [coord0 t]
  by_cases he : (y 0).val = t.val
  · rw [if_pos he]
    have e : pt y = t := Fin.ext he
    unfold dense
    rw [e]
  · rw [if_neg he]
    exact h y (by omega)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ Y, ⌜(rdat m c).Finds 3 t Y⌝ ∗ owns (c : Thread nD τ) (st0_3 t) fullShare Y))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ X, ⌜Rel m c 3 t X⌝ ∗ owns (c : Thread nD τ) (st0_3 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩, ⟨%Y, %hY, HD⟩⟩
  iapply (sound_kernel c Set.univ (grid0.coords t) _ _ _ _ _ _ _ _ (iblk m c 0 t) Y _)
  isplitl [H0]; · iexact H0
  isplitl [H1]; · iexists _; iexact H1
  isplitl [H2]; · iexists _; iexact H2
  isplitl [HD]; · iexact HD
  iintro ⟨H0, H1, H2, HD⟩
  isplitl [HΦ]; · iexact HΦ
  isplitl [Ho]; · iexact Ho
  isplitl [H0]; · iexact H0
  isplitl [H1]; · iexact H1
  isplitl [H2]; · iexact H2
  iexists _; isplitr
  swap; · iexact HD
  ipureintro
  exact rel_step m c t Y (finds m c t Y hY)

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligationRel (dats (F := F) m 0 c) (defs₀ (F := F)) Variants.none () Set.univ fgt (Rel m c) := fun t => by
  rw [bigSep_W0, bigSep_W0, defs₀_row]
  exact triple_restated (sound_body m c t) rfl .rfl fun _ => .rfl

/-! ## The run -/

set_option backward.isDefEq.respectTransparency.types false in
set_option maxHeartbeats 800000 in
theorem run_main : θ_run defs (onTc (τ := τ) (main (F := F))) (s₀ m ρ)
    (fun r => RDat.FramePost (cfgs 0) (rdat m) (V m) r ∧ r.2.sem = fun _ => 0) :=
  RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- The arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c => (RDat.FramePost.arr_in h.1 c 0 rfl).trans (V_main_arg0 m c), h.2⟩) (run_main m ρ)

/-- After the run the codes' array and the repeated scales' are what the exact data name, and the dense array is `dense`. -/
theorem final_exact (c : Dev nD) {r : PUnit × MemSt nD τ sig (Elt F)} (h : RDat.FramePost (cfgs 0) (rdat m) (V m) r)
    (w : Fin cfg0.W) (hw : fgt w = false) :
    r.2.mem ((cfg0.spec w).arr.view.loc (c.tc : Thread nD τ)) = (dats m 0 c).arrAt w cfg0.N :=
  ((dats m 0 c).toR_arrAt_iff w _ _).mp (((dats m 0 c).toR.override_arrAt (by simp only [hw]) _ _).mp ((h c).1 w))

theorem whole_dense : ∃ t₀ : Fin cfg0.N, t₀.val = 11 ∧ (cfg0.win 3).WholeAt t₀ :=
  (by decide +kernel : ∃ t₀ : Fin grid0.N, t₀.val = 11 ∧ win0_3.WholeAt t₀)

theorem final_dense (c : Dev nD) {r : PUnit × MemSt nD τ sig (Elt F)} (h : RDat.FramePost (cfgs 0) (rdat m) (V m) r) :
    r.2.mem ((c : Thread nD τ).loc main_v0_2) = dense m c := by
  obtain ⟨t₀, h11, hW⟩ := whole_dense
  obtain ⟨X, hL, hX⟩ := RDat.ArrAt.emb_eq_of_wholeAt ((h c).1 3) hW
  have hR := (dats m 0 c).toRRel_leaves (fgt := fgt) (Rl := Rel m c) (w := 3) rfl hL
  funext y
  have hy : (y 0).val < 12 := (y 0).isLt
  refine (hX y).trans ?_
  exact hR y (by omega)

end Cert.ActQuantIdeal.Hand

end
-- ==== Proof.ActQuantIdealRun.lean ====
/-
  Quantising the gated activations by rows, over the extended reals: the codes and scales the call leaves, entry by entry.

  A grid point's four strips agree with one formula each for its codes and its repeated scales; the diagonal of the
  block of repeated scales is the row of 128 scales that goes to the dense array.
-/
module

public import proofs.«01_k».proof.Proof.ActQuantIdealBody
public import proofs.«01_k».proof.Proof.Quant

@[expose] public section

set_option maxRecDepth 16384

noncomputable section

namespace Cert.ActQuantIdeal.Hand

open Cert.ActQuantIdeal Cert.ActQuantIdeal.Gen Idealize.ShloMosaic Idealize.ShloMosaic.TcCoe Idealize.SL.Sem
open Idealize.ShloMosaic.Pipeline (Dat RDat)

/-! ## One strip -/

/-- The column of scales for a column of largest magnitudes. -/
theorem scaleOf_col (A : FVec Ideal S32 .f32) :
    select (cmpf .oeq (shapeCast S32x1 A shapeCasts_S32_S32x1) (broadcast S32x1 (FloatOps.ofBits .f32 0x00000000#32)))
      (broadcast S32x1 (FloatOps.ofBits .f32 0x3F800000#32))
      (divf (shapeCast S32x1 A shapeCasts_S32_S32x1) (broadcast S32x1 (FloatOps.ofBits .f32 0x43E00000#32)))
      = (fun j => Quant.scaleOf (A (ix1 (j 0))) : FVec Ideal S32x1 .f32) := by
  funext j
  obtain ⟨r, l, rfl⟩ : ∃ (r : Fin 32) (l : Fin 1), ix2 r l = j := ⟨j 0, j 1, (eq_ix2 (n0 := 32) (n1 := 1) j).symm⟩
  obtain rfl : l = 0 := Subsingleton.elim _ _
  pointwise [Quant.scaleOf]

section Strips
variable (v : Vec Ideal S32x17408 .f32)

theorem codes0 (r : Fin 32) (l : Fin 17408) : (k0_pay6 (F := Ideal) v : Vec Ideal S32x17408 .fp8e4m3) (ix2 r l) = Quant.codeMul (Quant.rowScale (fun k => v (ix2 r k))) ((fun k => v (ix2 r k)) l) := by
  unfold_payloads
  dsimp only
  simp only [scaleOf_col]
  pointwise [Quant.codeMul, Quant.rowScale, Quant.rowMax]

theorem rep0 (r : Fin 32) (l : Fin 128) : (k0_pay7 (F := Ideal) v : Vec Ideal S32x128 .f32) (ix2 r l) = Quant.rowScale (fun k => v (ix2 r k)) := by
  unfold_payloads
  dsimp only
  simp only [scaleOf_col]
  pointwise [Quant.rowScale, Quant.rowMax]

theorem codes1 (r : Fin 32) (l : Fin 17408) : (k0_pay10 (F := Ideal) (k0_pay9 (F := Ideal) v) : Vec Ideal S32x17408 .fp8e4m3) (ix2 r l) = Quant.codeMul (Quant.rowScale (fun k => v (ix2 r k))) ((fun k => v (ix2 r k)) l) := by
  unfold_payloads
  dsimp only
  simp only [scaleOf_col]
  pointwise [Quant.codeMul, Quant.rowScale, Quant.rowMax]

theorem rep1 (r : Fin 32) (l : Fin 128) : (k0_pay11 (F := Ideal) (k0_pay8 (F := Ideal) v) : Vec Ideal S32x128 .f32) (ix2 r l) = Quant.rowScale (fun k => v (ix2 r k)) := by
  unfold_payloads
  dsimp only
  simp only [scaleOf_col]
  pointwise [Quant.rowScale, Quant.rowMax]

theorem codes2 (r : Fin 32) (l : Fin 17408) : (k0_pay13 (F := Ideal) v : Vec Ideal S32x17408 .fp8e4m3) (ix2 r l) = Quant.codeMul (Quant.rowScale (fun k => v (ix2 r k))) ((fun k => v (ix2 r k)) l) := by
  unfold_payloads
  dsimp only
  simp only [scaleOf_col]
  pointwise [Quant.codeMul, Quant.rowScale, Quant.rowMax]

theorem rep2 (r : Fin 32) (l : Fin 128) : (k0_pay14 (F := Ideal) v : Vec Ideal S32x128 .f32) (ix2 r l) = Quant.rowScale (fun k => v (ix2 r k)) := by
  unfold_payloads
  dsimp only
  simp only [scaleOf_col]
  pointwise [Quant.rowScale, Quant.rowMax]

theorem codes3 (r : Fin 32) (l : Fin 17408) : (k0_pay2 (F := Ideal) v (k0_pay15 (F := Ideal) v) : Vec Ideal S32x17408 .fp8e4m3) (ix2 r l) = Quant.codeMul (Quant.rowScale (fun k => v (ix2 r k))) ((fun k => v (ix2 r k)) l) := by
  unfold_payloads
  dsimp only
  simp only [scaleOf_col]
  pointwise [Quant.codeMul, Quant.rowScale, Quant.rowMax]

theorem rep3 (r : Fin 32) (l : Fin 128) : (k0_pay3 (F := Ideal) (k0_pay15 (F := Ideal) v) : Vec Ideal S32x128 .f32) (ix2 r l) = Quant.rowScale (fun k => v (ix2 r k)) := by
  unfold_payloads
  dsimp only
  simp only [scaleOf_col]
  pointwise [Quant.rowScale, Quant.rowMax]

end Strips

theorem pick (v : Vec Ideal S128x128 .f32) (l : Fin 128) : (k0_pay4 v : Vec Ideal S1x128 .f32) (ix2 0 l) = v (ix2 l l) := by
  unfold_payloads
  pointwise
  exact Quant.diag (v := fun x => v (ix2 x l)) l

/-! ## One grid point -/

/-- Row `r` of a block of 128 rows, as it is quantised. -/
def blkRow (x0 : Vec Ideal S128x17408 .f32) (r : Fin 128) : Fin 17408 → EReal :=
  (fun k => x0 (ix2 r k))

/-- The code at row `r`, column `l` of the block. -/
def blkCode (x0 : Vec Ideal S128x17408 .f32) (r : Fin 128) (l : Fin 17408) : EReal :=
  Quant.code (Quant.rowScale (blkRow x0 r)) (blkRow x0 r l)

/-- The scale of row `r` of the block. -/
def blkScale (x0 : Vec Ideal S128x17408 .f32) (r : Fin 128) : EReal := Quant.rowScale (blkRow x0 r)

variable (x0 : Vec Ideal S128x17408 .f32)

theorem zero2 : (![0, 0] : Fin 2 → Nat) = fun _ => 0 := funext fun a => by fin_cases a <;> rfl

theorem ld0 (r : Fin 32) (k : Fin 17408) : View.ld x0 cr0 (ix2 r k) = x0 (ix2 ⟨0 + r.val, by omega⟩ k) :=
  congrArg x0 (Shape.idx_ext₂ (by show 0 + 1 * r.val = 0 + r.val; omega) (by show 0 + 1 * k.val = k.val; omega))

theorem ld32 (r : Fin 32) (k : Fin 17408) : View.ld x0 cr32 (ix2 r k) = x0 (ix2 ⟨32 + r.val, by omega⟩ k) :=
  congrArg x0 (Shape.idx_ext₂ (by show 32 + 1 * r.val = 32 + r.val; omega) (by show 0 + 1 * k.val = k.val; omega))

theorem ld64 (r : Fin 32) (k : Fin 17408) : View.ld x0 cr64 (ix2 r k) = x0 (ix2 ⟨64 + r.val, by omega⟩ k) :=
  congrArg x0 (Shape.idx_ext₂ (by show 64 + 1 * r.val = 64 + r.val; omega) (by show 0 + 1 * k.val = k.val; omega))

theorem ld96 (r : Fin 32) (k : Fin 17408) : View.ld x0 cr96 (ix2 r k) = x0 (ix2 ⟨96 + r.val, by omega⟩ k) :=
  congrArg x0 (Shape.idx_ext₂ (by show 96 + 1 * r.val = 96 + r.val; omega) (by show 0 + 1 * k.val = k.val; omega))

theorem codesBlk_eq : codesBlk x0 = fun j => blkCode x0 (j 0) (j 1) := by
  funext y
  unfold codesBlk
  refine View.canon_apply_of_pieces (fun j => blkCode x0 (j 0) (j 1)) _ ?_ y (cover_codes (F := Ideal) _ _ _ _ y)
  intro p hp
  simp only [List.mem_cons, List.mem_nil_iff, or_false] at hp
  rcases hp with rfl | rfl | rfl | rfl
  · intro (x : S32x17408.Idx)
    obtain ⟨r, l, rfl⟩ : ∃ (r : Fin 32) (l : Fin 17408), ix2 r l = x := ⟨x 0, x 1, (eq_ix2 (n0 := 32) (n1 := 17408) x).symm⟩
    have e0 : ((cr96.emb (ix2 r l)) 0 : Fin 128) = (⟨96 + r.val, by omega⟩ : Fin 128) := Fin.ext (by show 96 + 1 * r.val = 96 + r.val; omega)
    have e1 : ((cr96.emb (ix2 r l)) 1 : Fin 17408) = l := Fin.ext (by show 0 + 1 * l.val = l.val; omega)
    show (k0_pay2 (F := Ideal) (View.ld x0 cr96) (k0_pay15 (F := Ideal) (View.ld x0 cr96)) : Vec Ideal S32x17408 .fp8e4m3) (ix2 r l) = blkCode x0 ((cr96.emb (ix2 r l)) 0) ((cr96.emb (ix2 r l)) 1)
    rw [e0, e1, codes3, Quant.codeMul_rowScale]
    unfold blkCode blkRow
    exact congrArg (fun f : Fin 17408 → EReal => Quant.code (Quant.rowScale f) (f l)) (funext fun k => ld96 x0 r k)
  · intro (x : S32x17408.Idx)
    obtain ⟨r, l, rfl⟩ : ∃ (r : Fin 32) (l : Fin 17408), ix2 r l = x := ⟨x 0, x 1, (eq_ix2 (n0 := 32) (n1 := 17408) x).symm⟩
    have e0 : ((cr64.emb (ix2 r l)) 0 : Fin 128) = (⟨64 + r.val, by omega⟩ : Fin 128) := Fin.ext (by show 64 + 1 * r.val = 64 + r.val; omega)
    have e1 : ((cr64.emb (ix2 r l)) 1 : Fin 17408) = l := Fin.ext (by show 0 + 1 * l.val = l.val; omega)
    show (k0_pay13 (F := Ideal) (View.ld x0 cr64) : Vec Ideal S32x17408 .fp8e4m3) (ix2 r l) = blkCode x0 ((cr64.emb (ix2 r l)) 0) ((cr64.emb (ix2 r l)) 1)
    rw [e0, e1, codes2, Quant.codeMul_rowScale]
    unfold blkCode blkRow
    exact congrArg (fun f : Fin 17408 → EReal => Quant.code (Quant.rowScale f) (f l)) (funext fun k => ld64 x0 r k)
  · intro (x : S32x17408.Idx)
    obtain ⟨r, l, rfl⟩ : ∃ (r : Fin 32) (l : Fin 17408), ix2 r l = x := ⟨x 0, x 1, (eq_ix2 (n0 := 32) (n1 := 17408) x).symm⟩
    have e0 : ((cr32.emb (ix2 r l)) 0 : Fin 128) = (⟨32 + r.val, by omega⟩ : Fin 128) := Fin.ext (by show 32 + 1 * r.val = 32 + r.val; omega)
    have e1 : ((cr32.emb (ix2 r l)) 1 : Fin 17408) = l := Fin.ext (by show 0 + 1 * l.val = l.val; omega)
    show (k0_pay10 (F := Ideal) (k0_pay9 (F := Ideal) (View.ld x0 cr32)) : Vec Ideal S32x17408 .fp8e4m3) (ix2 r l) = blkCode x0 ((cr32.emb (ix2 r l)) 0) ((cr32.emb (ix2 r l)) 1)
    rw [e0, e1, codes1, Quant.codeMul_rowScale]
    unfold blkCode blkRow
    exact congrArg (fun f : Fin 17408 → EReal => Quant.code (Quant.rowScale f) (f l)) (funext fun k => ld32 x0 r k)
  · intro (x : S32x17408.Idx)
    obtain ⟨r, l, rfl⟩ : ∃ (r : Fin 32) (l : Fin 17408), ix2 r l = x := ⟨x 0, x 1, (eq_ix2 (n0 := 32) (n1 := 17408) x).symm⟩
    have e0 : ((cr0.emb (ix2 r l)) 0 : Fin 128) = (⟨0 + r.val, by omega⟩ : Fin 128) := Fin.ext (by show 0 + 1 * r.val = 0 + r.val; omega)
    have e1 : ((cr0.emb (ix2 r l)) 1 : Fin 17408) = l := Fin.ext (by show 0 + 1 * l.val = l.val; omega)
    show (k0_pay6 (F := Ideal) (View.ld x0 cr0) : Vec Ideal S32x17408 .fp8e4m3) (ix2 r l) = blkCode x0 ((cr0.emb (ix2 r l)) 0) ((cr0.emb (ix2 r l)) 1)
    rw [e0, e1, codes0, Quant.codeMul_rowScale]
    unfold blkCode blkRow
    exact congrArg (fun f : Fin 17408 → EReal => Quant.code (Quant.rowScale f) (f l)) (funext fun k => ld0 x0 r k)

theorem repBlk_eq : repBlk x0 = fun j => blkScale x0 (j 0) := by
  funext y
  unfold repBlk
  refine View.canon_apply_of_pieces (fun j => blkScale x0 (j 0)) _ ?_ y (cover_rep (F := Ideal) _ _ _ _ y)
  intro p hp
  simp only [List.mem_cons, List.mem_nil_iff, or_false] at hp
  rcases hp with rfl | rfl | rfl | rfl
  · intro (x : S32x128.Idx)
    obtain ⟨r, l, rfl⟩ : ∃ (r : Fin 32) (l : Fin 128), ix2 r l = x := ⟨x 0, x 1, (eq_ix2 (n0 := 32) (n1 := 128) x).symm⟩
    have e0 : ((sr96.emb (ix2 r l)) 0 : Fin 128) = (⟨96 + r.val, by omega⟩ : Fin 128) := Fin.ext (by show 96 + 1 * r.val = 96 + r.val; omega)
    dsimp only
    refine (rep3 (View.ld x0 cr96) r l).trans (Eq.trans (b := blkScale x0 ⟨96 + r.val, by omega⟩) ?_ (congrArg (blkScale x0) e0.symm))
    unfold blkScale blkRow
    exact congrArg (fun f : Fin 17408 → EReal => Quant.rowScale f) (funext fun k => ld96 x0 r k)
  · intro (x : S32x128.Idx)
    obtain ⟨r, l, rfl⟩ : ∃ (r : Fin 32) (l : Fin 128), ix2 r l = x := ⟨x 0, x 1, (eq_ix2 (n0 := 32) (n1 := 128) x).symm⟩
    have e0 : ((sr64.emb (ix2 r l)) 0 : Fin 128) = (⟨64 + r.val, by omega⟩ : Fin 128) := Fin.ext (by show 64 + 1 * r.val = 64 + r.val; omega)
    dsimp only
    refine (rep2 (View.ld x0 cr64) r l).trans (Eq.trans (b := blkScale x0 ⟨64 + r.val, by omega⟩) ?_ (congrArg (blkScale x0) e0.symm))
    unfold blkScale blkRow
    exact congrArg (fun f : Fin 17408 → EReal => Quant.rowScale f) (funext fun k => ld64 x0 r k)
  · intro (x : S32x128.Idx)
    obtain ⟨r, l, rfl⟩ : ∃ (r : Fin 32) (l : Fin 128), ix2 r l = x := ⟨x 0, x 1, (eq_ix2 (n0 := 32) (n1 := 128) x).symm⟩
    have e0 : ((sr32.emb (ix2 r l)) 0 : Fin 128) = (⟨32 + r.val, by omega⟩ : Fin 128) := Fin.ext (by show 32 + 1 * r.val = 32 + r.val; omega)
    dsimp only
    refine (rep1 (View.ld x0 cr32) r l).trans (Eq.trans (b := blkScale x0 ⟨32 + r.val, by omega⟩) ?_ (congrArg (blkScale x0) e0.symm))
    unfold blkScale blkRow
    exact congrArg (fun f : Fin 17408 → EReal => Quant.rowScale f) (funext fun k => ld32 x0 r k)
  · intro (x : S32x128.Idx)
    obtain ⟨r, l, rfl⟩ : ∃ (r : Fin 32) (l : Fin 128), ix2 r l = x := ⟨x 0, x 1, (eq_ix2 (n0 := 32) (n1 := 128) x).symm⟩
    have e0 : ((sr0.emb (ix2 r l)) 0 : Fin 128) = (⟨0 + r.val, by omega⟩ : Fin 128) := Fin.ext (by show 0 + 1 * r.val = 0 + r.val; omega)
    dsimp only
    refine (rep0 (View.ld x0 cr0) r l).trans (Eq.trans (b := blkScale x0 ⟨0 + r.val, by omega⟩) ?_ (congrArg (blkScale x0) e0.symm))
    unfold blkScale blkRow
    exact congrArg (fun f : Fin 17408 → EReal => Quant.rowScale f) (funext fun k => ld0 x0 r k)

theorem rowVal_at (l : Fin 128) : rowVal x0 (ix2 0 l) = Quant.rowScale (blkRow x0 l) := by
  unfold rowVal
  rw [pick, View.ld_unit_zero (S := S128x128) zero2, repBlk_eq]
  rfl

/-! ## The whole arrays -/

variable (m : (ℓ : Loc nD τ sig) → Buf (Elt Ideal) ℓ) (ρ : Dev nD → PrngReg)

/-- The array to quantise. -/
abbrev input (c : Dev nD) : Vec Ideal S1536x17408 .f32 := m (c.tc.loc main_arg0)

/-- Row `r` as it is quantised. -/
def row (c : Dev nD) (r : Fin 1536) : Fin 17408 → EReal := fun k => input m c (ix2 r k)

/-- The codes: entry `(r, l)` is entry `l` of row `r` over the row's scale, clipped. -/
def codes (c : Dev nD) (j : S1536x17408.Idx) : EReal := Quant.code (Quant.rowScale (row m c (j 0))) (row m c (j 0) (j 1))

/-- The scales, row `128 p + l` at `(p, l)`. -/
def scales (c : Dev nD) (y : S12x128.Idx) : EReal :=
  Quant.rowScale (row m c ⟨(y 0).val * 128 + (y 1).val, by have h0 : (y 0).val < 12 := (y 0).isLt; have h1 : (y 1).val < 128 := (y 1).isLt; omega⟩)

/-- A point's input block is its 128 rows. -/
theorem ind0 : ∀ t : Fin cfg0.N, win0_0.index t 0 = t.val ∧ win0_0.index t 1 = 0 :=
  (by decide +kernel : ∀ t : Fin grid0.N, win0_0.index t 0 = t.val ∧ win0_0.index t 1 = 0)

theorem indc : ∀ t : Fin cfg0.N, win0_1.index t 0 = t.val ∧ win0_1.index t 1 = 0 :=
  (by decide +kernel : ∀ t : Fin grid0.N, win0_1.index t 0 = t.val ∧ win0_1.index t 1 = 0)

theorem blk0 (c : Dev nD) (t : Fin cfg0.N) (r : Fin 128) (k : Fin 17408) (h : t.val * 128 + r.val < 1536) :
    (iblk m c 0 t : Vec Ideal S128x17408 .f32) (ix2 r k) = input m c (ix2 ⟨t.val * 128 + r.val, h⟩ k) := by
  unfold iblk
  rw [View.read_apply]
  show (V m c main_arg0 : Vec Ideal S1536x17408 .f32) _ = _
  rw [V_main_arg0]
  refine congrArg _ (Shape.idx_ext₂ ?_ ?_)
  · show win0_0.index t 0 * 128 + 1 * r.val = t.val * 128 + r.val; rw [(ind0 t).1]; omega
  · show win0_0.index t 1 * 17408 + 1 * k.val = k.val; rw [(ind0 t).2]; omega

theorem row_blk (c : Dev nD) (t : Fin cfg0.N) (r : Fin 128) (h : t.val * 128 + r.val < 1536) :
    blkRow (iblk m c 0 t) r = row m c ⟨t.val * 128 + r.val, h⟩ := by
  funext k
  exact blk0 m c t r k h

theorem dense_eq (c : Dev nD) : dense m c = scales m c := by
  funext y
  have h0 : (y 0).val < 12 := (y 0).isLt
  have h1 : (y 1).val < 128 := (y 1).isLt
  refine (rowVal_at (iblk m c 0 (pt y)) (y 1)).trans ?_
  exact congrArg Quant.rowScale (row_blk m c (pt y) (y 1) (by show (y 0).val * 128 + (y 1).val < 1536; omega))

theorem memc (t : Fin cfg0.N) (i : S1536x17408.Idx) (h : t.val = (i 0).val / 128) : i ∈ ((cfg0.win 1).blk t).view.set := by
  show i ∈ ((View.whole main_v0_0).slice (win0_1.rect t)).set
  rw [View.set_slice_whole, Rect.mem_set_unit]
  have h0 : (i 1).val < 17408 := (i 1).isLt
  intro a
  match a with
  | ⟨0, _⟩ => show win0_1.index t 0 * 128 ≤ (i 0).val ∧ (i 0).val < win0_1.index t 0 * 128 + 128; rw [(indc t).1]; omega
  | ⟨1, _⟩ => show win0_1.index t 1 * 17408 ≤ (i 1).val ∧ (i 1).val < win0_1.index t 1 * 17408 + 17408; rw [(indc t).2]; omega

theorem flushed_c (c : Dev nD) (t : Fin cfg0.N) :
    (dats m 0 c).flushed 1 t = (cfg0.win 1).cut (grid0.coords t) (codesBlk (iblk m c 0 t)) := by
  show (cfg0.win 1).cut (grid0.coords t) ((dats m 0 c).after 1 t) = _
  rw [after0_1]

theorem final_codes (c : Dev nD) : (dats m 0 c).arrAt 1 cfg0.N = codes m c := by
  refine (dats m 0 c).arrAt_eq_of_cover 1 (codes m c) (fun t _ => ?_) fun i => ?_
  · rw [flushed_c, codesBlk_eq]
    funext j
    have ht : t.val < 12 := lt_of_lt_of_eq t.isLt N_0
    have hj : (j 0).val < 128 := (j 0).isLt
    rw [View.read_apply]
    have hr := row_blk m c t (j 0) (by omega)
    refine (congrArg (fun f : Fin 17408 → EReal => Quant.code (Quant.rowScale f) (f (j 1))) hr).trans ?_
    refine congrArg (codes m c) (a₁ := ix2 ⟨t.val * 128 + (j 0).val, by omega⟩ (j 1)) (Shape.idx_ext₂ ?_ ?_)
    · show t.val * 128 + (j 0).val = win0_1.index t 0 * 128 + 1 * (j 0).val; rw [(indc t).1]; omega
    · show (j 1).val = win0_1.index t 1 * 17408 + 1 * (j 1).val; rw [(indc t).2]; omega
  · have hi : (i 0).val < 1536 := (i 0).isLt
    exact ⟨⟨(i 0).val / 128, by rw [show cfg0.N = 12 from N_0]; omega⟩, flush0_1 _, memc _ i rfl⟩

end Cert.ActQuantIdeal.Hand

end
-- ==== Proof.ActQuantRef.lean ====
/-
  Quantising the gated activations by rows: what the reference leaves in its two results, over the extended reals.
-/
module

public import proofs.«01_k».proof.Proof.Gen.ActQuantRefIdeal.Value
public import proofs.«01_k».proof.Proof.Quant
public import Idealize.ShloMosaic.Lib.Pipeline.Value
public import Idealize.ShloMosaic.Lib.Pointwise

@[expose] public section

set_option maxRecDepth 16384

noncomputable section

namespace Cert.ActQuantRefIdeal.Hand

open Cert.ActQuantRefIdeal Cert.ActQuantRefIdeal.Gen Idealize.ShloMosaic Idealize.ShloMosaic.TcCoe Idealize.SL.Sem
open Idealize.ShloMosaic.Pipeline (Dat RDat)

variable (m : (ℓ : Loc nD τ sig) → Buf (Elt Ideal) ℓ) (ρ : Dev nD → PrngReg)

/-- The array to quantise. -/
abbrev input (c : Dev nD) : Vec Ideal S1536x17408 .f32 := m (c.tc.loc main_arg0)

/-- The array that is quantised, as the host computes it. -/
def value (c : Dev nD) : FVec Ideal S1536x17408 .f32 :=
  input m c

/-- Row `r` as it is quantised. -/
def row (c : Dev nD) (r : Fin 1536) : Fin 17408 → EReal := fun k => input m c (ix2 r k)

theorem value_row (c : Dev nD) (r : Fin 1536) : (fun k => value m c (ix2 r k)) = row m c r := by
  rfl

/-- The codes: entry `(r, l)` is entry `l` of row `r` over the row's scale, clipped. -/
def codes (c : Dev nD) (j : S1536x17408.Idx) : EReal := Quant.code (Quant.rowScale (row m c (j 0))) (row m c (j 0) (j 1))

/-- The scales, row `128 p + l` at `(p, l)`. -/
def scales (c : Dev nD) (y : S12x128.Idx) : EReal :=
  Quant.rowScale (row m c ⟨(y 0).val * 128 + (y 1).val, by have h0 : (y 0).val < 12 := (y 0).isLt; have h1 : (y 1).val < 128 := (y 1).isLt; omega⟩)

/-! ## The scales the host computes -/

/-- The scales for largest magnitudes `A`. -/
theorem host_scale (A : FVec Ideal S1536 .f32) :
    select (cmpf .oeq A (broadcastInDim S1536 ![] bcast_S_S1536 (constant S_ .f32 0x00000000#32)))
      (broadcastInDim S1536 ![] bcast_S_S1536 (constant S_ .f32 0x3F800000#32))
      (Host.divf A (broadcastInDim S1536 ![] bcast_S_S1536 (constant S_ .f32 0x43E00000#32)))
      = (fun j => Quant.scaleOf (A j) : FVec Ideal S1536 .f32) := by
  funext j
  pointwise [Quant.scaleOf]

/-- The largest magnitudes of the rows of an array. -/
def maxes (x : FVec Ideal S1536x17408 .f32) : FVec Ideal S1536 .f32 :=
  Host.reduce FloatOps.maximumf (Host.absf x) (constant S_ .f32 0xFF800000#32) reducesTo_S1536x17408_S1536_d1 h_S_

theorem maxes_at (x : FVec Ideal S1536x17408 .f32) (r : Fin 1536) : maxes x (ix1 r) = Quant.rowMax (fun k => x (ix2 r k)) := by
  unfold maxes
  pointwise [Quant.rowMax]

theorem V_value (c : Dev nD) : (V m c main_arg0 : FVec Ideal S1536x17408 .f32) = value m c := by
  show StableHlo.after (List.flatten [hostOps0, hostOps0_1, hostOps0_2]) (fun b => m (c, b)) (Proc.devRef .tc main_arg0) = _
  simp only [List.flatten_cons, List.flatten_nil, List.append_nil, List.cons_append, List.nil_append]
  after_results
  rfl

/-- One scale a row. -/
def scaleVec (c : Dev nD) : FVec Ideal S1536 .f32 := fun j => Quant.scaleOf (maxes (value m c) j)

theorem V_col (c : Dev nD) : (V m c main_v8 : FVec Ideal S1536x1 .f32) = shapeCast S1536x1 (scaleVec m c) shapeCasts_S1536_S1536x1 := by
  refine Eq.trans ?_ (congrArg (fun v => shapeCast S1536x1 v shapeCasts_S1536_S1536x1) (host_scale (maxes (value m c))))
  show StableHlo.after (List.flatten [hostOps0, hostOps0_1, hostOps0_2]) (fun b => m (c, b)) (Proc.devRef .tc main_v8) = _
  simp only [List.flatten_cons, List.flatten_nil, List.append_nil, List.cons_append, List.nil_append]
  after_results
  unfold maxes value
  generalize Host.reduce (FloatOps.maximumf (F := Ideal) (φ := .f32)) _ _ reducesTo_S1536x17408_S1536_d1 h_S_ = A
  refine congrArg (fun v => shapeCast S1536x1 v shapeCasts_S1536_S1536x1) (a₁ := _) ?_
  refine congrArg₂ (select _) ?_ ?_
  · rfl
  · rfl

theorem V_dense (c : Dev nD) : (V m c main_v7 : FVec Ideal S12x128 .f32) = shapeCast S12x128 (scaleVec m c) shapeCasts_S1536_S12x128 := by
  refine Eq.trans ?_ (congrArg (fun v => shapeCast S12x128 v shapeCasts_S1536_S12x128) (host_scale (maxes (value m c))))
  show StableHlo.after (List.flatten [hostOps0, hostOps0_1, hostOps0_2]) (fun b => m (c, b)) (Proc.devRef .tc main_v7) = _
  simp only [List.flatten_cons, List.flatten_nil, List.append_nil, List.cons_append, List.nil_append]
  after_results
  unfold maxes value
  generalize Host.reduce (FloatOps.maximumf (F := Ideal) (φ := .f32)) _ _ reducesTo_S1536x17408_S1536_d1 h_S_ = A
  refine congrArg (fun v => shapeCast S12x128 v shapeCasts_S1536_S12x128) (a₁ := _) ?_
  refine congrArg₂ (select _) ?_ ?_
  · rfl
  · rfl

theorem scaleVec_at (c : Dev nD) (r : Fin 1536) : scaleVec m c (ix1 r) = Quant.rowScale (row m c r) := by
  unfold scaleVec
  rw [maxes_at, value_row]
  unfold Quant.rowScale
  rfl

theorem col_at (c : Dev nD) (r : Fin 1536) :
    (shapeCast S1536x1 (scaleVec m c) shapeCasts_S1536_S1536x1 : FVec Ideal S1536x1 .f32) (ix2 r 0) = Quant.rowScale (row m c r) := by
  rw [← scaleVec_at]
  pointwise

theorem dense_eq (c : Dev nD) : (V m c main_v7 : FVec Ideal S12x128 .f32) = scales m c := by
  rw [V_dense]
  funext y
  unfold scales
  rw [← scaleVec_at]
  obtain ⟨p, l, rfl⟩ : ∃ (p : Fin 12) (l : Fin 128), ix2 p l = y := ⟨y 0, y 1, (eq_ix2 (n0 := 12) (n1 := 128) y).symm⟩
  pointwise

/-! ## The windows: each is its whole array -/

theorem zero2 : (![0, 0] : Fin 2 → Nat) = fun _ => 0 := funext fun a => by fin_cases a <;> rfl
theorem ind0 : ∀ t : Fin cfg0.N, win0_0.index t 0 = 0 ∧ win0_0.index t 1 = 0 :=
  (by decide +kernel : ∀ t : Fin grid0.N, win0_0.index t 0 = 0 ∧ win0_0.index t 1 = 0)
theorem ind1 : ∀ t : Fin cfg0.N, win0_1.index t 0 = 0 ∧ win0_1.index t 1 = 0 :=
  (by decide +kernel : ∀ t : Fin grid0.N, win0_1.index t 0 = 0 ∧ win0_1.index t 1 = 0)
theorem ind2 : ∀ t : Fin cfg0.N, win0_2.index t 0 = 0 ∧ win0_2.index t 1 = 0 :=
  (by decide +kernel : ∀ t : Fin grid0.N, win0_2.index t 0 = 0 ∧ win0_2.index t 1 = 0)

theorem read0 (f : Vec Ideal S1536x17408 .f32) (t : Fin cfg0.N) : (((cfg0.win 0).blk t).view.read (Elt Ideal) f : Vec Ideal S1536x17408 .f32) = f := by
  funext j
  rw [View.read_apply]
  show f _ = f j
  refine congrArg f (Shape.idx_ext₂ ?_ ?_)
  · show win0_0.index t 0 * 1536 + 1 * (j 0).val = (j 0).val; rw [(ind0 t).1]; omega
  · show win0_0.index t 1 * 17408 + 1 * (j 1).val = (j 1).val; rw [(ind0 t).2]; omega

theorem read1 (f : Vec Ideal S1536x1 .f32) (t : Fin cfg0.N) : (((cfg0.win 1).blk t).view.read (Elt Ideal) f : Vec Ideal S1536x1 .f32) = f := by
  funext j
  rw [View.read_apply]
  show f _ = f j
  refine congrArg f (Shape.idx_ext₂ ?_ ?_)
  · show win0_1.index t 0 * 1536 + 1 * (j 0).val = (j 0).val; rw [(ind1 t).1]; omega
  · show win0_1.index t 1 * 1 + 1 * (j 1).val = (j 1).val; rw [(ind1 t).2]; omega

theorem blk0 (c : Dev nD) (t : Fin cfg0.N) : (iblk m c 0 t : Vec Ideal S1536x17408 .f32) = value m c :=
  (read0 (V m c main_arg0) t).trans (V_value m c)

theorem blk1 (c : Dev nD) (t : Fin cfg0.N) :
    (iblk m c 1 t : Vec Ideal S1536x1 .f32) = shapeCast S1536x1 (scaleVec m c) shapeCasts_S1536_S1536x1 :=
  (read1 (V m c main_v8) t).trans (V_col m c)

/-- What the body stores, at an index. -/
theorem out_y (x0 : Vec Ideal S1536x17408 .f32) (x1 : Vec Ideal S1536x1 .f32) (j : S1536x17408.Idx) :
    out0_2 x0 x1 j = Quant.code (x1 (ix2 (j 0) 0)) (x0 j) := by
  unfold out0_2
  rw [View.canon_unit_zero (S := S1536x17408) zero2, View.ld_unit_zero (S := S1536x17408) zero2,
    View.ld_unit_zero (S := S1536x1) zero2]
  unfold_payloads
  pointwise [Quant.code]

theorem stored2 (c : Dev nD) (t : Fin cfg0.N) (r : Fin 1536) (l : Fin 17408) :
    out0_2 (iblk m c 0 t) (iblk m c 1 t) (ix2 r l) = codes m c (ix2 r l) := by
  rw [blk0, blk1, out_y]
  refine congrArg₂ Quant.code (col_at m c r) ?_
  exact congrFun (value_row m c r) l

/-! ## The result array -/

theorem mem2 (t : Fin cfg0.N) (i : S1536x17408.Idx) : i ∈ ((View.whole main_v9).slice (win0_2.rect t)).set := by
  rw [View.set_slice_whole, Rect.mem_set_unit]
  have h0 : (i 0).val < 1536 := (i 0).isLt
  have h1 : (i 1).val < 17408 := (i 1).isLt
  intro a
  match a with
  | ⟨0, _⟩ => show win0_2.index t 0 * 1536 ≤ (i 0).val ∧ (i 0).val < win0_2.index t 0 * 1536 + 1536; rw [(ind2 t).1]; omega
  | ⟨1, _⟩ => show win0_2.index t 1 * 17408 ≤ (i 1).val ∧ (i 1).val < win0_2.index t 1 * 17408 + 17408; rw [(ind2 t).2]; omega

theorem final2 (c : Dev nD) : (dats m 0 c).arrAt 2 cfg0.N = codes m c := by
  refine (dats m 0 c).arrAt_eq_of_cover 2 (codes m c) (fun t _ => ?_) fun i => ?_
  · rw [Value.flushed2]
    funext j
    rw [View.read_apply]
    refine (congrArg (out0_2 (iblk m c 0 t) (iblk m c 1 t)) (eq_ix2 (n0 := 1536) (n1 := 17408) j)).trans ((stored2 m c t (j 0) (j 1)).trans (congrArg (codes m c) (Shape.idx_ext₂ ?_ ?_)))
    · show (j 0).val = win0_2.index t 0 * 1536 + 1 * (j 0).val; rw [(ind2 t).1]; omega
    · show (j 1).val = win0_2.index t 1 * 17408 + 1 * (j 1).val; rw [(ind2 t).2]; omega
  · exact ⟨⟨0, by rw [show cfg0.N = 1 from N_0]; omega⟩, flush0_2 _, mem2 _ i⟩

end Cert.ActQuantRefIdeal.Hand

end
-- ==== Proof.ActQuantAlg.lean ====
/-
  The gated activations by rows: the quantising kernel and its reference end with equal codes and equal scales.
-/
module

public import proofs.«01_k».proof.Defs
public import proofs.«01_k».proof.Proof.ActQuantIdealRun
public import proofs.«01_k».proof.Proof.ActQuantRef

@[expose] public section

noncomputable section

namespace Cert.Proof

open Idealize.ShloMosaic Idealize.SL.Sem

/-- The rows agree once the arguments do. -/
theorem row_ActQuant (m : (ℓ : Loc Cert.ActQuantIdeal.nD Cert.ActQuantIdeal.τ Cert.ActQuantIdeal.sig) → Buf (Elt Ideal) ℓ)
    (m' : (ℓ : Loc Cert.ActQuantRefIdeal.nD Cert.ActQuantRefIdeal.τ Cert.ActQuantRefIdeal.sig) → Buf (Elt Ideal) ℓ) (c : Dev Cert.ActQuantIdeal.nD)
    (h : m' ((c.tc : Thread Cert.ActQuantRefIdeal.nD Cert.ActQuantRefIdeal.τ).loc Cert.ActQuantRefIdeal.main_arg0) = m ((c.tc : Thread Cert.ActQuantIdeal.nD Cert.ActQuantIdeal.τ).loc Cert.ActQuantIdeal.main_arg0)) (q : Fin 1536) :
    Cert.ActQuantRefIdeal.Hand.row m' c q = Cert.ActQuantIdeal.Hand.row m c q := by
  funext k
  unfold Cert.ActQuantRefIdeal.Hand.row Cert.ActQuantIdeal.Hand.row Cert.ActQuantRefIdeal.Hand.input Cert.ActQuantIdeal.Hand.input
  rw [h]

theorem codes_ActQuant (m : (ℓ : Loc Cert.ActQuantIdeal.nD Cert.ActQuantIdeal.τ Cert.ActQuantIdeal.sig) → Buf (Elt Ideal) ℓ)
    (m' : (ℓ : Loc Cert.ActQuantRefIdeal.nD Cert.ActQuantRefIdeal.τ Cert.ActQuantRefIdeal.sig) → Buf (Elt Ideal) ℓ) (c : Dev Cert.ActQuantIdeal.nD)
    (h : m' ((c.tc : Thread Cert.ActQuantRefIdeal.nD Cert.ActQuantRefIdeal.τ).loc Cert.ActQuantRefIdeal.main_arg0) = m ((c.tc : Thread Cert.ActQuantIdeal.nD Cert.ActQuantIdeal.τ).loc Cert.ActQuantIdeal.main_arg0)) :
    Cert.ActQuantRefIdeal.Hand.codes m' c = Cert.ActQuantIdeal.Hand.codes m c := by
  funext j
  unfold Cert.ActQuantRefIdeal.Hand.codes Cert.ActQuantIdeal.Hand.codes
  exact congrArg₂ Quant.code (congrArg Quant.rowScale (row_ActQuant m m' c h (j 0))) (congrFun (row_ActQuant m m' c h (j 0)) (j 1))

theorem scales_ActQuant (m : (ℓ : Loc Cert.ActQuantIdeal.nD Cert.ActQuantIdeal.τ Cert.ActQuantIdeal.sig) → Buf (Elt Ideal) ℓ)
    (m' : (ℓ : Loc Cert.ActQuantRefIdeal.nD Cert.ActQuantRefIdeal.τ Cert.ActQuantRefIdeal.sig) → Buf (Elt Ideal) ℓ) (c : Dev Cert.ActQuantIdeal.nD)
    (h : m' ((c.tc : Thread Cert.ActQuantRefIdeal.nD Cert.ActQuantRefIdeal.τ).loc Cert.ActQuantRefIdeal.main_arg0) = m ((c.tc : Thread Cert.ActQuantIdeal.nD Cert.ActQuantIdeal.τ).loc Cert.ActQuantIdeal.main_arg0)) :
    Cert.ActQuantRefIdeal.Hand.scales m' c = Cert.ActQuantIdeal.Hand.scales m c := by
  funext y
  unfold Cert.ActQuantRefIdeal.Hand.scales Cert.ActQuantIdeal.Hand.scales
  rw [row_ActQuant m m' c h]

theorem algebraic_ActQuant : algebraic_ActQuantIdeal_ActQuantRefIdeal (hActQuantIdeal := Cert.ActQuantIdeal.Gen.facts) (hActQuantRefIdeal := Cert.ActQuantRefIdeal.Gen.facts) := by
  intro m g m' g' _ hag
  refine ⟨fun c => Cert.ActQuantIdeal.Hand.codes m c, fun c => Cert.ActQuantIdeal.Hand.scales m c, ?_, ?_⟩
  · refine (θ_run _ _ _).mono (fun r h c => ⟨?_, ?_, ?_⟩) (Cert.ActQuantIdeal.Hand.run_main (F := Ideal) m g)
    · exact (Cert.ActQuantIdeal.Hand.final_exact m c h.1 1 rfl).trans (Cert.ActQuantIdeal.Hand.final_codes m c)
    · exact (Cert.ActQuantIdeal.Hand.final_dense m c h.1).trans (Cert.ActQuantIdeal.Hand.dense_eq m c)
    · exact (Pipeline.RDat.FramePost.arr_in h.1 c 0 rfl).trans (Cert.ActQuantIdeal.Gen.V_main_arg0 m c)
  · refine (θ_run _ _ _).mono (fun r h c => ⟨?_, ?_, ?_⟩) (Cert.ActQuantRefIdeal.Gen.run_main (F := Ideal) m' g')
    · exact (Cert.ActQuantRefIdeal.Value.post2 m' r h c).trans ((Cert.ActQuantRefIdeal.Hand.final2 m' c).trans (codes_ActQuant m m' c (hag c)))
    · exact ((h c).2 Cert.ActQuantRefIdeal.main_v7 (Pipeline.mem_restRefs_of Cert.ActQuantRefIdeal.main_v7 (by decide) (by decide))).trans
        ((Cert.ActQuantRefIdeal.Hand.dense_eq m' c).trans (scales_ActQuant m m' c (hag c)))
    · exact Cert.ActQuantRefIdeal.Value.kept_main_arg0 m' r h c

end Cert.Proof

end
-- ==== Proof.XQuantIdealBody.lean ====
/-
  Normalising the hidden states and quantising them by rows: the call terminates and its arguments end unchanged, and what it leaves in its buffers.

  A grid point quantises 128 rows, in four strips of 32. It stores their codes, their scales each repeated over 128
  lanes (`rep`), and, read back off the diagonal of that block, the 128 scales as one row of the dense 12 by 128
  array, at the row numbered by the point. The dense array stays in its staging buffer over the whole grid and is
  written back once, after the last point. So what a point leaves there depends on what it found; of it the proof
  says only that rows 0, …, t hold their scales after point t (`Rel`), which at the last point is the whole array.
-/
module

public import proofs.«01_k».proof.Proof.Gen.XQuantIdeal.Frame
public import proofs.«01_k».proof.Proof.Gen.XQuantIdeal.Skeleton
public import Idealize.ShloMosaic.Lib.Pipeline.DatRel
public import Idealize.ShloMosaic.Lib.Pipeline.ArrRel
public import Idealize.ShloMosaic.Lib.Pipeline.Value
public import Idealize.ShloMosaic.Lib.Pointwise
public import Idealize.ShloMosaic.Lib.WritesUnit
public import Idealize.ShloMosaic.Lib.Tactic

@[expose] public section

set_option maxRecDepth 16384

noncomputable section

namespace Cert.XQuantIdeal.Hand

open Cert.XQuantIdeal Cert.XQuantIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in the output blocks -/

abbrev cr0 : Rect S128x5120 := Rect.unit (s := S128x5120) ![0, 0] S32x5120.size inb_S128x5120_S32x5120_0_0
abbrev cr32 : Rect S128x5120 := Rect.unit (s := S128x5120) ![32, 0] S32x5120.size inb_S128x5120_S32x5120_32_0
abbrev cr64 : Rect S128x5120 := Rect.unit (s := S128x5120) ![64, 0] S32x5120.size inb_S128x5120_S32x5120_64_0
abbrev cr96 : Rect S128x5120 := Rect.unit (s := S128x5120) ![96, 0] S32x5120.size inb_S128x5120_S32x5120_96_0
abbrev sr0 : Rect S128x128 := Rect.unit (s := S128x128) ![0, 0] S32x128.size inb_S128x128_S32x128_0_0
abbrev sr32 : Rect S128x128 := Rect.unit (s := S128x128) ![32, 0] S32x128.size inb_S128x128_S32x128_32_0
abbrev sr64 : Rect S128x128 := Rect.unit (s := S128x128) ![64, 0] S32x128.size inb_S128x128_S32x128_64_0
abbrev sr96 : Rect S128x128 := Rect.unit (s := S128x128) ![96, 0] S32x128.size inb_S128x128_S32x128_96_0
abbrev srAll : Rect S128x128 := Rect.unit (s := S128x128) ![0, 0] S128x128.size inb_S128x128_S128x128_0_0
abbrev wr : Rect S1x5120 := Rect.unit (s := S1x5120) ![0, 0] S1x5120.size inb_S1x5120_S1x5120_0_0

/-- The block of codes. -/
def codesBlk (x0 : Vec F S128x5120 .bf16) (x1 : Vec F S1x5120 .f32) : Vec F S128x5120 .fp8e4m3 :=
  View.canon [⟨cr96, k0_pay16 (View.ld x0 cr96) (View.ld x1 wr)⟩,
    ⟨cr64, k0_pay12 (View.ld x0 cr64) (View.ld x1 wr)⟩,
    ⟨cr32, k0_pay8 (View.ld x0 cr32) (View.ld x1 wr)⟩,
    ⟨cr0, k0_pay4 (View.ld x0 cr0) (View.ld x1 wr)⟩]

/-- The block of scales, each repeated over 128 lanes. -/
def repBlk (x0 : Vec F S128x5120 .bf16) (x1 : Vec F S1x5120 .f32) : Vec F S128x128 .f32 :=
  View.canon [⟨sr96, k0_pay17 (View.ld x0 cr96) (View.ld x1 wr)⟩,
    ⟨sr64, k0_pay13 (View.ld x0 cr64) (View.ld x1 wr)⟩,
    ⟨sr32, k0_pay9 (View.ld x0 cr32) (View.ld x1 wr)⟩,
    ⟨sr0, k0_pay5 (View.ld x0 cr0) (View.ld x1 wr)⟩]

theorem cover_codes (p0 p1 p2 p3 : Vec F S32x5120 .fp8e4m3) (y : S128x5120.Idx) :
    ∃ pc ∈ ([⟨cr96, p0⟩, ⟨cr64, p1⟩, ⟨cr32, p2⟩, ⟨cr0, p3⟩] : List (View.Piece (Elt F) S128x5120 .fp8e4m3)), y ∈ pc.1.set :=
  View.cover_of_tiled [⟨cr96, p0⟩, ⟨cr64, p1⟩, ⟨cr32, p2⟩, ⟨cr0, p3⟩] S32x5120.size (by rfl) y

theorem cover_rep (p0 p1 p2 p3 : Vec F S32x128 .f32) (y : S128x128.Idx) :
    ∃ pc ∈ ([⟨sr96, p0⟩, ⟨sr64, p1⟩, ⟨sr32, p2⟩, ⟨sr0, p3⟩] : List (View.Piece (Elt F) S128x128 .f32)), y ∈ pc.1.set :=
  View.cover_of_tiled [⟨sr96, p0⟩, ⟨sr64, p1⟩, ⟨sr32, p2⟩, ⟨sr0, p3⟩] S32x128.size (by rfl) y

/-- The 128 scales as one row: the diagonal of the block of repeated scales. -/
def rowVal (x0 : Vec F S128x5120 .bf16) (x1 : Vec F S1x5120 .f32) : Vec F S1x128 .f32 := k0_pay1 (View.ld (repBlk x0 x1) srAll)

/-- `Y` with its row `n` replaced by `v`. -/
def putRow (n : ℕ) (v : Vec F S1x128 .f32) (Y : Vec F S12x128 .f32) : Vec F S12x128 .f32 := fun y =>
  if (y 0).val = n then v (ix2 0 (y 1)) else Y y

/-! ## The body -/

set_option maxHeartbeats 1000000 in
/-- The body, for any continuation: the inputs are as they were, the codes and the repeated scales are stored whole,
    and in the dense array the row of the point is replaced. -/
theorem sound_kernel (c : Dev nD) (E : Set ℕ) (i : grid0.Coords) (arg1 : Memref sig .tc .vmem S128x5120 .bf16) (harg1 : arg1.IsWhole) (arg2 : Memref sig .tc .vmem S1x5120 .f32) (harg2 : arg2.IsWhole) (arg3 : Memref sig .tc .vmem S128x5120 .fp8e4m3) (harg3 : arg3.IsWhole) (arg4 : Memref sig .tc .vmem S128x128 .f32) (harg4 : arg4.IsWhole) (arg5 : Memref sig .tc .vmem S12x128 .f32) (harg5 : arg5.IsWhole)
    (x0 : Vec F S128x5120 .bf16) (x1 : Vec F S1x5120 .f32) (Y : Vec F S12x128 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare Y
        ∗ (iprop(owns (c : Thread nD τ) arg1 fullShare x0 ∗ owns (c : Thread nD τ) arg2 fullShare x1 ∗ owns (c : Thread nD τ) arg3 fullShare (codesBlk x0 x1) ∗ owns (c : Thread nD τ) arg4 fullShare (repBlk x0 x1) ∗ owns (c : Thread nD τ) arg5 fullShare (putRow (i 0).val (rowVal x0 x1) Y)) -∗ K ⟨⟩))
      ⊢ wp frame (wpE (defs₀ (F := F)) Variants.none c none) E (cc0_x_norm_quant i arg1 harg1 arg2 harg2 arg3 harg3 arg4 harg4 arg5 harg5) K := by
  simp only [cc0_x_norm_quant_eq_skeleton]; unfold cc0_x_norm_quant_skel
  simp only [k0_part1_eq_skeleton, k0_part2_eq_skeleton, k0_part3_eq_skeleton, k0_part4_eq_skeleton]
  unfold owns
  iintro ⟨⟨%f0, %hf0, H0⟩, ⟨%f1, %hf1, H1⟩, ⟨%dc, %fc, -, HC⟩, ⟨%dr, %fr, -, HR⟩, ⟨%fd, %hfd, HD⟩, Hk⟩
  subst hf0 hf1 hfd
  sl_exec
  sl_step
  iapply Hk
  isplitl [H0]
  · iexists f0; isplitr; · ipureintro; rfl
    iexact H0
  isplitl [H1]
  · iexists f1; isplitr; · ipureintro; rfl
    iexact H1
  isplitl [HC]
  · iexists _; isplitr
    swap; · iexact HC
    ipureintro
    refine (View.read_writes_eq_canon _ _ _ (cover_codes _ _ _ _)).trans ?_
    rfl
  isplitl [HR]
  · iexists _; isplitr
    swap; · iexact HR
    ipureintro
    refine (View.read_writes_eq_canon _ _ _ (cover_rep _ _ _ _)).trans ?_
    rfl
  iexists _; isplitr
  swap; · iexact HD
  ipureintro
  funext y
  unfold putRow
  by_cases hy : (y 0).val = (i 0).val
  · rw [if_pos hy]
    refine (View.read_writes_cons_rows_of_mem (d := S12x128.size) _ _ (off := k0_off1 i) (size := S1x128.size) (k0_off1_inb i) _ _ y (ix2 0 (y 1)) (k0_off1_eq i) (hy.trans (Nat.add_zero _).symm) rfl).trans ?_
    unfold rowVal
    refine congrFun (congrArg k0_pay1 ?_) _
    exact View.readCov_eq_canon_ld _ _ _ (cover_rep _ _ _ _)
  · rw [if_neg hy]
    refine (View.read_writes_cons_rows_of_not_mem (d := S12x128.size) (W := 1) _ _ (off := k0_off1 i) (size := S1x128.size) (k0_off1_inb i) _ _ y (k0_off1_eq i) rfl (by omega)).trans ?_
    rfl

/-! ## The proof data -/

/-- The proof data on core `c`: the arrays as the region finds them; after a point each input's buffer at its block,
    the codes' and the repeated scales' as `codesBlk` and `repBlk` say; the dense window's contents are not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => codesBlk (iblk m c 0 t) (iblk m c 1 t)
    | ⟨3, _⟩ => repBlk (iblk m c 0 t) (iblk m c 1 t)
    | ⟨4, h⟩ => Dat.unnamed (cfg := cfg0) ⟨4, h⟩ t
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = codesBlk (iblk m c 0 t) (iblk m c 1 t) := by dsimp only [dats]
theorem after0_3 (c : Dev nD) (t : Fin cfg0.N) : (dats m 0 c).after 3 t = repBlk (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The point that writes row `y 0` of the dense array. -/
def pt (y : S12x128.Idx) : Fin cfg0.N := ⟨(y 0).val, lt_of_lt_of_eq (y 0).isLt N_0.symm⟩

/-- The dense array: row `u` is the scales of point `u`. -/
def dense (c : Dev nD) : Vec F S12x128 .f32 := fun y => rowVal (iblk m c 0 (pt y)) (iblk m c 1 (pt y)) (ix2 0 (y 1))

/-- What holds of the dense window after point `t`: the rows up to `t` hold their scales. -/
def Rel (c : Dev nD) : (w : Fin cfg0.W) → (t : Fin cfg0.N) → ((cfg0.win w).block.Idx → Elt F (cfg0.win w).elt) → Prop
  | ⟨4, _⟩, t, X => ∀ y : S12x128.Idx, (y 0).val ≤ t.val → (X : Vec F S12x128 .f32) y = dense m c y
  | _, _, _ => True

/-- The dense window is the one that is held to `Rel`. -/
def fgt : Fin cfg0.W → Bool
  | ⟨4, _⟩ => true
  | _ => false

/-- The relational proof data. -/
abbrev rdat (c : Dev nD) : RDat τ (Elt F) Unit ℕ (UR sig nD τ) ℕ cfg0 c := (dats m 0 c).toRRel fgt (Rel m c)

/-- Before point `t > 0` the rows below `t` hold their scales. -/
theorem finds (c : Dev nD) (t : Fin cfg0.N) (Y) (h : (rdat m c).Finds 4 t Y) :
    ∀ y : S12x128.Idx, (y 0).val < t.val → (Y : Vec F S12x128 .f32) y = dense m c y := by
  intro y hy
  have hN : t.val < 12 := lt_of_lt_of_eq t.isLt N_0
  have ht : t.val ≠ 0 := by omega
  have h1 := ((rdat m c).finds_of_pos (w := 4) rfl ht Y).mp h
  rcases h1 with h1 | h1
  · exact absurd ((flush0_4 _).mp h1) (by show ¬ (t.val - 1) % 12 = 11; omega)
  · have h2 := (dats m 0 c).toRRel_leaves (fgt := fgt) (Rl := Rel m c) (w := 4) rfl h1
    exact h2 y (by show (y 0).val ≤ t.val - 1; omega)

theorem coord0 : ∀ t : Fin cfg0.N, (grid0.coords t 0).val = t.val :=
  (by decide +kernel : ∀ t : Fin grid0.N, (grid0.coords t 0).val = t.val)

/-- Replacing row `t` extends the relation from the rows below `t` to the rows up to `t`. -/
theorem rel_step (c : Dev nD) (t : Fin cfg0.N) (Y : Vec F S12x128 .f32)
    (h : ∀ y : S12x128.Idx, (y 0).val < t.val → Y y = dense m c y) :
    Rel m c 4 t (putRow (grid0.coords t 0).val (rowVal (iblk m c 0 t) (iblk m c 1 t)) Y) := by
  intro y hy
  show putRow (grid0.coords t 0).val (rowVal (iblk m c 0 t) (iblk m c 1 t)) Y y = dense m c y
  unfold putRow
  rw [coord0 t]
  by_cases he : (y 0).val = t.val
  · rw [if_pos he]
    have e : pt y = t := Fin.ext he
    unfold dense
    rw [e]
  · rw [if_neg he]
    exact h y (by omega)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ Y, ⌜(rdat m c).Finds 4 t Y⌝ ∗ owns (c : Thread nD τ) (st0_4 t) fullShare Y))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X, ⌜Rel m c 4 t X⌝ ∗ owns (c : Thread nD τ) (st0_4 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩, ⟨%Y, %hY, HD⟩⟩
  iapply (sound_kernel c Set.univ (grid0.coords t) _ _ _ _ _ _ _ _ _ _ (iblk m c 0 t) (iblk m c 1 t) Y _)
  isplitl [H0]; · iexact H0
  isplitl [H1]; · iexact H1
  isplitl [H2]; · iexists _; iexact H2
  isplitl [H3]; · iexists _; iexact H3
  isplitl [HD]; · iexact HD
  iintro ⟨H0, H1, H2, H3, HD⟩
  isplitl [HΦ]; · iexact HΦ
  isplitl [Ho]; · iexact Ho
  isplitl [H0]; · iexact H0
  isplitl [H1]; · iexact H1
  isplitl [H2]; · iexact H2
  isplitl [H3]; · iexact H3
  iexists _; isplitr
  swap; · iexact HD
  ipureintro
  exact rel_step m c t Y (finds m c t Y hY)

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligationRel (dats (F := F) m 0 c) (defs₀ (F := F)) Variants.none () Set.univ fgt (Rel m c) := fun t => by
  rw [bigSep_W0, bigSep_W0, defs₀_row]
  exact triple_restated (sound_body m c t) rfl .rfl fun _ => .rfl

/-! ## The run -/

set_option backward.isDefEq.respectTransparency.types false in
set_option maxHeartbeats 800000 in
theorem run_main : θ_run defs (onTc (τ := τ) (main (F := F))) (s₀ m ρ)
    (fun r => RDat.FramePost (cfgs 0) (rdat m) (V m) r ∧ r.2.sem = fun _ => 0) :=
  RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- The arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨((h.1 c).2 main_arg0 (Pipeline.mem_restRefs_of main_arg0 (by decide) (by decide))).trans (V_main_arg0 m c), ((h.1 c).2 main_arg1 (Pipeline.mem_restRefs_of main_arg1 (by decide) (by decide))).trans (V_main_arg1 m c)⟩, h.2⟩) (run_main m ρ)

/-- After the run the codes' array and the repeated scales' are what the exact data name, and the dense array is `dense`. -/
theorem final_exact (c : Dev nD) {r : PUnit × MemSt nD τ sig (Elt F)} (h : RDat.FramePost (cfgs 0) (rdat m) (V m) r)
    (w : Fin cfg0.W) (hw : fgt w = false) :
    r.2.mem ((cfg0.spec w).arr.view.loc (c.tc : Thread nD τ)) = (dats m 0 c).arrAt w cfg0.N :=
  ((dats m 0 c).toR_arrAt_iff w _ _).mp (((dats m 0 c).toR.override_arrAt (by simp only [hw]) _ _).mp ((h c).1 w))

theorem whole_dense : ∃ t₀ : Fin cfg0.N, t₀.val = 11 ∧ (cfg0.win 4).WholeAt t₀ :=
  (by decide +kernel : ∃ t₀ : Fin grid0.N, t₀.val = 11 ∧ win0_4.WholeAt t₀)

theorem final_dense (c : Dev nD) {r : PUnit × MemSt nD τ sig (Elt F)} (h : RDat.FramePost (cfgs 0) (rdat m) (V m) r) :
    r.2.mem ((c : Thread nD τ).loc main_v2_2) = dense m c := by
  obtain ⟨t₀, h11, hW⟩ := whole_dense
  obtain ⟨X, hL, hX⟩ := RDat.ArrAt.emb_eq_of_wholeAt ((h c).1 4) hW
  have hR := (dats m 0 c).toRRel_leaves (fgt := fgt) (Rl := Rel m c) (w := 4) rfl hL
  funext y
  have hy : (y 0).val < 12 := (y 0).isLt
  refine (hX y).trans ?_
  exact hR y (by omega)

end Cert.XQuantIdeal.Hand

end
-- ==== Proof.XQuantIdealRun.lean ====
/-
  Normalising the hidden states and quantising them by rows, over the extended reals: the codes and scales the call leaves, entry by entry.

  A grid point's four strips agree with one formula each for its codes and its repeated scales; the diagonal of the
  block of repeated scales is the row of 128 scales that goes to the dense array.
-/
module

public import proofs.«01_k».proof.Proof.XQuantIdealBody
public import proofs.«01_k».proof.Proof.Quant

@[expose] public section

set_option maxRecDepth 16384

noncomputable section

namespace Cert.XQuantIdeal.Hand

open Cert.XQuantIdeal Cert.XQuantIdeal.Gen Idealize.ShloMosaic Idealize.ShloMosaic.TcCoe Idealize.SL.Sem
open Idealize.ShloMosaic.Pipeline (Dat RDat)

/-! ## One strip -/

/-- The column of scales for a column of largest magnitudes. -/
theorem scaleOf_col (A : FVec Ideal S32 .f32) :
    select (cmpf .oeq (shapeCast S32x1 A shapeCasts_S32_S32x1) (broadcast S32x1 (FloatOps.ofBits .f32 0x00000000#32)))
      (broadcast S32x1 (FloatOps.ofBits .f32 0x3F800000#32))
      (divf (shapeCast S32x1 A shapeCasts_S32_S32x1) (broadcast S32x1 (FloatOps.ofBits .f32 0x43E00000#32)))
      = (fun j => Quant.scaleOf (A (ix1 (j 0))) : FVec Ideal S32x1 .f32) := by
  funext j
  obtain ⟨r, l, rfl⟩ : ∃ (r : Fin 32) (l : Fin 1), ix2 r l = j := ⟨j 0, j 1, (eq_ix2 (n0 := 32) (n1 := 1) j).symm⟩
  obtain rfl : l = 0 := Subsingleton.elim _ _
  pointwise [Quant.scaleOf]

section Strips
variable (v : Vec Ideal S32x5120 .bf16) (w : Vec Ideal S1x5120 .f32)

theorem codes0 (r : Fin 32) (l : Fin 5120) : (k0_pay4 (F := Ideal) v w : Vec Ideal S32x5120 .fp8e4m3) (ix2 r l) = Quant.codeMul (Quant.rowScale (Quant.normRow (fun k => v (ix2 r k)) (fun k => w (ix2 0 k)))) ((Quant.normRow (fun k => v (ix2 r k)) (fun k => w (ix2 0 k))) l) := by
  unfold_payloads
  dsimp only
  simp only [scaleOf_col]
  pointwise [Quant.codeMul, Quant.rowScale, Quant.rowMax, Quant.normRow, Quant.meanSq]

theorem rep0 (r : Fin 32) (l : Fin 128) : (k0_pay5 (F := Ideal) v w : Vec Ideal S32x128 .f32) (ix2 r l) = Quant.rowScale (Quant.normRow (fun k => v (ix2 r k)) (fun k => w (ix2 0 k))) := by
  unfold_payloads
  dsimp only
  simp only [scaleOf_col]
  pointwise [Quant.rowScale, Quant.rowMax, Quant.normRow, Quant.meanSq]

theorem codes1 (r : Fin 32) (l : Fin 5120) : (k0_pay8 (F := Ideal) v w : Vec Ideal S32x5120 .fp8e4m3) (ix2 r l) = Quant.codeMul (Quant.rowScale (Quant.normRow (fun k => v (ix2 r k)) (fun k => w (ix2 0 k)))) ((Quant.normRow (fun k => v (ix2 r k)) (fun k => w (ix2 0 k))) l) := by
  unfold_payloads
  dsimp only
  simp only [scaleOf_col]
  pointwise [Quant.codeMul, Quant.rowScale, Quant.rowMax, Quant.normRow, Quant.meanSq]

theorem rep1 (r : Fin 32) (l : Fin 128) : (k0_pay9 (F := Ideal) v w : Vec Ideal S32x128 .f32) (ix2 r l) = Quant.rowScale (Quant.normRow (fun k => v (ix2 r k)) (fun k => w (ix2 0 k))) := by
  unfold_payloads
  dsimp only
  simp only [scaleOf_col]
  pointwise [Quant.rowScale, Quant.rowMax, Quant.normRow, Quant.meanSq]

theorem codes2 (r : Fin 32) (l : Fin 5120) : (k0_pay12 (F := Ideal) v w : Vec Ideal S32x5120 .fp8e4m3) (ix2 r l) = Quant.codeMul (Quant.rowScale (Quant.normRow (fun k => v (ix2 r k)) (fun k => w (ix2 0 k)))) ((Quant.normRow (fun k => v (ix2 r k)) (fun k => w (ix2 0 k))) l) := by
  unfold_payloads
  dsimp only
  simp only [scaleOf_col]
  pointwise [Quant.codeMul, Quant.rowScale, Quant.rowMax, Quant.normRow, Quant.meanSq]

theorem rep2 (r : Fin 32) (l : Fin 128) : (k0_pay13 (F := Ideal) v w : Vec Ideal S32x128 .f32) (ix2 r l) = Quant.rowScale (Quant.normRow (fun k => v (ix2 r k)) (fun k => w (ix2 0 k))) := by
  unfold_payloads
  dsimp only
  simp only [scaleOf_col]
  pointwise [Quant.rowScale, Quant.rowMax, Quant.normRow, Quant.meanSq]

theorem codes3 (r : Fin 32) (l : Fin 5120) : (k0_pay16 (F := Ideal) v w : Vec Ideal S32x5120 .fp8e4m3) (ix2 r l) = Quant.codeMul (Quant.rowScale (Quant.normRow (fun k => v (ix2 r k)) (fun k => w (ix2 0 k)))) ((Quant.normRow (fun k => v (ix2 r k)) (fun k => w (ix2 0 k))) l) := by
  unfold_payloads
  dsimp only
  simp only [scaleOf_col]
  pointwise [Quant.codeMul, Quant.rowScale, Quant.rowMax, Quant.normRow, Quant.meanSq]

theorem rep3 (r : Fin 32) (l : Fin 128) : (k0_pay17 (F := Ideal) v w : Vec Ideal S32x128 .f32) (ix2 r l) = Quant.rowScale (Quant.normRow (fun k => v (ix2 r k)) (fun k => w (ix2 0 k))) := by
  unfold_payloads
  dsimp only
  simp only [scaleOf_col]
  pointwise [Quant.rowScale, Quant.rowMax, Quant.normRow, Quant.meanSq]

end Strips

theorem pick (v : Vec Ideal S128x128 .f32) (l : Fin 128) : (k0_pay1 v : Vec Ideal S1x128 .f32) (ix2 0 l) = v (ix2 l l) := by
  unfold_payloads
  pointwise
  exact Quant.diag (v := fun x => v (ix2 x l)) l

/-! ## One grid point -/

/-- Row `r` of a block of 128 rows, as it is quantised. -/
def blkRow (x0 : Vec Ideal S128x5120 .bf16) (x1 : Vec Ideal S1x5120 .f32) (r : Fin 128) : Fin 5120 → EReal :=
  (Quant.normRow (fun k => x0 (ix2 r k)) (fun k => x1 (ix2 0 k)))

/-- The code at row `r`, column `l` of the block. -/
def blkCode (x0 : Vec Ideal S128x5120 .bf16) (x1 : Vec Ideal S1x5120 .f32) (r : Fin 128) (l : Fin 5120) : EReal :=
  Quant.code (Quant.rowScale (blkRow x0 x1 r)) (blkRow x0 x1 r l)

/-- The scale of row `r` of the block. -/
def blkScale (x0 : Vec Ideal S128x5120 .bf16) (x1 : Vec Ideal S1x5120 .f32) (r : Fin 128) : EReal := Quant.rowScale (blkRow x0 x1 r)

variable (x0 : Vec Ideal S128x5120 .bf16) (x1 : Vec Ideal S1x5120 .f32)

theorem zero2 : (![0, 0] : Fin 2 → Nat) = fun _ => 0 := funext fun a => by fin_cases a <;> rfl

theorem ldw : View.ld x1 wr = x1 := View.ld_unit_zero (S := S1x5120) zero2 _ x1

theorem ld0 (r : Fin 32) (k : Fin 5120) : View.ld x0 cr0 (ix2 r k) = x0 (ix2 ⟨0 + r.val, by omega⟩ k) :=
  congrArg x0 (Shape.idx_ext₂ (by show 0 + 1 * r.val = 0 + r.val; omega) (by show 0 + 1 * k.val = k.val; omega))

theorem ld32 (r : Fin 32) (k : Fin 5120) : View.ld x0 cr32 (ix2 r k) = x0 (ix2 ⟨32 + r.val, by omega⟩ k) :=
  congrArg x0 (Shape.idx_ext₂ (by show 32 + 1 * r.val = 32 + r.val; omega) (by show 0 + 1 * k.val = k.val; omega))

theorem ld64 (r : Fin 32) (k : Fin 5120) : View.ld x0 cr64 (ix2 r k) = x0 (ix2 ⟨64 + r.val, by omega⟩ k) :=
  congrArg x0 (Shape.idx_ext₂ (by show 64 + 1 * r.val = 64 + r.val; omega) (by show 0 + 1 * k.val = k.val; omega))

theorem ld96 (r : Fin 32) (k : Fin 5120) : View.ld x0 cr96 (ix2 r k) = x0 (ix2 ⟨96 + r.val, by omega⟩ k) :=
  congrArg x0 (Shape.idx_ext₂ (by show 96 + 1 * r.val = 96 + r.val; omega) (by show 0 + 1 * k.val = k.val; omega))

theorem codesBlk_eq : codesBlk x0 x1 = fun j => blkCode x0 x1 (j 0) (j 1) := by
  funext y
  unfold codesBlk
  refine View.canon_apply_of_pieces (fun j => blkCode x0 x1 (j 0) (j 1)) _ ?_ y (cover_codes (F := Ideal) _ _ _ _ y)
  intro p hp
  simp only [List.mem_cons, List.mem_nil_iff, or_false] at hp
  rcases hp with rfl | rfl | rfl | rfl
  · intro (x : S32x5120.Idx)
    obtain ⟨r, l, rfl⟩ : ∃ (r : Fin 32) (l : Fin 5120), ix2 r l = x := ⟨x 0, x 1, (eq_ix2 (n0 := 32) (n1 := 5120) x).symm⟩
    have e0 : ((cr96.emb (ix2 r l)) 0 : Fin 128) = (⟨96 + r.val, by omega⟩ : Fin 128) := Fin.ext (by show 96 + 1 * r.val = 96 + r.val; omega)
    have e1 : ((cr96.emb (ix2 r l)) 1 : Fin 5120) = l := Fin.ext (by show 0 + 1 * l.val = l.val; omega)
    show (k0_pay16 (F := Ideal) (View.ld x0 cr96) (View.ld x1 wr) : Vec Ideal S32x5120 .fp8e4m3) (ix2 r l) = blkCode x0 x1 ((cr96.emb (ix2 r l)) 0) ((cr96.emb (ix2 r l)) 1)
    rw [e0, e1, codes3, Quant.codeMul_rowScale]
    unfold blkCode blkRow
    exact congrArg₂ (fun f g : Fin 5120 → EReal => Quant.code (Quant.rowScale (Quant.normRow f g)) (Quant.normRow f g l)) (funext fun k => ld96 x0 r k) (funext fun k => congrFun (ldw x1) (ix2 0 k))
  · intro (x : S32x5120.Idx)
    obtain ⟨r, l, rfl⟩ : ∃ (r : Fin 32) (l : Fin 5120), ix2 r l = x := ⟨x 0, x 1, (eq_ix2 (n0 := 32) (n1 := 5120) x).symm⟩
    have e0 : ((cr64.emb (ix2 r l)) 0 : Fin 128) = (⟨64 + r.val, by omega⟩ : Fin 128) := Fin.ext (by show 64 + 1 * r.val = 64 + r.val; omega)
    have e1 : ((cr64.emb (ix2 r l)) 1 : Fin 5120) = l := Fin.ext (by show 0 + 1 * l.val = l.val; omega)
    show (k0_pay12 (F := Ideal) (View.ld x0 cr64) (View.ld x1 wr) : Vec Ideal S32x5120 .fp8e4m3) (ix2 r l) = blkCode x0 x1 ((cr64.emb (ix2 r l)) 0) ((cr64.emb (ix2 r l)) 1)
    rw [e0, e1, codes2, Quant.codeMul_rowScale]
    unfold blkCode blkRow
    exact congrArg₂ (fun f g : Fin 5120 → EReal => Quant.code (Quant.rowScale (Quant.normRow f g)) (Quant.normRow f g l)) (funext fun k => ld64 x0 r k) (funext fun k => congrFun (ldw x1) (ix2 0 k))
  · intro (x : S32x5120.Idx)
    obtain ⟨r, l, rfl⟩ : ∃ (r : Fin 32) (l : Fin 5120), ix2 r l = x := ⟨x 0, x 1, (eq_ix2 (n0 := 32) (n1 := 5120) x).symm⟩
    have e0 : ((cr32.emb (ix2 r l)) 0 : Fin 128) = (⟨32 + r.val, by omega⟩ : Fin 128) := Fin.ext (by show 32 + 1 * r.val = 32 + r.val; omega)
    have e1 : ((cr32.emb (ix2 r l)) 1 : Fin 5120) = l := Fin.ext (by show 0 + 1 * l.val = l.val; omega)
    show (k0_pay8 (F := Ideal) (View.ld x0 cr32) (View.ld x1 wr) : Vec Ideal S32x5120 .fp8e4m3) (ix2 r l) = blkCode x0 x1 ((cr32.emb (ix2 r l)) 0) ((cr32.emb (ix2 r l)) 1)
    rw [e0, e1, codes1, Quant.codeMul_rowScale]
    unfold blkCode blkRow
    exact congrArg₂ (fun f g : Fin 5120 → EReal => Quant.code (Quant.rowScale (Quant.normRow f g)) (Quant.normRow f g l)) (funext fun k => ld32 x0 r k) (funext fun k => congrFun (ldw x1) (ix2 0 k))
  · intro (x : S32x5120.Idx)
    obtain ⟨r, l, rfl⟩ : ∃ (r : Fin 32) (l : Fin 5120), ix2 r l = x := ⟨x 0, x 1, (eq_ix2 (n0 := 32) (n1 := 5120) x).symm⟩
    have e0 : ((cr0.emb (ix2 r l)) 0 : Fin 128) = (⟨0 + r.val, by omega⟩ : Fin 128) := Fin.ext (by show 0 + 1 * r.val = 0 + r.val; omega)
    have e1 : ((cr0.emb (ix2 r l)) 1 : Fin 5120) = l := Fin.ext (by show 0 + 1 * l.val = l.val; omega)
    show (k0_pay4 (F := Ideal) (View.ld x0 cr0) (View.ld x1 wr) : Vec Ideal S32x5120 .fp8e4m3) (ix2 r l) = blkCode x0 x1 ((cr0.emb (ix2 r l)) 0) ((cr0.emb (ix2 r l)) 1)
    rw [e0, e1, codes0, Quant.codeMul_rowScale]
    unfold blkCode blkRow
    exact congrArg₂ (fun f g : Fin 5120 → EReal => Quant.code (Quant.rowScale (Quant.normRow f g)) (Quant.normRow f g l)) (funext fun k => ld0 x0 r k) (funext fun k => congrFun (ldw x1) (ix2 0 k))

theorem repBlk_eq : repBlk x0 x1 = fun j => blkScale x0 x1 (j 0) := by
  funext y
  unfold repBlk
  refine View.canon_apply_of_pieces (fun j => blkScale x0 x1 (j 0)) _ ?_ y (cover_rep (F := Ideal) _ _ _ _ y)
  intro p hp
  simp only [List.mem_cons, List.mem_nil_iff, or_false] at hp
  rcases hp with rfl | rfl | rfl | rfl
  · intro (x : S32x128.Idx)
    obtain ⟨r, l, rfl⟩ : ∃ (r : Fin 32) (l : Fin 128), ix2 r l = x := ⟨x 0, x 1, (eq_ix2 (n0 := 32) (n1 := 128) x).symm⟩
    have e0 : ((sr96.emb (ix2 r l)) 0 : Fin 128) = (⟨96 + r.val, by omega⟩ : Fin 128) := Fin.ext (by show 96 + 1 * r.val = 96 + r.val; omega)
    dsimp only
    refine (rep3 (View.ld x0 cr96) (View.ld x1 wr) r l).trans (Eq.trans (b := blkScale x0 x1 ⟨96 + r.val, by omega⟩) ?_ (congrArg (blkScale x0 x1) e0.symm))
    unfold blkScale blkRow
    exact congrArg₂ (fun f g : Fin 5120 → EReal => Quant.rowScale (Quant.normRow f g)) (funext fun k => ld96 x0 r k) (funext fun k => congrFun (ldw x1) (ix2 0 k))
  · intro (x : S32x128.Idx)
    obtain ⟨r, l, rfl⟩ : ∃ (r : Fin 32) (l : Fin 128), ix2 r l = x := ⟨x 0, x 1, (eq_ix2 (n0 := 32) (n1 := 128) x).symm⟩
    have e0 : ((sr64.emb (ix2 r l)) 0 : Fin 128) = (⟨64 + r.val, by omega⟩ : Fin 128) := Fin.ext (by show 64 + 1 * r.val = 64 + r.val; omega)
    dsimp only
    refine (rep2 (View.ld x0 cr64) (View.ld x1 wr) r l).trans (Eq.trans (b := blkScale x0 x1 ⟨64 + r.val, by omega⟩) ?_ (congrArg (blkScale x0 x1) e0.symm))
    unfold blkScale blkRow
    exact congrArg₂ (fun f g : Fin 5120 → EReal => Quant.rowScale (Quant.normRow f g)) (funext fun k => ld64 x0 r k) (funext fun k => congrFun (ldw x1) (ix2 0 k))
  · intro (x : S32x128.Idx)
    obtain ⟨r, l, rfl⟩ : ∃ (r : Fin 32) (l : Fin 128), ix2 r l = x := ⟨x 0, x 1, (eq_ix2 (n0 := 32) (n1 := 128) x).symm⟩
    have e0 : ((sr32.emb (ix2 r l)) 0 : Fin 128) = (⟨32 + r.val, by omega⟩ : Fin 128) := Fin.ext (by show 32 + 1 * r.val = 32 + r.val; omega)
    dsimp only
    refine (rep1 (View.ld x0 cr32) (View.ld x1 wr) r l).trans (Eq.trans (b := blkScale x0 x1 ⟨32 + r.val, by omega⟩) ?_ (congrArg (blkScale x0 x1) e0.symm))
    unfold blkScale blkRow
    exact congrArg₂ (fun f g : Fin 5120 → EReal => Quant.rowScale (Quant.normRow f g)) (funext fun k => ld32 x0 r k) (funext fun k => congrFun (ldw x1) (ix2 0 k))
  · intro (x : S32x128.Idx)
    obtain ⟨r, l, rfl⟩ : ∃ (r : Fin 32) (l : Fin 128), ix2 r l = x := ⟨x 0, x 1, (eq_ix2 (n0 := 32) (n1 := 128) x).symm⟩
    have e0 : ((sr0.emb (ix2 r l)) 0 : Fin 128) = (⟨0 + r.val, by omega⟩ : Fin 128) := Fin.ext (by show 0 + 1 * r.val = 0 + r.val; omega)
    dsimp only
    refine (rep0 (View.ld x0 cr0) (View.ld x1 wr) r l).trans (Eq.trans (b := blkScale x0 x1 ⟨0 + r.val, by omega⟩) ?_ (congrArg (blkScale x0 x1) e0.symm))
    unfold blkScale blkRow
    exact congrArg₂ (fun f g : Fin 5120 → EReal => Quant.rowScale (Quant.normRow f g)) (funext fun k => ld0 x0 r k) (funext fun k => congrFun (ldw x1) (ix2 0 k))

theorem rowVal_at (l : Fin 128) : rowVal x0 x1 (ix2 0 l) = Quant.rowScale (blkRow x0 x1 l) := by
  unfold rowVal
  rw [pick, View.ld_unit_zero (S := S128x128) zero2, repBlk_eq]
  rfl

/-! ## The whole arrays -/

variable (m : (ℓ : Loc nD τ sig) → Buf (Elt Ideal) ℓ) (ρ : Dev nD → PrngReg)

/-- The input and the weight row. -/
abbrev input (c : Dev nD) : Vec Ideal S96x16x5120 .bf16 := m (c.tc.loc main_arg0)
abbrev weight (c : Dev nD) : Vec Ideal S5120 .f32 := m (c.tc.loc main_arg1)

/-- The input as 1536 rows. -/
def rows (c : Dev nD) : Vec Ideal S1536x5120 .bf16 := shapeCast S1536x5120 (input m c) shapeCasts_S96x16x5120_S1536x5120

/-- Row `r` as it is quantised. -/
def row (c : Dev nD) (r : Fin 1536) : Fin 5120 → EReal := Quant.normRow (fun k => rows m c (ix2 r k)) (fun k => weight m c (ix1 k))

/-- The codes: entry `(r, l)` is entry `l` of row `r` over the row's scale, clipped. -/
def codes (c : Dev nD) (j : S1536x5120.Idx) : EReal := Quant.code (Quant.rowScale (row m c (j 0))) (row m c (j 0) (j 1))

/-- The scales, row `128 p + l` at `(p, l)`. -/
def scales (c : Dev nD) (y : S12x128.Idx) : EReal :=
  Quant.rowScale (row m c ⟨(y 0).val * 128 + (y 1).val, by have h0 : (y 0).val < 12 := (y 0).isLt; have h1 : (y 1).val < 128 := (y 1).isLt; omega⟩)

/-- A point's input block is its 128 rows. -/
theorem ind0 : ∀ t : Fin cfg0.N, win0_0.index t 0 = t.val ∧ win0_0.index t 1 = 0 :=
  (by decide +kernel : ∀ t : Fin grid0.N, win0_0.index t 0 = t.val ∧ win0_0.index t 1 = 0)

theorem indc : ∀ t : Fin cfg0.N, win0_2.index t 0 = t.val ∧ win0_2.index t 1 = 0 :=
  (by decide +kernel : ∀ t : Fin grid0.N, win0_2.index t 0 = t.val ∧ win0_2.index t 1 = 0)

theorem ind1 : ∀ t : Fin cfg0.N, win0_1.index t 0 = 0 ∧ win0_1.index t 1 = 0 :=
  (by decide +kernel : ∀ t : Fin grid0.N, win0_1.index t 0 = 0 ∧ win0_1.index t 1 = 0)

theorem V_rows (c : Dev nD) : (V m c main_v0 : Vec Ideal S1536x5120 .bf16) = rows m c := by
  show StableHlo.after hostOps0 (fun b => m (c, b)) (Proc.devRef .tc main_v0) = _
  after_results
  rfl

theorem V_weight (c : Dev nD) : (V m c main_v1 : Vec Ideal S1x5120 .f32) = shapeCast S1x5120 (weight m c) shapeCasts_S5120_S1x5120 := by
  show StableHlo.after hostOps0 (fun b => m (c, b)) (Proc.devRef .tc main_v1) = _
  after_results
  rfl

theorem read0 (f : Vec Ideal S1536x5120 .bf16) (t : Fin cfg0.N) (r : Fin 128) (k : Fin 5120) (h : t.val * 128 + r.val < 1536) :
    (((cfg0.win 0).blk t).view.read (Elt Ideal) f : Vec Ideal S128x5120 .bf16) (ix2 r k) = f (ix2 ⟨t.val * 128 + r.val, h⟩ k) := by
  rw [View.read_apply]
  show f _ = f _
  refine congrArg f (Shape.idx_ext₂ ?_ ?_)
  · show win0_0.index t 0 * 128 + 1 * r.val = t.val * 128 + r.val; rw [(ind0 t).1]; omega
  · show win0_0.index t 1 * 5120 + 1 * k.val = k.val; rw [(ind0 t).2]; omega

theorem read1 (f : Vec Ideal S1x5120 .f32) (t : Fin cfg0.N) : (((cfg0.win 1).blk t).view.read (Elt Ideal) f : Vec Ideal S1x5120 .f32) = f := by
  funext j
  rw [View.read_apply]
  show f _ = f j
  refine congrArg f (Shape.idx_ext₂ ?_ ?_)
  · show win0_1.index t 0 * 1 + 1 * (j 0).val = (j 0).val; rw [(ind1 t).1]; omega
  · show win0_1.index t 1 * 5120 + 1 * (j 1).val = (j 1).val; rw [(ind1 t).2]; omega

theorem blk0 (c : Dev nD) (t : Fin cfg0.N) (r : Fin 128) (k : Fin 5120) (h : t.val * 128 + r.val < 1536) :
    (iblk m c 0 t : Vec Ideal S128x5120 .bf16) (ix2 r k) = rows m c (ix2 ⟨t.val * 128 + r.val, h⟩ k) :=
  (read0 (V m c main_v0) t r k h).trans (congrFun (V_rows m c) _)

theorem weight_row (w : Vec Ideal S5120 .f32) (k : Fin 5120) : (shapeCast S1x5120 w shapeCasts_S5120_S1x5120 : Vec Ideal S1x5120 .f32) (ix2 0 k) = w (ix1 k) := by
  pointwise

theorem blk1 (c : Dev nD) (t : Fin cfg0.N) (k : Fin 5120) : (iblk m c 1 t : Vec Ideal S1x5120 .f32) (ix2 0 k) = weight m c (ix1 k) :=
  (congrFun ((read1 (V m c main_v1) t).trans (V_weight m c)) _).trans (weight_row _ k)

theorem row_blk (c : Dev nD) (t : Fin cfg0.N) (r : Fin 128) (h : t.val * 128 + r.val < 1536) :
    blkRow (iblk m c 0 t) (iblk m c 1 t) r = row m c ⟨t.val * 128 + r.val, h⟩ := by
  unfold blkRow row
  exact congrArg₂ Quant.normRow (funext fun k => blk0 m c t r k h) (funext fun k => blk1 m c t k)

theorem dense_eq (c : Dev nD) : dense m c = scales m c := by
  funext y
  have h0 : (y 0).val < 12 := (y 0).isLt
  have h1 : (y 1).val < 128 := (y 1).isLt
  refine (rowVal_at (iblk m c 0 (pt y)) (iblk m c 1 (pt y)) (y 1)).trans ?_
  exact congrArg Quant.rowScale (row_blk m c (pt y) (y 1) (by show (y 0).val * 128 + (y 1).val < 1536; omega))

theorem memc (t : Fin cfg0.N) (i : S1536x5120.Idx) (h : t.val = (i 0).val / 128) : i ∈ ((cfg0.win 2).blk t).view.set := by
  show i ∈ ((View.whole main_v2_0).slice (win0_2.rect t)).set
  rw [View.set_slice_whole, Rect.mem_set_unit]
  have h0 : (i 1).val < 5120 := (i 1).isLt
  intro a
  match a with
  | ⟨0, _⟩ => show win0_2.index t 0 * 128 ≤ (i 0).val ∧ (i 0).val < win0_2.index t 0 * 128 + 128; rw [(indc t).1]; omega
  | ⟨1, _⟩ => show win0_2.index t 1 * 5120 ≤ (i 1).val ∧ (i 1).val < win0_2.index t 1 * 5120 + 5120; rw [(indc t).2]; omega

theorem flushed_c (c : Dev nD) (t : Fin cfg0.N) :
    (dats m 0 c).flushed 2 t = (cfg0.win 2).cut (grid0.coords t) (codesBlk (iblk m c 0 t) (iblk m c 1 t)) := by
  show (cfg0.win 2).cut (grid0.coords t) ((dats m 0 c).after 2 t) = _
  rw [after0_2]

theorem final_codes (c : Dev nD) : (dats m 0 c).arrAt 2 cfg0.N = codes m c := by
  refine (dats m 0 c).arrAt_eq_of_cover 2 (codes m c) (fun t _ => ?_) fun i => ?_
  · rw [flushed_c, codesBlk_eq]
    funext j
    have ht : t.val < 12 := lt_of_lt_of_eq t.isLt N_0
    have hj : (j 0).val < 128 := (j 0).isLt
    rw [View.read_apply]
    have hr := row_blk m c t (j 0) (by omega)
    refine (congrArg (fun f : Fin 5120 → EReal => Quant.code (Quant.rowScale f) (f (j 1))) hr).trans ?_
    refine congrArg (codes m c) (a₁ := ix2 ⟨t.val * 128 + (j 0).val, by omega⟩ (j 1)) (Shape.idx_ext₂ ?_ ?_)
    · show t.val * 128 + (j 0).val = win0_2.index t 0 * 128 + 1 * (j 0).val; rw [(indc t).1]; omega
    · show (j 1).val = win0_2.index t 1 * 5120 + 1 * (j 1).val; rw [(indc t).2]; omega
  · have hi : (i 0).val < 1536 := (i 0).isLt
    exact ⟨⟨(i 0).val / 128, by rw [show cfg0.N = 12 from N_0]; omega⟩, flush0_2 _, memc _ i rfl⟩

end Cert.XQuantIdeal.Hand

end
-- ==== Proof.XQuantRef.lean ====
/-
  Normalising the hidden states and quantising them by rows: what the reference leaves in its two results, over the extended reals.
-/
module

public import proofs.«01_k».proof.Proof.Gen.XQuantRefIdeal.Value
public import proofs.«01_k».proof.Proof.Quant
public import Idealize.ShloMosaic.Lib.Pipeline.Value
public import Idealize.ShloMosaic.Lib.Pointwise

@[expose] public section

set_option maxRecDepth 16384

noncomputable section

namespace Cert.XQuantRefIdeal.Hand

open Cert.XQuantRefIdeal Cert.XQuantRefIdeal.Gen Idealize.ShloMosaic Idealize.ShloMosaic.TcCoe Idealize.SL.Sem
open Idealize.ShloMosaic.Pipeline (Dat RDat)

variable (m : (ℓ : Loc nD τ sig) → Buf (Elt Ideal) ℓ) (ρ : Dev nD → PrngReg)

/-- The input and the weight row. -/
abbrev input (c : Dev nD) : Vec Ideal S96x16x5120 .bf16 := m (c.tc.loc main_arg0)
abbrev weight (c : Dev nD) : Vec Ideal S5120 .f32 := m (c.tc.loc main_arg1)

/-- The input as 1536 rows. -/
def rows (c : Dev nD) : Vec Ideal S1536x5120 .bf16 := shapeCast S1536x5120 (input m c) shapeCasts_S96x16x5120_S1536x5120

/-- The rows at the width they are normalised in. -/
def wide (c : Dev nD) : FVec Ideal S1536x5120 .f32 := extf .f32 (rows m c) bitsLt_bf16_f32

theorem wide_at (c : Dev nD) (r : Fin 1536) (k : Fin 5120) : wide m c (ix2 r k) = rows m c (ix2 r k) := by
  unfold wide
  pointwise

/-- The array that is quantised, as the host computes it. -/
def value (c : Dev nD) : FVec Ideal S1536x5120 .f32 :=
  mulf (Host.divf (wide m c) (broadcastInDim S1536x5120 ![0, 1] bcast_S1536x1_S1536x5120_0_1 (Host.sqrt (addf
    (Host.divf (broadcastInDim S1536x1 ![0] bcast_S1536_S1536x1_0 (Host.reduceAdd (mulf (wide m c) (wide m c)) (constant S_ .f32 0x00000000#32) reducesTo_S1536x5120_S1536_d1 h_S_))
      (broadcastInDim S1536x1 ![] bcast_S_S1536x1 (constant S_ .f32 0x45A00000#32)))
    (broadcastInDim S1536x1 ![] bcast_S_S1536x1 (constant S_ .f32 0x358637BD#32))))))
    (broadcastInDim S1536x5120 ![0, 1] bcast_S1x5120_S1536x5120_0_1 (broadcastInDim S1x5120 ![1] bcast_S5120_S1x5120_1 (weight m c)))

/-- Row `r` as it is quantised. -/
def row (c : Dev nD) (r : Fin 1536) : Fin 5120 → EReal := Quant.normRowDiv (fun k => rows m c (ix2 r k)) (fun k => weight m c (ix1 k))

theorem value_row (c : Dev nD) (r : Fin 1536) : (fun k => value m c (ix2 r k)) = row m c r := by
  funext k
  unfold value row
  pointwise [Quant.normRowDiv, Quant.meanSq, wide_at]

/-- The codes: entry `(r, l)` is entry `l` of row `r` over the row's scale, clipped. -/
def codes (c : Dev nD) (j : S1536x5120.Idx) : EReal := Quant.code (Quant.rowScale (row m c (j 0))) (row m c (j 0) (j 1))

/-- The scales, row `128 p + l` at `(p, l)`. -/
def scales (c : Dev nD) (y : S12x128.Idx) : EReal :=
  Quant.rowScale (row m c ⟨(y 0).val * 128 + (y 1).val, by have h0 : (y 0).val < 12 := (y 0).isLt; have h1 : (y 1).val < 128 := (y 1).isLt; omega⟩)

/-! ## The scales the host computes -/

/-- The scales for largest magnitudes `A`. -/
theorem host_scale (A : FVec Ideal S1536 .f32) :
    select (cmpf .oeq A (broadcastInDim S1536 ![] bcast_S_S1536 (constant S_ .f32 0x00000000#32)))
      (broadcastInDim S1536 ![] bcast_S_S1536 (constant S_ .f32 0x3F800000#32))
      (Host.divf A (broadcastInDim S1536 ![] bcast_S_S1536 (constant S_ .f32 0x43E00000#32)))
      = (fun j => Quant.scaleOf (A j) : FVec Ideal S1536 .f32) := by
  funext j
  pointwise [Quant.scaleOf]

/-- The largest magnitudes of the rows of an array. -/
def maxes (x : FVec Ideal S1536x5120 .f32) : FVec Ideal S1536 .f32 :=
  Host.reduce FloatOps.maximumf (Host.absf x) (constant S_ .f32 0xFF800000#32) reducesTo_S1536x5120_S1536_d1 h_S_

theorem maxes_at (x : FVec Ideal S1536x5120 .f32) (r : Fin 1536) : maxes x (ix1 r) = Quant.rowMax (fun k => x (ix2 r k)) := by
  unfold maxes
  pointwise [Quant.rowMax]

theorem V_value (c : Dev nD) : (V m c main_v14 : FVec Ideal S1536x5120 .f32) = value m c := by
  show StableHlo.after (List.flatten [hostOps0, hostOps0_1, hostOps0_2]) (fun b => m (c, b)) (Proc.devRef .tc main_v14) = _
  simp only [List.flatten_cons, List.flatten_nil, List.append_nil, List.cons_append, List.nil_append]
  after_results
  rfl

/-- One scale a row. -/
def scaleVec (c : Dev nD) : FVec Ideal S1536 .f32 := fun j => Quant.scaleOf (maxes (value m c) j)

theorem V_col (c : Dev nD) : (V m c main_v23 : FVec Ideal S1536x1 .f32) = shapeCast S1536x1 (scaleVec m c) shapeCasts_S1536_S1536x1 := by
  refine Eq.trans ?_ (congrArg (fun v => shapeCast S1536x1 v shapeCasts_S1536_S1536x1) (host_scale (maxes (value m c))))
  show StableHlo.after (List.flatten [hostOps0, hostOps0_1, hostOps0_2]) (fun b => m (c, b)) (Proc.devRef .tc main_v23) = _
  simp only [List.flatten_cons, List.flatten_nil, List.append_nil, List.cons_append, List.nil_append]
  after_results
  unfold maxes value wide rows
  generalize Host.reduce (FloatOps.maximumf (F := Ideal) (φ := .f32)) _ _ reducesTo_S1536x5120_S1536_d1 h_S_ = A
  refine congrArg (fun v => shapeCast S1536x1 v shapeCasts_S1536_S1536x1) (a₁ := _) ?_
  refine congrArg₂ (select _) ?_ ?_
  · rfl
  · rfl

theorem V_dense (c : Dev nD) : (V m c main_v22 : FVec Ideal S12x128 .f32) = shapeCast S12x128 (scaleVec m c) shapeCasts_S1536_S12x128 := by
  refine Eq.trans ?_ (congrArg (fun v => shapeCast S12x128 v shapeCasts_S1536_S12x128) (host_scale (maxes (value m c))))
  show StableHlo.after (List.flatten [hostOps0, hostOps0_1, hostOps0_2]) (fun b => m (c, b)) (Proc.devRef .tc main_v22) = _
  simp only [List.flatten_cons, List.flatten_nil, List.append_nil, List.cons_append, List.nil_append]
  after_results
  unfold maxes value wide rows
  generalize Host.reduce (FloatOps.maximumf (F := Ideal) (φ := .f32)) _ _ reducesTo_S1536x5120_S1536_d1 h_S_ = A
  refine congrArg (fun v => shapeCast S12x128 v shapeCasts_S1536_S12x128) (a₁ := _) ?_
  refine congrArg₂ (select _) ?_ ?_
  · rfl
  · rfl

theorem scaleVec_at (c : Dev nD) (r : Fin 1536) : scaleVec m c (ix1 r) = Quant.rowScale (row m c r) := by
  unfold scaleVec
  rw [maxes_at, value_row]
  unfold Quant.rowScale
  rfl

theorem col_at (c : Dev nD) (r : Fin 1536) :
    (shapeCast S1536x1 (scaleVec m c) shapeCasts_S1536_S1536x1 : FVec Ideal S1536x1 .f32) (ix2 r 0) = Quant.rowScale (row m c r) := by
  rw [← scaleVec_at]
  pointwise

theorem dense_eq (c : Dev nD) : (V m c main_v22 : FVec Ideal S12x128 .f32) = scales m c := by
  rw [V_dense]
  funext y
  unfold scales
  rw [← scaleVec_at]
  obtain ⟨p, l, rfl⟩ : ∃ (p : Fin 12) (l : Fin 128), ix2 p l = y := ⟨y 0, y 1, (eq_ix2 (n0 := 12) (n1 := 128) y).symm⟩
  pointwise

/-! ## The windows: each is its whole array -/

theorem zero2 : (![0, 0] : Fin 2 → Nat) = fun _ => 0 := funext fun a => by fin_cases a <;> rfl
theorem ind0 : ∀ t : Fin cfg0.N, win0_0.index t 0 = 0 ∧ win0_0.index t 1 = 0 :=
  (by decide +kernel : ∀ t : Fin grid0.N, win0_0.index t 0 = 0 ∧ win0_0.index t 1 = 0)
theorem ind1 : ∀ t : Fin cfg0.N, win0_1.index t 0 = 0 ∧ win0_1.index t 1 = 0 :=
  (by decide +kernel : ∀ t : Fin grid0.N, win0_1.index t 0 = 0 ∧ win0_1.index t 1 = 0)
theorem ind2 : ∀ t : Fin cfg0.N, win0_2.index t 0 = 0 ∧ win0_2.index t 1 = 0 :=
  (by decide +kernel : ∀ t : Fin grid0.N, win0_2.index t 0 = 0 ∧ win0_2.index t 1 = 0)

theorem read0 (f : Vec Ideal S1536x5120 .f32) (t : Fin cfg0.N) : (((cfg0.win 0).blk t).view.read (Elt Ideal) f : Vec Ideal S1536x5120 .f32) = f := by
  funext j
  rw [View.read_apply]
  show f _ = f j
  refine congrArg f (Shape.idx_ext₂ ?_ ?_)
  · show win0_0.index t 0 * 1536 + 1 * (j 0).val = (j 0).val; rw [(ind0 t).1]; omega
  · show win0_0.index t 1 * 5120 + 1 * (j 1).val = (j 1).val; rw [(ind0 t).2]; omega

theorem read1 (f : Vec Ideal S1536x1 .f32) (t : Fin cfg0.N) : (((cfg0.win 1).blk t).view.read (Elt Ideal) f : Vec Ideal S1536x1 .f32) = f := by
  funext j
  rw [View.read_apply]
  show f _ = f j
  refine congrArg f (Shape.idx_ext₂ ?_ ?_)
  · show win0_1.index t 0 * 1536 + 1 * (j 0).val = (j 0).val; rw [(ind1 t).1]; omega
  · show win0_1.index t 1 * 1 + 1 * (j 1).val = (j 1).val; rw [(ind1 t).2]; omega

theorem blk0 (c : Dev nD) (t : Fin cfg0.N) : (iblk m c 0 t : Vec Ideal S1536x5120 .f32) = value m c :=
  (read0 (V m c main_v14) t).trans (V_value m c)

theorem blk1 (c : Dev nD) (t : Fin cfg0.N) :
    (iblk m c 1 t : Vec Ideal S1536x1 .f32) = shapeCast S1536x1 (scaleVec m c) shapeCasts_S1536_S1536x1 :=
  (read1 (V m c main_v23) t).trans (V_col m c)

/-- What the body stores, at an index. -/
theorem out_y (x0 : Vec Ideal S1536x5120 .f32) (x1 : Vec Ideal S1536x1 .f32) (j : S1536x5120.Idx) :
    out0_2 x0 x1 j = Quant.code (x1 (ix2 (j 0) 0)) (x0 j) := by
  unfold out0_2
  rw [View.canon_unit_zero (S := S1536x5120) zero2, View.ld_unit_zero (S := S1536x5120) zero2,
    View.ld_unit_zero (S := S1536x1) zero2]
  unfold_payloads
  pointwise [Quant.code]

theorem stored2 (c : Dev nD) (t : Fin cfg0.N) (r : Fin 1536) (l : Fin 5120) :
    out0_2 (iblk m c 0 t) (iblk m c 1 t) (ix2 r l) = codes m c (ix2 r l) := by
  rw [blk0, blk1, out_y]
  refine congrArg₂ Quant.code (col_at m c r) ?_
  exact congrFun (value_row m c r) l

/-! ## The result array -/

theorem mem2 (t : Fin cfg0.N) (i : S1536x5120.Idx) : i ∈ ((View.whole main_v24).slice (win0_2.rect t)).set := by
  rw [View.set_slice_whole, Rect.mem_set_unit]
  have h0 : (i 0).val < 1536 := (i 0).isLt
  have h1 : (i 1).val < 5120 := (i 1).isLt
  intro a
  match a with
  | ⟨0, _⟩ => show win0_2.index t 0 * 1536 ≤ (i 0).val ∧ (i 0).val < win0_2.index t 0 * 1536 + 1536; rw [(ind2 t).1]; omega
  | ⟨1, _⟩ => show win0_2.index t 1 * 5120 ≤ (i 1).val ∧ (i 1).val < win0_2.index t 1 * 5120 + 5120; rw [(ind2 t).2]; omega

theorem final2 (c : Dev nD) : (dats m 0 c).arrAt 2 cfg0.N = codes m c := by
  refine (dats m 0 c).arrAt_eq_of_cover 2 (codes m c) (fun t _ => ?_) fun i => ?_
  · rw [Value.flushed2]
    funext j
    rw [View.read_apply]
    refine (congrArg (out0_2 (iblk m c 0 t) (iblk m c 1 t)) (eq_ix2 (n0 := 1536) (n1 := 5120) j)).trans ((stored2 m c t (j 0) (j 1)).trans (congrArg (codes m c) (Shape.idx_ext₂ ?_ ?_)))
    · show (j 0).val = win0_2.index t 0 * 1536 + 1 * (j 0).val; rw [(ind2 t).1]; omega
    · show (j 1).val = win0_2.index t 1 * 5120 + 1 * (j 1).val; rw [(ind2 t).2]; omega
  · exact ⟨⟨0, by rw [show cfg0.N = 1 from N_0]; omega⟩, flush0_2 _, mem2 _ i⟩

end Cert.XQuantRefIdeal.Hand

end
-- ==== Proof.XQuantAlg.lean ====
/-
  Normalising the hidden states and quantising them by rows: the kernel and its reference end with equal codes and equal scales.
-/
module

public import proofs.«01_k».proof.Defs
public import proofs.«01_k».proof.Proof.XQuantIdealRun
public import proofs.«01_k».proof.Proof.XQuantRef

@[expose] public section

noncomputable section

namespace Cert.Proof

open Idealize.ShloMosaic Idealize.SL.Sem

/-- The rows agree once the arguments do. -/
theorem row_XQuant (m : (ℓ : Loc Cert.XQuantIdeal.nD Cert.XQuantIdeal.τ Cert.XQuantIdeal.sig) → Buf (Elt Ideal) ℓ)
    (m' : (ℓ : Loc Cert.XQuantRefIdeal.nD Cert.XQuantRefIdeal.τ Cert.XQuantRefIdeal.sig) → Buf (Elt Ideal) ℓ) (c : Dev Cert.XQuantIdeal.nD)
    (h : m' ((c.tc : Thread Cert.XQuantRefIdeal.nD Cert.XQuantRefIdeal.τ).loc Cert.XQuantRefIdeal.main_arg0) = m ((c.tc : Thread Cert.XQuantIdeal.nD Cert.XQuantIdeal.τ).loc Cert.XQuantIdeal.main_arg0) ∧ m' ((c.tc : Thread Cert.XQuantRefIdeal.nD Cert.XQuantRefIdeal.τ).loc Cert.XQuantRefIdeal.main_arg1) = m ((c.tc : Thread Cert.XQuantIdeal.nD Cert.XQuantIdeal.τ).loc Cert.XQuantIdeal.main_arg1)) (q : Fin 1536) :
    Cert.XQuantRefIdeal.Hand.row m' c q = Cert.XQuantIdeal.Hand.row m c q := by
  unfold Cert.XQuantRefIdeal.Hand.row Cert.XQuantIdeal.Hand.row
  rw [Quant.normRow_eq]
  unfold Cert.XQuantRefIdeal.Hand.rows Cert.XQuantIdeal.Hand.rows
    Cert.XQuantRefIdeal.Hand.input Cert.XQuantIdeal.Hand.input Cert.XQuantRefIdeal.Hand.weight Cert.XQuantIdeal.Hand.weight
  rw [h.1, h.2]

theorem codes_XQuant (m : (ℓ : Loc Cert.XQuantIdeal.nD Cert.XQuantIdeal.τ Cert.XQuantIdeal.sig) → Buf (Elt Ideal) ℓ)
    (m' : (ℓ : Loc Cert.XQuantRefIdeal.nD Cert.XQuantRefIdeal.τ Cert.XQuantRefIdeal.sig) → Buf (Elt Ideal) ℓ) (c : Dev Cert.XQuantIdeal.nD)
    (h : m' ((c.tc : Thread Cert.XQuantRefIdeal.nD Cert.XQuantRefIdeal.τ).loc Cert.XQuantRefIdeal.main_arg0) = m ((c.tc : Thread Cert.XQuantIdeal.nD Cert.XQuantIdeal.τ).loc Cert.XQuantIdeal.main_arg0) ∧ m' ((c.tc : Thread Cert.XQuantRefIdeal.nD Cert.XQuantRefIdeal.τ).loc Cert.XQuantRefIdeal.main_arg1) = m ((c.tc : Thread Cert.XQuantIdeal.nD Cert.XQuantIdeal.τ).loc Cert.XQuantIdeal.main_arg1)) :
    Cert.XQuantRefIdeal.Hand.codes m' c = Cert.XQuantIdeal.Hand.codes m c := by
  funext j
  unfold Cert.XQuantRefIdeal.Hand.codes Cert.XQuantIdeal.Hand.codes
  exact congrArg₂ Quant.code (congrArg Quant.rowScale (row_XQuant m m' c h (j 0))) (congrFun (row_XQuant m m' c h (j 0)) (j 1))

theorem scales_XQuant (m : (ℓ : Loc Cert.XQuantIdeal.nD Cert.XQuantIdeal.τ Cert.XQuantIdeal.sig) → Buf (Elt Ideal) ℓ)
    (m' : (ℓ : Loc Cert.XQuantRefIdeal.nD Cert.XQuantRefIdeal.τ Cert.XQuantRefIdeal.sig) → Buf (Elt Ideal) ℓ) (c : Dev Cert.XQuantIdeal.nD)
    (h : m' ((c.tc : Thread Cert.XQuantRefIdeal.nD Cert.XQuantRefIdeal.τ).loc Cert.XQuantRefIdeal.main_arg0) = m ((c.tc : Thread Cert.XQuantIdeal.nD Cert.XQuantIdeal.τ).loc Cert.XQuantIdeal.main_arg0) ∧ m' ((c.tc : Thread Cert.XQuantRefIdeal.nD Cert.XQuantRefIdeal.τ).loc Cert.XQuantRefIdeal.main_arg1) = m ((c.tc : Thread Cert.XQuantIdeal.nD Cert.XQuantIdeal.τ).loc Cert.XQuantIdeal.main_arg1)) :
    Cert.XQuantRefIdeal.Hand.scales m' c = Cert.XQuantIdeal.Hand.scales m c := by
  funext y
  unfold Cert.XQuantRefIdeal.Hand.scales Cert.XQuantIdeal.Hand.scales
  rw [row_XQuant m m' c h]

theorem algebraic_XQuant : algebraic_XQuantIdeal_XQuantRefIdeal (hXQuantIdeal := Cert.XQuantIdeal.Gen.facts) (hXQuantRefIdeal := Cert.XQuantRefIdeal.Gen.facts) := by
  intro m g m' g' _ hag
  refine ⟨fun c => Cert.XQuantIdeal.Hand.codes m c, fun c => Cert.XQuantIdeal.Hand.scales m c, ?_, ?_⟩
  · refine (θ_run _ _ _).mono (fun r h c => ⟨?_, ?_, ?_, ?_⟩) (Cert.XQuantIdeal.Hand.run_main (F := Ideal) m g)
    · exact (Cert.XQuantIdeal.Hand.final_exact m c h.1 2 rfl).trans (Cert.XQuantIdeal.Hand.final_codes m c)
    · exact (Cert.XQuantIdeal.Hand.final_dense m c h.1).trans (Cert.XQuantIdeal.Hand.dense_eq m c)
    · exact ((h.1 c).2 Cert.XQuantIdeal.main_arg0 (Pipeline.mem_restRefs_of Cert.XQuantIdeal.main_arg0 (by decide) (by decide))).trans (Cert.XQuantIdeal.Gen.V_main_arg0 m c)
    · exact ((h.1 c).2 Cert.XQuantIdeal.main_arg1 (Pipeline.mem_restRefs_of Cert.XQuantIdeal.main_arg1 (by decide) (by decide))).trans (Cert.XQuantIdeal.Gen.V_main_arg1 m c)
  · refine (θ_run _ _ _).mono (fun r h c => ⟨?_, ?_, ?_, ?_⟩) (Cert.XQuantRefIdeal.Gen.run_main (F := Ideal) m' g')
    · exact (Cert.XQuantRefIdeal.Value.post2 m' r h c).trans ((Cert.XQuantRefIdeal.Hand.final2 m' c).trans (codes_XQuant m m' c (hag c)))
    · exact ((h c).2 Cert.XQuantRefIdeal.main_v22 (Pipeline.mem_restRefs_of Cert.XQuantRefIdeal.main_v22 (by decide) (by decide))).trans
        ((Cert.XQuantRefIdeal.Hand.dense_eq m' c).trans (scales_XQuant m m' c (hag c)))
    · exact Cert.XQuantRefIdeal.Value.kept_main_arg0 m' r h c
    · exact Cert.XQuantRefIdeal.Value.kept_main_arg1 m' r h c

end Cert.Proof

end
-- ==== Proof.OprojIdealBody.lean ====
/-
  The output projection of the attention, with the residual, the normalisation and the quantising by rows: the call
  terminates and its arguments end unchanged, and what it leaves in its buffers.

  A grid point holds 256 rows. It stores the projected rows plus the residual in forty tiles of 128 columns; it reads
  them back in eight strips of 32 rows, normalises and quantises each strip, and stores the codes and the scales, each
  repeated over 128 lanes. Read back off the diagonal of the two halves of that block, the 256 scales go to two rows
  of the dense 12 by 128 array. The dense array stays in its staging buffer over the whole grid and is written back
  once, after the last point. So what a point leaves there depends on what it found; of it the proof says only that
  rows 0, …, 2t + 1 hold their scales after point t (`Rel`), which at the last point is the whole array.
-/
module

public import proofs.«01_k».proof.Proof.Gen.OprojIdeal.Frame
public import proofs.«01_k».proof.Proof.Gen.OprojIdeal.Skeleton
public import Idealize.ShloMosaic.Lib.Pipeline.DatRel
public import Idealize.ShloMosaic.Lib.Pipeline.ArrRel
public import Idealize.ShloMosaic.Lib.Pipeline.Value
public import Idealize.ShloMosaic.Lib.Pointwise
public import Idealize.ShloMosaic.Lib.WritesUnit
public import Idealize.ShloMosaic.Lib.Tactic

@[expose] public section

set_option maxRecDepth 16384

noncomputable section

namespace Cert.OprojIdeal.Hand

open Cert.OprojIdeal Cert.OprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in the output blocks -/

/-- 128 columns of a block of 256 rows, from column `n`. -/
abbrev tr (n : ℕ) (h : n + 128 ≤ 5120) : Rect S256x5120 := Rect.unit (s := S256x5120) ![0, n] S256x128.size (Fin.forall_fin_two.mpr ⟨Nat.le_refl 256, h⟩)
/-- The scales of 128 columns. -/
abbrev sr (n : ℕ) (h : n + 128 ≤ 5120) : Rect S1x5120 := Rect.unit (s := S1x5120) ![0, n] S1x128.size (Fin.forall_fin_two.mpr ⟨Nat.le_refl 1, h⟩)
/-- 256 columns of the weight. -/
abbrev wr (n : ℕ) (h : n + 256 ≤ 5120) : Rect S5120x5120 := Rect.unit (s := S5120x5120) ![0, n] S5120x256.size (Fin.forall_fin_two.mpr ⟨Nat.le_refl 5120, h⟩)
/-- 32 rows of the block, from row `n`. -/
abbrev cr (n : ℕ) (h : n + 32 ≤ 256) : Rect S256x5120 := Rect.unit (s := S256x5120) ![n, 0] S32x5120.size (Fin.forall_fin_two.mpr ⟨h, Nat.le_refl 5120⟩)
/-- 32 rows of the block of repeated scales. -/
abbrev qr (n : ℕ) (h : n + 32 ≤ 256) : Rect S256x128 := Rect.unit (s := S256x128) ![n, 0] S32x128.size (Fin.forall_fin_two.mpr ⟨h, Nat.le_refl 128⟩)
/-- 128 rows of the block of repeated scales. -/
abbrev dr (n : ℕ) (h : n + 128 ≤ 256) : Rect S256x128 := Rect.unit (s := S256x128) ![n, 0] S128x128.size (Fin.forall_fin_two.mpr ⟨h, Nat.le_refl 128⟩)
/-- The whole of a block. -/
abbrev ar : Rect S256x5120 := Rect.unit (s := S256x5120) ![0, 0] S256x5120.size inb_S256x5120_S256x5120_0_0
abbrev rr : Rect S256x128 := Rect.unit (s := S256x128) ![0, 0] S256x128.size inb_S256x128_S256x128_0_0
abbrev nr : Rect S1x5120 := Rect.unit (s := S1x5120) ![0, 0] S1x5120.size inb_S1x5120_S1x5120_0_0

/-- The tile at columns `n` to `n + 127`: the first half of a product of 256 columns. -/
abbrev lo (x0 : Vec F S256x5120 .fp8e4m3) (x1 : Vec F S256x128 .f32) (x2 : Vec F S5120x5120 .fp8e4m3) (x3 : Vec F S1x5120 .f32) (x4 : Vec F S256x5120 .bf16) (n : ℕ) (h : n + 256 ≤ 5120 := by decide) : View.Piece (Elt F) S256x5120 .f32 :=
  ⟨tr n (by omega), k0_pay5 (View.ld x1 rr) (View.ld x0 ar) (View.ld x2 (wr n h)) (View.ld x4 (tr n (by omega))) (View.ld x3 (sr n (by omega)))⟩

/-- The tile at columns `n + 128` to `n + 255`: the second half. -/
abbrev hi (x0 : Vec F S256x5120 .fp8e4m3) (x1 : Vec F S256x128 .f32) (x2 : Vec F S5120x5120 .fp8e4m3) (x3 : Vec F S1x5120 .f32) (x4 : Vec F S256x5120 .bf16) (n : ℕ) (h : n + 256 ≤ 5120 := by decide) : View.Piece (Elt F) S256x5120 .f32 :=
  ⟨tr (n + 128) (by omega), k0_pay6 (View.ld x1 rr) (View.ld x0 ar) (View.ld x2 (wr n h)) (View.ld x4 (tr (n + 128) (by omega))) (View.ld x3 (sr (n + 128) (by omega)))⟩

/-- The forty tiles, the last stored first. -/
abbrev tiles (x0 : Vec F S256x5120 .fp8e4m3) (x1 : Vec F S256x128 .f32) (x2 : Vec F S5120x5120 .fp8e4m3) (x3 : Vec F S1x5120 .f32) (x4 : Vec F S256x5120 .bf16) : List (View.Piece (Elt F) S256x5120 .f32) :=
  [hi x0 x1 x2 x3 x4 4864, lo x0 x1 x2 x3 x4 4864, hi x0 x1 x2 x3 x4 4608, lo x0 x1 x2 x3 x4 4608,
    hi x0 x1 x2 x3 x4 4352, lo x0 x1 x2 x3 x4 4352, hi x0 x1 x2 x3 x4 4096, lo x0 x1 x2 x3 x4 4096,
    hi x0 x1 x2 x3 x4 3840, lo x0 x1 x2 x3 x4 3840, hi x0 x1 x2 x3 x4 3584, lo x0 x1 x2 x3 x4 3584,
    hi x0 x1 x2 x3 x4 3328, lo x0 x1 x2 x3 x4 3328, hi x0 x1 x2 x3 x4 3072, lo x0 x1 x2 x3 x4 3072,
    hi x0 x1 x2 x3 x4 2816, lo x0 x1 x2 x3 x4 2816, hi x0 x1 x2 x3 x4 2560, lo x0 x1 x2 x3 x4 2560,
    hi x0 x1 x2 x3 x4 2304, lo x0 x1 x2 x3 x4 2304, hi x0 x1 x2 x3 x4 2048, lo x0 x1 x2 x3 x4 2048,
    hi x0 x1 x2 x3 x4 1792, lo x0 x1 x2 x3 x4 1792, hi x0 x1 x2 x3 x4 1536, lo x0 x1 x2 x3 x4 1536,
    hi x0 x1 x2 x3 x4 1280, lo x0 x1 x2 x3 x4 1280, hi x0 x1 x2 x3 x4 1024, lo x0 x1 x2 x3 x4 1024,
    hi x0 x1 x2 x3 x4 768, lo x0 x1 x2 x3 x4 768, hi x0 x1 x2 x3 x4 512, lo x0 x1 x2 x3 x4 512,
    hi x0 x1 x2 x3 x4 256, lo x0 x1 x2 x3 x4 256, hi x0 x1 x2 x3 x4 0, lo x0 x1 x2 x3 x4 0]

theorem cover_h1 (x0 : Vec F S256x5120 .fp8e4m3) (x1 : Vec F S256x128 .f32) (x2 : Vec F S5120x5120 .fp8e4m3) (x3 : Vec F S1x5120 .f32) (x4 : Vec F S256x5120 .bf16) (y : S256x5120.Idx) : ∃ pc ∈ tiles x0 x1 x2 x3 x4, y ∈ pc.1.set :=
  View.cover_of_tiled (tiles x0 x1 x2 x3 x4) S256x128.size (by rfl) y

/-- The block of projected rows. -/
def h1Blk (x0 : Vec F S256x5120 .fp8e4m3) (x1 : Vec F S256x128 .f32) (x2 : Vec F S5120x5120 .fp8e4m3) (x3 : Vec F S1x5120 .f32) (x4 : Vec F S256x5120 .bf16) : Vec F S256x5120 .f32 := View.canon (tiles x0 x1 x2 x3 x4)

/-- The codes of a strip of 32 rows, and its repeated scales. -/
abbrev codesAt (w : Vec F S1x5120 .f32) (n : ℕ) (v : Vec F S32x5120 .f32) (h : n + 32 ≤ 256 := by decide) : View.Piece (Elt F) S256x5120 .fp8e4m3 := ⟨cr n h, k0_pay76 v w⟩
abbrev repAt (w : Vec F S1x5120 .f32) (n : ℕ) (v : Vec F S32x5120 .f32) (h : n + 32 ≤ 256 := by decide) : View.Piece (Elt F) S256x128 .f32 := ⟨qr n h, k0_pay77 v w⟩

/-- The eight strips of codes, from the eight strips of rows. -/
abbrev codesOf (w : Vec F S1x5120 .f32) (l224 l192 l160 l128 l96 l64 l32 l0 : Vec F S32x5120 .f32) : List (View.Piece (Elt F) S256x5120 .fp8e4m3) :=
  [codesAt w 224 l224, codesAt w 192 l192, codesAt w 160 l160, codesAt w 128 l128, codesAt w 96 l96, codesAt w 64 l64, codesAt w 32 l32, codesAt w 0 l0]
abbrev repOf (w : Vec F S1x5120 .f32) (l224 l192 l160 l128 l96 l64 l32 l0 : Vec F S32x5120 .f32) : List (View.Piece (Elt F) S256x128 .f32) :=
  [repAt w 224 l224, repAt w 192 l192, repAt w 160 l160, repAt w 128 l128, repAt w 96 l96, repAt w 64 l64, repAt w 32 l32, repAt w 0 l0]

theorem cover_codes (p0 p1 p2 p3 p4 p5 p6 p7 : Vec F S32x5120 .fp8e4m3) (y : S256x5120.Idx) :
    ∃ pc ∈ ([⟨cr 224 (by decide), p0⟩, ⟨cr 192 (by decide), p1⟩, ⟨cr 160 (by decide), p2⟩, ⟨cr 128 (by decide), p3⟩, ⟨cr 96 (by decide), p4⟩, ⟨cr 64 (by decide), p5⟩, ⟨cr 32 (by decide), p6⟩, ⟨cr 0 (by decide), p7⟩] : List (View.Piece (Elt F) S256x5120 .fp8e4m3)), y ∈ pc.1.set :=
  View.cover_of_tiled [⟨cr 224 (by decide), p0⟩, ⟨cr 192 (by decide), p1⟩, ⟨cr 160 (by decide), p2⟩, ⟨cr 128 (by decide), p3⟩, ⟨cr 96 (by decide), p4⟩, ⟨cr 64 (by decide), p5⟩, ⟨cr 32 (by decide), p6⟩, ⟨cr 0 (by decide), p7⟩] S32x5120.size (by rfl) y

theorem cover_rep (p0 p1 p2 p3 p4 p5 p6 p7 : Vec F S32x128 .f32) (y : S256x128.Idx) :
    ∃ pc ∈ ([⟨qr 224 (by decide), p0⟩, ⟨qr 192 (by decide), p1⟩, ⟨qr 160 (by decide), p2⟩, ⟨qr 128 (by decide), p3⟩, ⟨qr 96 (by decide), p4⟩, ⟨qr 64 (by decide), p5⟩, ⟨qr 32 (by decide), p6⟩, ⟨qr 0 (by decide), p7⟩] : List (View.Piece (Elt F) S256x128 .f32)), y ∈ pc.1.set :=
  View.cover_of_tiled [⟨qr 224 (by decide), p0⟩, ⟨qr 192 (by decide), p1⟩, ⟨qr 160 (by decide), p2⟩, ⟨qr 128 (by decide), p3⟩, ⟨qr 96 (by decide), p4⟩, ⟨qr 64 (by decide), p5⟩, ⟨qr 32 (by decide), p6⟩, ⟨qr 0 (by decide), p7⟩] S32x128.size (by rfl) y

/-- The block of codes, from the projected rows `H` and the weights `w` of the normalisation. -/
def codesBlk (H : Vec F S256x5120 .f32) (w : Vec F S1x5120 .f32) : Vec F S256x5120 .fp8e4m3 :=
  View.canon (codesOf (View.ld w nr) (View.ld H (cr 224 (by decide))) (View.ld H (cr 192 (by decide))) (View.ld H (cr 160 (by decide))) (View.ld H (cr 128 (by decide))) (View.ld H (cr 96 (by decide))) (View.ld H (cr 64 (by decide))) (View.ld H (cr 32 (by decide))) (View.ld H (cr 0 (by decide))))

/-- The block of scales, each repeated over 128 lanes. -/
def repBlk (H : Vec F S256x5120 .f32) (w : Vec F S1x5120 .f32) : Vec F S256x128 .f32 :=
  View.canon (repOf (View.ld w nr) (View.ld H (cr 224 (by decide))) (View.ld H (cr 192 (by decide))) (View.ld H (cr 160 (by decide))) (View.ld H (cr 128 (by decide))) (View.ld H (cr 96 (by decide))) (View.ld H (cr 64 (by decide))) (View.ld H (cr 32 (by decide))) (View.ld H (cr 0 (by decide))))

/-- 128 scales as one row: the diagonal of 128 rows of the block of repeated scales. -/
def rowVal (R : Vec F S256x128 .f32) (n : ℕ) (h : n + 128 ≤ 256) : Vec F S1x128 .f32 := k0_pay2 (View.ld R (dr n h))

/-- `Y` with its row `n` replaced by `v`. -/
def putRow (n : ℕ) (v : Vec F S1x128 .f32) (Y : Vec F S12x128 .f32) : Vec F S12x128 .f32 := fun y =>
  if (y 0).val = n then v (ix2 0 (y 1)) else Y y

/-- `Y` with its rows `2 n` and `2 n + 1` replaced by the scales in `R`. -/
def putRows (n : ℕ) (R : Vec F S256x128 .f32) (Y : Vec F S12x128 .f32) : Vec F S12x128 .f32 :=
  putRow (2 * n + 1) (rowVal R 128 (by decide)) (putRow (2 * n + 0) (rowVal R 0 (by decide)) Y)

/-- The strips as the body computes them: the eight of them are the same computation, differently cut into parts. -/
theorem codes_eq (H : Vec F S256x5120 .f32) (x5 w : Vec F S1x5120 .f32) {l224 : Vec F S32x5120 .f32} {l192 : Vec F S32x5120 .f32} {l160 : Vec F S32x5120 .f32} {l128 : Vec F S32x5120 .f32} {l96 : Vec F S32x5120 .f32} {l64 : Vec F S32x5120 .f32} {l32 : Vec F S32x5120 .f32} {l0 : Vec F S32x5120 .f32}
    (hw : w = View.ld x5 nr) (h224 : l224 = View.ld H (cr 224 (by decide))) (h192 : l192 = View.ld H (cr 192 (by decide))) (h160 : l160 = View.ld H (cr 160 (by decide))) (h128 : l128 = View.ld H (cr 128 (by decide))) (h96 : l96 = View.ld H (cr 96 (by decide))) (h64 : l64 = View.ld H (cr 64 (by decide))) (h32 : l32 = View.ld H (cr 32 (by decide))) (h0 : l0 = View.ld H (cr 0 (by decide))) :
    View.canon ([⟨cr 224 (by decide), k0_pay110 (k0_pay106 l224) (k0_pay107 l224) (Scalar.ofBits .f32 0x45A00000#32) w⟩,
      ⟨cr 192 (by decide), k0_pay104 (k0_pay100 l192) (k0_pay101 l192) w⟩, ⟨cr 160 (by decide), k0_pay98 (k0_pay94 l160) (k0_pay95 l160) w⟩,
      ⟨cr 128 (by decide), k0_pay92 l128 w⟩, ⟨cr 96 (by decide), k0_pay88 l96 w⟩, ⟨cr 64 (by decide), k0_pay84 l64 w⟩,
      ⟨cr 32 (by decide), k0_pay80 l32 w⟩, ⟨cr 0 (by decide), k0_pay76 l0 w⟩] : List (View.Piece (Elt F) S256x5120 .fp8e4m3)) = codesBlk H x5 := by
  subst hw h224 h192 h160 h128 h96 h64 h32 h0
  rfl

theorem rep_eq (H : Vec F S256x5120 .f32) (x5 w : Vec F S1x5120 .f32) {l224 : Vec F S32x5120 .f32} {l192 : Vec F S32x5120 .f32} {l160 : Vec F S32x5120 .f32} {l128 : Vec F S32x5120 .f32} {l96 : Vec F S32x5120 .f32} {l64 : Vec F S32x5120 .f32} {l32 : Vec F S32x5120 .f32} {l0 : Vec F S32x5120 .f32}
    (hw : w = View.ld x5 nr) (h224 : l224 = View.ld H (cr 224 (by decide))) (h192 : l192 = View.ld H (cr 192 (by decide))) (h160 : l160 = View.ld H (cr 160 (by decide))) (h128 : l128 = View.ld H (cr 128 (by decide))) (h96 : l96 = View.ld H (cr 96 (by decide))) (h64 : l64 = View.ld H (cr 64 (by decide))) (h32 : l32 = View.ld H (cr 32 (by decide))) (h0 : l0 = View.ld H (cr 0 (by decide))) :
    View.canon ([⟨qr 224 (by decide), k0_pay111 (k0_pay106 l224) (k0_pay107 l224) (Scalar.ofBits .f32 0x45A00000#32) w⟩,
      ⟨qr 192 (by decide), k0_pay105 (k0_pay100 l192) (k0_pay101 l192) w⟩, ⟨qr 160 (by decide), k0_pay99 (k0_pay94 l160) (k0_pay95 l160) w⟩,
      ⟨qr 128 (by decide), k0_pay93 l128 w⟩, ⟨qr 96 (by decide), k0_pay89 l96 w⟩, ⟨qr 64 (by decide), k0_pay85 l64 w⟩,
      ⟨qr 32 (by decide), k0_pay81 l32 w⟩, ⟨qr 0 (by decide), k0_pay77 l0 w⟩] : List (View.Piece (Elt F) S256x128 .f32)) = repBlk H x5 := by
  subst hw h224 h192 h160 h128 h96 h64 h32 h0
  rfl

/-- The diagonal of the first 128 rows is taken in two parts, that of the second in one. -/
theorem pick_eq {v u : Vec F S128x128 .f32} (h : v = u) : k0_pay1 (k0_pay112 v) = k0_pay2 u := by subst h; rfl

/-! ## The body -/

set_option maxHeartbeats 4000000 in
/-- The body, for any continuation: the inputs are as they were, the projected rows, the codes and the repeated scales
    are stored whole, and in the dense array the two rows of the point are replaced. -/
theorem sound_kernel (c : Dev nD) (E : Set ℕ) (i : grid0.Coords) (arg1 : Memref sig .tc .vmem S256x5120 .fp8e4m3) (harg1 : arg1.IsWhole) (arg2 : Memref sig .tc .vmem S256x128 .f32) (harg2 : arg2.IsWhole) (arg3 : Memref sig .tc .vmem S5120x5120 .fp8e4m3) (harg3 : arg3.IsWhole) (arg4 : Memref sig .tc .vmem S1x5120 .f32) (harg4 : arg4.IsWhole) (arg5 : Memref sig .tc .vmem S256x5120 .bf16) (harg5 : arg5.IsWhole) (arg6 : Memref sig .tc .vmem S1x5120 .f32) (harg6 : arg6.IsWhole) (arg7 : Memref sig .tc .vmem S256x5120 .f32) (harg7 : arg7.IsWhole) (arg8 : Memref sig .tc .vmem S256x5120 .fp8e4m3) (harg8 : arg8.IsWhole) (arg9 : Memref sig .tc .vmem S256x128 .f32) (harg9 : arg9.IsWhole) (arg10 : Memref sig .tc .vmem S12x128 .f32) (harg10 : arg10.IsWhole)
    (x0 : Vec F S256x5120 .fp8e4m3) (x1 : Vec F S256x128 .f32) (x2 : Vec F S5120x5120 .fp8e4m3) (x3 : Vec F S1x5120 .f32) (x4 : Vec F S256x5120 .bf16) (x5 : Vec F S1x5120 .f32) (Y : Vec F S12x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare Y
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (h1Blk x0 x1 x2 x3 x4) ∗ owns (c : Thread nD τ) arg8 fullShare (codesBlk (h1Blk x0 x1 x2 x3 x4) x5) ∗ owns (c : Thread nD τ) arg9 fullShare (repBlk (h1Blk x0 x1 x2 x3 x4) x5) ∗ owns (c : Thread nD τ) arg10 fullShare (putRows (i 0).val (repBlk (h1Blk x0 x1 x2 x3 x4) x5) Y)) -∗ K ⟨⟩))
      ⊢ wp frame (wpE (defs₀ (F := F)) Variants.none c none) E (cc0_oproj i arg1 harg1 arg2 harg2 arg3 harg3 arg4 harg4 arg5 harg5 arg6 harg6 arg7 harg7 arg8 harg8 arg9 harg9 arg10 harg10) K := by
  simp only [cc0_oproj_eq_skeleton]; unfold cc0_oproj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dh, %fh, -, HH⟩, ⟨%dc, %fc, -, HC⟩, ⟨%dp, %fp, -, HR⟩, ⟨%fd, %hfd, HD⟩, Hk⟩
  subst hf0 hf1 hf2 hf3 hf4 hf5 hfd
  have hk : ∀ r : Rect S256x5120, arg7.view.readCov (tiles (View.read (Elt F) arg1.view f0) (View.read (Elt F) arg2.view f1) (View.read (Elt F) arg3.view f2) (View.read (Elt F) arg4.view f3) (View.read (Elt F) arg5.view f4)) r = View.ld (h1Blk (View.read (Elt F) arg1.view f0) (View.read (Elt F) arg2.view f1) (View.read (Elt F) arg3.view f2) (View.read (Elt F) arg4.view f3) (View.read (Elt F) arg5.view f4)) r := fun r => View.readCov_eq_canon_ld _ _ _ (cover_h1 _ _ _ _ _)
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [HH]
  · iexists _; isplitr
    swap; · iexact HH
    ipureintro
    refine (View.read_writes_eq_canon _ _ _ (cover_h1 _ _ _ _ _)).trans ?_
    rfl
  isplitl [HC]
  · iexists _; isplitr
    swap; · iexact HC
    ipureintro
    refine (View.read_writes_eq_canon _ _ _ (cover_codes _ _ _ _ _ _ _ _)).trans ?_
    exact codes_eq _ _ _ rfl rfl rfl rfl rfl rfl rfl rfl rfl
  isplitl [HR]
  · iexists _; isplitr
    swap; · iexact HR
    ipureintro
    refine (View.read_writes_eq_canon _ _ _ (cover_rep _ _ _ _ _ _ _ _)).trans ?_
    exact rep_eq _ _ _ rfl rfl rfl rfl rfl rfl rfl rfl rfl
  iexists _; isplitr
  swap; · iexact HD
  ipureintro
  funext y
  unfold putRows
  rw [putRow]
  by_cases hy : (y 0).val = 2 * (i 0).val + 1
  · rw [if_pos hy]
    refine (View.read_writes_cons_rows_of_mem (d := S12x128.size) _ _ (off := k0_off1 i 1#32) (size := S1x128.size) (k0_off1_inb i 1) _ _ y (ix2 0 (y 1)) (k0_off1_eq i 1) (hy.trans (Nat.add_zero _).symm) rfl).trans ?_
    unfold rowVal
    refine congrFun (congrArg k0_pay2 ?_) _
    exact (View.readCov_eq_canon_ld arg9.view _ _ (cover_rep _ _ _ _ _ _ _ _)).trans (congrArg (fun X : Vec F S256x128 .f32 => View.ld X (dr 128 (by decide))) (rep_eq _ _ _ rfl rfl rfl rfl rfl rfl rfl rfl rfl))
  · rw [if_neg hy]
    refine (View.read_writes_cons_rows_of_not_mem (d := S12x128.size) (W := 1) _ _ (off := k0_off1 i 1#32) (size := S1x128.size) (k0_off1_inb i 1) _ _ y (k0_off1_eq i 1) rfl (by show (y 0).val < 2 * (i 0).val + 1 ∨ 2 * (i 0).val + 1 + 1 ≤ (y 0).val; omega)).trans ?_
    rw [putRow]
    by_cases hz : (y 0).val = 2 * (i 0).val + 0
    · rw [if_pos hz]
      refine (View.read_writes_cons_rows_of_mem (d := S12x128.size) _ _ (off := k0_off1 i 0#32) (size := S1x128.size) (k0_off1_inb i 0) _ _ y (ix2 0 (y 1)) (k0_off1_eq i 0) (hz.trans (Nat.add_zero _).symm) rfl).trans ?_
      unfold rowVal
      refine congrFun (pick_eq ?_) _
      exact (View.readCov_eq_canon_ld arg9.view _ _ (cover_rep _ _ _ _ _ _ _ _)).trans (congrArg (fun X : Vec F S256x128 .f32 => View.ld X (dr 0 (by decide))) (rep_eq _ _ _ rfl rfl rfl rfl rfl rfl rfl rfl rfl))
    · rw [if_neg hz]
      refine (View.read_writes_cons_rows_of_not_mem (d := S12x128.size) (W := 1) _ _ (off := k0_off1 i 0#32) (size := S1x128.size) (k0_off1_inb i 0) _ _ y (k0_off1_eq i 0) rfl (by show (y 0).val < 2 * (i 0).val + 0 ∨ 2 * (i 0).val + 0 + 1 ≤ (y 0).val; omega)).trans ?_
      rfl

/-! ## The proof data -/

/-- The projected rows of point `t`. -/
abbrev h1At (c : Dev nD) (t : Fin cfg0.N) : Vec F S256x5120 .f32 := h1Blk (iblk m c 0 t) (iblk m c 1 t) (iblk m c 2 t) (iblk m c 3 t) (iblk m c 4 t)

/-- The proof data on core `c`: the arrays as the region finds them; after a point each input's buffer at its block,
    the projected rows', the codes' and the repeated scales' as `h1Blk`, `codesBlk` and `repBlk` say; the dense
    window's contents are not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => h1At m c t
    | ⟨7, _⟩ => codesBlk (h1At m c t) (iblk m c 5 t)
    | ⟨8, _⟩ => repBlk (h1At m c t) (iblk m c 5 t)
    | ⟨9, h⟩ => Dat.unnamed (cfg := cfg0) ⟨9, h⟩ t
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = h1At m c t := by dsimp only [dats]
theorem after0_7 (c : Dev nD) (t : Fin cfg0.N) : (dats m 0 c).after 7 t = codesBlk (h1At m c t) (iblk m c 5 t) := by dsimp only [dats]
theorem after0_8 (c : Dev nD) (t : Fin cfg0.N) : (dats m 0 c).after 8 t = repBlk (h1At m c t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The point that writes row `y 0` of the dense array. -/
def pt (y : S12x128.Idx) : Fin cfg0.N := ⟨(y 0).val / 2, lt_of_lt_of_eq (by have h : (y 0).val < 12 := (y 0).isLt; omega : (y 0).val / 2 < 6) N_0.symm⟩

/-- The row of the dense array that holds the scales of rows `n` to `n + 127` of point `t`. -/
abbrev rowAt (c : Dev nD) (t : Fin cfg0.N) (n : ℕ) (h : n + 128 ≤ 256) : Vec F S1x128 .f32 := rowVal (repBlk (h1At m c t) (iblk m c 5 t)) n h

/-- The dense array: rows `2 u` and `2 u + 1` are the scales of point `u`. -/
def dense (c : Dev nD) : Vec F S12x128 .f32 := fun y =>
  if (y 0).val % 2 = 0 then rowAt m c (pt y) 0 (by decide) (ix2 0 (y 1)) else rowAt m c (pt y) 128 (by decide) (ix2 0 (y 1))

/-- What holds of the dense window after point `t`: the rows up to `2 t + 1` hold their scales. -/
def Rel (c : Dev nD) : (w : Fin cfg0.W) → (t : Fin cfg0.N) → ((cfg0.win w).block.Idx → Elt F (cfg0.win w).elt) → Prop
  | ⟨9, _⟩, t, X => ∀ y : S12x128.Idx, (y 0).val ≤ 2 * t.val + 1 → (X : Vec F S12x128 .f32) y = dense m c y
  | _, _, _ => True

/-- The dense window is the one that is held to `Rel`. -/
def fgt : Fin cfg0.W → Bool
  | ⟨9, _⟩ => true
  | _ => false

/-- The relational proof data. -/
abbrev rdat (c : Dev nD) : RDat τ (Elt F) Unit ℕ (UR sig nD τ) ℕ cfg0 c := (dats m 0 c).toRRel fgt (Rel m c)

/-- Before point `t > 0` the rows below `2 t` hold their scales. -/
theorem finds (c : Dev nD) (t : Fin cfg0.N) (Y) (h : (rdat m c).Finds 9 t Y) :
    ∀ y : S12x128.Idx, (y 0).val < 2 * t.val → (Y : Vec F S12x128 .f32) y = dense m c y := by
  intro y hy
  have hN : t.val < 6 := lt_of_lt_of_eq t.isLt N_0
  have ht : t.val ≠ 0 := by omega
  have h1 := ((rdat m c).finds_of_pos (w := 9) rfl ht Y).mp h
  rcases h1 with h1 | h1
  · exact absurd ((flush0_9 _).mp h1) (by show ¬ (t.val - 1) % 6 = 5; omega)
  · have h2 := (dats m 0 c).toRRel_leaves (fgt := fgt) (Rl := Rel m c) (w := 9) rfl h1
    exact h2 y (by show (y 0).val ≤ 2 * (t.val - 1) + 1; omega)

theorem coord0 : ∀ t : Fin cfg0.N, (grid0.coords t 0).val = t.val :=
  (by decide +kernel : ∀ t : Fin grid0.N, (grid0.coords t 0).val = t.val)

/-- Replacing rows `2 t` and `2 t + 1` extends the relation from the rows below `2 t` to the rows up to `2 t + 1`. -/
theorem rel_step (c : Dev nD) (t : Fin cfg0.N) (Y : Vec F S12x128 .f32)
    (h : ∀ y : S12x128.Idx, (y 0).val < 2 * t.val → Y y = dense m c y) :
    Rel m c 9 t (putRows (grid0.coords t 0).val (repBlk (h1At m c t) (iblk m c 5 t)) Y) := by
  intro y hy
  show putRows (grid0.coords t 0).val (repBlk (h1At m c t) (iblk m c 5 t)) Y y = dense m c y
  rw [coord0 t]
  unfold putRows putRow
  dsimp only
  by_cases he : (y 0).val = 2 * t.val + 1
  · rw [if_pos he]
    have e : pt y = t := Fin.ext (by show (y 0).val / 2 = t.val; omega)
    unfold dense
    rw [if_neg (by omega : ¬ (y 0).val % 2 = 0), e]
  · rw [if_neg he]
    by_cases he' : (y 0).val = 2 * t.val + 0
    · rw [if_pos he']
      have e : pt y = t := Fin.ext (by show (y 0).val / 2 = t.val; omega)
      unfold dense
      rw [if_pos (by omega : (y 0).val % 2 = 0), e]
    · rw [if_neg he']
      exact h y (by omega)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ Y, ⌜(rdat m c).Finds 9 t Y⌝ ∗ owns (c : Thread nD τ) (st0_9 t) fullShare Y))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (∃ X, ⌜Rel m c 9 t X⌝ ∗ owns (c : Thread nD τ) (st0_9 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%Y, %hY, HD⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) Y _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HD]; · iexact HD
  iintro ⟨H0, H1, H2, H3, H4, H5, H6, H7, H8, HD⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; isplitr
  swap; · iexact HD
  ipureintro
  exact rel_step m c t Y (finds m c t Y hY)

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligationRel (dats (F := F) m 0 c) (defs₀ (F := F)) Variants.none () Set.univ fgt (Rel m c) := fun t => by
  rw [bigSep_W0, bigSep_W0, defs₀_row]
  exact triple_restated (sound_body m c t) rfl .rfl fun _ => .rfl

/-! ## The run -/

set_option backward.isDefEq.respectTransparency.types false in
set_option maxHeartbeats 800000 in
theorem run_main : θ_run defs (onTc (τ := τ) (main (F := F))) (s₀ m ρ)
    (fun r => RDat.FramePost (cfgs 0) (rdat m) (V m) r ∧ r.2.sem = fun _ => 0) :=
  RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- After the run every array but the dense one is what the exact data name, and the dense array is `dense`. -/
theorem final_exact (c : Dev nD) {r : PUnit × MemSt nD τ sig (Elt F)} (h : RDat.FramePost (cfgs 0) (rdat m) (V m) r)
    (w : Fin cfg0.W) (hw : fgt w = false) :
    r.2.mem ((cfg0.spec w).arr.view.loc (c.tc : Thread nD τ)) = (dats m 0 c).arrAt w cfg0.N :=
  ((dats m 0 c).toR_arrAt_iff w _ _).mp (((dats m 0 c).toR.override_arrAt (by simp only [hw]) _ _).mp ((h c).1 w))

/-- The arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨(final_exact m c h.1 0 rfl).trans (((dats m 0 c).arrAt_in 0 rfl _).trans ((A_eq m c 0).trans (V_main_arg0 m c))),
    ((h.1 c).2 main_arg1 (Pipeline.mem_restRefs_of main_arg1 (by decide) (by decide))).trans (V_main_arg1 m c), ((h.1 c).2 main_arg2 (Pipeline.mem_restRefs_of main_arg2 (by decide) (by decide))).trans (V_main_arg2 m c), ((h.1 c).2 main_arg3 (Pipeline.mem_restRefs_of main_arg3 (by decide) (by decide))).trans (V_main_arg3 m c), ((h.1 c).2 main_arg4 (Pipeline.mem_restRefs_of main_arg4 (by decide) (by decide))).trans (V_main_arg4 m c), ((h.1 c).2 main_arg5 (Pipeline.mem_restRefs_of main_arg5 (by decide) (by decide))).trans (V_main_arg5 m c)⟩, h.2⟩) (run_main m ρ)

theorem whole_dense : ∃ t₀ : Fin cfg0.N, t₀.val = 5 ∧ (cfg0.win 9).WholeAt t₀ :=
  (by decide +kernel : ∃ t₀ : Fin grid0.N, t₀.val = 5 ∧ win0_9.WholeAt t₀)

theorem final_dense (c : Dev nD) {r : PUnit × MemSt nD τ sig (Elt F)} (h : RDat.FramePost (cfgs 0) (rdat m) (V m) r) :
    r.2.mem ((c : Thread nD τ).loc main_v6_3) = dense m c := by
  obtain ⟨t₀, h11, hW⟩ := whole_dense
  obtain ⟨X, hL, hX⟩ := RDat.ArrAt.emb_eq_of_wholeAt ((h c).1 9) hW
  have hR := (dats m 0 c).toRRel_leaves (fgt := fgt) (Rl := Rel m c) (w := 9) rfl hL
  funext y
  have hy : (y 0).val < 12 := (y 0).isLt
  refine (hX y).trans ?_
  exact hR y (by omega)

end Cert.OprojIdeal.Hand

end
-- ==== Proof.OprojIdealRun.lean ====
/-
  The output projection, the normalisation and the quantising by rows, over the extended reals: the projected rows, the
  codes and the scales the call leaves, entry by entry.

  A grid point's forty tiles agree with one formula for its projected rows, and its eight strips with one formula each
  for its codes and its repeated scales; the diagonals of the two halves of the block of repeated scales are the two
  rows of 128 scales that go to the dense array.
-/
module

public import proofs.«01_k».proof.Proof.OprojIdealBody
public import proofs.«01_k».proof.Proof.Quant

@[expose] public section

set_option maxRecDepth 16384

noncomputable section

namespace Cert.OprojIdeal.Hand

open Cert.OprojIdeal Cert.OprojIdeal.Gen Idealize.ShloMosaic Idealize.ShloMosaic.TcCoe Idealize.SL.Sem
open Idealize.ShloMosaic.Pipeline (Dat RDat)

/-! ## One tile -/

theorem pay5_at (a : Vec Ideal S256x128 .f32) (q : Vec Ideal S256x5120 .fp8e4m3) (w : Vec Ideal S5120x256 .fp8e4m3) (x : Vec Ideal S256x128 .bf16) (s : Vec Ideal S1x128 .f32) (r : Fin 256) (l : Fin 128) :
    (k0_pay5 (F := Ideal) a q w x s : Vec Ideal S256x128 .f32) (ix2 r l)
      = (x (ix2 r l) + (∑ k : Fin 5120, q (ix2 r k) * w (ix2 k ⟨0 + l.val, by omega⟩)) * a (ix2 r l) * s (ix2 0 l) : EReal) := by
  unfold_payloads
  pointwise

theorem pay6_at (a : Vec Ideal S256x128 .f32) (q : Vec Ideal S256x5120 .fp8e4m3) (w : Vec Ideal S5120x256 .fp8e4m3) (x : Vec Ideal S256x128 .bf16) (s : Vec Ideal S1x128 .f32) (r : Fin 256) (l : Fin 128) :
    (k0_pay6 (F := Ideal) a q w x s : Vec Ideal S256x128 .f32) (ix2 r l)
      = (x (ix2 r l) + (∑ k : Fin 5120, q (ix2 r k) * w (ix2 k ⟨128 + l.val, by omega⟩)) * a (ix2 r l) * s (ix2 0 l) : EReal) := by
  unfold_payloads
  pointwise

/-- Entry `(r, n)` of a point's projected rows: the input, plus the product of row `r` of the codes with column `n` of
    the weight, times the row's scale (read in lane `n mod 128`), times the column's scale. -/
def hBlk (x0 : Vec Ideal S256x5120 .fp8e4m3) (x1 : Vec Ideal S256x128 .f32) (x2 : Vec Ideal S5120x5120 .fp8e4m3) (x3 : Vec Ideal S1x5120 .f32) (x4 : Vec Ideal S256x5120 .bf16) (j : S256x5120.Idx) : EReal :=
  x4 j + (∑ k : Fin 5120, x0 (ix2 (j 0) k) * x2 (ix2 k (j 1))) * x1 (ix2 (j 0) ⟨(j 1).val % 128, Nat.mod_lt _ (by decide)⟩) * x3 (ix2 0 (j 1))

theorem zero2 : (![0, 0] : Fin 2 → Nat) = fun _ => 0 := funext fun a => by fin_cases a <;> rfl

section Tiles
variable (x0 : Vec Ideal S256x5120 .fp8e4m3) (x1 : Vec Ideal S256x128 .f32) (x2 : Vec Ideal S5120x5120 .fp8e4m3) (x3 : Vec Ideal S1x5120 .f32) (x4 : Vec Ideal S256x5120 .bf16)

/-- A tile of 128 columns from column `n`, whose weights are columns of a block from column `b`, `d` columns in. -/
theorem tile_at (n b d : ℕ) (h : n + 128 ≤ 5120) (hb : b + 256 ≤ 5120) (hd : d + 128 ≤ 256) (hn : n % 128 = 0) (e : b + d = n) (r : Fin 256) (l : Fin 128) :
    ((View.ld x4 (tr n h) : Vec Ideal S256x128 .bf16) (ix2 r l)
        + (∑ k : Fin 5120, (View.ld x0 ar : Vec Ideal S256x5120 .fp8e4m3) (ix2 r k) * (View.ld x2 (wr b hb) : Vec Ideal S5120x256 .fp8e4m3) (ix2 k ⟨d + l.val, by omega⟩))
          * (View.ld x1 rr : Vec Ideal S256x128 .f32) (ix2 r l) * (View.ld x3 (sr n h) : Vec Ideal S1x128 .f32) (ix2 0 l) : EReal)
      = hBlk x0 x1 x2 x3 x4 ((tr n h).emb (ix2 r l : S256x128.Idx)) := by
  have ej : (tr n h).emb (ix2 r l : S256x128.Idx) = (ix2 r ⟨n + l.val, by have := l.isLt; omega⟩ : S256x5120.Idx) :=
    Shape.idx_ext₂ (by show 0 + 1 * r.val = r.val; omega) (by show n + 1 * l.val = n + l.val; omega)
  refine Eq.trans ?_ (congrArg (hBlk x0 x1 x2 x3 x4) ej.symm)
  unfold hBlk
  refine congrArg₂ (· + ·) (congrArg x4 ej) (congrArg₂ (· * ·) (congrArg₂ (· * ·) (Finset.sum_congr rfl fun k _ => congrArg₂ (· * ·) ?_ ?_) ?_) ?_)
  · exact congrFun (View.ld_unit_zero (S := S256x5120) zero2 _ x0) (ix2 r k)
  · exact congrArg x2 (Shape.idx_ext₂ (by show 0 + 1 * k.val = k.val; omega) (by show b + 1 * (d + l.val) = n + l.val; omega))
  · refine (congrFun (View.ld_unit_zero (S := S256x128) zero2 _ x1) (ix2 r l)).trans (congrArg x1 (Shape.idx_ext₂ rfl ?_))
    show l.val = (n + l.val) % 128
    omega
  · exact congrArg x3 (Shape.idx_ext₂ (by show 0 + 1 * 0 = 0; omega) (by show n + 1 * l.val = n + l.val; omega))

theorem lo_ok (n : ℕ) (h : n + 256 ≤ 5120) (hn : n % 128 = 0) (x : (lo x0 x1 x2 x3 x4 n h).1.shape.Idx) : (lo x0 x1 x2 x3 x4 n h).2 x = hBlk x0 x1 x2 x3 x4 ((lo x0 x1 x2 x3 x4 n h).1.emb x) := by
  revert x; intro (x : S256x128.Idx)
  obtain ⟨r, l, rfl⟩ : ∃ (r : Fin 256) (l : Fin 128), ix2 r l = x := ⟨x 0, x 1, (eq_ix2 (n0 := 256) (n1 := 128) x).symm⟩
  exact (pay5_at _ _ _ _ _ r l).trans (tile_at x0 x1 x2 x3 x4 n n 0 (by omega) h (by decide) hn rfl r l)

theorem hi_ok (n : ℕ) (h : n + 256 ≤ 5120) (hn : n % 128 = 0) (x : (hi x0 x1 x2 x3 x4 n h).1.shape.Idx) : (hi x0 x1 x2 x3 x4 n h).2 x = hBlk x0 x1 x2 x3 x4 ((hi x0 x1 x2 x3 x4 n h).1.emb x) := by
  revert x; intro (x : S256x128.Idx)
  obtain ⟨r, l, rfl⟩ : ∃ (r : Fin 256) (l : Fin 128), ix2 r l = x := ⟨x 0, x 1, (eq_ix2 (n0 := 256) (n1 := 128) x).symm⟩
  exact (pay6_at _ _ _ _ _ r l).trans (tile_at x0 x1 x2 x3 x4 (n + 128) n 128 (by omega) h (by decide) (by omega) rfl r l)

theorem h1Blk_eq : h1Blk x0 x1 x2 x3 x4 = hBlk x0 x1 x2 x3 x4 := by
  funext y
  unfold h1Blk
  refine View.canon_apply_of_pieces (hBlk x0 x1 x2 x3 x4) _ ?_ y (cover_h1 x0 x1 x2 x3 x4 y)
  iterate 20 (refine List.forall_mem_cons.2 ⟨hi_ok x0 x1 x2 x3 x4 _ _ (by decide), List.forall_mem_cons.2 ⟨lo_ok x0 x1 x2 x3 x4 _ _ (by decide), ?_⟩⟩)
  exact fun p hp => absurd hp List.not_mem_nil

end Tiles

/-! ## One strip -/

/-- The column of scales for a column of largest magnitudes. -/
theorem scaleOf_col (A : FVec Ideal S32 .f32) :
    select (cmpf .oeq (shapeCast S32x1 A shapeCasts_S32_S32x1) (broadcast S32x1 (FloatOps.ofBits .f32 0x00000000#32)))
      (broadcast S32x1 (FloatOps.ofBits .f32 0x3F800000#32))
      (divf (shapeCast S32x1 A shapeCasts_S32_S32x1) (broadcast S32x1 (FloatOps.ofBits .f32 0x43E00000#32)))
      = (fun j => Quant.scaleOf (A (ix1 (j 0))) : FVec Ideal S32x1 .f32) := by
  funext j
  obtain ⟨r, l, rfl⟩ : ∃ (r : Fin 32) (l : Fin 1), ix2 r l = j := ⟨j 0, j 1, (eq_ix2 (n0 := 32) (n1 := 1) j).symm⟩
  obtain rfl : l = 0 := Subsingleton.elim _ _
  pointwise [Quant.scaleOf]

theorem strip_codes (v : Vec Ideal S32x5120 .f32) (w : Vec Ideal S1x5120 .f32) (r : Fin 32) (l : Fin 5120) : (k0_pay76 (F := Ideal) v w : Vec Ideal S32x5120 .fp8e4m3) (ix2 r l) = Quant.codeMul (Quant.rowScale (Quant.normRow (fun k => v (ix2 r k)) (fun k => w (ix2 0 k)))) ((Quant.normRow (fun k => v (ix2 r k)) (fun k => w (ix2 0 k))) l) := by
  unfold_payloads
  dsimp only
  simp only [scaleOf_col]
  pointwise [Quant.codeMul, Quant.rowScale, Quant.rowMax, Quant.normRow, Quant.meanSq]

theorem strip_rep (v : Vec Ideal S32x5120 .f32) (w : Vec Ideal S1x5120 .f32) (r : Fin 32) (l : Fin 128) : (k0_pay77 (F := Ideal) v w : Vec Ideal S32x128 .f32) (ix2 r l) = Quant.rowScale (Quant.normRow (fun k => v (ix2 r k)) (fun k => w (ix2 0 k))) := by
  unfold_payloads
  dsimp only
  simp only [scaleOf_col]
  pointwise [Quant.rowScale, Quant.rowMax, Quant.normRow, Quant.meanSq]

theorem pick (v : Vec Ideal S128x128 .f32) (l : Fin 128) : (k0_pay2 v : Vec Ideal S1x128 .f32) (ix2 0 l) = v (ix2 l l) := by
  unfold_payloads
  pointwise
  exact Quant.diag (v := fun x => v (ix2 x l)) l

/-- Row `r` of a block of 256 rows, as it is quantised. -/
def blkRow (H : Vec Ideal S256x5120 .f32) (w : Vec Ideal S1x5120 .f32) (r : Fin 256) : Fin 5120 → EReal :=
  Quant.normRow (fun k => H (ix2 r k)) (fun k => w (ix2 0 k))

/-- The code at row `r`, column `l` of the block. -/
def blkCode (H : Vec Ideal S256x5120 .f32) (w : Vec Ideal S1x5120 .f32) (r : Fin 256) (l : Fin 5120) : EReal :=
  Quant.code (Quant.rowScale (blkRow H w r)) (blkRow H w r l)

/-- The scale of row `r` of the block. -/
def blkScale (H : Vec Ideal S256x5120 .f32) (w : Vec Ideal S1x5120 .f32) (r : Fin 256) : EReal := Quant.rowScale (blkRow H w r)

section Strips
variable (H : Vec Ideal S256x5120 .f32) (w : Vec Ideal S1x5120 .f32)

theorem ldH (n : ℕ) (h : n + 32 ≤ 256) (r : Fin 32) (k : Fin 5120) : (View.ld H (cr n h) : Vec Ideal S32x5120 .f32) (ix2 r k) = H (ix2 ⟨n + r.val, by omega⟩ k) :=
  congrArg H (Shape.idx_ext₂ (by show n + 1 * r.val = n + r.val; omega) (by show 0 + 1 * k.val = k.val; omega))

/-- A row of a strip, as it is quantised, is the block's row. -/
theorem strip_row (n : ℕ) (h : n + 32 ≤ 256) (r : Fin 32) :
    Quant.normRow (fun k => (View.ld H (cr n h) : Vec Ideal S32x5120 .f32) (ix2 r k)) (fun k => (View.ld w nr : Vec Ideal S1x5120 .f32) (ix2 0 k)) = blkRow H w ⟨n + r.val, by omega⟩ :=
  congrArg₂ Quant.normRow (funext fun k => ldH H n h r k) (funext fun k => congrFun (View.ld_unit_zero (S := S1x5120) zero2 _ w) (ix2 0 k))

theorem codes_ok (n : ℕ) (h : n + 32 ≤ 256) (x : (cr n h).shape.Idx) :
    (codesAt (View.ld w nr) n (View.ld H (cr n h)) h).2 x = (fun j : S256x5120.Idx => blkCode H w (j 0) (j 1)) ((cr n h).emb x) := by
  revert x; intro (x : S32x5120.Idx)
  obtain ⟨r, l, rfl⟩ : ∃ (r : Fin 32) (l : Fin 5120), ix2 r l = x := ⟨x 0, x 1, (eq_ix2 (n0 := 32) (n1 := 5120) x).symm⟩
  have e0 : (((cr n h).emb (ix2 r l : S32x5120.Idx)) 0 : Fin 256) = (⟨n + r.val, by omega⟩ : Fin 256) := Fin.ext (by show n + 1 * r.val = n + r.val; omega)
  have e1 : (((cr n h).emb (ix2 r l : S32x5120.Idx)) 1 : Fin 5120) = l := Fin.ext (by show 0 + 1 * l.val = l.val; omega)
  refine (strip_codes (View.ld H (cr n h)) (View.ld w nr) r l).trans ?_
  dsimp only
  rw [e0, e1, Quant.codeMul_rowScale, strip_row H w n h r]
  rfl

theorem rep_ok (n : ℕ) (h : n + 32 ≤ 256) (x : (qr n h).shape.Idx) :
    (repAt (View.ld w nr) n (View.ld H (cr n h)) h).2 x = (fun j : S256x128.Idx => blkScale H w (j 0)) ((qr n h).emb x) := by
  revert x; intro (x : S32x128.Idx)
  obtain ⟨r, l, rfl⟩ : ∃ (r : Fin 32) (l : Fin 128), ix2 r l = x := ⟨x 0, x 1, (eq_ix2 (n0 := 32) (n1 := 128) x).symm⟩
  have e0 : (((qr n h).emb (ix2 r l : S32x128.Idx)) 0 : Fin 256) = (⟨n + r.val, by omega⟩ : Fin 256) := Fin.ext (by show n + 1 * r.val = n + r.val; omega)
  dsimp only
  exact (strip_rep (View.ld H (cr n h)) (View.ld w nr) r l).trans (Eq.trans (b := blkScale H w ⟨n + r.val, by omega⟩) (congrArg Quant.rowScale (strip_row H w n h r)) (congrArg (blkScale H w) e0.symm))

theorem codesBlk_eq : codesBlk H w = fun j => blkCode H w (j 0) (j 1) := by
  funext y
  unfold codesBlk
  refine View.canon_apply_of_pieces (fun j => blkCode H w (j 0) (j 1)) _ ?_ y (cover_codes (F := Ideal) _ _ _ _ _ _ _ _ y)
  iterate 8 (refine List.forall_mem_cons.2 ⟨codes_ok H w _ _, ?_⟩)
  exact fun p hp => absurd hp List.not_mem_nil

theorem repBlk_eq : repBlk H w = fun j => blkScale H w (j 0) := by
  funext y
  unfold repBlk
  refine View.canon_apply_of_pieces (fun j => blkScale H w (j 0)) _ ?_ y (cover_rep (F := Ideal) _ _ _ _ _ _ _ _ y)
  iterate 8 (refine List.forall_mem_cons.2 ⟨rep_ok H w _ _, ?_⟩)
  exact fun p hp => absurd hp List.not_mem_nil

theorem rowVal_at (n : ℕ) (h : n + 128 ≤ 256) (l : Fin 128) : rowVal (repBlk H w) n h (ix2 0 l) = Quant.rowScale (blkRow H w ⟨n + l.val, by omega⟩) := by
  unfold rowVal
  rw [pick, repBlk_eq]
  refine congrArg (blkScale H w) (Fin.ext ?_)
  show n + 1 * l.val = n + l.val
  omega

end Strips

/-! ## The whole arrays -/

variable (m : (ℓ : Loc nD τ sig) → Buf (Elt Ideal) ℓ) (ρ : Dev nD → PrngReg)

/-- The six arguments: the codes of the attention's output, their row scales, the weight, its column scales, the layer's
    input, the weights of the normalisation. -/
abbrev acodes (c : Dev nD) : Vec Ideal S1536x5120 .fp8e4m3 := m (c.tc.loc main_arg0)
abbrev ascale (c : Dev nD) : Vec Ideal S1536 .f32 := m (c.tc.loc main_arg1)
abbrev weight (c : Dev nD) : Vec Ideal S40x128x5120 .fp8e4m3 := m (c.tc.loc main_arg2)
abbrev colScale (c : Dev nD) : Vec Ideal S5120 .f32 := m (c.tc.loc main_arg3)
abbrev input (c : Dev nD) : Vec Ideal S96x16x5120 .bf16 := m (c.tc.loc main_arg4)
abbrev norm (c : Dev nD) : Vec Ideal S5120 .f32 := m (c.tc.loc main_arg5)

/-- The weight as a square, and the input as 1536 rows. -/
def square (c : Dev nD) : Vec Ideal S5120x5120 .fp8e4m3 := shapeCast S5120x5120 (weight m c) shapeCasts_S40x128x5120_S5120x5120
def rows (c : Dev nD) : Vec Ideal S1536x5120 .bf16 := shapeCast S1536x5120 (input m c) shapeCasts_S96x16x5120_S1536x5120

/-- The projected rows: the input plus the product, times the row's scale, times the column's. -/
def h1 (c : Dev nD) (j : S1536x5120.Idx) : EReal :=
  rows m c j + (∑ k : Fin 5120, acodes m c (ix2 (j 0) k) * square m c (ix2 k (j 1))) * ascale m c (ix1 (j 0)) * colScale m c (ix1 (j 1))

/-- Row `r` as it is quantised. -/
def row (c : Dev nD) (r : Fin 1536) : Fin 5120 → EReal := Quant.normRow (fun k => h1 m c (ix2 r k)) (fun k => norm m c (ix1 k))

/-- The codes: entry `(r, l)` is entry `l` of row `r` over the row's scale, clipped. -/
def codes (c : Dev nD) (j : S1536x5120.Idx) : EReal := Quant.code (Quant.rowScale (row m c (j 0))) (row m c (j 0) (j 1))

/-- The scales, row `128 p + l` at `(p, l)`. -/
def scales (c : Dev nD) (y : S12x128.Idx) : EReal :=
  Quant.rowScale (row m c ⟨(y 0).val * 128 + (y 1).val, by have h0 : (y 0).val < 12 := (y 0).isLt; have h1 : (y 1).val < 128 := (y 1).isLt; omega⟩)

/-! ## The blocks a point reads -/

theorem ind0 : ∀ t : Fin cfg0.N, win0_0.index t 0 = t.val ∧ win0_0.index t 1 = 0 :=
  (by decide +kernel : ∀ t : Fin grid0.N, win0_0.index t 0 = t.val ∧ win0_0.index t 1 = 0)
theorem ind1 : ∀ t : Fin cfg0.N, win0_1.index t 0 = t.val ∧ win0_1.index t 1 = 0 :=
  (by decide +kernel : ∀ t : Fin grid0.N, win0_1.index t 0 = t.val ∧ win0_1.index t 1 = 0)
theorem ind2 : ∀ t : Fin cfg0.N, win0_2.index t 0 = 0 ∧ win0_2.index t 1 = 0 :=
  (by decide +kernel : ∀ t : Fin grid0.N, win0_2.index t 0 = 0 ∧ win0_2.index t 1 = 0)
theorem ind3 : ∀ t : Fin cfg0.N, win0_3.index t 0 = 0 ∧ win0_3.index t 1 = 0 :=
  (by decide +kernel : ∀ t : Fin grid0.N, win0_3.index t 0 = 0 ∧ win0_3.index t 1 = 0)
theorem ind4 : ∀ t : Fin cfg0.N, win0_4.index t 0 = t.val ∧ win0_4.index t 1 = 0 :=
  (by decide +kernel : ∀ t : Fin grid0.N, win0_4.index t 0 = t.val ∧ win0_4.index t 1 = 0)
theorem ind5 : ∀ t : Fin cfg0.N, win0_5.index t 0 = 0 ∧ win0_5.index t 1 = 0 :=
  (by decide +kernel : ∀ t : Fin grid0.N, win0_5.index t 0 = 0 ∧ win0_5.index t 1 = 0)
theorem ind6 : ∀ t : Fin cfg0.N, win0_6.index t 0 = t.val ∧ win0_6.index t 1 = 0 :=
  (by decide +kernel : ∀ t : Fin grid0.N, win0_6.index t 0 = t.val ∧ win0_6.index t 1 = 0)
theorem ind7 : ∀ t : Fin cfg0.N, win0_7.index t 0 = t.val ∧ win0_7.index t 1 = 0 :=
  (by decide +kernel : ∀ t : Fin grid0.N, win0_7.index t 0 = t.val ∧ win0_7.index t 1 = 0)

theorem V_rs (c : Dev nD) (r : Fin 1536) (l : Fin 128) : (V m c main_v1 : Vec Ideal S1536x128 .f32) (ix2 r l) = ascale m c (ix1 r) := by
  show (StableHlo.after hostOps0 _ (Proc.devRef .tc main_v1) : Vec Ideal S1536x128 .f32) _ = _
  after_results
  pointwise

theorem V_square (c : Dev nD) : (V m c main_v2 : Vec Ideal S5120x5120 .fp8e4m3) = square m c := by
  show StableHlo.after hostOps0 (fun b => m (c, b)) (Proc.devRef .tc main_v2) = _
  after_results
  rfl

theorem V_cs (c : Dev nD) (n : Fin 5120) : (V m c main_v3 : Vec Ideal S1x5120 .f32) (ix2 0 n) = colScale m c (ix1 n) := by
  show (StableHlo.after hostOps0 _ (Proc.devRef .tc main_v3) : Vec Ideal S1x5120 .f32) _ = _
  after_results
  pointwise

theorem V_rows (c : Dev nD) : (V m c main_v4 : Vec Ideal S1536x5120 .bf16) = rows m c := by
  show StableHlo.after hostOps0 (fun b => m (c, b)) (Proc.devRef .tc main_v4) = _
  after_results
  rfl

theorem V_norm (c : Dev nD) (n : Fin 5120) : (V m c main_v5 : Vec Ideal S1x5120 .f32) (ix2 0 n) = norm m c (ix1 n) := by
  show (StableHlo.after hostOps0 _ (Proc.devRef .tc main_v5) : Vec Ideal S1x5120 .f32) _ = _
  after_results
  pointwise

theorem read0 (f : Vec Ideal S1536x5120 .fp8e4m3) (t : Fin cfg0.N) (r : Fin 256) (k : Fin 5120) (h : t.val * 256 + r.val < 1536) :
    (((cfg0.win 0).blk t).view.read (Elt Ideal) f : Vec Ideal S256x5120 .fp8e4m3) (ix2 r k) = f (ix2 ⟨t.val * 256 + r.val, h⟩ k) := by
  rw [View.read_apply]
  show f _ = f _
  refine congrArg f (Shape.idx_ext₂ ?_ ?_)
  · show win0_0.index t 0 * 256 + 1 * r.val = t.val * 256 + r.val; rw [(ind0 t).1]; omega
  · show win0_0.index t 1 * 5120 + 1 * k.val = k.val; rw [(ind0 t).2]; omega

theorem read1 (f : Vec Ideal S1536x128 .f32) (t : Fin cfg0.N) (r : Fin 256) (k : Fin 128) (h : t.val * 256 + r.val < 1536) :
    (((cfg0.win 1).blk t).view.read (Elt Ideal) f : Vec Ideal S256x128 .f32) (ix2 r k) = f (ix2 ⟨t.val * 256 + r.val, h⟩ k) := by
  rw [View.read_apply]
  show f _ = f _
  refine congrArg f (Shape.idx_ext₂ ?_ ?_)
  · show win0_1.index t 0 * 256 + 1 * r.val = t.val * 256 + r.val; rw [(ind1 t).1]; omega
  · show win0_1.index t 1 * 128 + 1 * k.val = k.val; rw [(ind1 t).2]; omega

theorem read2 (f : Vec Ideal S5120x5120 .fp8e4m3) (t : Fin cfg0.N) : (((cfg0.win 2).blk t).view.read (Elt Ideal) f : Vec Ideal S5120x5120 .fp8e4m3) = f := by
  funext j
  rw [View.read_apply]
  show f _ = f j
  refine congrArg f (Shape.idx_ext₂ ?_ ?_)
  · show win0_2.index t 0 * 5120 + 1 * (j 0).val = (j 0).val; rw [(ind2 t).1]; omega
  · show win0_2.index t 1 * 5120 + 1 * (j 1).val = (j 1).val; rw [(ind2 t).2]; omega

theorem read3 (f : Vec Ideal S1x5120 .f32) (t : Fin cfg0.N) : (((cfg0.win 3).blk t).view.read (Elt Ideal) f : Vec Ideal S1x5120 .f32) = f := by
  funext j
  rw [View.read_apply]
  show f _ = f j
  refine congrArg f (Shape.idx_ext₂ ?_ ?_)
  · show win0_3.index t 0 * 1 + 1 * (j 0).val = (j 0).val; rw [(ind3 t).1]; omega
  · show win0_3.index t 1 * 5120 + 1 * (j 1).val = (j 1).val; rw [(ind3 t).2]; omega

theorem read4 (f : Vec Ideal S1536x5120 .bf16) (t : Fin cfg0.N) (r : Fin 256) (k : Fin 5120) (h : t.val * 256 + r.val < 1536) :
    (((cfg0.win 4).blk t).view.read (Elt Ideal) f : Vec Ideal S256x5120 .bf16) (ix2 r k) = f (ix2 ⟨t.val * 256 + r.val, h⟩ k) := by
  rw [View.read_apply]
  show f _ = f _
  refine congrArg f (Shape.idx_ext₂ ?_ ?_)
  · show win0_4.index t 0 * 256 + 1 * r.val = t.val * 256 + r.val; rw [(ind4 t).1]; omega
  · show win0_4.index t 1 * 5120 + 1 * k.val = k.val; rw [(ind4 t).2]; omega

theorem read5 (f : Vec Ideal S1x5120 .f32) (t : Fin cfg0.N) : (((cfg0.win 5).blk t).view.read (Elt Ideal) f : Vec Ideal S1x5120 .f32) = f := by
  funext j
  rw [View.read_apply]
  show f _ = f j
  refine congrArg f (Shape.idx_ext₂ ?_ ?_)
  · show win0_5.index t 0 * 1 + 1 * (j 0).val = (j 0).val; rw [(ind5 t).1]; omega
  · show win0_5.index t 1 * 5120 + 1 * (j 1).val = (j 1).val; rw [(ind5 t).2]; omega

theorem blk0 (c : Dev nD) (t : Fin cfg0.N) (r : Fin 256) (k : Fin 5120) (h : t.val * 256 + r.val < 1536) :
    (iblk m c 0 t : Vec Ideal S256x5120 .fp8e4m3) (ix2 r k) = acodes m c (ix2 ⟨t.val * 256 + r.val, h⟩ k) :=
  (read0 (V m c main_arg0) t r k h).trans (congrFun (V_main_arg0 m c) _)

theorem blk1 (c : Dev nD) (t : Fin cfg0.N) (r : Fin 256) (l : Fin 128) (h : t.val * 256 + r.val < 1536) :
    (iblk m c 1 t : Vec Ideal S256x128 .f32) (ix2 r l) = ascale m c (ix1 ⟨t.val * 256 + r.val, h⟩) :=
  (read1 (V m c main_v1) t r l h).trans (V_rs m c _ l)

theorem blk2 (c : Dev nD) (t : Fin cfg0.N) (k n : Fin 5120) : (iblk m c 2 t : Vec Ideal S5120x5120 .fp8e4m3) (ix2 k n) = square m c (ix2 k n) :=
  congrFun ((read2 (V m c main_v2) t).trans (V_square m c)) _

theorem blk3 (c : Dev nD) (t : Fin cfg0.N) (n : Fin 5120) : (iblk m c 3 t : Vec Ideal S1x5120 .f32) (ix2 0 n) = colScale m c (ix1 n) :=
  (congrFun (read3 (V m c main_v3) t) _).trans (V_cs m c n)

theorem blk4 (c : Dev nD) (t : Fin cfg0.N) (r : Fin 256) (k : Fin 5120) (h : t.val * 256 + r.val < 1536) :
    (iblk m c 4 t : Vec Ideal S256x5120 .bf16) (ix2 r k) = rows m c (ix2 ⟨t.val * 256 + r.val, h⟩ k) :=
  (read4 (V m c main_v4) t r k h).trans (congrFun (V_rows m c) _)

theorem blk5 (c : Dev nD) (t : Fin cfg0.N) (n : Fin 5120) : (iblk m c 5 t : Vec Ideal S1x5120 .f32) (ix2 0 n) = norm m c (ix1 n) :=
  (congrFun (read5 (V m c main_v5) t) _).trans (V_norm m c n)

/-- The projected rows of a point are its part of `h1`. -/
theorem h1At_at (c : Dev nD) (t : Fin cfg0.N) (r : Fin 256) (n : Fin 5120) (h : t.val * 256 + r.val < 1536) :
    h1At m c t (ix2 r n) = h1 m c (ix2 ⟨t.val * 256 + r.val, h⟩ n) := by
  refine (congrFun (h1Blk_eq (iblk m c 0 t) (iblk m c 1 t) (iblk m c 2 t) (iblk m c 3 t) (iblk m c 4 t)) (ix2 r n)).trans ?_
  unfold hBlk h1
  exact congrArg₂ (· + ·) (blk4 m c t r n h) (congrArg₂ (· * ·) (congrArg₂ (· * ·)
    (Finset.sum_congr rfl fun k _ => congrArg₂ (· * ·) (blk0 m c t r k h) (blk2 m c t k n)) (blk1 m c t r _ h)) (blk3 m c t n))

theorem row_blk (c : Dev nD) (t : Fin cfg0.N) (r : Fin 256) (h : t.val * 256 + r.val < 1536) :
    blkRow (h1At m c t) (iblk m c 5 t) r = row m c ⟨t.val * 256 + r.val, h⟩ := by
  unfold blkRow row
  exact congrArg₂ Quant.normRow (funext fun k => h1At_at m c t r k h) (funext fun k => blk5 m c t k)

theorem dense_eq (c : Dev nD) : dense m c = scales m c := by
  funext y
  have h0 : (y 0).val < 12 := (y 0).isLt
  have h1 : (y 1).val < 128 := (y 1).isLt
  have key : ∀ n (h : n + 128 ≤ 256), (y 0).val / 2 * 256 + n = (y 0).val * 128 → rowAt m c (pt y) n h (ix2 0 (y 1)) = scales m c y := by
    intro n h e
    refine (rowVal_at (h1At m c (pt y)) (iblk m c 5 (pt y)) n h (y 1)).trans ?_
    have hr : (pt y).val * 256 + (n + (y 1).val) < 1536 := by show (y 0).val / 2 * 256 + (n + (y 1).val) < 1536; omega
    rw [row_blk m c (pt y) ⟨n + (y 1).val, by omega⟩ hr]
    unfold scales
    refine congrArg (fun q => Quant.rowScale (row m c q)) (Fin.ext ?_)
    show (y 0).val / 2 * 256 + (n + (y 1).val) = (y 0).val * 128 + (y 1).val
    omega
  unfold dense
  by_cases hy : (y 0).val % 2 = 0
  · rw [if_pos hy]; exact key 0 _ (by omega)
  · rw [if_neg hy]; exact key 128 _ (by omega)

/-! ## The two arrays that are written block by block -/

theorem mem6 (t : Fin cfg0.N) (i : S1536x5120.Idx) (h : t.val = (i 0).val / 256) : i ∈ ((cfg0.win 6).blk t).view.set := by
  show i ∈ ((View.whole main_v6_0).slice (win0_6.rect t)).set
  rw [View.set_slice_whole, Rect.mem_set_unit]
  have h0 : (i 1).val < 5120 := (i 1).isLt
  intro a
  match a with
  | ⟨0, _⟩ => show win0_6.index t 0 * 256 ≤ (i 0).val ∧ (i 0).val < win0_6.index t 0 * 256 + 256; rw [(ind6 t).1]; omega
  | ⟨1, _⟩ => show win0_6.index t 1 * 5120 ≤ (i 1).val ∧ (i 1).val < win0_6.index t 1 * 5120 + 5120; rw [(ind6 t).2]; omega

theorem flushed6 (c : Dev nD) (t : Fin cfg0.N) :
    (dats m 0 c).flushed 6 t = (cfg0.win 6).cut (grid0.coords t) (h1At m c t) := by
  show (cfg0.win 6).cut (grid0.coords t) ((dats m 0 c).after 6 t) = _
  rw [after0_6]

theorem final_h1 (c : Dev nD) : (dats m 0 c).arrAt 6 cfg0.N = h1 m c := by
  refine (dats m 0 c).arrAt_eq_of_cover 6 (h1 m c) (fun t _ => ?_) fun i => ?_
  · rw [flushed6]
    funext j
    have ht : t.val < 6 := lt_of_lt_of_eq t.isLt N_0
    have hj : (j 0).val < 256 := (j 0).isLt
    rw [View.read_apply]
    refine (congrArg (h1At m c t) (eq_ix2 (n0 := 256) (n1 := 5120) j)).trans ((h1At_at m c t (j 0) (j 1) (by omega)).trans ?_)
    refine congrArg (h1 m c) (a₁ := ix2 ⟨t.val * 256 + (j 0).val, by omega⟩ (j 1)) (Shape.idx_ext₂ ?_ ?_)
    · show t.val * 256 + (j 0).val = win0_6.index t 0 * 256 + 1 * (j 0).val; rw [(ind6 t).1]; omega
    · show (j 1).val = win0_6.index t 1 * 5120 + 1 * (j 1).val; rw [(ind6 t).2]; omega
  · have hi : (i 0).val < 1536 := (i 0).isLt
    exact ⟨⟨(i 0).val / 256, by rw [show cfg0.N = 6 from N_0]; omega⟩, flush0_6 _, mem6 _ i rfl⟩

theorem mem7 (t : Fin cfg0.N) (i : S1536x5120.Idx) (h : t.val = (i 0).val / 256) : i ∈ ((cfg0.win 7).blk t).view.set := by
  show i ∈ ((View.whole main_v6_1).slice (win0_7.rect t)).set
  rw [View.set_slice_whole, Rect.mem_set_unit]
  have h0 : (i 1).val < 5120 := (i 1).isLt
  intro a
  match a with
  | ⟨0, _⟩ => show win0_7.index t 0 * 256 ≤ (i 0).val ∧ (i 0).val < win0_7.index t 0 * 256 + 256; rw [(ind7 t).1]; omega
  | ⟨1, _⟩ => show win0_7.index t 1 * 5120 ≤ (i 1).val ∧ (i 1).val < win0_7.index t 1 * 5120 + 5120; rw [(ind7 t).2]; omega

theorem flushed7 (c : Dev nD) (t : Fin cfg0.N) :
    (dats m 0 c).flushed 7 t = (cfg0.win 7).cut (grid0.coords t) (codesBlk (h1At m c t) (iblk m c 5 t)) := by
  show (cfg0.win 7).cut (grid0.coords t) ((dats m 0 c).after 7 t) = _
  rw [after0_7]

theorem final_codes (c : Dev nD) : (dats m 0 c).arrAt 7 cfg0.N = codes m c := by
  refine (dats m 0 c).arrAt_eq_of_cover 7 (codes m c) (fun t _ => ?_) fun i => ?_
  · rw [flushed7, codesBlk_eq]
    funext j
    have ht : t.val < 6 := lt_of_lt_of_eq t.isLt N_0
    have hj : (j 0).val < 256 := (j 0).isLt
    rw [View.read_apply]
    have hr := row_blk m c t (j 0) (by omega)
    refine (congrArg (fun f : Fin 5120 → EReal => Quant.code (Quant.rowScale f) (f (j 1))) hr).trans ?_
    refine congrArg (codes m c) (a₁ := ix2 ⟨t.val * 256 + (j 0).val, by omega⟩ (j 1)) (Shape.idx_ext₂ ?_ ?_)
    · show t.val * 256 + (j 0).val = win0_7.index t 0 * 256 + 1 * (j 0).val; rw [(ind7 t).1]; omega
    · show (j 1).val = win0_7.index t 1 * 5120 + 1 * (j 1).val; rw [(ind7 t).2]; omega
  · have hi : (i 0).val < 1536 := (i 0).isLt
    exact ⟨⟨(i 0).val / 256, by rw [show cfg0.N = 6 from N_0]; omega⟩, flush0_7 _, mem7 _ i rfl⟩

end Cert.OprojIdeal.Hand

end
-- ==== Proof.OprojRef.lean ====
/-
  The output projection, the normalisation and the quantising by rows: what the reference leaves in its three results,
  over the extended reals.

  The reference is one region with one point, whose windows are the whole arrays; its body stores each result once.
-/
module

public import proofs.«01_k».proof.Proof.Gen.OprojRefIdeal.Value
public import proofs.«01_k».proof.Proof.Quant
public import Idealize.ShloMosaic.Lib.Pipeline.Value
public import Idealize.ShloMosaic.Lib.Pointwise

@[expose] public section

set_option maxRecDepth 16384

noncomputable section

namespace Cert.OprojRefIdeal.Hand

open Cert.OprojRefIdeal Cert.OprojRefIdeal.Gen Idealize.ShloMosaic Idealize.ShloMosaic.TcCoe Idealize.SL.Sem
open Idealize.ShloMosaic.Pipeline (Dat RDat)

variable (m : (ℓ : Loc nD τ sig) → Buf (Elt Ideal) ℓ) (ρ : Dev nD → PrngReg)

/-- The six arguments: the codes of the attention's output, their row scales, the weight, its column scales, the layer's
    input, the weights of the normalisation. -/
abbrev acodes (c : Dev nD) : Vec Ideal S1536x5120 .fp8e4m3 := m (c.tc.loc main_arg0)
abbrev ascale (c : Dev nD) : Vec Ideal S1536 .f32 := m (c.tc.loc main_arg1)
abbrev weight (c : Dev nD) : Vec Ideal S40x128x5120 .fp8e4m3 := m (c.tc.loc main_arg2)
abbrev colScale (c : Dev nD) : Vec Ideal S5120 .f32 := m (c.tc.loc main_arg3)
abbrev input (c : Dev nD) : Vec Ideal S96x16x5120 .bf16 := m (c.tc.loc main_arg4)
abbrev norm (c : Dev nD) : Vec Ideal S5120 .f32 := m (c.tc.loc main_arg5)

/-- The weight as a square, and the input as 1536 rows. -/
def square (c : Dev nD) : Vec Ideal S5120x5120 .fp8e4m3 := shapeCast S5120x5120 (weight m c) shapeCasts_S40x128x5120_S5120x5120
def rows (c : Dev nD) : Vec Ideal S1536x5120 .bf16 := shapeCast S1536x5120 (input m c) shapeCasts_S96x16x5120_S1536x5120

/-- The projected rows: the input plus the product, times the row's scale, times the column's. -/
def h1 (c : Dev nD) (j : S1536x5120.Idx) : EReal :=
  rows m c j + (∑ k : Fin 5120, acodes m c (ix2 (j 0) k) * square m c (ix2 k (j 1))) * ascale m c (ix1 (j 0)) * colScale m c (ix1 (j 1))

/-- Row `r` as it is quantised. -/
def row (c : Dev nD) (r : Fin 1536) : Fin 5120 → EReal := Quant.normRowDiv (fun k => h1 m c (ix2 r k)) (fun k => norm m c (ix1 k))

/-- The codes: entry `(r, l)` is entry `l` of row `r` over the row's scale, clipped. -/
def codes (c : Dev nD) (j : S1536x5120.Idx) : EReal := Quant.code (Quant.rowScale (row m c (j 0))) (row m c (j 0) (j 1))

/-- The scales, row `128 p + l` at `(p, l)`. -/
def scales (c : Dev nD) (y : S12x128.Idx) : EReal :=
  Quant.rowScale (row m c ⟨(y 0).val * 128 + (y 1).val, by have h0 : (y 0).val < 12 := (y 0).isLt; have h1 : (y 1).val < 128 := (y 1).isLt; omega⟩)

theorem zero2 : (![0, 0] : Fin 2 → Nat) = fun _ => 0 := funext fun a => by fin_cases a <;> rfl

/-! ## What the body stores -/

/-- Entry `j` of the projected rows, from the blocks. -/
def hAll (x0 : Vec Ideal S1536x5120 .fp8e4m3) (x1 : Vec Ideal S1536x1 .f32) (x2 : Vec Ideal S5120x5120 .fp8e4m3) (x3 : Vec Ideal S1x5120 .f32) (x4 : Vec Ideal S1536x5120 .bf16) (j : S1536x5120.Idx) : EReal :=
  x4 j + (∑ k : Fin 5120, x0 (ix2 (j 0) k) * x2 (ix2 k (j 1))) * x1 (ix2 (j 0) 0) * x3 (ix2 0 (j 1))

theorem pay4_eq (x4 : Vec Ideal S1536x5120 .bf16) (x0 : Vec Ideal S1536x5120 .fp8e4m3) (x2 : Vec Ideal S5120x5120 .fp8e4m3) (x1 : Vec Ideal S1536x1 .f32) (x3 : Vec Ideal S1x5120 .f32) :
    (k0_pay4 (F := Ideal) x4 x0 x2 x1 x3 : FVec Ideal S1536x5120 .f32) = hAll x0 x1 x2 x3 x4 := by
  funext j
  obtain ⟨r, l, rfl⟩ : ∃ (r : Fin 1536) (l : Fin 5120), ix2 r l = j := ⟨j 0, j 1, (eq_ix2 (n0 := 1536) (n1 := 5120) j).symm⟩
  unfold_payloads
  pointwise [hAll]

section Stored
variable (x0 : Vec Ideal S1536x5120 .fp8e4m3) (x1 : Vec Ideal S1536x1 .f32) (x2 : Vec Ideal S5120x5120 .fp8e4m3) (x3 : Vec Ideal S1x5120 .f32) (x4 : Vec Ideal S1536x5120 .bf16) (x5 : Vec Ideal S1x5120 .f32)

/-- Row `r` of the block, as it is quantised. -/
def rowAll (r : Fin 1536) : Fin 5120 → EReal := Quant.normRowDiv (fun k => hAll x0 x1 x2 x3 x4 (ix2 r k)) (fun k => x5 (ix2 0 k))

theorem pay5_at (r : Fin 1536) (l : Fin 5120) : (k0_pay5 (F := Ideal) x4 x0 x2 x1 x3 x5 : FVec Ideal S1536x5120 .f32) (ix2 r l) = rowAll x0 x1 x2 x3 x4 x5 r l := by
  unfold k0_pay5 rowAll
  rw [pay4_eq]
  generalize (hAll x0 x1 x2 x3 x4 : FVec Ideal S1536x5120 .f32) = H
  pointwise [Quant.normRowDiv, Quant.meanSq]

theorem pay6_at (r : Fin 1536) : (k0_pay6 (F := Ideal) x4 x0 x2 x1 x3 x5 : FVec Ideal S1536 .f32) (ix1 r) = Quant.rowMax (rowAll x0 x1 x2 x3 x4 x5 r) := by
  unfold k0_pay6
  have e := fun l => pay5_at x0 x1 x2 x3 x4 x5 r l
  revert e
  generalize (k0_pay5 (F := Ideal) x4 x0 x2 x1 x3 x5 : FVec Ideal S1536x5120 .f32) = N
  generalize rowAll x0 x1 x2 x3 x4 x5 r = R
  intro e
  obtain rfl : (fun l => N (ix2 r l)) = R := funext e
  pointwise [Quant.rowMax]

/-- The scales of largest magnitudes `A`. -/
theorem pay1_eq (A : FVec Ideal S1536 .f32) :
    k0_pay1 (F := Ideal) (cmpf .oeq A (broadcast S1536 (Scalar.ofBits .f32 0x00000000#32))) (divf A (broadcast S1536 (Scalar.ofBits .f32 0x43E00000#32))) (Scalar.ofBits .f32 0x3F800000#32)
      = (fun j => Quant.scaleOf (A j) : FVec Ideal S1536 .f32) := by
  funext j
  unfold k0_pay1
  pointwise [Quant.scaleOf]

theorem pay2_at (N : FVec Ideal S1536x5120 .f32) (b : IVec S1536 1) (q : FVec Ideal S1536 .f32) (o : Ideal .f32) (r : Fin 1536) (l : Fin 5120) :
    (k0_pay2 (F := Ideal) N b q o : FVec Ideal S1536x5120 .fp8e4m3) (ix2 r l) = Quant.code (k0_pay1 (F := Ideal) b q o (ix1 r)) (N (ix2 r l)) := by
  unfold k0_pay2
  generalize k0_pay1 (F := Ideal) b q o = S
  pointwise [Quant.code]

theorem scale_at (r : Fin 1536) :
    (k0_pay1 (F := Ideal) (k0_pay7 x4 x0 x2 x1 x3 x5) (k0_pay8 x4 x0 x2 x1 x3 x5) (Scalar.ofBits .f32 0x3F800000#32) : FVec Ideal S1536 .f32) (ix1 r) = Quant.rowScale (rowAll x0 x1 x2 x3 x4 x5 r) := by
  unfold k0_pay7 k0_pay8
  refine (congrFun (pay1_eq (k0_pay6 x4 x0 x2 x1 x3 x5)) (ix1 r)).trans ?_
  rw [pay6_at]
  unfold Quant.rowScale
  rfl

theorem out6_at (j : S1536x5120.Idx) : out0_6 x0 x1 x2 x3 x4 x5 j = hAll x0 x1 x2 x3 x4 j := by
  unfold out0_6
  rw [View.canon_unit_zero (S := S1536x5120) zero2]
  simp only [View.ld_unit_zero (S := S1536x5120) zero2, View.ld_unit_zero (S := S1536x1) zero2, View.ld_unit_zero (S := S5120x5120) zero2, View.ld_unit_zero (S := S1x5120) zero2]
  exact congrFun (pay4_eq x4 x0 x2 x1 x3) j

theorem out7_at (r : Fin 1536) (l : Fin 5120) : out0_7 x0 x1 x2 x3 x4 x5 (ix2 r l) = Quant.code (Quant.rowScale (rowAll x0 x1 x2 x3 x4 x5 r)) (rowAll x0 x1 x2 x3 x4 x5 r l) := by
  unfold_out out0_7
  rw [View.canon_unit_zero (S := S1536x5120) zero2]
  simp only [View.ld_unit_zero (S := S1536x5120) zero2, View.ld_unit_zero (S := S1536x1) zero2, View.ld_unit_zero (S := S5120x5120) zero2, View.ld_unit_zero (S := S1x5120) zero2]
  exact (pay2_at _ _ _ _ r l).trans (congrArg₂ Quant.code (scale_at x0 x1 x2 x3 x4 x5 r) (pay5_at x0 x1 x2 x3 x4 x5 r l))

theorem out8_at (p : Fin 12) (l : Fin 128) : out0_8 x0 x1 x2 x3 x4 x5 (ix2 p l) = Quant.rowScale (rowAll x0 x1 x2 x3 x4 x5 ⟨p.val * 128 + l.val, by omega⟩) := by
  unfold_out out0_8
  rw [View.canon_unit_zero (S := S12x128) zero2]
  simp only [View.ld_unit_zero (S := S1536x5120) zero2, View.ld_unit_zero (S := S1536x1) zero2, View.ld_unit_zero (S := S5120x5120) zero2, View.ld_unit_zero (S := S1x5120) zero2]
  rw [← scale_at]
  unfold k0_pay3
  generalize (k0_pay1 (F := Ideal) (k0_pay7 x4 x0 x2 x1 x3 x5) (k0_pay8 x4 x0 x2 x1 x3 x5) (Scalar.ofBits .f32 0x3F800000#32) : FVec Ideal S1536 .f32) = S
  pointwise

end Stored

/-! ## The windows: each is its whole array -/

theorem ind0 : ∀ t : Fin cfg0.N, win0_0.index t 0 = 0 ∧ win0_0.index t 1 = 0 :=
  (by decide +kernel : ∀ t : Fin grid0.N, win0_0.index t 0 = 0 ∧ win0_0.index t 1 = 0)
theorem ind1 : ∀ t : Fin cfg0.N, win0_1.index t 0 = 0 ∧ win0_1.index t 1 = 0 :=
  (by decide +kernel : ∀ t : Fin grid0.N, win0_1.index t 0 = 0 ∧ win0_1.index t 1 = 0)
theorem ind2 : ∀ t : Fin cfg0.N, win0_2.index t 0 = 0 ∧ win0_2.index t 1 = 0 :=
  (by decide +kernel : ∀ t : Fin grid0.N, win0_2.index t 0 = 0 ∧ win0_2.index t 1 = 0)
theorem ind3 : ∀ t : Fin cfg0.N, win0_3.index t 0 = 0 ∧ win0_3.index t 1 = 0 :=
  (by decide +kernel : ∀ t : Fin grid0.N, win0_3.index t 0 = 0 ∧ win0_3.index t 1 = 0)
theorem ind4 : ∀ t : Fin cfg0.N, win0_4.index t 0 = 0 ∧ win0_4.index t 1 = 0 :=
  (by decide +kernel : ∀ t : Fin grid0.N, win0_4.index t 0 = 0 ∧ win0_4.index t 1 = 0)
theorem ind5 : ∀ t : Fin cfg0.N, win0_5.index t 0 = 0 ∧ win0_5.index t 1 = 0 :=
  (by decide +kernel : ∀ t : Fin grid0.N, win0_5.index t 0 = 0 ∧ win0_5.index t 1 = 0)
theorem ind6 : ∀ t : Fin cfg0.N, win0_6.index t 0 = 0 ∧ win0_6.index t 1 = 0 :=
  (by decide +kernel : ∀ t : Fin grid0.N, win0_6.index t 0 = 0 ∧ win0_6.index t 1 = 0)
theorem ind7 : ∀ t : Fin cfg0.N, win0_7.index t 0 = 0 ∧ win0_7.index t 1 = 0 :=
  (by decide +kernel : ∀ t : Fin grid0.N, win0_7.index t 0 = 0 ∧ win0_7.index t 1 = 0)
theorem ind8 : ∀ t : Fin cfg0.N, win0_8.index t 0 = 0 ∧ win0_8.index t 1 = 0 :=
  (by decide +kernel : ∀ t : Fin grid0.N, win0_8.index t 0 = 0 ∧ win0_8.index t 1 = 0)

theorem read0 (f : Vec Ideal S1536x5120 .fp8e4m3) (t : Fin cfg0.N) : (((cfg0.win 0).blk t).view.read (Elt Ideal) f : Vec Ideal S1536x5120 .fp8e4m3) = f := by
  funext j
  rw [View.read_apply]
  show f _ = f j
  refine congrArg f (Shape.idx_ext₂ ?_ ?_)
  · show win0_0.index t 0 * 1536 + 1 * (j 0).val = (j 0).val; rw [(ind0 t).1]; omega
  · show win0_0.index t 1 * 5120 + 1 * (j 1).val = (j 1).val; rw [(ind0 t).2]; omega

theorem read1 (f : Vec Ideal S1536x1 .f32) (t : Fin cfg0.N) : (((cfg0.win 1).blk t).view.read (Elt Ideal) f : Vec Ideal S1536x1 .f32) = f := by
  funext j
  rw [View.read_apply]
  show f _ = f j
  refine congrArg f (Shape.idx_ext₂ ?_ ?_)
  · show win0_1.index t 0 * 1536 + 1 * (j 0).val = (j 0).val; rw [(ind1 t).1]; omega
  · show win0_1.index t 1 * 1 + 1 * (j 1).val = (j 1).val; rw [(ind1 t).2]; omega

theorem read2 (f : Vec Ideal S5120x5120 .fp8e4m3) (t : Fin cfg0.N) : (((cfg0.win 2).blk t).view.read (Elt Ideal) f : Vec Ideal S5120x5120 .fp8e4m3) = f := by
  funext j
  rw [View.read_apply]
  show f _ = f j
  refine congrArg f (Shape.idx_ext₂ ?_ ?_)
  · show win0_2.index t 0 * 5120 + 1 * (j 0).val = (j 0).val; rw [(ind2 t).1]; omega
  · show win0_2.index t 1 * 5120 + 1 * (j 1).val = (j 1).val; rw [(ind2 t).2]; omega

theorem read3 (f : Vec Ideal S1x5120 .f32) (t : Fin cfg0.N) : (((cfg0.win 3).blk t).view.read (Elt Ideal) f : Vec Ideal S1x5120 .f32) = f := by
  funext j
  rw [View.read_apply]
  show f _ = f j
  refine congrArg f (Shape.idx_ext₂ ?_ ?_)
  · show win0_3.index t 0 * 1 + 1 * (j 0).val = (j 0).val; rw [(ind3 t).1]; omega
  · show win0_3.index t 1 * 5120 + 1 * (j 1).val = (j 1).val; rw [(ind3 t).2]; omega

theorem read4 (f : Vec Ideal S1536x5120 .bf16) (t : Fin cfg0.N) : (((cfg0.win 4).blk t).view.read (Elt Ideal) f : Vec Ideal S1536x5120 .bf16) = f := by
  funext j
  rw [View.read_apply]
  show f _ = f j
  refine congrArg f (Shape.idx_ext₂ ?_ ?_)
  · show win0_4.index t 0 * 1536 + 1 * (j 0).val = (j 0).val; rw [(ind4 t).1]; omega
  · show win0_4.index t 1 * 5120 + 1 * (j 1).val = (j 1).val; rw [(ind4 t).2]; omega

theorem read5 (f : Vec Ideal S1x5120 .f32) (t : Fin cfg0.N) : (((cfg0.win 5).blk t).view.read (Elt Ideal) f : Vec Ideal S1x5120 .f32) = f := by
  funext j
  rw [View.read_apply]
  show f _ = f j
  refine congrArg f (Shape.idx_ext₂ ?_ ?_)
  · show win0_5.index t 0 * 1 + 1 * (j 0).val = (j 0).val; rw [(ind5 t).1]; omega
  · show win0_5.index t 1 * 5120 + 1 * (j 1).val = (j 1).val; rw [(ind5 t).2]; omega

theorem V_rs (c : Dev nD) (r : Fin 1536) : (V m c main_v0 : Vec Ideal S1536x1 .f32) (ix2 r 0) = ascale m c (ix1 r) := by
  show (StableHlo.after hostOps0 _ (Proc.devRef .tc main_v0) : Vec Ideal S1536x1 .f32) _ = _
  after_results
  pointwise

theorem V_square (c : Dev nD) : (V m c main_v1 : Vec Ideal S5120x5120 .fp8e4m3) = square m c := by
  show StableHlo.after hostOps0 (fun b => m (c, b)) (Proc.devRef .tc main_v1) = _
  after_results
  rfl

theorem V_cs (c : Dev nD) (n : Fin 5120) : (V m c main_v2 : Vec Ideal S1x5120 .f32) (ix2 0 n) = colScale m c (ix1 n) := by
  show (StableHlo.after hostOps0 _ (Proc.devRef .tc main_v2) : Vec Ideal S1x5120 .f32) _ = _
  after_results
  pointwise

theorem V_rows (c : Dev nD) : (V m c main_v3 : Vec Ideal S1536x5120 .bf16) = rows m c := by
  show StableHlo.after hostOps0 (fun b => m (c, b)) (Proc.devRef .tc main_v3) = _
  after_results
  rfl

theorem V_norm (c : Dev nD) (n : Fin 5120) : (V m c main_v4 : Vec Ideal S1x5120 .f32) (ix2 0 n) = norm m c (ix1 n) := by
  show (StableHlo.after hostOps0 _ (Proc.devRef .tc main_v4) : Vec Ideal S1x5120 .f32) _ = _
  after_results
  pointwise

theorem all_h1 (c : Dev nD) (t : Fin cfg0.N) (j : S1536x5120.Idx) : hAll (iblk m c 0 t) (iblk m c 1 t) (iblk m c 2 t) (iblk m c 3 t) (iblk m c 4 t) j = h1 m c j := by
  unfold hAll h1
  refine congrArg₂ (· + ·) ?_ (congrArg₂ (· * ·) (congrArg₂ (· * ·) (Finset.sum_congr rfl fun k _ => congrArg₂ (· * ·) ?_ ?_) ?_) ?_)
  · exact congrFun ((read4 (V m c main_v3) t).trans (V_rows m c)) j
  · exact congrFun ((read0 (V m c main_arg0) t).trans (V_main_arg0 m c)) (ix2 (j 0) k)
  · exact congrFun ((read2 (V m c main_v1) t).trans (V_square m c)) (ix2 k (j 1))
  · exact (congrFun (read1 (V m c main_v0) t) (ix2 (j 0) 0)).trans (V_rs m c (j 0))
  · exact (congrFun (read3 (V m c main_v2) t) (ix2 0 (j 1))).trans (V_cs m c (j 1))

theorem all_row (c : Dev nD) (t : Fin cfg0.N) (r : Fin 1536) : rowAll (iblk m c 0 t) (iblk m c 1 t) (iblk m c 2 t) (iblk m c 3 t) (iblk m c 4 t) (iblk m c 5 t) r = row m c r := by
  unfold rowAll row
  exact congrArg₂ Quant.normRowDiv (funext fun k => all_h1 m c t (ix2 r k)) (funext fun k => (congrFun (read5 (V m c main_v4) t) (ix2 0 k)).trans (V_norm m c k))

theorem stored6 (c : Dev nD) (t : Fin cfg0.N) (r : Fin 1536) (l : Fin 5120) : out0_6 (iblk m c 0 t) (iblk m c 1 t) (iblk m c 2 t) (iblk m c 3 t) (iblk m c 4 t) (iblk m c 5 t) (ix2 r l) = h1 m c (ix2 r l) :=
  (out6_at _ _ _ _ _ _ _).trans (all_h1 m c t _)

theorem stored7 (c : Dev nD) (t : Fin cfg0.N) (r : Fin 1536) (l : Fin 5120) : out0_7 (iblk m c 0 t) (iblk m c 1 t) (iblk m c 2 t) (iblk m c 3 t) (iblk m c 4 t) (iblk m c 5 t) (ix2 r l) = codes m c (ix2 r l) :=
  (out7_at _ _ _ _ _ _ r l).trans (congrArg (fun f : Fin 5120 → EReal => Quant.code (Quant.rowScale f) (f l)) (all_row m c t r))

theorem stored8 (c : Dev nD) (t : Fin cfg0.N) (p : Fin 12) (l : Fin 128) : out0_8 (iblk m c 0 t) (iblk m c 1 t) (iblk m c 2 t) (iblk m c 3 t) (iblk m c 4 t) (iblk m c 5 t) (ix2 p l) = scales m c (ix2 p l) :=
  (out8_at _ _ _ _ _ _ p l).trans (congrArg Quant.rowScale (all_row m c t _))

/-! ## The result arrays -/

theorem mem6 (t : Fin cfg0.N) (i : S1536x5120.Idx) : i ∈ ((View.whole main_v5_0).slice (win0_6.rect t)).set := by
  rw [View.set_slice_whole, Rect.mem_set_unit]
  have h0 : (i 0).val < 1536 := (i 0).isLt
  have h1 : (i 1).val < 5120 := (i 1).isLt
  intro a
  match a with
  | ⟨0, _⟩ => show win0_6.index t 0 * 1536 ≤ (i 0).val ∧ (i 0).val < win0_6.index t 0 * 1536 + 1536; rw [(ind6 t).1]; omega
  | ⟨1, _⟩ => show win0_6.index t 1 * 5120 ≤ (i 1).val ∧ (i 1).val < win0_6.index t 1 * 5120 + 5120; rw [(ind6 t).2]; omega

theorem final6 (c : Dev nD) : (dats m 0 c).arrAt 6 cfg0.N = h1 m c := by
  refine (dats m 0 c).arrAt_eq_of_cover 6 (h1 m c) (fun t _ => ?_) fun i => ?_
  · rw [Value.flushed6]
    funext j
    rw [View.read_apply]
    refine (congrArg (out0_6 (iblk m c 0 t) (iblk m c 1 t) (iblk m c 2 t) (iblk m c 3 t) (iblk m c 4 t) (iblk m c 5 t)) (eq_ix2 (n0 := 1536) (n1 := 5120) j)).trans ((stored6 m c t (j 0) (j 1)).trans (congrArg (h1 m c) (Shape.idx_ext₂ ?_ ?_)))
    · show (j 0).val = win0_6.index t 0 * 1536 + 1 * (j 0).val; rw [(ind6 t).1]; omega
    · show (j 1).val = win0_6.index t 1 * 5120 + 1 * (j 1).val; rw [(ind6 t).2]; omega
  · exact ⟨⟨0, by rw [show cfg0.N = 1 from N_0]; omega⟩, flush0_6 _, mem6 _ i⟩

theorem mem7 (t : Fin cfg0.N) (i : S1536x5120.Idx) : i ∈ ((View.whole main_v5_1).slice (win0_7.rect t)).set := by
  rw [View.set_slice_whole, Rect.mem_set_unit]
  have h0 : (i 0).val < 1536 := (i 0).isLt
  have h1 : (i 1).val < 5120 := (i 1).isLt
  intro a
  match a with
  | ⟨0, _⟩ => show win0_7.index t 0 * 1536 ≤ (i 0).val ∧ (i 0).val < win0_7.index t 0 * 1536 + 1536; rw [(ind7 t).1]; omega
  | ⟨1, _⟩ => show win0_7.index t 1 * 5120 ≤ (i 1).val ∧ (i 1).val < win0_7.index t 1 * 5120 + 5120; rw [(ind7 t).2]; omega

theorem final7 (c : Dev nD) : (dats m 0 c).arrAt 7 cfg0.N = codes m c := by
  refine (dats m 0 c).arrAt_eq_of_cover 7 (codes m c) (fun t _ => ?_) fun i => ?_
  · rw [Value.flushed7]
    funext j
    rw [View.read_apply]
    refine (congrArg (out0_7 (iblk m c 0 t) (iblk m c 1 t) (iblk m c 2 t) (iblk m c 3 t) (iblk m c 4 t) (iblk m c 5 t)) (eq_ix2 (n0 := 1536) (n1 := 5120) j)).trans ((stored7 m c t (j 0) (j 1)).trans (congrArg (codes m c) (Shape.idx_ext₂ ?_ ?_)))
    · show (j 0).val = win0_7.index t 0 * 1536 + 1 * (j 0).val; rw [(ind7 t).1]; omega
    · show (j 1).val = win0_7.index t 1 * 5120 + 1 * (j 1).val; rw [(ind7 t).2]; omega
  · exact ⟨⟨0, by rw [show cfg0.N = 1 from N_0]; omega⟩, flush0_7 _, mem7 _ i⟩

theorem mem8 (t : Fin cfg0.N) (i : S12x128.Idx) : i ∈ ((View.whole main_v5_2).slice (win0_8.rect t)).set := by
  rw [View.set_slice_whole, Rect.mem_set_unit]
  have h0 : (i 0).val < 12 := (i 0).isLt
  have h1 : (i 1).val < 128 := (i 1).isLt
  intro a
  match a with
  | ⟨0, _⟩ => show win0_8.index t 0 * 12 ≤ (i 0).val ∧ (i 0).val < win0_8.index t 0 * 12 + 12; rw [(ind8 t).1]; omega
  | ⟨1, _⟩ => show win0_8.index t 1 * 128 ≤ (i 1).val ∧ (i 1).val < win0_8.index t 1 * 128 + 128; rw [(ind8 t).2]; omega

theorem final8 (c : Dev nD) : (dats m 0 c).arrAt 8 cfg0.N = scales m c := by
  refine (dats m 0 c).arrAt_eq_of_cover 8 (scales m c) (fun t _ => ?_) fun i => ?_
  · rw [Value.flushed8]
    funext j
    rw [View.read_apply]
    refine (congrArg (out0_8 (iblk m c 0 t) (iblk m c 1 t) (iblk m c 2 t) (iblk m c 3 t) (iblk m c 4 t) (iblk m c 5 t)) (eq_ix2 (n0 := 12) (n1 := 128) j)).trans ((stored8 m c t (j 0) (j 1)).trans (congrArg (scales m c) (Shape.idx_ext₂ ?_ ?_)))
    · show (j 0).val = win0_8.index t 0 * 12 + 1 * (j 0).val; rw [(ind8 t).1]; omega
    · show (j 1).val = win0_8.index t 1 * 128 + 1 * (j 1).val; rw [(ind8 t).2]; omega
  · exact ⟨⟨0, by rw [show cfg0.N = 1 from N_0]; omega⟩, flush0_8 _, mem8 _ i⟩

end Cert.OprojRefIdeal.Hand

end
-- ==== Proof.OprojAlg.lean ====
/-
  The output projection, the normalisation and the quantising by rows: the kernel and its reference end with equal
  projected rows, equal codes and equal scales.
-/
module

public import proofs.«01_k».proof.Defs
public import proofs.«01_k».proof.Proof.OprojIdealRun
public import proofs.«01_k».proof.Proof.OprojRef

@[expose] public section

noncomputable section

namespace Cert.Proof.OprojArgs

open Idealize.ShloMosaic Idealize.SL.Sem

/-- The six arguments of the two programs are equal. -/
def Same (m : (ℓ : Loc Cert.OprojIdeal.nD Cert.OprojIdeal.τ Cert.OprojIdeal.sig) → Buf (Elt Ideal) ℓ)
    (m' : (ℓ : Loc Cert.OprojRefIdeal.nD Cert.OprojRefIdeal.τ Cert.OprojRefIdeal.sig) → Buf (Elt Ideal) ℓ) (c : Dev Cert.OprojIdeal.nD) : Prop :=
  m' ((c.tc : Thread Cert.OprojRefIdeal.nD Cert.OprojRefIdeal.τ).loc Cert.OprojRefIdeal.main_arg0) = m ((c.tc : Thread Cert.OprojIdeal.nD Cert.OprojIdeal.τ).loc Cert.OprojIdeal.main_arg0) ∧ m' ((c.tc : Thread Cert.OprojRefIdeal.nD Cert.OprojRefIdeal.τ).loc Cert.OprojRefIdeal.main_arg1) = m ((c.tc : Thread Cert.OprojIdeal.nD Cert.OprojIdeal.τ).loc Cert.OprojIdeal.main_arg1) ∧ m' ((c.tc : Thread Cert.OprojRefIdeal.nD Cert.OprojRefIdeal.τ).loc Cert.OprojRefIdeal.main_arg2) = m ((c.tc : Thread Cert.OprojIdeal.nD Cert.OprojIdeal.τ).loc Cert.OprojIdeal.main_arg2) ∧ m' ((c.tc : Thread Cert.OprojRefIdeal.nD Cert.OprojRefIdeal.τ).loc Cert.OprojRefIdeal.main_arg3) = m ((c.tc : Thread Cert.OprojIdeal.nD Cert.OprojIdeal.τ).loc Cert.OprojIdeal.main_arg3) ∧ m' ((c.tc : Thread Cert.OprojRefIdeal.nD Cert.OprojRefIdeal.τ).loc Cert.OprojRefIdeal.main_arg4) = m ((c.tc : Thread Cert.OprojIdeal.nD Cert.OprojIdeal.τ).loc Cert.OprojIdeal.main_arg4) ∧ m' ((c.tc : Thread Cert.OprojRefIdeal.nD Cert.OprojRefIdeal.τ).loc Cert.OprojRefIdeal.main_arg5) = m ((c.tc : Thread Cert.OprojIdeal.nD Cert.OprojIdeal.τ).loc Cert.OprojIdeal.main_arg5)

theorem h1_Oproj (m : (ℓ : Loc Cert.OprojIdeal.nD Cert.OprojIdeal.τ Cert.OprojIdeal.sig) → Buf (Elt Ideal) ℓ)
    (m' : (ℓ : Loc Cert.OprojRefIdeal.nD Cert.OprojRefIdeal.τ Cert.OprojRefIdeal.sig) → Buf (Elt Ideal) ℓ) (c : Dev Cert.OprojIdeal.nD)
    (h : Same m m' c) : Cert.OprojRefIdeal.Hand.h1 m' c = Cert.OprojIdeal.Hand.h1 m c := by
  obtain ⟨e0, e1, e2, e3, e4, e5⟩ := h
  funext j
  unfold Cert.OprojRefIdeal.Hand.h1 Cert.OprojIdeal.Hand.h1 Cert.OprojRefIdeal.Hand.square Cert.OprojIdeal.Hand.square Cert.OprojRefIdeal.Hand.rows Cert.OprojIdeal.Hand.rows
  unfold Cert.OprojRefIdeal.Hand.acodes Cert.OprojRefIdeal.Hand.ascale Cert.OprojRefIdeal.Hand.weight Cert.OprojRefIdeal.Hand.colScale Cert.OprojRefIdeal.Hand.input Cert.OprojIdeal.Hand.acodes Cert.OprojIdeal.Hand.ascale Cert.OprojIdeal.Hand.weight Cert.OprojIdeal.Hand.colScale Cert.OprojIdeal.Hand.input
  rw [e0, e1, e2, e3, e4]

theorem row_Oproj (m : (ℓ : Loc Cert.OprojIdeal.nD Cert.OprojIdeal.τ Cert.OprojIdeal.sig) → Buf (Elt Ideal) ℓ)
    (m' : (ℓ : Loc Cert.OprojRefIdeal.nD Cert.OprojRefIdeal.τ Cert.OprojRefIdeal.sig) → Buf (Elt Ideal) ℓ) (c : Dev Cert.OprojIdeal.nD)
    (h : Same m m' c) (q : Fin 1536) : Cert.OprojRefIdeal.Hand.row m' c q = Cert.OprojIdeal.Hand.row m c q := by
  unfold Cert.OprojRefIdeal.Hand.row Cert.OprojIdeal.Hand.row
  rw [Quant.normRow_eq, h1_Oproj m m' c h]
  unfold Cert.OprojRefIdeal.Hand.norm Cert.OprojIdeal.Hand.norm
  rw [h.2.2.2.2.2]

theorem codes_Oproj (m : (ℓ : Loc Cert.OprojIdeal.nD Cert.OprojIdeal.τ Cert.OprojIdeal.sig) → Buf (Elt Ideal) ℓ)
    (m' : (ℓ : Loc Cert.OprojRefIdeal.nD Cert.OprojRefIdeal.τ Cert.OprojRefIdeal.sig) → Buf (Elt Ideal) ℓ) (c : Dev Cert.OprojIdeal.nD)
    (h : Same m m' c) : Cert.OprojRefIdeal.Hand.codes m' c = Cert.OprojIdeal.Hand.codes m c := by
  funext j
  unfold Cert.OprojRefIdeal.Hand.codes Cert.OprojIdeal.Hand.codes
  exact congrArg₂ Quant.code (congrArg Quant.rowScale (row_Oproj m m' c h (j 0))) (congrFun (row_Oproj m m' c h (j 0)) (j 1))

theorem scales_Oproj (m : (ℓ : Loc Cert.OprojIdeal.nD Cert.OprojIdeal.τ Cert.OprojIdeal.sig) → Buf (Elt Ideal) ℓ)
    (m' : (ℓ : Loc Cert.OprojRefIdeal.nD Cert.OprojRefIdeal.τ Cert.OprojRefIdeal.sig) → Buf (Elt Ideal) ℓ) (c : Dev Cert.OprojIdeal.nD)
    (h : Same m m' c) : Cert.OprojRefIdeal.Hand.scales m' c = Cert.OprojIdeal.Hand.scales m c := by
  funext y
  unfold Cert.OprojRefIdeal.Hand.scales Cert.OprojIdeal.Hand.scales
  rw [row_Oproj m m' c h]

end Cert.Proof.OprojArgs

namespace Cert.Proof

open Idealize.ShloMosaic Idealize.SL.Sem

theorem algebraic_Oproj : algebraic_OprojIdeal_OprojRefIdeal (hOprojIdeal := Cert.OprojIdeal.Gen.facts) (hOprojRefIdeal := Cert.OprojRefIdeal.Gen.facts) := by
  intro m g m' g' _ hag
  refine ⟨fun c => Cert.OprojIdeal.Hand.h1 m c, fun c => Cert.OprojIdeal.Hand.codes m c, fun c => Cert.OprojIdeal.Hand.scales m c, ?_, ?_⟩
  · refine (θ_run _ _ _).mono (fun r h c => ⟨?_, ?_, ?_, ?_, ?_, ?_, ?_, ?_, ?_⟩) (Cert.OprojIdeal.Hand.run_main (F := Ideal) m g)
    · exact (Cert.OprojIdeal.Hand.final_exact m c h.1 6 rfl).trans (Cert.OprojIdeal.Hand.final_h1 m c)
    · exact (Cert.OprojIdeal.Hand.final_exact m c h.1 7 rfl).trans (Cert.OprojIdeal.Hand.final_codes m c)
    · exact (Cert.OprojIdeal.Hand.final_dense m c h.1).trans (Cert.OprojIdeal.Hand.dense_eq m c)
    · exact (Cert.OprojIdeal.Hand.final_exact m c h.1 0 rfl).trans (((Cert.OprojIdeal.Hand.dats m 0 c).arrAt_in 0 rfl _).trans ((Cert.OprojIdeal.Hand.A_eq m c 0).trans (Cert.OprojIdeal.Gen.V_main_arg0 m c)))
    · exact ((h.1 c).2 Cert.OprojIdeal.main_arg1 (Pipeline.mem_restRefs_of Cert.OprojIdeal.main_arg1 (by decide) (by decide))).trans (Cert.OprojIdeal.Gen.V_main_arg1 m c)
    · exact ((h.1 c).2 Cert.OprojIdeal.main_arg2 (Pipeline.mem_restRefs_of Cert.OprojIdeal.main_arg2 (by decide) (by decide))).trans (Cert.OprojIdeal.Gen.V_main_arg2 m c)
    · exact ((h.1 c).2 Cert.OprojIdeal.main_arg3 (Pipeline.mem_restRefs_of Cert.OprojIdeal.main_arg3 (by decide) (by decide))).trans (Cert.OprojIdeal.Gen.V_main_arg3 m c)
    · exact ((h.1 c).2 Cert.OprojIdeal.main_arg4 (Pipeline.mem_restRefs_of Cert.OprojIdeal.main_arg4 (by decide) (by decide))).trans (Cert.OprojIdeal.Gen.V_main_arg4 m c)
    · exact ((h.1 c).2 Cert.OprojIdeal.main_arg5 (Pipeline.mem_restRefs_of Cert.OprojIdeal.main_arg5 (by decide) (by decide))).trans (Cert.OprojIdeal.Gen.V_main_arg5 m c)
  · refine (θ_run _ _ _).mono (fun r h c => ?_) (Cert.OprojRefIdeal.Value.run_blocks (F := Ideal) m' g')
    have e := h c
    rw [Cert.OprojRefIdeal.Hand.final6 m' c, Cert.OprojRefIdeal.Hand.final7 m' c, Cert.OprojRefIdeal.Hand.final8 m' c, OprojArgs.h1_Oproj m m' c (hag c), OprojArgs.codes_Oproj m m' c (hag c), OprojArgs.scales_Oproj m m' c (hag c)] at e
    exact e

end Cert.Proof

end
-- ==== Proof.ThQuantBody.lean ====
/-
  Quantising the target hidden states by rows: the call terminates and its arguments end unchanged, and what it leaves in its buffers.

  A grid point quantises 128 rows, in four strips of 32. It stores their codes, their scales each repeated over 128
  lanes (`rep`), and, read back off the diagonal of that block, the 128 scales as one row of the dense 12 by 128
  array, at the row numbered by the point. The dense array stays in its staging buffer over the whole grid and is
  written back once, after the last point. So what a point leaves there depends on what it found; of it the proof
  says only that rows 0, …, t hold their scales after point t (`Rel`), which at the last point is the whole array.
-/
module

public import proofs.«01_k».proof.Proof.Gen.ThQuant.Frame
public import proofs.«01_k».proof.Proof.Gen.ThQuant.Skeleton
public import Idealize.ShloMosaic.Lib.Pipeline.DatRel
public import Idealize.ShloMosaic.Lib.Pipeline.ArrRel
public import Idealize.ShloMosaic.Lib.Pipeline.Value
public import Idealize.ShloMosaic.Lib.Pointwise
public import Idealize.ShloMosaic.Lib.WritesUnit
public import Idealize.ShloMosaic.Lib.Tactic

@[expose] public section

set_option maxRecDepth 16384

noncomputable section

namespace Cert.ThQuant.Hand

open Cert.ThQuant Cert.ThQuant.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in the output blocks -/

abbrev cr0 : Rect S128x25600 := Rect.unit (s := S128x25600) ![0, 0] S32x25600.size inb_S128x25600_S32x25600_0_0
abbrev cr32 : Rect S128x25600 := Rect.unit (s := S128x25600) ![32, 0] S32x25600.size inb_S128x25600_S32x25600_32_0
abbrev cr64 : Rect S128x25600 := Rect.unit (s := S128x25600) ![64, 0] S32x25600.size inb_S128x25600_S32x25600_64_0
abbrev cr96 : Rect S128x25600 := Rect.unit (s := S128x25600) ![96, 0] S32x25600.size inb_S128x25600_S32x25600_96_0
abbrev sr0 : Rect S128x128 := Rect.unit (s := S128x128) ![0, 0] S32x128.size inb_S128x128_S32x128_0_0
abbrev sr32 : Rect S128x128 := Rect.unit (s := S128x128) ![32, 0] S32x128.size inb_S128x128_S32x128_32_0
abbrev sr64 : Rect S128x128 := Rect.unit (s := S128x128) ![64, 0] S32x128.size inb_S128x128_S32x128_64_0
abbrev sr96 : Rect S128x128 := Rect.unit (s := S128x128) ![96, 0] S32x128.size inb_S128x128_S32x128_96_0
abbrev srAll : Rect S128x128 := Rect.unit (s := S128x128) ![0, 0] S128x128.size inb_S128x128_S128x128_0_0

/-- The block of codes. -/
def codesBlk (x0 : Vec F S128x25600 .bf16) : Vec F S128x25600 .fp8e4m3 :=
  View.canon [⟨cr96, k0_pay3 (View.ld x0 cr96)⟩,
    ⟨cr64, k0_pay17 (View.ld x0 cr64)⟩,
    ⟨cr32, k0_pay13 (k0_pay10 (View.ld x0 cr32)) (k0_pay12 (View.ld x0 cr32))⟩,
    ⟨cr0, k0_pay8 (View.ld x0 cr0)⟩]

/-- The block of scales, each repeated over 128 lanes. -/
def repBlk (x0 : Vec F S128x25600 .bf16) : Vec F S128x128 .f32 :=
  View.canon [⟨sr96, k0_pay4 (View.ld x0 cr96)⟩,
    ⟨sr64, k0_pay18 (View.ld x0 cr64)⟩,
    ⟨sr32, k0_pay14 (k0_pay11 (View.ld x0 cr32))⟩,
    ⟨sr0, k0_pay9 (View.ld x0 cr0)⟩]

theorem cover_codes (p0 p1 p2 p3 : Vec F S32x25600 .fp8e4m3) (y : S128x25600.Idx) :
    ∃ pc ∈ ([⟨cr96, p0⟩, ⟨cr64, p1⟩, ⟨cr32, p2⟩, ⟨cr0, p3⟩] : List (View.Piece (Elt F) S128x25600 .fp8e4m3)), y ∈ pc.1.set :=
  View.cover_of_tiled [⟨cr96, p0⟩, ⟨cr64, p1⟩, ⟨cr32, p2⟩, ⟨cr0, p3⟩] S32x25600.size (by rfl) y

theorem cover_rep (p0 p1 p2 p3 : Vec F S32x128 .f32) (y : S128x128.Idx) :
    ∃ pc ∈ ([⟨sr96, p0⟩, ⟨sr64, p1⟩, ⟨sr32, p2⟩, ⟨sr0, p3⟩] : List (View.Piece (Elt F) S128x128 .f32)), y ∈ pc.1.set :=
  View.cover_of_tiled [⟨sr96, p0⟩, ⟨sr64, p1⟩, ⟨sr32, p2⟩, ⟨sr0, p3⟩] S32x128.size (by rfl) y

/-- The 128 scales as one row: the diagonal of the block of repeated scales. -/
def rowVal (x0 : Vec F S128x25600 .bf16) : Vec F S1x128 .f32 := k0_pay5 (View.ld (repBlk x0) srAll)

/-- `Y` with its row `n` replaced by `v`. -/
def putRow (n : ℕ) (v : Vec F S1x128 .f32) (Y : Vec F S12x128 .f32) : Vec F S12x128 .f32 := fun y =>
  if (y 0).val = n then v (ix2 0 (y 1)) else Y y

/-! ## The body -/

set_option maxHeartbeats 1000000 in
/-- The body, for any continuation: the inputs are as they were, the codes and the repeated scales are stored whole,
    and in the dense array the row of the point is replaced. -/
theorem sound_kernel (c : Dev nD) (E : Set ℕ) (i : grid0.Coords) (arg1 : Memref sig .tc .vmem S128x25600 .bf16) (harg1 : arg1.IsWhole) (arg2 : Memref sig .tc .vmem S128x25600 .fp8e4m3) (harg2 : arg2.IsWhole) (arg3 : Memref sig .tc .vmem S128x128 .f32) (harg3 : arg3.IsWhole) (arg4 : Memref sig .tc .vmem S12x128 .f32) (harg4 : arg4.IsWhole)
    (x0 : Vec F S128x25600 .bf16) (Y : Vec F S12x128 .f32) (K : PUnit → sProp 𝕄) :
    iprop(owns (c : Thread nD τ) arg1 fullShare x0 ∗ (∃ d, owns (c : Thread nD τ) arg2 fullShare d) ∗ (∃ d, owns (c : Thread nD τ) arg3 fullShare d) ∗ owns (c : Thread nD τ) arg4 fullShare Y
        ∗ (iprop(owns (c : Thread nD τ) arg1 fullShare x0 ∗ owns (c : Thread nD τ) arg2 fullShare (codesBlk x0) ∗ owns (c : Thread nD τ) arg3 fullShare (repBlk x0) ∗ owns (c : Thread nD τ) arg4 fullShare (putRow (i 0).val (rowVal x0) Y)) -∗ K ⟨⟩))
      ⊢ wp frame (wpE (defs₀ (F := F)) Variants.none c none) E (cc0_th_quant i arg1 harg1 arg2 harg2 arg3 harg3 arg4 harg4) K := by
  simp only [cc0_th_quant_eq_skeleton]; unfold cc0_th_quant_skel
  simp only [k0_part1_eq_skeleton, k0_part2_eq_skeleton]
  unfold owns
  iintro ⟨⟨%f0, %hf0, H0⟩, ⟨%dc, %fc, -, HC⟩, ⟨%dr, %fr, -, HR⟩, ⟨%fd, %hfd, HD⟩, Hk⟩
  subst hf0 hfd
  sl_exec
  sl_step
  iapply Hk
  isplitl [H0]
  · iexists f0; isplitr; · ipureintro; rfl
    iexact H0
  isplitl [HC]
  · iexists _; isplitr
    swap; · iexact HC
    ipureintro
    refine (View.read_writes_eq_canon _ _ _ (cover_codes _ _ _ _)).trans ?_
    rfl
  isplitl [HR]
  · iexists _; isplitr
    swap; · iexact HR
    ipureintro
    refine (View.read_writes_eq_canon _ _ _ (cover_rep _ _ _ _)).trans ?_
    rfl
  iexists _; isplitr
  swap; · iexact HD
  ipureintro
  funext y
  unfold putRow
  by_cases hy : (y 0).val = (i 0).val
  · rw [if_pos hy]
    refine (View.read_writes_cons_rows_of_mem (d := S12x128.size) _ _ (off := k0_off1 i) (size := S1x128.size) (k0_off1_inb i) _ _ y (ix2 0 (y 1)) (k0_off1_eq i) (hy.trans (Nat.add_zero _).symm) rfl).trans ?_
    unfold rowVal
    refine congrFun (congrArg k0_pay5 ?_) _
    exact View.readCov_eq_canon_ld _ _ _ (cover_rep _ _ _ _)
  · rw [if_neg hy]
    refine (View.read_writes_cons_rows_of_not_mem (d := S12x128.size) (W := 1) _ _ (off := k0_off1 i) (size := S1x128.size) (k0_off1_inb i) _ _ y (k0_off1_eq i) rfl (by omega)).trans ?_
    rfl

/-! ## The proof data -/

/-- The proof data on core `c`: the arrays as the region finds them; after a point each input's buffer at its block,
    the codes' and the repeated scales' as `codesBlk` and `repBlk` say; the dense window's contents are not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => codesBlk (iblk m c 0 t)
    | ⟨2, _⟩ => repBlk (iblk m c 0 t)
    | ⟨3, h⟩ => Dat.unnamed (cfg := cfg0) ⟨3, h⟩ t
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = codesBlk (iblk m c 0 t) := by dsimp only [dats]
theorem after0_2 (c : Dev nD) (t : Fin cfg0.N) : (dats m 0 c).after 2 t = repBlk (iblk m c 0 t) := by dsimp only [dats]

theorem before0_0 (c : Dev nD) (t : Fin cfg0.N) (d) : (dats m 0 c).before 0 t d = iblk m c 0 t :=
  before0_0_of m (dats m 0 c) (A_eq m c 0) (after0_0 m c) t d

/-- The point that writes row `y 0` of the dense array. -/
def pt (y : S12x128.Idx) : Fin cfg0.N := ⟨(y 0).val, lt_of_lt_of_eq (y 0).isLt N_0.symm⟩

/-- The dense array: row `u` is the scales of point `u`. -/
def dense (c : Dev nD) : Vec F S12x128 .f32 := fun y => rowVal (iblk m c 0 (pt y)) (ix2 0 (y 1))

/-- What holds of the dense window after point `t`: the rows up to `t` hold their scales. -/
def Rel (c : Dev nD) : (w : Fin cfg0.W) → (t : Fin cfg0.N) → ((cfg0.win w).block.Idx → Elt F (cfg0.win w).elt) → Prop
  | ⟨3, _⟩, t, X => ∀ y : S12x128.Idx, (y 0).val ≤ t.val → (X : Vec F S12x128 .f32) y = dense m c y
  | _, _, _ => True

/-- The dense window is the one that is held to `Rel`. -/
def fgt : Fin cfg0.W → Bool
  | ⟨3, _⟩ => true
  | _ => false

/-- The relational proof data. -/
abbrev rdat (c : Dev nD) : RDat τ (Elt F) Unit ℕ (UR sig nD τ) ℕ cfg0 c := (dats m 0 c).toRRel fgt (Rel m c)

/-- Before point `t > 0` the rows below `t` hold their scales. -/
theorem finds (c : Dev nD) (t : Fin cfg0.N) (Y) (h : (rdat m c).Finds 3 t Y) :
    ∀ y : S12x128.Idx, (y 0).val < t.val → (Y : Vec F S12x128 .f32) y = dense m c y := by
  intro y hy
  have hN : t.val < 12 := lt_of_lt_of_eq t.isLt N_0
  have ht : t.val ≠ 0 := by omega
  have h1 := ((rdat m c).finds_of_pos (w := 3) rfl ht Y).mp h
  rcases h1 with h1 | h1
  · exact absurd ((flush0_3 _).mp h1) (by show ¬ (t.val - 1) % 12 = 11; omega)
  · have h2 := (dats m 0 c).toRRel_leaves (fgt := fgt) (Rl := Rel m c) (w := 3) rfl h1
    exact h2 y (by show (y 0).val ≤ t.val - 1; omega)

theorem coord0 : ∀ t : Fin cfg0.N, (grid0.coords t 0).val = t.val :=
  (by decide +kernel : ∀ t : Fin grid0.N, (grid0.coords t 0).val = t.val)

/-- Replacing row `t` extends the relation from the rows below `t` to the rows up to `t`. -/
theorem rel_step (c : Dev nD) (t : Fin cfg0.N) (Y : Vec F S12x128 .f32)
    (h : ∀ y : S12x128.Idx, (y 0).val < t.val → Y y = dense m c y) :
    Rel m c 3 t (putRow (grid0.coords t 0).val (rowVal (iblk m c 0 t)) Y) := by
  intro y hy
  show putRow (grid0.coords t 0).val (rowVal (iblk m c 0 t)) Y y = dense m c y
  unfold putRow
  rw [coord0 t]
  by_cases he : (y 0).val = t.val
  · rw [if_pos he]
    have e : pt y = t := Fin.ext he
    unfold dense
    rw [e]
  · rw [if_neg he]
    exact h y (by omega)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ Y, ⌜(rdat m c).Finds 3 t Y⌝ ∗ owns (c : Thread nD τ) (st0_3 t) fullShare Y))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ X, ⌜Rel m c 3 t X⌝ ∗ owns (c : Thread nD τ) (st0_3 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩, ⟨%Y, %hY, HD⟩⟩
  iapply (sound_kernel c Set.univ (grid0.coords t) _ _ _ _ _ _ _ _ (iblk m c 0 t) Y _)
  isplitl [H0]; · iexact H0
  isplitl [H1]; · iexists _; iexact H1
  isplitl [H2]; · iexists _; iexact H2
  isplitl [HD]; · iexact HD
  iintro ⟨H0, H1, H2, HD⟩
  isplitl [HΦ]; · iexact HΦ
  isplitl [Ho]; · iexact Ho
  isplitl [H0]; · iexact H0
  isplitl [H1]; · iexact H1
  isplitl [H2]; · iexact H2
  iexists _; isplitr
  swap; · iexact HD
  ipureintro
  exact rel_step m c t Y (finds m c t Y hY)

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligationRel (dats (F := F) m 0 c) (defs₀ (F := F)) Variants.none () Set.univ fgt (Rel m c) := fun t => by
  rw [bigSep_W0, bigSep_W0, defs₀_row]
  exact triple_restated (sound_body m c t) rfl .rfl fun _ => .rfl

/-! ## The run -/

set_option backward.isDefEq.respectTransparency.types false in
set_option maxHeartbeats 800000 in
theorem run_main : θ_run defs (onTc (τ := τ) (main (F := F))) (s₀ m ρ)
    (fun r => RDat.FramePost (cfgs 0) (rdat m) (V m) r ∧ r.2.sem = fun _ => 0) :=
  RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- The arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c => (RDat.FramePost.arr_in h.1 c 0 rfl).trans (V_main_arg0 m c), h.2⟩) (run_main m ρ)

/-- After the run the codes' array and the repeated scales' are what the exact data name, and the dense array is `dense`. -/
theorem final_exact (c : Dev nD) {r : PUnit × MemSt nD τ sig (Elt F)} (h : RDat.FramePost (cfgs 0) (rdat m) (V m) r)
    (w : Fin cfg0.W) (hw : fgt w = false) :
    r.2.mem ((cfg0.spec w).arr.view.loc (c.tc : Thread nD τ)) = (dats m 0 c).arrAt w cfg0.N :=
  ((dats m 0 c).toR_arrAt_iff w _ _).mp (((dats m 0 c).toR.override_arrAt (by simp only [hw]) _ _).mp ((h c).1 w))

theorem whole_dense : ∃ t₀ : Fin cfg0.N, t₀.val = 11 ∧ (cfg0.win 3).WholeAt t₀ :=
  (by decide +kernel : ∃ t₀ : Fin grid0.N, t₀.val = 11 ∧ win0_3.WholeAt t₀)

theorem final_dense (c : Dev nD) {r : PUnit × MemSt nD τ sig (Elt F)} (h : RDat.FramePost (cfgs 0) (rdat m) (V m) r) :
    r.2.mem ((c : Thread nD τ).loc main_v0_2) = dense m c := by
  obtain ⟨t₀, h11, hW⟩ := whole_dense
  obtain ⟨X, hL, hX⟩ := RDat.ArrAt.emb_eq_of_wholeAt ((h c).1 3) hW
  have hR := (dats m 0 c).toRRel_leaves (fgt := fgt) (Rl := Rel m c) (w := 3) rfl hL
  funext y
  have hy : (y 0).val < 12 := (y 0).isLt
  refine (hX y).trans ?_
  exact hR y (by omega)

end Cert.ThQuant.Hand

end
-- ==== Proof.ActQuantBody.lean ====
/-
  Quantising the gated activations by rows: the call terminates and its arguments end unchanged, and what it leaves in its buffers.

  A grid point quantises 128 rows, in four strips of 32. It stores their codes, their scales each repeated over 128
  lanes (`rep`), and, read back off the diagonal of that block, the 128 scales as one row of the dense 12 by 128
  array, at the row numbered by the point. The dense array stays in its staging buffer over the whole grid and is
  written back once, after the last point. So what a point leaves there depends on what it found; of it the proof
  says only that rows 0, …, t hold their scales after point t (`Rel`), which at the last point is the whole array.
-/
module

public import proofs.«01_k».proof.Proof.Gen.ActQuant.Frame
public import proofs.«01_k».proof.Proof.Gen.ActQuant.Skeleton
public import Idealize.ShloMosaic.Lib.Pipeline.DatRel
public import Idealize.ShloMosaic.Lib.Pipeline.ArrRel
public import Idealize.ShloMosaic.Lib.Pipeline.Value
public import Idealize.ShloMosaic.Lib.Pointwise
public import Idealize.ShloMosaic.Lib.WritesUnit
public import Idealize.ShloMosaic.Lib.Tactic

@[expose] public section

set_option maxRecDepth 16384

noncomputable section

namespace Cert.ActQuant.Hand

open Cert.ActQuant Cert.ActQuant.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in the output blocks -/

abbrev cr0 : Rect S128x17408 := Rect.unit (s := S128x17408) ![0, 0] S32x17408.size inb_S128x17408_S32x17408_0_0
abbrev cr32 : Rect S128x17408 := Rect.unit (s := S128x17408) ![32, 0] S32x17408.size inb_S128x17408_S32x17408_32_0
abbrev cr64 : Rect S128x17408 := Rect.unit (s := S128x17408) ![64, 0] S32x17408.size inb_S128x17408_S32x17408_64_0
abbrev cr96 : Rect S128x17408 := Rect.unit (s := S128x17408) ![96, 0] S32x17408.size inb_S128x17408_S32x17408_96_0
abbrev sr0 : Rect S128x128 := Rect.unit (s := S128x128) ![0, 0] S32x128.size inb_S128x128_S32x128_0_0
abbrev sr32 : Rect S128x128 := Rect.unit (s := S128x128) ![32, 0] S32x128.size inb_S128x128_S32x128_32_0
abbrev sr64 : Rect S128x128 := Rect.unit (s := S128x128) ![64, 0] S32x128.size inb_S128x128_S32x128_64_0
abbrev sr96 : Rect S128x128 := Rect.unit (s := S128x128) ![96, 0] S32x128.size inb_S128x128_S32x128_96_0
abbrev srAll : Rect S128x128 := Rect.unit (s := S128x128) ![0, 0] S128x128.size inb_S128x128_S128x128_0_0

/-- The block of codes. -/
def codesBlk (x0 : Vec F S128x17408 .f32) : Vec F S128x17408 .fp8e4m3 :=
  View.canon [⟨cr96, k0_pay2 (View.ld x0 cr96) (k0_pay15 (View.ld x0 cr96))⟩,
    ⟨cr64, k0_pay13 (View.ld x0 cr64)⟩,
    ⟨cr32, k0_pay10 (k0_pay9 (View.ld x0 cr32))⟩,
    ⟨cr0, k0_pay6 (View.ld x0 cr0)⟩]

/-- The block of scales, each repeated over 128 lanes. -/
def repBlk (x0 : Vec F S128x17408 .f32) : Vec F S128x128 .f32 :=
  View.canon [⟨sr96, k0_pay3 (k0_pay15 (View.ld x0 cr96))⟩,
    ⟨sr64, k0_pay14 (View.ld x0 cr64)⟩,
    ⟨sr32, k0_pay11 (k0_pay8 (View.ld x0 cr32))⟩,
    ⟨sr0, k0_pay7 (View.ld x0 cr0)⟩]

theorem cover_codes (p0 p1 p2 p3 : Vec F S32x17408 .fp8e4m3) (y : S128x17408.Idx) :
    ∃ pc ∈ ([⟨cr96, p0⟩, ⟨cr64, p1⟩, ⟨cr32, p2⟩, ⟨cr0, p3⟩] : List (View.Piece (Elt F) S128x17408 .fp8e4m3)), y ∈ pc.1.set :=
  View.cover_of_tiled [⟨cr96, p0⟩, ⟨cr64, p1⟩, ⟨cr32, p2⟩, ⟨cr0, p3⟩] S32x17408.size (by rfl) y

theorem cover_rep (p0 p1 p2 p3 : Vec F S32x128 .f32) (y : S128x128.Idx) :
    ∃ pc ∈ ([⟨sr96, p0⟩, ⟨sr64, p1⟩, ⟨sr32, p2⟩, ⟨sr0, p3⟩] : List (View.Piece (Elt F) S128x128 .f32)), y ∈ pc.1.set :=
  View.cover_of_tiled [⟨sr96, p0⟩, ⟨sr64, p1⟩, ⟨sr32, p2⟩, ⟨sr0, p3⟩] S32x128.size (by rfl) y

/-- The 128 scales as one row: the diagonal of the block of repeated scales. -/
def rowVal (x0 : Vec F S128x17408 .f32) : Vec F S1x128 .f32 := k0_pay4 (View.ld (repBlk x0) srAll)

/-- `Y` with its row `n` replaced by `v`. -/
def putRow (n : ℕ) (v : Vec F S1x128 .f32) (Y : Vec F S12x128 .f32) : Vec F S12x128 .f32 := fun y =>
  if (y 0).val = n then v (ix2 0 (y 1)) else Y y

/-! ## The body -/

set_option maxHeartbeats 1000000 in
/-- The body, for any continuation: the inputs are as they were, the codes and the repeated scales are stored whole,
    and in the dense array the row of the point is replaced. -/
theorem sound_kernel (c : Dev nD) (E : Set ℕ) (i : grid0.Coords) (arg1 : Memref sig .tc .vmem S128x17408 .f32) (harg1 : arg1.IsWhole) (arg2 : Memref sig .tc .vmem S128x17408 .fp8e4m3) (harg2 : arg2.IsWhole) (arg3 : Memref sig .tc .vmem S128x128 .f32) (harg3 : arg3.IsWhole) (arg4 : Memref sig .tc .vmem S12x128 .f32) (harg4 : arg4.IsWhole)
    (x0 : Vec F S128x17408 .f32) (Y : Vec F S12x128 .f32) (K : PUnit → sProp 𝕄) :
    iprop(owns (c : Thread nD τ) arg1 fullShare x0 ∗ (∃ d, owns (c : Thread nD τ) arg2 fullShare d) ∗ (∃ d, owns (c : Thread nD τ) arg3 fullShare d) ∗ owns (c : Thread nD τ) arg4 fullShare Y
        ∗ (iprop(owns (c : Thread nD τ) arg1 fullShare x0 ∗ owns (c : Thread nD τ) arg2 fullShare (codesBlk x0) ∗ owns (c : Thread nD τ) arg3 fullShare (repBlk x0) ∗ owns (c : Thread nD τ) arg4 fullShare (putRow (i 0).val (rowVal x0) Y)) -∗ K ⟨⟩))
      ⊢ wp frame (wpE (defs₀ (F := F)) Variants.none c none) E (cc0_act_quant i arg1 harg1 arg2 harg2 arg3 harg3 arg4 harg4) K := by
  simp only [cc0_act_quant_eq_skeleton]; unfold cc0_act_quant_skel
  simp only [k0_part1_eq_skeleton, k0_part2_eq_skeleton]
  unfold owns
  iintro ⟨⟨%f0, %hf0, H0⟩, ⟨%dc, %fc, -, HC⟩, ⟨%dr, %fr, -, HR⟩, ⟨%fd, %hfd, HD⟩, Hk⟩
  subst hf0 hfd
  sl_exec
  sl_step
  iapply Hk
  isplitl [H0]
  · iexists f0; isplitr; · ipureintro; rfl
    iexact H0
  isplitl [HC]
  · iexists _; isplitr
    swap; · iexact HC
    ipureintro
    refine (View.read_writes_eq_canon _ _ _ (cover_codes _ _ _ _)).trans ?_
    rfl
  isplitl [HR]
  · iexists _; isplitr
    swap; · iexact HR
    ipureintro
    refine (View.read_writes_eq_canon _ _ _ (cover_rep _ _ _ _)).trans ?_
    rfl
  iexists _; isplitr
  swap; · iexact HD
  ipureintro
  funext y
  unfold putRow
  by_cases hy : (y 0).val = (i 0).val
  · rw [if_pos hy]
    refine (View.read_writes_cons_rows_of_mem (d := S12x128.size) _ _ (off := k0_off1 i) (size := S1x128.size) (k0_off1_inb i) _ _ y (ix2 0 (y 1)) (k0_off1_eq i) (hy.trans (Nat.add_zero _).symm) rfl).trans ?_
    unfold rowVal
    refine congrFun (congrArg k0_pay4 ?_) _
    exact View.readCov_eq_canon_ld _ _ _ (cover_rep _ _ _ _)
  · rw [if_neg hy]
    refine (View.read_writes_cons_rows_of_not_mem (d := S12x128.size) (W := 1) _ _ (off := k0_off1 i) (size := S1x128.size) (k0_off1_inb i) _ _ y (k0_off1_eq i) rfl (by omega)).trans ?_
    rfl

/-! ## The proof data -/

/-- The proof data on core `c`: the arrays as the region finds them; after a point each input's buffer at its block,
    the codes' and the repeated scales' as `codesBlk` and `repBlk` say; the dense window's contents are not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => codesBlk (iblk m c 0 t)
    | ⟨2, _⟩ => repBlk (iblk m c 0 t)
    | ⟨3, h⟩ => Dat.unnamed (cfg := cfg0) ⟨3, h⟩ t
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = codesBlk (iblk m c 0 t) := by dsimp only [dats]
theorem after0_2 (c : Dev nD) (t : Fin cfg0.N) : (dats m 0 c).after 2 t = repBlk (iblk m c 0 t) := by dsimp only [dats]

theorem before0_0 (c : Dev nD) (t : Fin cfg0.N) (d) : (dats m 0 c).before 0 t d = iblk m c 0 t :=
  before0_0_of m (dats m 0 c) (A_eq m c 0) (after0_0 m c) t d

/-- The point that writes row `y 0` of the dense array. -/
def pt (y : S12x128.Idx) : Fin cfg0.N := ⟨(y 0).val, lt_of_lt_of_eq (y 0).isLt N_0.symm⟩

/-- The dense array: row `u` is the scales of point `u`. -/
def dense (c : Dev nD) : Vec F S12x128 .f32 := fun y => rowVal (iblk m c 0 (pt y)) (ix2 0 (y 1))

/-- What holds of the dense window after point `t`: the rows up to `t` hold their scales. -/
def Rel (c : Dev nD) : (w : Fin cfg0.W) → (t : Fin cfg0.N) → ((cfg0.win w).block.Idx → Elt F (cfg0.win w).elt) → Prop
  | ⟨3, _⟩, t, X => ∀ y : S12x128.Idx, (y 0).val ≤ t.val → (X : Vec F S12x128 .f32) y = dense m c y
  | _, _, _ => True

/-- The dense window is the one that is held to `Rel`. -/
def fgt : Fin cfg0.W → Bool
  | ⟨3, _⟩ => true
  | _ => false

/-- The relational proof data. -/
abbrev rdat (c : Dev nD) : RDat τ (Elt F) Unit ℕ (UR sig nD τ) ℕ cfg0 c := (dats m 0 c).toRRel fgt (Rel m c)

/-- Before point `t > 0` the rows below `t` hold their scales. -/
theorem finds (c : Dev nD) (t : Fin cfg0.N) (Y) (h : (rdat m c).Finds 3 t Y) :
    ∀ y : S12x128.Idx, (y 0).val < t.val → (Y : Vec F S12x128 .f32) y = dense m c y := by
  intro y hy
  have hN : t.val < 12 := lt_of_lt_of_eq t.isLt N_0
  have ht : t.val ≠ 0 := by omega
  have h1 := ((rdat m c).finds_of_pos (w := 3) rfl ht Y).mp h
  rcases h1 with h1 | h1
  · exact absurd ((flush0_3 _).mp h1) (by show ¬ (t.val - 1) % 12 = 11; omega)
  · have h2 := (dats m 0 c).toRRel_leaves (fgt := fgt) (Rl := Rel m c) (w := 3) rfl h1
    exact h2 y (by show (y 0).val ≤ t.val - 1; omega)

theorem coord0 : ∀ t : Fin cfg0.N, (grid0.coords t 0).val = t.val :=
  (by decide +kernel : ∀ t : Fin grid0.N, (grid0.coords t 0).val = t.val)

/-- Replacing row `t` extends the relation from the rows below `t` to the rows up to `t`. -/
theorem rel_step (c : Dev nD) (t : Fin cfg0.N) (Y : Vec F S12x128 .f32)
    (h : ∀ y : S12x128.Idx, (y 0).val < t.val → Y y = dense m c y) :
    Rel m c 3 t (putRow (grid0.coords t 0).val (rowVal (iblk m c 0 t)) Y) := by
  intro y hy
  show putRow (grid0.coords t 0).val (rowVal (iblk m c 0 t)) Y y = dense m c y
  unfold putRow
  rw [coord0 t]
  by_cases he : (y 0).val = t.val
  · rw [if_pos he]
    have e : pt y = t := Fin.ext he
    unfold dense
    rw [e]
  · rw [if_neg he]
    exact h y (by omega)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ Y, ⌜(rdat m c).Finds 3 t Y⌝ ∗ owns (c : Thread nD τ) (st0_3 t) fullShare Y))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ X, ⌜Rel m c 3 t X⌝ ∗ owns (c : Thread nD τ) (st0_3 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩, ⟨%Y, %hY, HD⟩⟩
  iapply (sound_kernel c Set.univ (grid0.coords t) _ _ _ _ _ _ _ _ (iblk m c 0 t) Y _)
  isplitl [H0]; · iexact H0
  isplitl [H1]; · iexists _; iexact H1
  isplitl [H2]; · iexists _; iexact H2
  isplitl [HD]; · iexact HD
  iintro ⟨H0, H1, H2, HD⟩
  isplitl [HΦ]; · iexact HΦ
  isplitl [Ho]; · iexact Ho
  isplitl [H0]; · iexact H0
  isplitl [H1]; · iexact H1
  isplitl [H2]; · iexact H2
  iexists _; isplitr
  swap; · iexact HD
  ipureintro
  exact rel_step m c t Y (finds m c t Y hY)

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligationRel (dats (F := F) m 0 c) (defs₀ (F := F)) Variants.none () Set.univ fgt (Rel m c) := fun t => by
  rw [bigSep_W0, bigSep_W0, defs₀_row]
  exact triple_restated (sound_body m c t) rfl .rfl fun _ => .rfl

/-! ## The run -/

set_option backward.isDefEq.respectTransparency.types false in
set_option maxHeartbeats 800000 in
theorem run_main : θ_run defs (onTc (τ := τ) (main (F := F))) (s₀ m ρ)
    (fun r => RDat.FramePost (cfgs 0) (rdat m) (V m) r ∧ r.2.sem = fun _ => 0) :=
  RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- The arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c => (RDat.FramePost.arr_in h.1 c 0 rfl).trans (V_main_arg0 m c), h.2⟩) (run_main m ρ)

/-- After the run the codes' array and the repeated scales' are what the exact data name, and the dense array is `dense`. -/
theorem final_exact (c : Dev nD) {r : PUnit × MemSt nD τ sig (Elt F)} (h : RDat.FramePost (cfgs 0) (rdat m) (V m) r)
    (w : Fin cfg0.W) (hw : fgt w = false) :
    r.2.mem ((cfg0.spec w).arr.view.loc (c.tc : Thread nD τ)) = (dats m 0 c).arrAt w cfg0.N :=
  ((dats m 0 c).toR_arrAt_iff w _ _).mp (((dats m 0 c).toR.override_arrAt (by simp only [hw]) _ _).mp ((h c).1 w))

theorem whole_dense : ∃ t₀ : Fin cfg0.N, t₀.val = 11 ∧ (cfg0.win 3).WholeAt t₀ :=
  (by decide +kernel : ∃ t₀ : Fin grid0.N, t₀.val = 11 ∧ win0_3.WholeAt t₀)

theorem final_dense (c : Dev nD) {r : PUnit × MemSt nD τ sig (Elt F)} (h : RDat.FramePost (cfgs 0) (rdat m) (V m) r) :
    r.2.mem ((c : Thread nD τ).loc main_v0_2) = dense m c := by
  obtain ⟨t₀, h11, hW⟩ := whole_dense
  obtain ⟨X, hL, hX⟩ := RDat.ArrAt.emb_eq_of_wholeAt ((h c).1 3) hW
  have hR := (dats m 0 c).toRRel_leaves (fgt := fgt) (Rl := Rel m c) (w := 3) rfl hL
  funext y
  have hy : (y 0).val < 12 := (y 0).isLt
  refine (hX y).trans ?_
  exact hR y (by omega)

end Cert.ActQuant.Hand

end
-- ==== Proof.XQuantBody.lean ====
/-
  Normalising the hidden states and quantising them by rows: the call terminates and its arguments end unchanged, and what it leaves in its buffers.

  A grid point quantises 128 rows, in four strips of 32. It stores their codes, their scales each repeated over 128
  lanes (`rep`), and, read back off the diagonal of that block, the 128 scales as one row of the dense 12 by 128
  array, at the row numbered by the point. The dense array stays in its staging buffer over the whole grid and is
  written back once, after the last point. So what a point leaves there depends on what it found; of it the proof
  says only that rows 0, …, t hold their scales after point t (`Rel`), which at the last point is the whole array.
-/
module

public import proofs.«01_k».proof.Proof.Gen.XQuant.Frame
public import proofs.«01_k».proof.Proof.Gen.XQuant.Skeleton
public import Idealize.ShloMosaic.Lib.Pipeline.DatRel
public import Idealize.ShloMosaic.Lib.Pipeline.ArrRel
public import Idealize.ShloMosaic.Lib.Pipeline.Value
public import Idealize.ShloMosaic.Lib.Pointwise
public import Idealize.ShloMosaic.Lib.WritesUnit
public import Idealize.ShloMosaic.Lib.Tactic

@[expose] public section

set_option maxRecDepth 16384

noncomputable section

namespace Cert.XQuant.Hand

open Cert.XQuant Cert.XQuant.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in the output blocks -/

abbrev cr0 : Rect S128x5120 := Rect.unit (s := S128x5120) ![0, 0] S32x5120.size inb_S128x5120_S32x5120_0_0
abbrev cr32 : Rect S128x5120 := Rect.unit (s := S128x5120) ![32, 0] S32x5120.size inb_S128x5120_S32x5120_32_0
abbrev cr64 : Rect S128x5120 := Rect.unit (s := S128x5120) ![64, 0] S32x5120.size inb_S128x5120_S32x5120_64_0
abbrev cr96 : Rect S128x5120 := Rect.unit (s := S128x5120) ![96, 0] S32x5120.size inb_S128x5120_S32x5120_96_0
abbrev sr0 : Rect S128x128 := Rect.unit (s := S128x128) ![0, 0] S32x128.size inb_S128x128_S32x128_0_0
abbrev sr32 : Rect S128x128 := Rect.unit (s := S128x128) ![32, 0] S32x128.size inb_S128x128_S32x128_32_0
abbrev sr64 : Rect S128x128 := Rect.unit (s := S128x128) ![64, 0] S32x128.size inb_S128x128_S32x128_64_0
abbrev sr96 : Rect S128x128 := Rect.unit (s := S128x128) ![96, 0] S32x128.size inb_S128x128_S32x128_96_0
abbrev srAll : Rect S128x128 := Rect.unit (s := S128x128) ![0, 0] S128x128.size inb_S128x128_S128x128_0_0
abbrev wr : Rect S1x5120 := Rect.unit (s := S1x5120) ![0, 0] S1x5120.size inb_S1x5120_S1x5120_0_0

/-- The block of codes. -/
def codesBlk (x0 : Vec F S128x5120 .bf16) (x1 : Vec F S1x5120 .f32) : Vec F S128x5120 .fp8e4m3 :=
  View.canon [⟨cr96, k0_pay16 (View.ld x0 cr96) (View.ld x1 wr)⟩,
    ⟨cr64, k0_pay12 (View.ld x0 cr64) (View.ld x1 wr)⟩,
    ⟨cr32, k0_pay8 (View.ld x0 cr32) (View.ld x1 wr)⟩,
    ⟨cr0, k0_pay4 (View.ld x0 cr0) (View.ld x1 wr)⟩]

/-- The block of scales, each repeated over 128 lanes. -/
def repBlk (x0 : Vec F S128x5120 .bf16) (x1 : Vec F S1x5120 .f32) : Vec F S128x128 .f32 :=
  View.canon [⟨sr96, k0_pay17 (View.ld x0 cr96) (View.ld x1 wr)⟩,
    ⟨sr64, k0_pay13 (View.ld x0 cr64) (View.ld x1 wr)⟩,
    ⟨sr32, k0_pay9 (View.ld x0 cr32) (View.ld x1 wr)⟩,
    ⟨sr0, k0_pay5 (View.ld x0 cr0) (View.ld x1 wr)⟩]

theorem cover_codes (p0 p1 p2 p3 : Vec F S32x5120 .fp8e4m3) (y : S128x5120.Idx) :
    ∃ pc ∈ ([⟨cr96, p0⟩, ⟨cr64, p1⟩, ⟨cr32, p2⟩, ⟨cr0, p3⟩] : List (View.Piece (Elt F) S128x5120 .fp8e4m3)), y ∈ pc.1.set :=
  View.cover_of_tiled [⟨cr96, p0⟩, ⟨cr64, p1⟩, ⟨cr32, p2⟩, ⟨cr0, p3⟩] S32x5120.size (by rfl) y

theorem cover_rep (p0 p1 p2 p3 : Vec F S32x128 .f32) (y : S128x128.Idx) :
    ∃ pc ∈ ([⟨sr96, p0⟩, ⟨sr64, p1⟩, ⟨sr32, p2⟩, ⟨sr0, p3⟩] : List (View.Piece (Elt F) S128x128 .f32)), y ∈ pc.1.set :=
  View.cover_of_tiled [⟨sr96, p0⟩, ⟨sr64, p1⟩, ⟨sr32, p2⟩, ⟨sr0, p3⟩] S32x128.size (by rfl) y

/-- The 128 scales as one row: the diagonal of the block of repeated scales. -/
def rowVal (x0 : Vec F S128x5120 .bf16) (x1 : Vec F S1x5120 .f32) : Vec F S1x128 .f32 := k0_pay1 (View.ld (repBlk x0 x1) srAll)

/-- `Y` with its row `n` replaced by `v`. -/
def putRow (n : ℕ) (v : Vec F S1x128 .f32) (Y : Vec F S12x128 .f32) : Vec F S12x128 .f32 := fun y =>
  if (y 0).val = n then v (ix2 0 (y 1)) else Y y

/-! ## The body -/

set_option maxHeartbeats 1000000 in
/-- The body, for any continuation: the inputs are as they were, the codes and the repeated scales are stored whole,
    and in the dense array the row of the point is replaced. -/
theorem sound_kernel (c : Dev nD) (E : Set ℕ) (i : grid0.Coords) (arg1 : Memref sig .tc .vmem S128x5120 .bf16) (harg1 : arg1.IsWhole) (arg2 : Memref sig .tc .vmem S1x5120 .f32) (harg2 : arg2.IsWhole) (arg3 : Memref sig .tc .vmem S128x5120 .fp8e4m3) (harg3 : arg3.IsWhole) (arg4 : Memref sig .tc .vmem S128x128 .f32) (harg4 : arg4.IsWhole) (arg5 : Memref sig .tc .vmem S12x128 .f32) (harg5 : arg5.IsWhole)
    (x0 : Vec F S128x5120 .bf16) (x1 : Vec F S1x5120 .f32) (Y : Vec F S12x128 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare Y
        ∗ (iprop(owns (c : Thread nD τ) arg1 fullShare x0 ∗ owns (c : Thread nD τ) arg2 fullShare x1 ∗ owns (c : Thread nD τ) arg3 fullShare (codesBlk x0 x1) ∗ owns (c : Thread nD τ) arg4 fullShare (repBlk x0 x1) ∗ owns (c : Thread nD τ) arg5 fullShare (putRow (i 0).val (rowVal x0 x1) Y)) -∗ K ⟨⟩))
      ⊢ wp frame (wpE (defs₀ (F := F)) Variants.none c none) E (cc0_x_norm_quant i arg1 harg1 arg2 harg2 arg3 harg3 arg4 harg4 arg5 harg5) K := by
  simp only [cc0_x_norm_quant_eq_skeleton]; unfold cc0_x_norm_quant_skel
  simp only [k0_part1_eq_skeleton, k0_part2_eq_skeleton, k0_part3_eq_skeleton, k0_part4_eq_skeleton]
  unfold owns
  iintro ⟨⟨%f0, %hf0, H0⟩, ⟨%f1, %hf1, H1⟩, ⟨%dc, %fc, -, HC⟩, ⟨%dr, %fr, -, HR⟩, ⟨%fd, %hfd, HD⟩, Hk⟩
  subst hf0 hf1 hfd
  sl_exec
  sl_step
  iapply Hk
  isplitl [H0]
  · iexists f0; isplitr; · ipureintro; rfl
    iexact H0
  isplitl [H1]
  · iexists f1; isplitr; · ipureintro; rfl
    iexact H1
  isplitl [HC]
  · iexists _; isplitr
    swap; · iexact HC
    ipureintro
    refine (View.read_writes_eq_canon _ _ _ (cover_codes _ _ _ _)).trans ?_
    rfl
  isplitl [HR]
  · iexists _; isplitr
    swap; · iexact HR
    ipureintro
    refine (View.read_writes_eq_canon _ _ _ (cover_rep _ _ _ _)).trans ?_
    rfl
  iexists _; isplitr
  swap; · iexact HD
  ipureintro
  funext y
  unfold putRow
  by_cases hy : (y 0).val = (i 0).val
  · rw [if_pos hy]
    refine (View.read_writes_cons_rows_of_mem (d := S12x128.size) _ _ (off := k0_off1 i) (size := S1x128.size) (k0_off1_inb i) _ _ y (ix2 0 (y 1)) (k0_off1_eq i) (hy.trans (Nat.add_zero _).symm) rfl).trans ?_
    unfold rowVal
    refine congrFun (congrArg k0_pay1 ?_) _
    exact View.readCov_eq_canon_ld _ _ _ (cover_rep _ _ _ _)
  · rw [if_neg hy]
    refine (View.read_writes_cons_rows_of_not_mem (d := S12x128.size) (W := 1) _ _ (off := k0_off1 i) (size := S1x128.size) (k0_off1_inb i) _ _ y (k0_off1_eq i) rfl (by omega)).trans ?_
    rfl

/-! ## The proof data -/

/-- The proof data on core `c`: the arrays as the region finds them; after a point each input's buffer at its block,
    the codes' and the repeated scales' as `codesBlk` and `repBlk` say; the dense window's contents are not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => codesBlk (iblk m c 0 t) (iblk m c 1 t)
    | ⟨3, _⟩ => repBlk (iblk m c 0 t) (iblk m c 1 t)
    | ⟨4, h⟩ => Dat.unnamed (cfg := cfg0) ⟨4, h⟩ t
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = codesBlk (iblk m c 0 t) (iblk m c 1 t) := by dsimp only [dats]
theorem after0_3 (c : Dev nD) (t : Fin cfg0.N) : (dats m 0 c).after 3 t = repBlk (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The point that writes row `y 0` of the dense array. -/
def pt (y : S12x128.Idx) : Fin cfg0.N := ⟨(y 0).val, lt_of_lt_of_eq (y 0).isLt N_0.symm⟩

/-- The dense array: row `u` is the scales of point `u`. -/
def dense (c : Dev nD) : Vec F S12x128 .f32 := fun y => rowVal (iblk m c 0 (pt y)) (iblk m c 1 (pt y)) (ix2 0 (y 1))

/-- What holds of the dense window after point `t`: the rows up to `t` hold their scales. -/
def Rel (c : Dev nD) : (w : Fin cfg0.W) → (t : Fin cfg0.N) → ((cfg0.win w).block.Idx → Elt F (cfg0.win w).elt) → Prop
  | ⟨4, _⟩, t, X => ∀ y : S12x128.Idx, (y 0).val ≤ t.val → (X : Vec F S12x128 .f32) y = dense m c y
  | _, _, _ => True

/-- The dense window is the one that is held to `Rel`. -/
def fgt : Fin cfg0.W → Bool
  | ⟨4, _⟩ => true
  | _ => false

/-- The relational proof data. -/
abbrev rdat (c : Dev nD) : RDat τ (Elt F) Unit ℕ (UR sig nD τ) ℕ cfg0 c := (dats m 0 c).toRRel fgt (Rel m c)

/-- Before point `t > 0` the rows below `t` hold their scales. -/
theorem finds (c : Dev nD) (t : Fin cfg0.N) (Y) (h : (rdat m c).Finds 4 t Y) :
    ∀ y : S12x128.Idx, (y 0).val < t.val → (Y : Vec F S12x128 .f32) y = dense m c y := by
  intro y hy
  have hN : t.val < 12 := lt_of_lt_of_eq t.isLt N_0
  have ht : t.val ≠ 0 := by omega
  have h1 := ((rdat m c).finds_of_pos (w := 4) rfl ht Y).mp h
  rcases h1 with h1 | h1
  · exact absurd ((flush0_4 _).mp h1) (by show ¬ (t.val - 1) % 12 = 11; omega)
  · have h2 := (dats m 0 c).toRRel_leaves (fgt := fgt) (Rl := Rel m c) (w := 4) rfl h1
    exact h2 y (by show (y 0).val ≤ t.val - 1; omega)

theorem coord0 : ∀ t : Fin cfg0.N, (grid0.coords t 0).val = t.val :=
  (by decide +kernel : ∀ t : Fin grid0.N, (grid0.coords t 0).val = t.val)

/-- Replacing row `t` extends the relation from the rows below `t` to the rows up to `t`. -/
theorem rel_step (c : Dev nD) (t : Fin cfg0.N) (Y : Vec F S12x128 .f32)
    (h : ∀ y : S12x128.Idx, (y 0).val < t.val → Y y = dense m c y) :
    Rel m c 4 t (putRow (grid0.coords t 0).val (rowVal (iblk m c 0 t) (iblk m c 1 t)) Y) := by
  intro y hy
  show putRow (grid0.coords t 0).val (rowVal (iblk m c 0 t) (iblk m c 1 t)) Y y = dense m c y
  unfold putRow
  rw [coord0 t]
  by_cases he : (y 0).val = t.val
  · rw [if_pos he]
    have e : pt y = t := Fin.ext he
    unfold dense
    rw [e]
  · rw [if_neg he]
    exact h y (by omega)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ Y, ⌜(rdat m c).Finds 4 t Y⌝ ∗ owns (c : Thread nD τ) (st0_4 t) fullShare Y))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X, ⌜Rel m c 4 t X⌝ ∗ owns (c : Thread nD τ) (st0_4 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩, ⟨%Y, %hY, HD⟩⟩
  iapply (sound_kernel c Set.univ (grid0.coords t) _ _ _ _ _ _ _ _ _ _ (iblk m c 0 t) (iblk m c 1 t) Y _)
  isplitl [H0]; · iexact H0
  isplitl [H1]; · iexact H1
  isplitl [H2]; · iexists _; iexact H2
  isplitl [H3]; · iexists _; iexact H3
  isplitl [HD]; · iexact HD
  iintro ⟨H0, H1, H2, H3, HD⟩
  isplitl [HΦ]; · iexact HΦ
  isplitl [Ho]; · iexact Ho
  isplitl [H0]; · iexact H0
  isplitl [H1]; · iexact H1
  isplitl [H2]; · iexact H2
  isplitl [H3]; · iexact H3
  iexists _; isplitr
  swap; · iexact HD
  ipureintro
  exact rel_step m c t Y (finds m c t Y hY)

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligationRel (dats (F := F) m 0 c) (defs₀ (F := F)) Variants.none () Set.univ fgt (Rel m c) := fun t => by
  rw [bigSep_W0, bigSep_W0, defs₀_row]
  exact triple_restated (sound_body m c t) rfl .rfl fun _ => .rfl

/-! ## The run -/

set_option backward.isDefEq.respectTransparency.types false in
set_option maxHeartbeats 800000 in
theorem run_main : θ_run defs (onTc (τ := τ) (main (F := F))) (s₀ m ρ)
    (fun r => RDat.FramePost (cfgs 0) (rdat m) (V m) r ∧ r.2.sem = fun _ => 0) :=
  RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- The arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨((h.1 c).2 main_arg0 (Pipeline.mem_restRefs_of main_arg0 (by decide) (by decide))).trans (V_main_arg0 m c), ((h.1 c).2 main_arg1 (Pipeline.mem_restRefs_of main_arg1 (by decide) (by decide))).trans (V_main_arg1 m c)⟩, h.2⟩) (run_main m ρ)

/-- After the run the codes' array and the repeated scales' are what the exact data name, and the dense array is `dense`. -/
theorem final_exact (c : Dev nD) {r : PUnit × MemSt nD τ sig (Elt F)} (h : RDat.FramePost (cfgs 0) (rdat m) (V m) r)
    (w : Fin cfg0.W) (hw : fgt w = false) :
    r.2.mem ((cfg0.spec w).arr.view.loc (c.tc : Thread nD τ)) = (dats m 0 c).arrAt w cfg0.N :=
  ((dats m 0 c).toR_arrAt_iff w _ _).mp (((dats m 0 c).toR.override_arrAt (by simp only [hw]) _ _).mp ((h c).1 w))

theorem whole_dense : ∃ t₀ : Fin cfg0.N, t₀.val = 11 ∧ (cfg0.win 4).WholeAt t₀ :=
  (by decide +kernel : ∃ t₀ : Fin grid0.N, t₀.val = 11 ∧ win0_4.WholeAt t₀)

theorem final_dense (c : Dev nD) {r : PUnit × MemSt nD τ sig (Elt F)} (h : RDat.FramePost (cfgs 0) (rdat m) (V m) r) :
    r.2.mem ((c : Thread nD τ).loc main_v2_2) = dense m c := by
  obtain ⟨t₀, h11, hW⟩ := whole_dense
  obtain ⟨X, hL, hX⟩ := RDat.ArrAt.emb_eq_of_wholeAt ((h c).1 4) hW
  have hR := (dats m 0 c).toRRel_leaves (fgt := fgt) (Rl := Rel m c) (w := 4) rfl hL
  funext y
  have hy : (y 0).val < 12 := (y 0).isLt
  refine (hX y).trans ?_
  exact hR y (by omega)

end Cert.XQuant.Hand

end
-- ==== Proof.OprojBody.lean ====
/-
  The output projection of the attention, with the residual, the normalisation and the quantising by rows: the call
  terminates and its arguments end unchanged, and what it leaves in its buffers.

  A grid point holds 256 rows. It stores the projected rows plus the residual in forty tiles of 128 columns; it reads
  them back in eight strips of 32 rows, normalises and quantises each strip, and stores the codes and the scales, each
  repeated over 128 lanes. Read back off the diagonal of the two halves of that block, the 256 scales go to two rows
  of the dense 12 by 128 array. The dense array stays in its staging buffer over the whole grid and is written back
  once, after the last point. So what a point leaves there depends on what it found; of it the proof says only that
  rows 0, …, 2t + 1 hold their scales after point t (`Rel`), which at the last point is the whole array.
-/
module

public import proofs.«01_k».proof.Proof.Gen.Oproj.Frame
public import proofs.«01_k».proof.Proof.Gen.Oproj.Skeleton
public import Idealize.ShloMosaic.Lib.Pipeline.DatRel
public import Idealize.ShloMosaic.Lib.Pipeline.ArrRel
public import Idealize.ShloMosaic.Lib.Pipeline.Value
public import Idealize.ShloMosaic.Lib.Pointwise
public import Idealize.ShloMosaic.Lib.WritesUnit
public import Idealize.ShloMosaic.Lib.Tactic

@[expose] public section

set_option maxRecDepth 16384

noncomputable section

namespace Cert.Oproj.Hand

open Cert.Oproj Cert.Oproj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in the output blocks -/

/-- 128 columns of a block of 256 rows, from column `n`. -/
abbrev tr (n : ℕ) (h : n + 128 ≤ 5120) : Rect S256x5120 := Rect.unit (s := S256x5120) ![0, n] S256x128.size (Fin.forall_fin_two.mpr ⟨Nat.le_refl 256, h⟩)
/-- The scales of 128 columns. -/
abbrev sr (n : ℕ) (h : n + 128 ≤ 5120) : Rect S1x5120 := Rect.unit (s := S1x5120) ![0, n] S1x128.size (Fin.forall_fin_two.mpr ⟨Nat.le_refl 1, h⟩)
/-- 256 columns of the weight. -/
abbrev wr (n : ℕ) (h : n + 256 ≤ 5120) : Rect S5120x5120 := Rect.unit (s := S5120x5120) ![0, n] S5120x256.size (Fin.forall_fin_two.mpr ⟨Nat.le_refl 5120, h⟩)
/-- 32 rows of the block, from row `n`. -/
abbrev cr (n : ℕ) (h : n + 32 ≤ 256) : Rect S256x5120 := Rect.unit (s := S256x5120) ![n, 0] S32x5120.size (Fin.forall_fin_two.mpr ⟨h, Nat.le_refl 5120⟩)
/-- 32 rows of the block of repeated scales. -/
abbrev qr (n : ℕ) (h : n + 32 ≤ 256) : Rect S256x128 := Rect.unit (s := S256x128) ![n, 0] S32x128.size (Fin.forall_fin_two.mpr ⟨h, Nat.le_refl 128⟩)
/-- 128 rows of the block of repeated scales. -/
abbrev dr (n : ℕ) (h : n + 128 ≤ 256) : Rect S256x128 := Rect.unit (s := S256x128) ![n, 0] S128x128.size (Fin.forall_fin_two.mpr ⟨h, Nat.le_refl 128⟩)
/-- The whole of a block. -/
abbrev ar : Rect S256x5120 := Rect.unit (s := S256x5120) ![0, 0] S256x5120.size inb_S256x5120_S256x5120_0_0
abbrev rr : Rect S256x128 := Rect.unit (s := S256x128) ![0, 0] S256x128.size inb_S256x128_S256x128_0_0
abbrev nr : Rect S1x5120 := Rect.unit (s := S1x5120) ![0, 0] S1x5120.size inb_S1x5120_S1x5120_0_0

/-- The tile at columns `n` to `n + 127`: the first half of a product of 256 columns. -/
abbrev lo (x0 : Vec F S256x5120 .fp8e4m3) (x1 : Vec F S256x128 .f32) (x2 : Vec F S5120x5120 .fp8e4m3) (x3 : Vec F S1x5120 .f32) (x4 : Vec F S256x5120 .bf16) (n : ℕ) (h : n + 256 ≤ 5120 := by decide) : View.Piece (Elt F) S256x5120 .f32 :=
  ⟨tr n (by omega), k0_pay5 (View.ld x1 rr) (View.ld x0 ar) (View.ld x2 (wr n h)) (View.ld x4 (tr n (by omega))) (View.ld x3 (sr n (by omega)))⟩

/-- The tile at columns `n + 128` to `n + 255`: the second half. -/
abbrev hi (x0 : Vec F S256x5120 .fp8e4m3) (x1 : Vec F S256x128 .f32) (x2 : Vec F S5120x5120 .fp8e4m3) (x3 : Vec F S1x5120 .f32) (x4 : Vec F S256x5120 .bf16) (n : ℕ) (h : n + 256 ≤ 5120 := by decide) : View.Piece (Elt F) S256x5120 .f32 :=
  ⟨tr (n + 128) (by omega), k0_pay6 (View.ld x1 rr) (View.ld x0 ar) (View.ld x2 (wr n h)) (View.ld x4 (tr (n + 128) (by omega))) (View.ld x3 (sr (n + 128) (by omega)))⟩

/-- The forty tiles, the last stored first. -/
abbrev tiles (x0 : Vec F S256x5120 .fp8e4m3) (x1 : Vec F S256x128 .f32) (x2 : Vec F S5120x5120 .fp8e4m3) (x3 : Vec F S1x5120 .f32) (x4 : Vec F S256x5120 .bf16) : List (View.Piece (Elt F) S256x5120 .f32) :=
  [hi x0 x1 x2 x3 x4 4864, lo x0 x1 x2 x3 x4 4864, hi x0 x1 x2 x3 x4 4608, lo x0 x1 x2 x3 x4 4608,
    hi x0 x1 x2 x3 x4 4352, lo x0 x1 x2 x3 x4 4352, hi x0 x1 x2 x3 x4 4096, lo x0 x1 x2 x3 x4 4096,
    hi x0 x1 x2 x3 x4 3840, lo x0 x1 x2 x3 x4 3840, hi x0 x1 x2 x3 x4 3584, lo x0 x1 x2 x3 x4 3584,
    hi x0 x1 x2 x3 x4 3328, lo x0 x1 x2 x3 x4 3328, hi x0 x1 x2 x3 x4 3072, lo x0 x1 x2 x3 x4 3072,
    hi x0 x1 x2 x3 x4 2816, lo x0 x1 x2 x3 x4 2816, hi x0 x1 x2 x3 x4 2560, lo x0 x1 x2 x3 x4 2560,
    hi x0 x1 x2 x3 x4 2304, lo x0 x1 x2 x3 x4 2304, hi x0 x1 x2 x3 x4 2048, lo x0 x1 x2 x3 x4 2048,
    hi x0 x1 x2 x3 x4 1792, lo x0 x1 x2 x3 x4 1792, hi x0 x1 x2 x3 x4 1536, lo x0 x1 x2 x3 x4 1536,
    hi x0 x1 x2 x3 x4 1280, lo x0 x1 x2 x3 x4 1280, hi x0 x1 x2 x3 x4 1024, lo x0 x1 x2 x3 x4 1024,
    hi x0 x1 x2 x3 x4 768, lo x0 x1 x2 x3 x4 768, hi x0 x1 x2 x3 x4 512, lo x0 x1 x2 x3 x4 512,
    hi x0 x1 x2 x3 x4 256, lo x0 x1 x2 x3 x4 256, hi x0 x1 x2 x3 x4 0, lo x0 x1 x2 x3 x4 0]

theorem cover_h1 (x0 : Vec F S256x5120 .fp8e4m3) (x1 : Vec F S256x128 .f32) (x2 : Vec F S5120x5120 .fp8e4m3) (x3 : Vec F S1x5120 .f32) (x4 : Vec F S256x5120 .bf16) (y : S256x5120.Idx) : ∃ pc ∈ tiles x0 x1 x2 x3 x4, y ∈ pc.1.set :=
  View.cover_of_tiled (tiles x0 x1 x2 x3 x4) S256x128.size (by rfl) y

/-- The block of projected rows. -/
def h1Blk (x0 : Vec F S256x5120 .fp8e4m3) (x1 : Vec F S256x128 .f32) (x2 : Vec F S5120x5120 .fp8e4m3) (x3 : Vec F S1x5120 .f32) (x4 : Vec F S256x5120 .bf16) : Vec F S256x5120 .f32 := View.canon (tiles x0 x1 x2 x3 x4)

/-- The codes of a strip of 32 rows, and its repeated scales. -/
abbrev codesAt (w : Vec F S1x5120 .f32) (n : ℕ) (v : Vec F S32x5120 .f32) (h : n + 32 ≤ 256 := by decide) : View.Piece (Elt F) S256x5120 .fp8e4m3 := ⟨cr n h, k0_pay76 v w⟩
abbrev repAt (w : Vec F S1x5120 .f32) (n : ℕ) (v : Vec F S32x5120 .f32) (h : n + 32 ≤ 256 := by decide) : View.Piece (Elt F) S256x128 .f32 := ⟨qr n h, k0_pay77 v w⟩

/-- The eight strips of codes, from the eight strips of rows. -/
abbrev codesOf (w : Vec F S1x5120 .f32) (l224 l192 l160 l128 l96 l64 l32 l0 : Vec F S32x5120 .f32) : List (View.Piece (Elt F) S256x5120 .fp8e4m3) :=
  [codesAt w 224 l224, codesAt w 192 l192, codesAt w 160 l160, codesAt w 128 l128, codesAt w 96 l96, codesAt w 64 l64, codesAt w 32 l32, codesAt w 0 l0]
abbrev repOf (w : Vec F S1x5120 .f32) (l224 l192 l160 l128 l96 l64 l32 l0 : Vec F S32x5120 .f32) : List (View.Piece (Elt F) S256x128 .f32) :=
  [repAt w 224 l224, repAt w 192 l192, repAt w 160 l160, repAt w 128 l128, repAt w 96 l96, repAt w 64 l64, repAt w 32 l32, repAt w 0 l0]

theorem cover_codes (p0 p1 p2 p3 p4 p5 p6 p7 : Vec F S32x5120 .fp8e4m3) (y : S256x5120.Idx) :
    ∃ pc ∈ ([⟨cr 224 (by decide), p0⟩, ⟨cr 192 (by decide), p1⟩, ⟨cr 160 (by decide), p2⟩, ⟨cr 128 (by decide), p3⟩, ⟨cr 96 (by decide), p4⟩, ⟨cr 64 (by decide), p5⟩, ⟨cr 32 (by decide), p6⟩, ⟨cr 0 (by decide), p7⟩] : List (View.Piece (Elt F) S256x5120 .fp8e4m3)), y ∈ pc.1.set :=
  View.cover_of_tiled [⟨cr 224 (by decide), p0⟩, ⟨cr 192 (by decide), p1⟩, ⟨cr 160 (by decide), p2⟩, ⟨cr 128 (by decide), p3⟩, ⟨cr 96 (by decide), p4⟩, ⟨cr 64 (by decide), p5⟩, ⟨cr 32 (by decide), p6⟩, ⟨cr 0 (by decide), p7⟩] S32x5120.size (by rfl) y

theorem cover_rep (p0 p1 p2 p3 p4 p5 p6 p7 : Vec F S32x128 .f32) (y : S256x128.Idx) :
    ∃ pc ∈ ([⟨qr 224 (by decide), p0⟩, ⟨qr 192 (by decide), p1⟩, ⟨qr 160 (by decide), p2⟩, ⟨qr 128 (by decide), p3⟩, ⟨qr 96 (by decide), p4⟩, ⟨qr 64 (by decide), p5⟩, ⟨qr 32 (by decide), p6⟩, ⟨qr 0 (by decide), p7⟩] : List (View.Piece (Elt F) S256x128 .f32)), y ∈ pc.1.set :=
  View.cover_of_tiled [⟨qr 224 (by decide), p0⟩, ⟨qr 192 (by decide), p1⟩, ⟨qr 160 (by decide), p2⟩, ⟨qr 128 (by decide), p3⟩, ⟨qr 96 (by decide), p4⟩, ⟨qr 64 (by decide), p5⟩, ⟨qr 32 (by decide), p6⟩, ⟨qr 0 (by decide), p7⟩] S32x128.size (by rfl) y

/-- The block of codes, from the projected rows `H` and the weights `w` of the normalisation. -/
def codesBlk (H : Vec F S256x5120 .f32) (w : Vec F S1x5120 .f32) : Vec F S256x5120 .fp8e4m3 :=
  View.canon (codesOf (View.ld w nr) (View.ld H (cr 224 (by decide))) (View.ld H (cr 192 (by decide))) (View.ld H (cr 160 (by decide))) (View.ld H (cr 128 (by decide))) (View.ld H (cr 96 (by decide))) (View.ld H (cr 64 (by decide))) (View.ld H (cr 32 (by decide))) (View.ld H (cr 0 (by decide))))

/-- The block of scales, each repeated over 128 lanes. -/
def repBlk (H : Vec F S256x5120 .f32) (w : Vec F S1x5120 .f32) : Vec F S256x128 .f32 :=
  View.canon (repOf (View.ld w nr) (View.ld H (cr 224 (by decide))) (View.ld H (cr 192 (by decide))) (View.ld H (cr 160 (by decide))) (View.ld H (cr 128 (by decide))) (View.ld H (cr 96 (by decide))) (View.ld H (cr 64 (by decide))) (View.ld H (cr 32 (by decide))) (View.ld H (cr 0 (by decide))))

/-- 128 scales as one row: the diagonal of 128 rows of the block of repeated scales. -/
def rowVal (R : Vec F S256x128 .f32) (n : ℕ) (h : n + 128 ≤ 256) : Vec F S1x128 .f32 := k0_pay2 (View.ld R (dr n h))

/-- `Y` with its row `n` replaced by `v`. -/
def putRow (n : ℕ) (v : Vec F S1x128 .f32) (Y : Vec F S12x128 .f32) : Vec F S12x128 .f32 := fun y =>
  if (y 0).val = n then v (ix2 0 (y 1)) else Y y

/-- `Y` with its rows `2 n` and `2 n + 1` replaced by the scales in `R`. -/
def putRows (n : ℕ) (R : Vec F S256x128 .f32) (Y : Vec F S12x128 .f32) : Vec F S12x128 .f32 :=
  putRow (2 * n + 1) (rowVal R 128 (by decide)) (putRow (2 * n + 0) (rowVal R 0 (by decide)) Y)

/-- The strips as the body computes them: the eight of them are the same computation, differently cut into parts. -/
theorem codes_eq (H : Vec F S256x5120 .f32) (x5 w : Vec F S1x5120 .f32) {l224 : Vec F S32x5120 .f32} {l192 : Vec F S32x5120 .f32} {l160 : Vec F S32x5120 .f32} {l128 : Vec F S32x5120 .f32} {l96 : Vec F S32x5120 .f32} {l64 : Vec F S32x5120 .f32} {l32 : Vec F S32x5120 .f32} {l0 : Vec F S32x5120 .f32}
    (hw : w = View.ld x5 nr) (h224 : l224 = View.ld H (cr 224 (by decide))) (h192 : l192 = View.ld H (cr 192 (by decide))) (h160 : l160 = View.ld H (cr 160 (by decide))) (h128 : l128 = View.ld H (cr 128 (by decide))) (h96 : l96 = View.ld H (cr 96 (by decide))) (h64 : l64 = View.ld H (cr 64 (by decide))) (h32 : l32 = View.ld H (cr 32 (by decide))) (h0 : l0 = View.ld H (cr 0 (by decide))) :
    View.canon ([⟨cr 224 (by decide), k0_pay110 (k0_pay106 l224) (k0_pay107 l224) (Scalar.ofBits .f32 0x45A00000#32) w⟩,
      ⟨cr 192 (by decide), k0_pay104 (k0_pay100 l192) (k0_pay101 l192) w⟩, ⟨cr 160 (by decide), k0_pay98 (k0_pay94 l160) (k0_pay95 l160) w⟩,
      ⟨cr 128 (by decide), k0_pay92 l128 w⟩, ⟨cr 96 (by decide), k0_pay88 l96 w⟩, ⟨cr 64 (by decide), k0_pay84 l64 w⟩,
      ⟨cr 32 (by decide), k0_pay80 l32 w⟩, ⟨cr 0 (by decide), k0_pay76 l0 w⟩] : List (View.Piece (Elt F) S256x5120 .fp8e4m3)) = codesBlk H x5 := by
  subst hw h224 h192 h160 h128 h96 h64 h32 h0
  rfl

theorem rep_eq (H : Vec F S256x5120 .f32) (x5 w : Vec F S1x5120 .f32) {l224 : Vec F S32x5120 .f32} {l192 : Vec F S32x5120 .f32} {l160 : Vec F S32x5120 .f32} {l128 : Vec F S32x5120 .f32} {l96 : Vec F S32x5120 .f32} {l64 : Vec F S32x5120 .f32} {l32 : Vec F S32x5120 .f32} {l0 : Vec F S32x5120 .f32}
    (hw : w = View.ld x5 nr) (h224 : l224 = View.ld H (cr 224 (by decide))) (h192 : l192 = View.ld H (cr 192 (by decide))) (h160 : l160 = View.ld H (cr 160 (by decide))) (h128 : l128 = View.ld H (cr 128 (by decide))) (h96 : l96 = View.ld H (cr 96 (by decide))) (h64 : l64 = View.ld H (cr 64 (by decide))) (h32 : l32 = View.ld H (cr 32 (by decide))) (h0 : l0 = View.ld H (cr 0 (by decide))) :
    View.canon ([⟨qr 224 (by decide), k0_pay111 (k0_pay106 l224) (k0_pay107 l224) (Scalar.ofBits .f32 0x45A00000#32) w⟩,
      ⟨qr 192 (by decide), k0_pay105 (k0_pay100 l192) (k0_pay101 l192) w⟩, ⟨qr 160 (by decide), k0_pay99 (k0_pay94 l160) (k0_pay95 l160) w⟩,
      ⟨qr 128 (by decide), k0_pay93 l128 w⟩, ⟨qr 96 (by decide), k0_pay89 l96 w⟩, ⟨qr 64 (by decide), k0_pay85 l64 w⟩,
      ⟨qr 32 (by decide), k0_pay81 l32 w⟩, ⟨qr 0 (by decide), k0_pay77 l0 w⟩] : List (View.Piece (Elt F) S256x128 .f32)) = repBlk H x5 := by
  subst hw h224 h192 h160 h128 h96 h64 h32 h0
  rfl

/-- The diagonal of the first 128 rows is taken in two parts, that of the second in one. -/
theorem pick_eq {v u : Vec F S128x128 .f32} (h : v = u) : k0_pay1 (k0_pay112 v) = k0_pay2 u := by subst h; rfl

/-! ## The body -/

set_option maxHeartbeats 4000000 in
/-- The body, for any continuation: the inputs are as they were, the projected rows, the codes and the repeated scales
    are stored whole, and in the dense array the two rows of the point are replaced. -/
theorem sound_kernel (c : Dev nD) (E : Set ℕ) (i : grid0.Coords) (arg1 : Memref sig .tc .vmem S256x5120 .fp8e4m3) (harg1 : arg1.IsWhole) (arg2 : Memref sig .tc .vmem S256x128 .f32) (harg2 : arg2.IsWhole) (arg3 : Memref sig .tc .vmem S5120x5120 .fp8e4m3) (harg3 : arg3.IsWhole) (arg4 : Memref sig .tc .vmem S1x5120 .f32) (harg4 : arg4.IsWhole) (arg5 : Memref sig .tc .vmem S256x5120 .bf16) (harg5 : arg5.IsWhole) (arg6 : Memref sig .tc .vmem S1x5120 .f32) (harg6 : arg6.IsWhole) (arg7 : Memref sig .tc .vmem S256x5120 .f32) (harg7 : arg7.IsWhole) (arg8 : Memref sig .tc .vmem S256x5120 .fp8e4m3) (harg8 : arg8.IsWhole) (arg9 : Memref sig .tc .vmem S256x128 .f32) (harg9 : arg9.IsWhole) (arg10 : Memref sig .tc .vmem S12x128 .f32) (harg10 : arg10.IsWhole)
    (x0 : Vec F S256x5120 .fp8e4m3) (x1 : Vec F S256x128 .f32) (x2 : Vec F S5120x5120 .fp8e4m3) (x3 : Vec F S1x5120 .f32) (x4 : Vec F S256x5120 .bf16) (x5 : Vec F S1x5120 .f32) (Y : Vec F S12x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare Y
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (h1Blk x0 x1 x2 x3 x4) ∗ owns (c : Thread nD τ) arg8 fullShare (codesBlk (h1Blk x0 x1 x2 x3 x4) x5) ∗ owns (c : Thread nD τ) arg9 fullShare (repBlk (h1Blk x0 x1 x2 x3 x4) x5) ∗ owns (c : Thread nD τ) arg10 fullShare (putRows (i 0).val (repBlk (h1Blk x0 x1 x2 x3 x4) x5) Y)) -∗ K ⟨⟩))
      ⊢ wp frame (wpE (defs₀ (F := F)) Variants.none c none) E (cc0_oproj i arg1 harg1 arg2 harg2 arg3 harg3 arg4 harg4 arg5 harg5 arg6 harg6 arg7 harg7 arg8 harg8 arg9 harg9 arg10 harg10) K := by
  simp only [cc0_oproj_eq_skeleton]; unfold cc0_oproj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dh, %fh, -, HH⟩, ⟨%dc, %fc, -, HC⟩, ⟨%dp, %fp, -, HR⟩, ⟨%fd, %hfd, HD⟩, Hk⟩
  subst hf0 hf1 hf2 hf3 hf4 hf5 hfd
  have hk : ∀ r : Rect S256x5120, arg7.view.readCov (tiles (View.read (Elt F) arg1.view f0) (View.read (Elt F) arg2.view f1) (View.read (Elt F) arg3.view f2) (View.read (Elt F) arg4.view f3) (View.read (Elt F) arg5.view f4)) r = View.ld (h1Blk (View.read (Elt F) arg1.view f0) (View.read (Elt F) arg2.view f1) (View.read (Elt F) arg3.view f2) (View.read (Elt F) arg4.view f3) (View.read (Elt F) arg5.view f4)) r := fun r => View.readCov_eq_canon_ld _ _ _ (cover_h1 _ _ _ _ _)
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [HH]
  · iexists _; isplitr
    swap; · iexact HH
    ipureintro
    refine (View.read_writes_eq_canon _ _ _ (cover_h1 _ _ _ _ _)).trans ?_
    rfl
  isplitl [HC]
  · iexists _; isplitr
    swap; · iexact HC
    ipureintro
    refine (View.read_writes_eq_canon _ _ _ (cover_codes _ _ _ _ _ _ _ _)).trans ?_
    exact codes_eq _ _ _ rfl rfl rfl rfl rfl rfl rfl rfl rfl
  isplitl [HR]
  · iexists _; isplitr
    swap; · iexact HR
    ipureintro
    refine (View.read_writes_eq_canon _ _ _ (cover_rep _ _ _ _ _ _ _ _)).trans ?_
    exact rep_eq _ _ _ rfl rfl rfl rfl rfl rfl rfl rfl rfl
  iexists _; isplitr
  swap; · iexact HD
  ipureintro
  funext y
  unfold putRows
  rw [putRow]
  by_cases hy : (y 0).val = 2 * (i 0).val + 1
  · rw [if_pos hy]
    refine (View.read_writes_cons_rows_of_mem (d := S12x128.size) _ _ (off := k0_off1 i 1#32) (size := S1x128.size) (k0_off1_inb i 1) _ _ y (ix2 0 (y 1)) (k0_off1_eq i 1) (hy.trans (Nat.add_zero _).symm) rfl).trans ?_
    unfold rowVal
    refine congrFun (congrArg k0_pay2 ?_) _
    exact (View.readCov_eq_canon_ld arg9.view _ _ (cover_rep _ _ _ _ _ _ _ _)).trans (congrArg (fun X : Vec F S256x128 .f32 => View.ld X (dr 128 (by decide))) (rep_eq _ _ _ rfl rfl rfl rfl rfl rfl rfl rfl rfl))
  · rw [if_neg hy]
    refine (View.read_writes_cons_rows_of_not_mem (d := S12x128.size) (W := 1) _ _ (off := k0_off1 i 1#32) (size := S1x128.size) (k0_off1_inb i 1) _ _ y (k0_off1_eq i 1) rfl (by show (y 0).val < 2 * (i 0).val + 1 ∨ 2 * (i 0).val + 1 + 1 ≤ (y 0).val; omega)).trans ?_
    rw [putRow]
    by_cases hz : (y 0).val = 2 * (i 0).val + 0
    · rw [if_pos hz]
      refine (View.read_writes_cons_rows_of_mem (d := S12x128.size) _ _ (off := k0_off1 i 0#32) (size := S1x128.size) (k0_off1_inb i 0) _ _ y (ix2 0 (y 1)) (k0_off1_eq i 0) (hz.trans (Nat.add_zero _).symm) rfl).trans ?_
      unfold rowVal
      refine congrFun (pick_eq ?_) _
      exact (View.readCov_eq_canon_ld arg9.view _ _ (cover_rep _ _ _ _ _ _ _ _)).trans (congrArg (fun X : Vec F S256x128 .f32 => View.ld X (dr 0 (by decide))) (rep_eq _ _ _ rfl rfl rfl rfl rfl rfl rfl rfl rfl))
    · rw [if_neg hz]
      refine (View.read_writes_cons_rows_of_not_mem (d := S12x128.size) (W := 1) _ _ (off := k0_off1 i 0#32) (size := S1x128.size) (k0_off1_inb i 0) _ _ y (k0_off1_eq i 0) rfl (by show (y 0).val < 2 * (i 0).val + 0 ∨ 2 * (i 0).val + 0 + 1 ≤ (y 0).val; omega)).trans ?_
      rfl

/-! ## The proof data -/

/-- The projected rows of point `t`. -/
abbrev h1At (c : Dev nD) (t : Fin cfg0.N) : Vec F S256x5120 .f32 := h1Blk (iblk m c 0 t) (iblk m c 1 t) (iblk m c 2 t) (iblk m c 3 t) (iblk m c 4 t)

/-- The proof data on core `c`: the arrays as the region finds them; after a point each input's buffer at its block,
    the projected rows', the codes' and the repeated scales' as `h1Blk`, `codesBlk` and `repBlk` say; the dense
    window's contents are not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => h1At m c t
    | ⟨7, _⟩ => codesBlk (h1At m c t) (iblk m c 5 t)
    | ⟨8, _⟩ => repBlk (h1At m c t) (iblk m c 5 t)
    | ⟨9, h⟩ => Dat.unnamed (cfg := cfg0) ⟨9, h⟩ t
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = h1At m c t := by dsimp only [dats]
theorem after0_7 (c : Dev nD) (t : Fin cfg0.N) : (dats m 0 c).after 7 t = codesBlk (h1At m c t) (iblk m c 5 t) := by dsimp only [dats]
theorem after0_8 (c : Dev nD) (t : Fin cfg0.N) : (dats m 0 c).after 8 t = repBlk (h1At m c t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The point that writes row `y 0` of the dense array. -/
def pt (y : S12x128.Idx) : Fin cfg0.N := ⟨(y 0).val / 2, lt_of_lt_of_eq (by have h : (y 0).val < 12 := (y 0).isLt; omega : (y 0).val / 2 < 6) N_0.symm⟩

/-- The row of the dense array that holds the scales of rows `n` to `n + 127` of point `t`. -/
abbrev rowAt (c : Dev nD) (t : Fin cfg0.N) (n : ℕ) (h : n + 128 ≤ 256) : Vec F S1x128 .f32 := rowVal (repBlk (h1At m c t) (iblk m c 5 t)) n h

/-- The dense array: rows `2 u` and `2 u + 1` are the scales of point `u`. -/
def dense (c : Dev nD) : Vec F S12x128 .f32 := fun y =>
  if (y 0).val % 2 = 0 then rowAt m c (pt y) 0 (by decide) (ix2 0 (y 1)) else rowAt m c (pt y) 128 (by decide) (ix2 0 (y 1))

/-- What holds of the dense window after point `t`: the rows up to `2 t + 1` hold their scales. -/
def Rel (c : Dev nD) : (w : Fin cfg0.W) → (t : Fin cfg0.N) → ((cfg0.win w).block.Idx → Elt F (cfg0.win w).elt) → Prop
  | ⟨9, _⟩, t, X => ∀ y : S12x128.Idx, (y 0).val ≤ 2 * t.val + 1 → (X : Vec F S12x128 .f32) y = dense m c y
  | _, _, _ => True

/-- The dense window is the one that is held to `Rel`. -/
def fgt : Fin cfg0.W → Bool
  | ⟨9, _⟩ => true
  | _ => false

/-- The relational proof data. -/
abbrev rdat (c : Dev nD) : RDat τ (Elt F) Unit ℕ (UR sig nD τ) ℕ cfg0 c := (dats m 0 c).toRRel fgt (Rel m c)

/-- Before point `t > 0` the rows below `2 t` hold their scales. -/
theorem finds (c : Dev nD) (t : Fin cfg0.N) (Y) (h : (rdat m c).Finds 9 t Y) :
    ∀ y : S12x128.Idx, (y 0).val < 2 * t.val → (Y : Vec F S12x128 .f32) y = dense m c y := by
  intro y hy
  have hN : t.val < 6 := lt_of_lt_of_eq t.isLt N_0
  have ht : t.val ≠ 0 := by omega
  have h1 := ((rdat m c).finds_of_pos (w := 9) rfl ht Y).mp h
  rcases h1 with h1 | h1
  · exact absurd ((flush0_9 _).mp h1) (by show ¬ (t.val - 1) % 6 = 5; omega)
  · have h2 := (dats m 0 c).toRRel_leaves (fgt := fgt) (Rl := Rel m c) (w := 9) rfl h1
    exact h2 y (by show (y 0).val ≤ 2 * (t.val - 1) + 1; omega)

theorem coord0 : ∀ t : Fin cfg0.N, (grid0.coords t 0).val = t.val :=
  (by decide +kernel : ∀ t : Fin grid0.N, (grid0.coords t 0).val = t.val)

/-- Replacing rows `2 t` and `2 t + 1` extends the relation from the rows below `2 t` to the rows up to `2 t + 1`. -/
theorem rel_step (c : Dev nD) (t : Fin cfg0.N) (Y : Vec F S12x128 .f32)
    (h : ∀ y : S12x128.Idx, (y 0).val < 2 * t.val → Y y = dense m c y) :
    Rel m c 9 t (putRows (grid0.coords t 0).val (repBlk (h1At m c t) (iblk m c 5 t)) Y) := by
  intro y hy
  show putRows (grid0.coords t 0).val (repBlk (h1At m c t) (iblk m c 5 t)) Y y = dense m c y
  rw [coord0 t]
  unfold putRows putRow
  dsimp only
  by_cases he : (y 0).val = 2 * t.val + 1
  · rw [if_pos he]
    have e : pt y = t := Fin.ext (by show (y 0).val / 2 = t.val; omega)
    unfold dense
    rw [if_neg (by omega : ¬ (y 0).val % 2 = 0), e]
  · rw [if_neg he]
    by_cases he' : (y 0).val = 2 * t.val + 0
    · rw [if_pos he']
      have e : pt y = t := Fin.ext (by show (y 0).val / 2 = t.val; omega)
      unfold dense
      rw [if_pos (by omega : (y 0).val % 2 = 0), e]
    · rw [if_neg he']
      exact h y (by omega)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ Y, ⌜(rdat m c).Finds 9 t Y⌝ ∗ owns (c : Thread nD τ) (st0_9 t) fullShare Y))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (∃ X, ⌜Rel m c 9 t X⌝ ∗ owns (c : Thread nD τ) (st0_9 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%Y, %hY, HD⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) Y _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HD]; · iexact HD
  iintro ⟨H0, H1, H2, H3, H4, H5, H6, H7, H8, HD⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; isplitr
  swap; · iexact HD
  ipureintro
  exact rel_step m c t Y (finds m c t Y hY)

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligationRel (dats (F := F) m 0 c) (defs₀ (F := F)) Variants.none () Set.univ fgt (Rel m c) := fun t => by
  rw [bigSep_W0, bigSep_W0, defs₀_row]
  exact triple_restated (sound_body m c t) rfl .rfl fun _ => .rfl

/-! ## The run -/

set_option backward.isDefEq.respectTransparency.types false in
set_option maxHeartbeats 800000 in
theorem run_main : θ_run defs (onTc (τ := τ) (main (F := F))) (s₀ m ρ)
    (fun r => RDat.FramePost (cfgs 0) (rdat m) (V m) r ∧ r.2.sem = fun _ => 0) :=
  RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- After the run every array but the dense one is what the exact data name, and the dense array is `dense`. -/
theorem final_exact (c : Dev nD) {r : PUnit × MemSt nD τ sig (Elt F)} (h : RDat.FramePost (cfgs 0) (rdat m) (V m) r)
    (w : Fin cfg0.W) (hw : fgt w = false) :
    r.2.mem ((cfg0.spec w).arr.view.loc (c.tc : Thread nD τ)) = (dats m 0 c).arrAt w cfg0.N :=
  ((dats m 0 c).toR_arrAt_iff w _ _).mp (((dats m 0 c).toR.override_arrAt (by simp only [hw]) _ _).mp ((h c).1 w))

/-- The arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨(final_exact m c h.1 0 rfl).trans (((dats m 0 c).arrAt_in 0 rfl _).trans ((A_eq m c 0).trans (V_main_arg0 m c))),
    ((h.1 c).2 main_arg1 (Pipeline.mem_restRefs_of main_arg1 (by decide) (by decide))).trans (V_main_arg1 m c), ((h.1 c).2 main_arg2 (Pipeline.mem_restRefs_of main_arg2 (by decide) (by decide))).trans (V_main_arg2 m c), ((h.1 c).2 main_arg3 (Pipeline.mem_restRefs_of main_arg3 (by decide) (by decide))).trans (V_main_arg3 m c), ((h.1 c).2 main_arg4 (Pipeline.mem_restRefs_of main_arg4 (by decide) (by decide))).trans (V_main_arg4 m c), ((h.1 c).2 main_arg5 (Pipeline.mem_restRefs_of main_arg5 (by decide) (by decide))).trans (V_main_arg5 m c)⟩, h.2⟩) (run_main m ρ)

theorem whole_dense : ∃ t₀ : Fin cfg0.N, t₀.val = 5 ∧ (cfg0.win 9).WholeAt t₀ :=
  (by decide +kernel : ∃ t₀ : Fin grid0.N, t₀.val = 5 ∧ win0_9.WholeAt t₀)

theorem final_dense (c : Dev nD) {r : PUnit × MemSt nD τ sig (Elt F)} (h : RDat.FramePost (cfgs 0) (rdat m) (V m) r) :
    r.2.mem ((c : Thread nD τ).loc main_v6_3) = dense m c := by
  obtain ⟨t₀, h11, hW⟩ := whole_dense
  obtain ⟨X, hL, hX⟩ := RDat.ArrAt.emb_eq_of_wholeAt ((h c).1 9) hW
  have hR := (dats m 0 c).toRRel_leaves (fgt := fgt) (Rl := Rel m c) (w := 9) rfl hL
  funext y
  have hy : (y 0).val < 12 := (y 0).isLt
  refine (hX y).trans ?_
  exact hR y (by omega)

end Cert.Oproj.Hand

end
-- ==== Proof.lean ====
module

public import proofs.«01_k».proof.Defs
public import proofs.«01_k».proof.Proof.Gen.Fc
public import proofs.«01_k».proof.Proof.Gen.Fc.Skeleton
public import proofs.«01_k».proof.Proof.Gen.Fc.Launch
public import proofs.«01_k».proof.Proof.Gen.Fc.Points
public import proofs.«01_k».proof.Proof.Gen.Fc.Frame
public import proofs.«01_k».proof.Proof.Gen.FcIdeal
public import proofs.«01_k».proof.Proof.Gen.FcIdeal.Skeleton
public import proofs.«01_k».proof.Proof.Gen.FcIdeal.Launch
public import proofs.«01_k».proof.Proof.Gen.FcIdeal.Points
public import proofs.«01_k».proof.Proof.Gen.FcIdeal.Frame
public import proofs.«01_k».proof.Proof.Gen.FcIdeal.Value
public import proofs.«01_k».proof.Proof.Gen.FcRefIdeal
public import proofs.«01_k».proof.Proof.Gen.FcRefIdeal.Skeleton
public import proofs.«01_k».proof.Proof.Gen.FcRefIdeal.Launch
public import proofs.«01_k».proof.Proof.Gen.FcRefIdeal.Points
public import proofs.«01_k».proof.Proof.Gen.FcRefIdeal.Frame
public import proofs.«01_k».proof.Proof.Gen.FcRefIdeal.Value
public import proofs.«01_k».proof.Proof.Gen.GateUp
public import proofs.«01_k».proof.Proof.Gen.GateUp.Skeleton
public import proofs.«01_k».proof.Proof.Gen.GateUp.Launch
public import proofs.«01_k».proof.Proof.Gen.GateUp.Points
public import proofs.«01_k».proof.Proof.Gen.GateUp.Frame
public import proofs.«01_k».proof.Proof.Gen.GateUpIdeal
public import proofs.«01_k».proof.Proof.Gen.GateUpIdeal.Skeleton
public import proofs.«01_k».proof.Proof.Gen.GateUpIdeal.Launch
public import proofs.«01_k».proof.Proof.Gen.GateUpIdeal.Points
public import proofs.«01_k».proof.Proof.Gen.GateUpIdeal.Frame
public import proofs.«01_k».proof.Proof.Gen.GateUpIdeal.Value
public import proofs.«01_k».proof.Proof.Gen.GateUpRefIdeal
public import proofs.«01_k».proof.Proof.Gen.GateUpRefIdeal.Skeleton
public import proofs.«01_k».proof.Proof.Gen.GateUpRefIdeal.Launch
public import proofs.«01_k».proof.Proof.Gen.GateUpRefIdeal.Points
public import proofs.«01_k».proof.Proof.Gen.GateUpRefIdeal.Frame
public import proofs.«01_k».proof.Proof.Gen.GateUpRefIdeal.Value
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Skeleton
public import proofs.«01_k».proof.Proof.Gen.DownRefIdeal.Launch
public import proofs.«01_k».proof.Proof.Gen.DownRefIdeal.Points
public import proofs.«01_k».proof.Proof.Gen.DownRefIdeal.Frame
public import proofs.«01_k».proof.Proof.Gen.DownRefIdeal.Value
public import proofs.«01_k».proof.Proof.Gen.ThQuant
public import proofs.«01_k».proof.Proof.Gen.ThQuant.Skeleton
public import proofs.«01_k».proof.Proof.Gen.ThQuant.Launch
public import proofs.«01_k».proof.Proof.Gen.ThQuant.Points
public import proofs.«01_k».proof.Proof.Gen.ThQuant.Frame
public import proofs.«01_k».proof.Proof.Gen.ThQuantIdeal
public import proofs.«01_k».proof.Proof.Gen.ThQuantIdeal.Skeleton
public import proofs.«01_k».proof.Proof.Gen.ThQuantIdeal.Launch
public import proofs.«01_k».proof.Proof.Gen.ThQuantIdeal.Points
public import proofs.«01_k».proof.Proof.Gen.ThQuantIdeal.Frame
public import proofs.«01_k».proof.Proof.Gen.ThQuantRefIdeal
public import proofs.«01_k».proof.Proof.Gen.ThQuantRefIdeal.Skeleton
public import proofs.«01_k».proof.Proof.Gen.ThQuantRefIdeal.Launch
public import proofs.«01_k».proof.Proof.Gen.ThQuantRefIdeal.Points
public import proofs.«01_k».proof.Proof.Gen.ThQuantRefIdeal.Frame
public import proofs.«01_k».proof.Proof.Gen.ThQuantRefIdeal.Value
public import proofs.«01_k».proof.Proof.Gen.ActQuant
public import proofs.«01_k».proof.Proof.Gen.ActQuant.Skeleton
public import proofs.«01_k».proof.Proof.Gen.ActQuant.Launch
public import proofs.«01_k».proof.Proof.Gen.ActQuant.Points
public import proofs.«01_k».proof.Proof.Gen.ActQuant.Frame
public import proofs.«01_k».proof.Proof.Gen.ActQuantIdeal
public import proofs.«01_k».proof.Proof.Gen.ActQuantIdeal.Skeleton
public import proofs.«01_k».proof.Proof.Gen.ActQuantIdeal.Launch
public import proofs.«01_k».proof.Proof.Gen.ActQuantIdeal.Points
public import proofs.«01_k».proof.Proof.Gen.ActQuantIdeal.Frame
public import proofs.«01_k».proof.Proof.Gen.ActQuantRefIdeal
public import proofs.«01_k».proof.Proof.Gen.ActQuantRefIdeal.Skeleton
public import proofs.«01_k».proof.Proof.Gen.ActQuantRefIdeal.Launch
public import proofs.«01_k».proof.Proof.Gen.ActQuantRefIdeal.Points
public import proofs.«01_k».proof.Proof.Gen.ActQuantRefIdeal.Frame
public import proofs.«01_k».proof.Proof.Gen.ActQuantRefIdeal.Value
public import proofs.«01_k».proof.Proof.Gen.XQuant
public import proofs.«01_k».proof.Proof.Gen.XQuant.Skeleton
public import proofs.«01_k».proof.Proof.Gen.XQuant.Launch
public import proofs.«01_k».proof.Proof.Gen.XQuant.Points
public import proofs.«01_k».proof.Proof.Gen.XQuant.Frame
public import proofs.«01_k».proof.Proof.Gen.XQuantIdeal
public import proofs.«01_k».proof.Proof.Gen.XQuantIdeal.Skeleton
public import proofs.«01_k».proof.Proof.Gen.XQuantIdeal.Launch
public import proofs.«01_k».proof.Proof.Gen.XQuantIdeal.Points
public import proofs.«01_k».proof.Proof.Gen.XQuantIdeal.Frame
public import proofs.«01_k».proof.Proof.Gen.XQuantRefIdeal
public import proofs.«01_k».proof.Proof.Gen.XQuantRefIdeal.Skeleton
public import proofs.«01_k».proof.Proof.Gen.XQuantRefIdeal.Launch
public import proofs.«01_k».proof.Proof.Gen.XQuantRefIdeal.Points
public import proofs.«01_k».proof.Proof.Gen.XQuantRefIdeal.Frame
public import proofs.«01_k».proof.Proof.Gen.XQuantRefIdeal.Value
public import proofs.«01_k».proof.Proof.Gen.Oproj
public import proofs.«01_k».proof.Proof.Gen.Oproj.Skeleton
public import proofs.«01_k».proof.Proof.Gen.Oproj.Launch
public import proofs.«01_k».proof.Proof.Gen.Oproj.Points
public import proofs.«01_k».proof.Proof.Gen.Oproj.Frame
public import proofs.«01_k».proof.Proof.Gen.OprojIdeal
public import proofs.«01_k».proof.Proof.Gen.OprojIdeal.Skeleton
public import proofs.«01_k».proof.Proof.Gen.OprojIdeal.Launch
public import proofs.«01_k».proof.Proof.Gen.OprojIdeal.Points
public import proofs.«01_k».proof.Proof.Gen.OprojIdeal.Frame
public import proofs.«01_k».proof.Proof.Gen.OprojRefIdeal
public import proofs.«01_k».proof.Proof.Gen.OprojRefIdeal.Skeleton
public import proofs.«01_k».proof.Proof.Gen.OprojRefIdeal.Launch
public import proofs.«01_k».proof.Proof.Gen.OprojRefIdeal.Points
public import proofs.«01_k».proof.Proof.Gen.OprojRefIdeal.Frame
public import proofs.«01_k».proof.Proof.Gen.OprojRefIdeal.Value
public import proofs.«01_k».proof.Proof.FcAlg
public import proofs.«01_k».proof.Proof.GateUpAlg
public import proofs.«01_k».proof.Proof.DownAlg
public import proofs.«01_k».proof.Proof.ThQuantAlg
public import proofs.«01_k».proof.Proof.ActQuantAlg
public import proofs.«01_k».proof.Proof.XQuantAlg
public import proofs.«01_k».proof.Proof.OprojAlg
public import proofs.«01_k».proof.Proof.ThQuantBody
public import proofs.«01_k».proof.Proof.ActQuantBody
public import proofs.«01_k».proof.Proof.XQuantBody
public import proofs.«01_k».proof.Proof.OprojBody
public import Idealize.ShloMosaic.Adequacy
public import Idealize.ShloMosaic.Init

@[expose] public section

noncomputable section

namespace Cert.Proof

open Idealize.ShloMosaic Idealize.SL.Sem Cert.Fc

theorem claim : Cert.Claim :=
  ⟨Cert.Fc.Gen.facts,
    Cert.FcIdeal.Gen.facts,
    Cert.FcRefIdeal.Gen.facts,
    Cert.GateUp.Gen.facts,
    Cert.GateUpIdeal.Gen.facts,
    Cert.GateUpRefIdeal.Gen.facts,
    Cert.Down.Gen.facts,
    Cert.DownIdeal.Gen.facts,
    Cert.DownRefIdeal.Gen.facts,
    Cert.ThQuant.Gen.facts,
    Cert.ThQuantIdeal.Gen.facts,
    Cert.ThQuantRefIdeal.Gen.facts,
    Cert.ActQuant.Gen.facts,
    Cert.ActQuantIdeal.Gen.facts,
    Cert.ActQuantRefIdeal.Gen.facts,
    Cert.XQuant.Gen.facts,
    Cert.XQuantIdeal.Gen.facts,
    Cert.XQuantRefIdeal.Gen.facts,
    Cert.Oproj.Gen.facts,
    Cert.OprojIdeal.Gen.facts,
    Cert.OprojRefIdeal.Gen.facts,
    fun m g _ => Cert.Fc.Gen.frame m g,
    fun m g _ => Cert.FcIdeal.Gen.frame m g,
    fun m g _ => Cert.FcRefIdeal.Gen.frame m g,
    fun m g _ => Cert.GateUp.Gen.frame m g,
    fun m g _ => Cert.GateUpIdeal.Gen.frame m g,
    fun m g _ => Cert.GateUpRefIdeal.Gen.frame m g,
    fun m g _ => Cert.Down.Gen.frame m g,
    fun m g _ => Cert.DownIdeal.Gen.frame m g,
    fun m g _ => Cert.DownRefIdeal.Gen.frame m g,
    fun m g _ => Cert.ThQuant.Hand.frame m g,
    fun m g _ => Cert.ThQuantIdeal.Hand.frame m g,
    fun m g _ => Cert.ThQuantRefIdeal.Gen.frame m g,
    fun m g _ => Cert.ActQuant.Hand.frame m g,
    fun m g _ => Cert.ActQuantIdeal.Hand.frame m g,
    fun m g _ => Cert.ActQuantRefIdeal.Gen.frame m g,
    fun m g _ => Cert.XQuant.Hand.frame m g,
    fun m g _ => Cert.XQuantIdeal.Hand.frame m g,
    fun m g _ => Cert.XQuantRefIdeal.Gen.frame m g,
    fun m g _ => Cert.Oproj.Hand.frame m g,
    fun m g _ => Cert.OprojIdeal.Hand.frame m g,
    fun m g _ => Cert.OprojRefIdeal.Gen.frame m g,
    trivial, algebraic_Fc,
    trivial, algebraic_GateUp,
    trivial, algebraic_Down,
    trivial, algebraic_ThQuant,
    trivial, algebraic_ActQuant,
    trivial, algebraic_XQuant,
    trivial, algebraic_Oproj⟩

end Cert.Proof

end
